-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_KV (m : (ℓ : Loc Cert.KV.nD Cert.KV.τ Cert.KV.sig) → Buf (Elt Bits) ℓ) : Prop :=
  True

def Pre_KVIdeal (m : (ℓ : Loc Cert.KVIdeal.nD Cert.KVIdeal.τ Cert.KVIdeal.sig) → Buf (Elt Ideal) ℓ) : Prop :=
  True

def Pre_KVReferenceIdeal (m : (ℓ : Loc Cert.KVReferenceIdeal.nD Cert.KVReferenceIdeal.τ Cert.KVReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_KV [hKV : Cert.KV.Facts] : Prop :=
  ∀ (m : (ℓ : Loc Cert.KV.nD Cert.KV.τ Cert.KV.sig) → Buf (Elt Bits) ℓ) (g : Dev Cert.KV.nD → PrngReg), Pre_KV m →
    θ_run (Cert.KV.defs (F := Bits)) (onTc (τ := Cert.KV.τ) (Cert.KV.main (F := Bits))) ⟨m, fun _ => 0, g⟩ (fun r => (∀ c : Dev Cert.KV.nD,
      r.2.mem ((c.tc : Thread Cert.KV.nD Cert.KV.τ).loc Cert.KV.main_arg0) = m ((c.tc : Thread Cert.KV.nD Cert.KV.τ).loc Cert.KV.main_arg0)
      ∧ r.2.mem ((c.tc : Thread Cert.KV.nD Cert.KV.τ).loc Cert.KV.main_arg1) = m ((c.tc : Thread Cert.KV.nD Cert.KV.τ).loc Cert.KV.main_arg1))
      ∧ r.2.sem = fun _ => 0)

def quiescent_KVIdeal [hKVIdeal : Cert.KVIdeal.Facts] : Prop :=
  ∀ (m : (ℓ : Loc Cert.KVIdeal.nD Cert.KVIdeal.τ Cert.KVIdeal.sig) → Buf (Elt Ideal) ℓ) (g : Dev Cert.KVIdeal.nD → PrngReg), Pre_KVIdeal m →
    θ_run (Cert.KVIdeal.defs (F := Ideal)) (onTc (τ := Cert.KVIdeal.τ) (Cert.KVIdeal.main (F := Ideal))) ⟨m, fun _ => 0, g⟩ (fun r => (∀ c : Dev Cert.KVIdeal.nD,
      r.2.mem ((c.tc : Thread Cert.KVIdeal.nD Cert.KVIdeal.τ).loc Cert.KVIdeal.main_arg0) = m ((c.tc : Thread Cert.KVIdeal.nD Cert.KVIdeal.τ).loc Cert.KVIdeal.main_arg0)
      ∧ r.2.mem ((c.tc : Thread Cert.KVIdeal.nD Cert.KVIdeal.τ).loc Cert.KVIdeal.main_arg1) = m ((c.tc : Thread Cert.KVIdeal.nD Cert.KVIdeal.τ).loc Cert.KVIdeal.main_arg1))
      ∧ r.2.sem = fun _ => 0)

def quiescent_KVReferenceIdeal [hKVReferenceIdeal : Cert.KVReferenceIdeal.Facts] : Prop :=
  ∀ (m : (ℓ : Loc Cert.KVReferenceIdeal.nD Cert.KVReferenceIdeal.τ Cert.KVReferenceIdeal.sig) → Buf (Elt Ideal) ℓ) (g : Dev Cert.KVReferenceIdeal.nD → PrngReg), Pre_KVReferenceIdeal m →
    θ_run (Cert.KVReferenceIdeal.defs (F := Ideal)) (onTc (τ := Cert.KVReferenceIdeal.τ) (Cert.KVReferenceIdeal.main (F := Ideal))) ⟨m, fun _ => 0, g⟩ (fun r => (∀ c : Dev Cert.KVReferenceIdeal.nD,
      r.2.mem ((c.tc : Thread Cert.KVReferenceIdeal.nD Cert.KVReferenceIdeal.τ).loc Cert.KVReferenceIdeal.main_arg0) = m ((c.tc : Thread Cert.KVReferenceIdeal.nD Cert.KVReferenceIdeal.τ).loc Cert.KVReferenceIdeal.main_arg0)
      ∧ r.2.mem ((c.tc : Thread Cert.KVReferenceIdeal.nD Cert.KVReferenceIdeal.τ).loc Cert.KVReferenceIdeal.main_arg1) = m ((c.tc : Thread Cert.KVReferenceIdeal.nD Cert.KVReferenceIdeal.τ).loc Cert.KVReferenceIdeal.main_arg1))
      ∧ r.2.sem = fun _ => 0)

def preserves_Kernel_KernelIdeal : Prop :=
  IdealRules.named_const.Statement Cert.KernelIdeal.κ "softmax_scale_log2_e" .f32 0x3E0293EE#32 (((Real.sqrt 128)⁻¹ * (Real.log 2)⁻¹ : ℝ) : EReal)

def preserves_KV_KVIdeal : Prop :=
  IdealRules.named_const.Statement Cert.KVIdeal.κ "mean_over_keys" .f32 0x39042108#32 ((7936⁻¹ : ℝ) : EReal)

def algebraic_KVIdeal_KVReferenceIdeal_on_means [hKVIdeal : Cert.KVIdeal.Facts] [hKVReferenceIdeal : Cert.KVReferenceIdeal.Facts] [hOn_means : Cert.On_means.Facts] : Prop :=
  ∀ (m : (ℓ : Loc Cert.KVIdeal.nD Cert.KVIdeal.τ Cert.KVIdeal.sig) → Buf (Elt Ideal) ℓ) (g : Dev Cert.KVIdeal.nD → PrngReg)
    (m' : (ℓ : Loc Cert.KVReferenceIdeal.nD Cert.KVReferenceIdeal.τ Cert.KVReferenceIdeal.sig) → Buf (Elt Ideal) ℓ) (g' : Dev Cert.KVReferenceIdeal.nD → PrngReg), Pre_KVIdeal m →
    (∀ c : Dev Cert.KVIdeal.nD,
      m' ((c.tc : Thread Cert.KVReferenceIdeal.nD Cert.KVReferenceIdeal.τ).loc Cert.KVReferenceIdeal.main_arg0) = m ((c.tc : Thread Cert.KVIdeal.nD Cert.KVIdeal.τ).loc Cert.KVIdeal.main_arg0)
      ∧ m' ((c.tc : Thread Cert.KVReferenceIdeal.nD Cert.KVReferenceIdeal.τ).loc Cert.KVReferenceIdeal.main_arg1) = m ((c.tc : Thread Cert.KVIdeal.nD Cert.KVIdeal.τ).loc Cert.KVIdeal.main_arg1)) →
    ∃ (v0 : (c : Dev Cert.KVIdeal.nD) → Buf (Elt Ideal) ((c.tc : Thread Cert.KVIdeal.nD Cert.KVIdeal.τ).loc Cert.KVIdeal.main_v0_0)) (v1 : (c : Dev Cert.KVIdeal.nD) → Buf (Elt Ideal) ((c.tc : Thread Cert.KVIdeal.nD Cert.KVIdeal.τ).loc Cert.KVIdeal.main_v0_1)) (v2 : (c : Dev Cert.KVIdeal.nD) → Buf (Elt Ideal) ((c.tc : Thread Cert.KVIdeal.nD Cert.KVIdeal.τ).loc Cert.KVIdeal.main_v0_2)) (v3 : (c : Dev Cert.KVIdeal.nD) → Buf (Elt Ideal) ((c.tc : Thread Cert.KVIdeal.nD Cert.KVIdeal.τ).loc Cert.KVIdeal.main_v0_3)) (v4 : (c : Dev Cert.KVIdeal.nD) → Buf (Elt Ideal) ((c.tc : Thread Cert.KVIdeal.nD Cert.KVIdeal.τ).loc Cert.KVIdeal.main_v0_4)) (v5 : (c : Dev Cert.KVIdeal.nD) → Buf (Elt Ideal) ((c.tc : Thread Cert.KVIdeal.nD Cert.KVIdeal.τ).loc Cert.KVIdeal.main_v0_5)) (v6 : (c : Dev Cert.KVIdeal.nD) → Buf (Elt Ideal) ((c.tc : Thread Cert.KVIdeal.nD Cert.KVIdeal.τ).loc Cert.KVIdeal.main_v0_6)) (v7 : (c : Dev Cert.KVIdeal.nD) → Buf (Elt Ideal) ((c.tc : Thread Cert.KVIdeal.nD Cert.KVIdeal.τ).loc Cert.KVIdeal.main_v0_7)),
      θ_run (Cert.KVIdeal.defs (F := Ideal)) (onTc (τ := Cert.KVIdeal.τ) (Cert.KVIdeal.main (F := Ideal))) ⟨m, fun _ => 0, g⟩ (fun r => ∀ c : Dev Cert.KVIdeal.nD,
          (∀ i : (⟨3, ![2, 7936, 1024]⟩ : Shape).Idx, (Cert.On_means.fn (F := Ideal) (m ((c.tc : Thread Cert.KVIdeal.nD Cert.KVIdeal.τ).loc Cert.KVIdeal.main_arg0)) (m ((c.tc : Thread Cert.KVIdeal.nD Cert.KVIdeal.τ).loc Cert.KVIdeal.main_arg1))).1 i = 1#1 → r.2.mem ((c.tc : Thread Cert.KVIdeal.nD Cert.KVIdeal.τ).loc Cert.KVIdeal.main_v0_0) i = v0 c i)
          ∧ (∀ i : (⟨5, ![2, 8, 31, 4, 128]⟩ : Shape).Idx, (Cert.On_means.fn (F := Ideal) (m ((c.tc : Thread Cert.KVIdeal.nD Cert.KVIdeal.τ).loc Cert.KVIdeal.main_arg0)) (m ((c.tc : Thread Cert.KVIdeal.nD Cert.KVIdeal.τ).loc Cert.KVIdeal.main_arg1))).2.1 i = 1#1 → r.2.mem ((c.tc : Thread Cert.KVIdeal.nD Cert.KVIdeal.τ).loc Cert.KVIdeal.main_v0_1) i = v1 c i)
          ∧ (∀ i : (⟨4, ![2, 8, 1, 128]⟩ : Shape).Idx, (Cert.On_means.fn (F := Ideal) (m ((c.tc : Thread Cert.KVIdeal.nD Cert.KVIdeal.τ).loc Cert.KVIdeal.main_arg0)) (m ((c.tc : Thread Cert.KVIdeal.nD Cert.KVIdeal.τ).loc Cert.KVIdeal.main_arg1))).2.2.1 i = 1#1 → r.2.mem ((c.tc : Thread Cert.KVIdeal.nD Cert.KVIdeal.τ).loc Cert.KVIdeal.main_v0_2) i = v2 c i)
          ∧ (∀ i : (⟨3, ![2, 7936, 1024]⟩ : Shape).Idx, (Cert.On_means.fn (F := Ideal) (m ((c.tc : Thread Cert.KVIdeal.nD Cert.KVIdeal.τ).loc Cert.KVIdeal.main_arg0)) (m ((c.tc : Thread Cert.KVIdeal.nD Cert.KVIdeal.τ).loc Cert.KVIdeal.main_arg1))).2.2.2.1 i = 1#1 → r.2.mem ((c.tc : Thread Cert.KVIdeal.nD Cert.KVIdeal.τ).loc Cert.KVIdeal.main_v0_3) i = v3 c i)
          ∧ (∀ i : (⟨4, ![2, 8, 1, 128]⟩ : Shape).Idx, (Cert.On_means.fn (F := Ideal) (m ((c.tc : Thread Cert.KVIdeal.nD Cert.KVIdeal.τ).loc Cert.KVIdeal.main_arg0)) (m ((c.tc : Thread Cert.KVIdeal.nD Cert.KVIdeal.τ).loc Cert.KVIdeal.main_arg1))).2.2.2.2.1 i = 1#1 → r.2.mem ((c.tc : Thread Cert.KVIdeal.nD Cert.KVIdeal.τ).loc Cert.KVIdeal.main_v0_4) i = v4 c i)
          ∧ (∀ i : (⟨4, ![2, 8, 1, 128]⟩ : Shape).Idx, (Cert.On_means.fn (F := Ideal) (m ((c.tc : Thread Cert.KVIdeal.nD Cert.KVIdeal.τ).loc Cert.KVIdeal.main_arg0)) (m ((c.tc : Thread Cert.KVIdeal.nD Cert.KVIdeal.τ).loc Cert.KVIdeal.main_arg1))).2.2.2.2.2.1 i = 1#1 → r.2.mem ((c.tc : Thread Cert.KVIdeal.nD Cert.KVIdeal.τ).loc Cert.KVIdeal.main_v0_5) i = v5 c i)
          ∧ (∀ i : (⟨4, ![2, 8, 7936, 128]⟩ : Shape).Idx, (Cert.On_means.fn (F := Ideal) (m ((c.tc : Thread Cert.KVIdeal.nD Cert.KVIdeal.τ).loc Cert.KVIdeal.main_arg0)) (m ((c.tc : Thread Cert.KVIdeal.nD Cert.KVIdeal.τ).loc Cert.KVIdeal.main_arg1))).2.2.2.2.2.2.1 i = 1#1 → r.2.mem ((c.tc : Thread Cert.KVIdeal.nD Cert.KVIdeal.τ).loc Cert.KVIdeal.main_v0_6) i = v6 c i)
          ∧ (∀ i : (⟨5, ![2, 8, 31, 128, 256]⟩ : Shape).Idx, (Cert.On_means.fn (F := Ideal) (m ((c.tc : Thread Cert.KVIdeal.nD Cert.KVIdeal.τ).loc Cert.KVIdeal.main_arg0)) (m ((c.tc : Thread Cert.KVIdeal.nD Cert.KVIdeal.τ).loc Cert.KVIdeal.main_arg1))).2.2.2.2.2.2.2 i = 1#1 → r.2.mem ((c.tc : Thread Cert.KVIdeal.nD Cert.KVIdeal.τ).loc Cert.KVIdeal.main_v0_7) i = v7 c i)
          ∧ r.2.mem ((c.tc : Thread Cert.KVIdeal.nD Cert.KVIdeal.τ).loc Cert.KVIdeal.main_arg0) = m ((c.tc : Thread Cert.KVIdeal.nD Cert.KVIdeal.τ).loc Cert.KVIdeal.main_arg0)
          ∧ r.2.mem ((c.tc : Thread Cert.KVIdeal.nD Cert.KVIdeal.τ).loc Cert.KVIdeal.main_arg1) = m ((c.tc : Thread Cert.KVIdeal.nD Cert.KVIdeal.τ).loc Cert.KVIdeal.main_arg1))
      ∧ θ_run (Cert.KVReferenceIdeal.defs (F := Ideal)) (onTc (τ := Cert.KVReferenceIdeal.τ) (Cert.KVReferenceIdeal.main (F := Ideal))) ⟨m', fun _ => 0, g'⟩ (fun r => ∀ c : Dev Cert.KVReferenceIdeal.nD,
          (∀ i : (⟨3, ![2, 7936, 1024]⟩ : Shape).Idx, (Cert.On_means.fn (F := Ideal) (m ((c.tc : Thread Cert.KVIdeal.nD Cert.KVIdeal.τ).loc Cert.KVIdeal.main_arg0)) (m ((c.tc : Thread Cert.KVIdeal.nD Cert.KVIdeal.τ).loc Cert.KVIdeal.main_arg1))).1 i = 1#1 → r.2.mem ((c.tc : Thread Cert.KVReferenceIdeal.nD Cert.KVReferenceIdeal.τ).loc Cert.KVReferenceIdeal.main_v0_0) i = v0 c i)
          ∧ (∀ i : (⟨5, ![2, 8, 31, 4, 128]⟩ : Shape).Idx, (Cert.On_means.fn (F := Ideal) (m ((c.tc : Thread Cert.KVIdeal.nD Cert.KVIdeal.τ).loc Cert.KVIdeal.main_arg0)) (m ((c.tc : Thread Cert.KVIdeal.nD Cert.KVIdeal.τ).loc Cert.KVIdeal.main_arg1))).2.1 i = 1#1 → r.2.mem ((c.tc : Thread Cert.KVReferenceIdeal.nD Cert.KVReferenceIdeal.τ).loc Cert.KVReferenceIdeal.main_v0_1) i = v1 c i)
          ∧ (∀ i : (⟨4, ![2, 8, 1, 128]⟩ : Shape).Idx, (Cert.On_means.fn (F := Ideal) (m ((c.tc : Thread Cert.KVIdeal.nD Cert.KVIdeal.τ).loc Cert.KVIdeal.main_arg0)) (m ((c.tc : Thread Cert.KVIdeal.nD Cert.KVIdeal.τ).loc Cert.KVIdeal.main_arg1))).2.2.1 i = 1#1 → r.2.mem ((c.tc : Thread Cert.KVReferenceIdeal.nD Cert.KVReferenceIdeal.τ).loc Cert.KVReferenceIdeal.main_v0_2) i = v2 c i)
          ∧ (∀ i : (⟨3, ![2, 7936, 1024]⟩ : Shape).Idx, (Cert.On_means.fn (F := Ideal) (m ((c.tc : Thread Cert.KVIdeal.nD Cert.KVIdeal.τ).loc Cert.KVIdeal.main_arg0)) (m ((c.tc : Thread Cert.KVIdeal.nD Cert.KVIdeal.τ).loc Cert.KVIdeal.main_arg1))).2.2.2.1 i = 1#1 → r.2.mem ((c.tc : Thread Cert.KVReferenceIdeal.nD Cert.KVReferenceIdeal.τ).loc Cert.KVReferenceIdeal.main_v0_3) i = v3 c i)
          ∧ (∀ i : (⟨4, ![2, 8, 1, 128]⟩ : Shape).Idx, (Cert.On_means.fn (F := Ideal) (m ((c.tc : Thread Cert.KVIdeal.nD Cert.KVIdeal.τ).loc Cert.KVIdeal.main_arg0)) (m ((c.tc : Thread Cert.KVIdeal.nD Cert.KVIdeal.τ).loc Cert.KVIdeal.main_arg1))).2.2.2.2.1 i = 1#1 → r.2.mem ((c.tc : Thread Cert.KVReferenceIdeal.nD Cert.KVReferenceIdeal.τ).loc Cert.KVReferenceIdeal.main_v0_4) i = v4 c i)
          ∧ (∀ i : (⟨4, ![2, 8, 1, 128]⟩ : Shape).Idx, (Cert.On_means.fn (F := Ideal) (m ((c.tc : Thread Cert.KVIdeal.nD Cert.KVIdeal.τ).loc Cert.KVIdeal.main_arg0)) (m ((c.tc : Thread Cert.KVIdeal.nD Cert.KVIdeal.τ).loc Cert.KVIdeal.main_arg1))).2.2.2.2.2.1 i = 1#1 → r.2.mem ((c.tc : Thread Cert.KVReferenceIdeal.nD Cert.KVReferenceIdeal.τ).loc Cert.KVReferenceIdeal.main_v0_5) i = v5 c i)
          ∧ (∀ i : (⟨4, ![2, 8, 7936, 128]⟩ : Shape).Idx, (Cert.On_means.fn (F := Ideal) (m ((c.tc : Thread Cert.KVIdeal.nD Cert.KVIdeal.τ).loc Cert.KVIdeal.main_arg0)) (m ((c.tc : Thread Cert.KVIdeal.nD Cert.KVIdeal.τ).loc Cert.KVIdeal.main_arg1))).2.2.2.2.2.2.1 i = 1#1 → r.2.mem ((c.tc : Thread Cert.KVReferenceIdeal.nD Cert.KVReferenceIdeal.τ).loc Cert.KVReferenceIdeal.main_v0_6) i = v6 c i)
          ∧ (∀ i : (⟨5, ![2, 8, 31, 128, 256]⟩ : Shape).Idx, (Cert.On_means.fn (F := Ideal) (m ((c.tc : Thread Cert.KVIdeal.nD Cert.KVIdeal.τ).loc Cert.KVIdeal.main_arg0)) (m ((c.tc : Thread Cert.KVIdeal.nD Cert.KVIdeal.τ).loc Cert.KVIdeal.main_arg1))).2.2.2.2.2.2.2 i = 1#1 → r.2.mem ((c.tc : Thread Cert.KVReferenceIdeal.nD Cert.KVReferenceIdeal.τ).loc Cert.KVReferenceIdeal.main_v0_7) i = v7 c i)
          ∧ r.2.mem ((c.tc : Thread Cert.KVReferenceIdeal.nD Cert.KVReferenceIdeal.τ).loc Cert.KVReferenceIdeal.main_arg0) = m' ((c.tc : Thread Cert.KVReferenceIdeal.nD Cert.KVReferenceIdeal.τ).loc Cert.KVReferenceIdeal.main_arg0)
          ∧ r.2.mem ((c.tc : Thread Cert.KVReferenceIdeal.nD Cert.KVReferenceIdeal.τ).loc Cert.KVReferenceIdeal.main_arg1) = m' ((c.tc : Thread Cert.KVReferenceIdeal.nD Cert.KVReferenceIdeal.τ).loc Cert.KVReferenceIdeal.main_arg1))

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hKV : Cert.KV.Facts) (hKVIdeal : Cert.KVIdeal.Facts) (hKVReferenceIdeal : Cert.KVReferenceIdeal.Facts) (hPre_in_range : Cert.Pre_in_range.Facts) (hOn_means : Cert.On_means.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_KV (hKV := hKV)
    ∧ quiescent_KVIdeal (hKVIdeal := hKVIdeal)
    ∧ quiescent_KVReferenceIdeal (hKVReferenceIdeal := hKVReferenceIdeal)
    ∧ preserves_Kernel_KernelIdeal
    ∧ preserves_KV_KVIdeal
    ∧ algebraic_KVIdeal_KVReferenceIdeal_on_means (hKVIdeal := hKVIdeal) (hKVReferenceIdeal := hKVReferenceIdeal) (hOn_means := hOn_means)
    ∧ algebraic_KernelIdeal_ReferenceIdeal_pre_in_range (hKernelIdeal := hKernelIdeal) (hReferenceIdeal := hReferenceIdeal) (hPre_in_range := hPre_in_range)
-- ==== On_means.lean ====
abbrev S2x7936x1024 : Shape := ⟨3, ![2, 7936, 1024]⟩
abbrev S_ : Shape := ⟨0, ![]⟩
abbrev S2x8x31x4x128 : Shape := ⟨5, ![2, 8, 31, 4, 128]⟩
abbrev S2x8x1x128 : Shape := ⟨4, ![2, 8, 1, 128]⟩
abbrev S2x8x7936x128 : Shape := ⟨4, ![2, 8, 7936, 128]⟩
abbrev S2x8x31x128x256 : Shape := ⟨5, ![2, 8, 31, 128, 256]⟩

class Facts : Prop where
  bcast_S_S2x7936x1024 : S_.BroadcastsInDim S2x7936x1024 (![] : Fin 0 → Fin S2x7936x1024.rank)
  bcast_S_S2x8x31x4x128 : S_.BroadcastsInDim S2x8x31x4x128 (![] : Fin 0 → Fin S2x8x31x4x128.rank)
  bcast_S_S2x8x1x128 : S_.BroadcastsInDim S2x8x1x128 (![] : Fin 0 → Fin S2x8x1x128.rank)
  bcast_S_S2x8x7936x128 : S_.BroadcastsInDim S2x8x7936x128 (![] : Fin 0 → Fin S2x8x7936x128.rank)
  bcast_S_S2x8x31x128x256 : S_.BroadcastsInDim S2x8x31x128x256 (![] : Fin 0 → Fin S2x8x31x128x256.rank)

variable [Facts]

def fn {F : FTy → Type} [FloatOps F] (main_arg0 : FVec F S2x7936x1024 .bf16) (main_arg1 : FVec F S2x7936x1024 .bf16) : IVec S2x7936x1024 1 × IVec S2x8x31x4x128 1 × IVec S2x8x1x128 1 × IVec S2x7936x1024 1 × IVec S2x8x1x128 1 × IVec S2x8x1x128 1 × IVec S2x8x7936x128 1 × IVec S2x8x31x128x256 1 :=
  let main_c : IVec S_ 1 := constantI S_ 1 0#1
  let main_v0 : IVec S2x7936x1024 1 := broadcastInDim S2x7936x1024 ![] bcast_S_S2x7936x1024 main_c
  let main_c_0 : IVec S_ 1 := constantI S_ 1 0#1
  let main_v1 : IVec S2x8x31x4x128 1 := broadcastInDim S2x8x31x4x128 ![] bcast_S_S2x8x31x4x128 main_c_0
  let main_c_1 : IVec S_ 1 := constantI S_ 1 1#1
  let main_v2 : IVec S2x8x1x128 1 := broadcastInDim S2x8x1x128 ![] bcast_S_S2x8x1x128 main_c_1
  let main_c_2 : IVec S_ 1 := constantI S_ 1 0#1
  let main_v3 : IVec S2x7936x1024 1 := broadcastInDim S2x7936x1024 ![] bcast_S_S2x7936x1024 main_c_2
  let main_c_3 : IVec S_ 1 := constantI S_ 1 0#1
  let main_v4 : IVec S2x8x1x128 1 := broadcastInDim S2x8x1x128 ![] bcast_S_S2x8x1x128 main_c_3
  let main_c_4 : IVec S_ 1 := constantI S_ 1 1#1
  let main_v5 : IVec S2x8x1x128 1 := broadcastInDim S2x8x1x128 ![] bcast_S_S2x8x1x128 main_c_4
  let main_c_5 : IVec S_ 1 := constantI S_ 1 0#1
  let main_v6 : IVec S2x8x7936x128 1 := broadcastInDim S2x8x7936x128 ![] bcast_S_S2x8x7936x128 main_c_5
  let main_c_6 : IVec S_ 1 := constantI S_ 1 0#1
  let main_v7 : IVec S2x8x31x128x256 1 := broadcastInDim S2x8x31x128x256 ![] bcast_S_S2x8x31x128x256 main_c_6
  (main_v0, main_v1, main_v2, main_v3, main_v4, main_v5, main_v6, main_v7)
-- ==== Pre_in_range.lean ====
abbrev S2x7936x5120 : Shape := ⟨3, ![2, 7936, 5120]⟩
abbrev S2x7936x1024 : Shape := ⟨3, ![2, 7936, 1024]⟩
abbrev S2x8x7936x128 : Shape := ⟨4, ![2, 8, 7936, 128]⟩
abbrev S2x8x31x4x128 : Shape := ⟨5, ![2, 8, 31, 4, 128]⟩
abbrev S2x8x31x128x256 : Shape := ⟨5, ![2, 8, 31, 128, 256]⟩
abbrev S2x8x1x128 : Shape := ⟨4, ![2, 8, 1, 128]⟩
abbrev S_ : Shape := ⟨0, ![]⟩

class Facts : Prop where
  bcast_S_S2x7936x5120 : S_.BroadcastsInDim S2x7936x5120 (![] : Fin 0 → Fin S2x7936x5120.rank)
  reducesTo_S2x7936x5120_S_d0_1_2 : S2x7936x5120.ReducesTo [0, 1, 2] S_
  h_S_ : 0 < S_.numel
  bcast_S_S2x8x31x4x128 : S_.BroadcastsInDim S2x8x31x4x128 (![] : Fin 0 → Fin S2x8x31x4x128.rank)
  reducesTo_S2x8x31x4x128_S_d0_1_2_3_4 : S2x8x31x4x128.ReducesTo [0, 1, 2, 3, 4] S_

variable [Facts]

def fn {F : FTy → Type} [FloatOps F] (main_arg0 : FVec F S2x7936x5120 .bf16) (main_arg1 : FVec F S2x7936x1024 .fp8e4m3) (main_arg2 : FVec F S2x8x7936x128 .bf16) (main_arg3 : FVec F S2x8x31x4x128 .f32) (main_arg4 : FVec F S2x8x31x128x256 .fp8e4m3) (main_arg5 : FVec F S2x8x1x128 .f32) (main_arg6 : FVec F S2x8x1x128 .bf16) : IVec S_ 1 :=
  let main_v0 : FVec F S2x7936x5120 .bf16 := Host.absf main_arg0
  let main_cst : FVec F S_ .bf16 := constant S_ .bf16 0x7F7F#16
  let main_v1 : FVec F S2x7936x5120 .bf16 := broadcastInDim S2x7936x5120 ![] bcast_S_S2x7936x5120 main_cst
  let main_v2 : IVec S2x7936x5120 1 := cmpf .ole main_v0 main_v1
  let main_c : IVec S_ 1 := constantI S_ 1 1#1
  let main_v3 : IVec S_ 1 := (fun x v => Host.reduce IntOp.andi x v reducesTo_S2x7936x5120_S_d0_1_2 h_S_) main_v2 main_c
  let main_cst_0 : FVec F S_ .f32 := constant S_ .f32 0x00000000#32
  let main_v4 : FVec F S2x8x31x4x128 .f32 := broadcastInDim S2x8x31x4x128 ![] bcast_S_S2x8x31x4x128 main_cst_0
  let main_v5 : IVec S2x8x31x4x128 1 := cmpf .ogt main_arg3 main_v4
  let main_c_1 : IVec S_ 1 := constantI S_ 1 1#1
  let main_v6 : IVec S_ 1 := (fun x v => Host.reduce IntOp.andi x v reducesTo_S2x8x31x4x128_S_d0_1_2_3_4 h_S_) main_v5 main_c_1
  let main_v7 : IVec S_ 1 := andi main_v3 main_v6
  main_v7
-- ==== Kernel.lean ====
abbrev S2x7936x5120 : Shape := ⟨3, ![2, 7936, 5120]⟩
abbrev S2x7936x1024 : Shape := ⟨3, ![2, 7936, 1024]⟩
abbrev S2x8x7936x128 : Shape := ⟨4, ![2, 8, 7936, 128]⟩
abbrev S2x8x31x4x128 : Shape := ⟨5, ![2, 8, 31, 4, 128]⟩
abbrev S2x8x31x128x256 : Shape := ⟨5, ![2, 8, 31, 128, 256]⟩
abbrev S2x8x1x128 : Shape := ⟨4, ![2, 8, 1, 128]⟩
abbrev S2x8x31x10x128 : Shape := ⟨5, ![2, 8, 31, 10, 128]⟩
abbrev S2x62x8x5x128 : Shape := ⟨5, ![2, 62, 8, 5, 128]⟩
abbrev S1x256x640 : Shape := ⟨3, ![1, 256, 640]⟩
abbrev S1x7936x128 : Shape := ⟨3, ![1, 7936, 128]⟩
abbrev S1x1x7936x128 : Shape := ⟨4, ![1, 1, 7936, 128]⟩
abbrev S1x1x31x4x128 : Shape := ⟨5, ![1, 1, 31, 4, 128]⟩
abbrev S1x1x31x128x256 : Shape := ⟨5, ![1, 1, 31, 128, 256]⟩
abbrev S1x1x1x128 : Shape := ⟨4, ![1, 1, 1, 128]⟩
abbrev S1x1x1x10x128 : Shape := ⟨5, ![1, 1, 1, 10, 128]⟩
abbrev S1x2x1x5x128 : Shape := ⟨5, ![1, 2, 1, 5, 128]⟩
abbrev S31x5x256x256 : Shape := ⟨4, ![31, 5, 256, 256]⟩
abbrev S5x128x256 : Shape := ⟨3, ![5, 128, 256]⟩
abbrev S5x1x256 : Shape := ⟨3, ![5, 1, 256]⟩
abbrev S5x8x256 : Shape := ⟨3, ![5, 8, 256]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1 : Shape := ⟨2, ![1, 1]⟩
abbrev S256x1 : Shape := ⟨2, ![256, 1]⟩
abbrev S1x1x128 : Shape := ⟨3, ![1, 1, 128]⟩
abbrev S5x128 : Shape := ⟨2, ![5, 128]⟩
abbrev S1x1x1x5x128 : Shape := ⟨5, ![1, 1, 1, 5, 128]⟩
abbrev S10x128 : Shape := ⟨2, ![10, 128]⟩
abbrev S1x1x256 : Shape := ⟨3, ![1, 1, 256]⟩
abbrev S1x256 : Shape := ⟨2, ![1, 256]⟩
abbrev S1x1x1x1x1 : Shape := ⟨5, ![1, 1, 1, 1, 1]⟩
abbrev S1x1x64x256 : Shape := ⟨4, ![1, 1, 64, 256]⟩
abbrev S64x256 : Shape := ⟨2, ![64, 256]⟩
abbrev S8x8x256 : Shape := ⟨3, ![8, 8, 256]⟩
abbrev S8x256 : Shape := ⟨2, ![8, 256]⟩
abbrev S1x8x256 : Shape := ⟨3, ![1, 8, 256]⟩
abbrev S1x128x256 : Shape := ⟨3, ![1, 128, 256]⟩
abbrev S128x256 : Shape := ⟨2, ![128, 256]⟩
abbrev S1x1x1x128x256 : Shape := ⟨5, ![1, 1, 1, 128, 256]⟩
abbrev S256x256 : Shape := ⟨2, ![256, 256]⟩
abbrev S1x256x128 : Shape := ⟨3, ![1, 256, 128]⟩
abbrev S256x128 : Shape := ⟨2, ![256, 128]⟩
abbrev S1x1x256x128 : Shape := ⟨4, ![1, 1, 256, 128]⟩
abbrev S4x8x8x256 : Shape := ⟨4, ![4, 8, 8, 256]⟩
abbrev S1x8x8x256 : Shape := ⟨4, ![1, 8, 8, 256]⟩
abbrev S1x1x256x256 : Shape := ⟨4, ![1, 1, 256, 256]⟩
abbrev S256 : Shape := ⟨1, ![256]⟩

abbrev nBuf : Space → Nat
  | .hbm => 11
  | .vmem => 31
  | .smem => 0
  | _ => 0

abbrev bufTy : (tb : Table) → Fin (tcTables nBuf tb) → BufTy
  | .hbm, ⟨0, _⟩ => ⟨S2x7936x5120, .bf16⟩
  | .hbm, ⟨1, _⟩ => ⟨S2x7936x1024, .fp8e4m3⟩
  | .hbm, ⟨2, _⟩ => ⟨S2x8x7936x128, .bf16⟩
  | .hbm, ⟨3, _⟩ => ⟨S2x8x31x4x128, .f32⟩
  | .hbm, ⟨4, _⟩ => ⟨S2x8x31x128x256, .fp8e4m3⟩
  | .hbm, ⟨5, _⟩ => ⟨S2x8x1x128, .f32⟩
  | .hbm, ⟨6, _⟩ => ⟨S2x8x1x128, .bf16⟩
  | .hbm, ⟨7, _⟩ => ⟨S2x7936x5120, .bf16⟩
  | .hbm, ⟨8, _⟩ => ⟨S2x7936x5120, .fp8e4m3⟩
  | .hbm, ⟨9, _⟩ => ⟨S2x8x31x10x128, .f32⟩
  | .hbm, ⟨10, _⟩ => ⟨S2x62x8x5x128, .bf16⟩
  | .local _ .vmem, ⟨0, _⟩ => ⟨S1x256x640, .bf16⟩
  | .local _ .vmem, ⟨1, _⟩ => ⟨S1x256x640, .bf16⟩
  | .local _ .vmem, ⟨2, _⟩ => ⟨S1x7936x128, .fp8e4m3⟩
  | .local _ .vmem, ⟨3, _⟩ => ⟨S1x7936x128, .fp8e4m3⟩
  | .local _ .vmem, ⟨4, _⟩ => ⟨S1x1x7936x128, .bf16⟩
  | .local _ .vmem, ⟨5, _⟩ => ⟨S1x1x7936x128, .bf16⟩
  | .local _ .vmem, ⟨6, _⟩ => ⟨S1x1x31x4x128, .f32⟩
  | .local _ .vmem, ⟨7, _⟩ => ⟨S1x1x31x4x128, .f32⟩
  | .local _ .vmem, ⟨8, _⟩ => ⟨S1x1x31x128x256, .fp8e4m3⟩
  | .local _ .vmem, ⟨9, _⟩ => ⟨S1x1x31x128x256, .fp8e4m3⟩
  | .local _ .vmem, ⟨10, _⟩ => ⟨S1x1x1x128, .f32⟩
  | .local _ .vmem, ⟨11, _⟩ => ⟨S1x1x1x128, .f32⟩
  | .local _ .vmem, ⟨12, _⟩ => ⟨S1x1x1x128, .bf16⟩
  | .local _ .vmem, ⟨13, _⟩ => ⟨S1x1x1x128, .bf16⟩
  | .local _ .vmem, ⟨14, _⟩ => ⟨S1x256x640, .bf16⟩
  | .local _ .vmem, ⟨15, _⟩ => ⟨S1x256x640, .bf16⟩
  | .local _ .vmem, ⟨16, _⟩ => ⟨S1x256x640, .fp8e4m3⟩
  | .local _ .vmem, ⟨17, _⟩ => ⟨S1x256x640, .fp8e4m3⟩
  | .local _ .vmem, ⟨18, _⟩ => ⟨S1x1x1x10x128, .f32⟩
  | .local _ .vmem, ⟨19, _⟩ => ⟨S1x1x1x10x128, .f32⟩
  | .local _ .vmem, ⟨20, _⟩ => ⟨S1x2x1x5x128, .bf16⟩
  | .local _ .vmem, ⟨21, _⟩ => ⟨S1x2x1x5x128, .bf16⟩
  | .local _ .vmem, ⟨22, _⟩ => ⟨S31x5x256x256, .f32⟩
  | .local _ .vmem, ⟨23, _⟩ => ⟨S5x128x256, .fp8e4m3⟩
  | .local _ .vmem, ⟨24, _⟩ => ⟨S5x128x256, .bf16⟩
  | .local _ .vmem, ⟨25, _⟩ => ⟨S5x1x256, .f32⟩
  | .local _ .vmem, ⟨26, _⟩ => ⟨S5x1x256, .f32⟩
  | .local _ .vmem, ⟨27, _⟩ => ⟨S5x8x256, .f32⟩
  | .local _ .vmem, ⟨28, _⟩ => ⟨S5x1x256, .f32⟩
  | .local _ .vmem, ⟨29, _⟩ => ⟨S5x8x256, .f32⟩
  | .local _ .vmem, ⟨30, _⟩ => ⟨S5x128x256, .f32⟩
  | _, _ => ⟨S2x7936x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 8, 32], ![false, false, false]⟩

def k0_cond1 (i : grid0.Coords) : BitVec 1 :=
  let arg2 : BitVec 32 := BitVec.ofNat 32 (i 2).val
  let c31_i32 : BitVec 32 := 31#32
  let v12 : BitVec 1 := Scalar.cmpi .slt arg2 c31_i32
  let v13 : BitVec 32 := Scalar.extui v12
  let c0_i32 : BitVec 32 := 0#32
  let v14 : BitVec 1 := Scalar.cmpi .ne v13 c0_i32
  v14

@[reducible] def k0_t1_loop (i : grid0.Coords) : Scf.Loop 32 :=
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let c1_i32_372 : BitVec 32 := 1#32
  ⟨c0_i32_369, v860, c1_i32_372⟩
def k0_off1 (i : grid0.Coords) (k0_t1 : Fin (k0_t1_loop i).trips) : Fin 5 → Nat :=
  let c0_377 : Index := 0#32
  let c0_378 : Index := 0#32
  let c0_i32_369 : BitVec 32 := 0#32
  let c1_i32_372 : BitVec 32 := 1#32
  let arg23 : BitVec 32 := Scf.iv c0_i32_369 c1_i32_372 k0_t1
  let v865 : Index := Scalar.indexCast arg23
  let c0_379 : Index := 0#32
  let c0_380 : Index := 0#32
  ![0, 0, v865.toNat, 0, 0]
def k0_off2 (i : grid0.Coords) (k0_t1 : Fin (k0_t1_loop i).trips) : Fin 4 → Nat :=
  let c0_i32_369 : BitVec 32 := 0#32
  let c1_i32_372 : BitVec 32 := 1#32
  let arg23 : BitVec 32 := Scf.iv c0_i32_369 c1_i32_372 k0_t1
  let v870 : Index := Scalar.indexCast arg23
  let c0_381 : Index := 0#32
  let c0_382 : Index := 0#32
  let c0_383 : Index := 0#32
  ![v870.toNat, 0, 0, 0]
def k0_off3 (i : grid0.Coords) (k0_t1 : Fin (k0_t1_loop i).trips) : Fin 5 → Nat :=
  let c0_392 : Index := 0#32
  let c0_393 : Index := 0#32
  let c0_i32_369 : BitVec 32 := 0#32
  let c1_i32_372 : BitVec 32 := 1#32
  let arg23 : BitVec 32 := Scf.iv c0_i32_369 c1_i32_372 k0_t1
  let v887 : Index := Scalar.indexCast arg23
  let c1_394 : Index := 1#32
  let c0_395 : Index := 0#32
  ![0, 0, v887.toNat, 1, 0]
def k0_off4 (i : grid0.Coords) (k0_t1 : Fin (k0_t1_loop i).trips) : Fin 4 → Nat :=
  let c0_i32_369 : BitVec 32 := 0#32
  let c1_i32_372 : BitVec 32 := 1#32
  let arg23 : BitVec 32 := Scf.iv c0_i32_369 c1_i32_372 k0_t1
  let v892 : Index := Scalar.indexCast arg23
  let c0_396 : Index := 0#32
  let c64 : Index := 64#32
  let c0_397 : Index := 0#32
  ![v892.toNat, 0, 64, 0]
def k0_off5 (i : grid0.Coords) (k0_t1 : Fin (k0_t1_loop i).trips) : Fin 5 → Nat :=
  let c0_406 : Index := 0#32
  let c0_407 : Index := 0#32
  let c0_i32_369 : BitVec 32 := 0#32
  let c1_i32_372 : BitVec 32 := 1#32
  let arg23 : BitVec 32 := Scf.iv c0_i32_369 c1_i32_372 k0_t1
  let v910 : Index := Scalar.indexCast arg23
  let c2_408 : Index := 2#32
  let c0_409 : Index := 0#32
  ![0, 0, v910.toNat, 2, 0]
def k0_off6 (i : grid0.Coords) (k0_t1 : Fin (k0_t1_loop i).trips) : Fin 4 → Nat :=
  let c0_i32_369 : BitVec 32 := 0#32
  let c1_i32_372 : BitVec 32 := 1#32
  let arg23 : BitVec 32 := Scf.iv c0_i32_369 c1_i32_372 k0_t1
  let v915 : Index := Scalar.indexCast arg23
  let c0_410 : Index := 0#32
  let c128_411 : Index := 128#32
  let c0_412 : Index := 0#32
  ![v915.toNat, 0, 128, 0]
def k0_off7 (i : grid0.Coords) (k0_t1 : Fin (k0_t1_loop i).trips) : Fin 5 → Nat :=
  let c0_421 : Index := 0#32
  let c0_422 : Index := 0#32
  let c0_i32_369 : BitVec 32 := 0#32
  let c1_i32_372 : BitVec 32 := 1#32
  let arg23 : BitVec 32 := Scf.iv c0_i32_369 c1_i32_372 k0_t1
  let v933 : Index := Scalar.indexCast arg23
  let c3_423 : Index := 3#32
  let c0_424 : Index := 0#32
  ![0, 0, v933.toNat, 3, 0]
def k0_off8 (i : grid0.Coords) (k0_t1 : Fin (k0_t1_loop i).trips) : Fin 4 → Nat :=
  let c0_i32_369 : BitVec 32 := 0#32
  let c1_i32_372 : BitVec 32 := 1#32
  let arg23 : BitVec 32 := Scf.iv c0_i32_369 c1_i32_372 k0_t1
  let v938 : Index := Scalar.indexCast arg23
  let c0_425 : Index := 0#32
  let c192 : Index := 192#32
  let c0_426 : Index := 0#32
  ![v938.toNat, 0, 192, 0]
def k0_off9 (i : grid0.Coords) (k0_t1 : Fin (k0_t1_loop i).trips) : Fin 5 → Nat :=
  let c0_441 : Index := 0#32
  let c0_442 : Index := 0#32
  let c0_i32_369 : BitVec 32 := 0#32
  let c1_i32_372 : BitVec 32 := 1#32
  let arg23 : BitVec 32 := Scf.iv c0_i32_369 c1_i32_372 k0_t1
  let v962 : Index := Scalar.indexCast arg23
  let c0_443 : Index := 0#32
  let c0_444 : Index := 0#32
  ![0, 0, v962.toNat, 0, 0]
def k0_mult1 (i : grid0.Coords) (k0_t1 : Fin (k0_t1_loop i).trips) : BitVec 32 :=
  let c0_i32_369 : BitVec 32 := 0#32
  let c1_i32_372 : BitVec 32 := 1#32
  let arg23 : BitVec 32 := Scf.iv c0_i32_369 c1_i32_372 k0_t1
  let c256_i32 : BitVec 32 := 256#32
  let v971 : BitVec 32 := Scalar.muli arg23 c256_i32
  v971
def k0_off10 (i : grid0.Coords) (k0_t1 : Fin (k0_t1_loop i).trips) : Fin 3 → Nat :=
  let c0_449 : Index := 0#32
  let c0_i32_369 : BitVec 32 := 0#32
  let c1_i32_372 : BitVec 32 := 1#32
  let arg23 : BitVec 32 := Scf.iv c0_i32_369 c1_i32_372 k0_t1
  let c256_i32 : BitVec 32 := 256#32
  let v971 : BitVec 32 := Scalar.muli arg23 c256_i32
  let v972 : BitVec 32 := v971
  let v973 : Index := Scalar.indexCast v972
  let c0_450 : Index := 0#32
  ![0, v973.toNat, 0]
def k0_off11 (i : grid0.Coords) (k0_t1 : Fin (k0_t1_loop i).trips) : Fin 4 → Nat :=
  let c0_455 : Index := 0#32
  let c0_456 : Index := 0#32
  let c0_i32_369 : BitVec 32 := 0#32
  let c1_i32_372 : BitVec 32 := 1#32
  let arg23 : BitVec 32 := Scf.iv c0_i32_369 c1_i32_372 k0_t1
  let c256_i32 : BitVec 32 := 256#32
  let v971 : BitVec 32 := Scalar.muli arg23 c256_i32
  let v972 : BitVec 32 := v971
  let v979 : Index := Scalar.indexCast v972
  let c0_457 : Index := 0#32
  ![0, 0, v979.toNat, 0]
def k0_off12 (i : grid0.Coords) (k0_t1 : Fin (k0_t1_loop i).trips) : Fin 4 → Nat :=
  let c0_i32_369 : BitVec 32 := 0#32
  let c1_i32_372 : BitVec 32 := 1#32
  let arg23 : BitVec 32 := Scf.iv c0_i32_369 c1_i32_372 k0_t1
  let v1028 : Index := Scalar.indexCast arg23
  let c0_488 : Index := 0#32
  let c0_489 : Index := 0#32
  let c0_490 : Index := 0#32
  ![v1028.toNat, 0, 0, 0]
def k0_off13 (i : grid0.Coords) (k0_t1 : Fin (k0_t1_loop i).trips) : Fin 4 → Nat :=
  let c0_i32_369 : BitVec 32 := 0#32
  let c1_i32_372 : BitVec 32 := 1#32
  let arg23 : BitVec 32 := Scf.iv c0_i32_369 c1_i32_372 k0_t1
  let v1039 : Index := Scalar.indexCast arg23
  let c1_498 : Index := 1#32
  let c0_499 : Index := 0#32
  let c0_500 : Index := 0#32
  ![v1039.toNat, 1, 0, 0]
def k0_off14 (i : grid0.Coords) (k0_t1 : Fin (k0_t1_loop i).trips) : Fin 4 → Nat :=
  let c0_i32_369 : BitVec 32 := 0#32
  let c1_i32_372 : BitVec 32 := 1#32
  let arg23 : BitVec 32 := Scf.iv c0_i32_369 c1_i32_372 k0_t1
  let v1061 : Index := Scalar.indexCast arg23
  let c1_513 : Index := 1#32
  let c64_514 : Index := 64#32
  let c0_515 : Index := 0#32
  ![v1061.toNat, 1, 64, 0]
def k0_off15 (i : grid0.Coords) (k0_t1 : Fin (k0_t1_loop i).trips) : Fin 4 → Nat :=
  let c0_i32_369 : BitVec 32 := 0#32
  let c1_i32_372 : BitVec 32 := 1#32
  let arg23 : BitVec 32 := Scf.iv c0_i32_369 c1_i32_372 k0_t1
  let v1084 : Index := Scalar.indexCast arg23
  let c1_528 : Index := 1#32
  let c128_529 : Index := 128#32
  let c0_530 : Index := 0#32
  ![v1084.toNat, 1, 128, 0]
def k0_off16 (i : grid0.Coords) (k0_t1 : Fin (k0_t1_loop i).trips) : Fin 4 → Nat :=
  let c0_i32_369 : BitVec 32 := 0#32
  let c1_i32_372 : BitVec 32 := 1#32
  let arg23 : BitVec 32 := Scf.iv c0_i32_369 c1_i32_372 k0_t1
  let v1107 : Index := Scalar.indexCast arg23
  let c1_543 : Index := 1#32
  let c192_544 : Index := 192#32
  let c0_545 : Index := 0#32
  ![v1107.toNat, 1, 192, 0]
def k0_mult2 (i : grid0.Coords) (k0_t1 : Fin (k0_t1_loop i).trips) : BitVec 32 :=
  let c0_i32_369 : BitVec 32 := 0#32
  let c1_i32_372 : BitVec 32 := 1#32
  let arg23 : BitVec 32 := Scf.iv c0_i32_369 c1_i32_372 k0_t1
  let c256_i32_568 : BitVec 32 := 256#32
  let v1140 : BitVec 32 := Scalar.muli arg23 c256_i32_568
  v1140
def k0_off17 (i : grid0.Coords) (k0_t1 : Fin (k0_t1_loop i).trips) : Fin 4 → Nat :=
  let c0_i32_369 : BitVec 32 := 0#32
  let c1_i32_372 : BitVec 32 := 1#32
  let arg23 : BitVec 32 := Scf.iv c0_i32_369 c1_i32_372 k0_t1
  let v1197 : Index := Scalar.indexCast arg23
  let c1_608 : Index := 1#32
  let c0_609 : Index := 0#32
  let c0_610 : Index := 0#32
  ![v1197.toNat, 1, 0, 0]
def k0_off18 (i : grid0.Coords) (k0_t1 : Fin (k0_t1_loop i).trips) : Fin 4 → Nat :=
  let c0_i32_369 : BitVec 32 := 0#32
  let c1_i32_372 : BitVec 32 := 1#32
  let arg23 : BitVec 32 := Scf.iv c0_i32_369 c1_i32_372 k0_t1
  let v1208 : Index := Scalar.indexCast arg23
  let c2_618 : Index := 2#32
  let c0_619 : Index := 0#32
  let c0_620 : Index := 0#32
  ![v1208.toNat, 2, 0, 0]
def k0_off19 (i : grid0.Coords) (k0_t1 : Fin (k0_t1_loop i).trips) : Fin 4 → Nat :=
  let c0_i32_369 : BitVec 32 := 0#32
  let c1_i32_372 : BitVec 32 := 1#32
  let arg23 : BitVec 32 := Scf.iv c0_i32_369 c1_i32_372 k0_t1
  let v1230 : Index := Scalar.indexCast arg23
  let c2_633 : Index := 2#32
  let c64_634 : Index := 64#32
  let c0_635 : Index := 0#32
  ![v1230.toNat, 2, 64, 0]
def k0_off20 (i : grid0.Coords) (k0_t1 : Fin (k0_t1_loop i).trips) : Fin 4 → Nat :=
  let c0_i32_369 : BitVec 32 := 0#32
  let c1_i32_372 : BitVec 32 := 1#32
  let arg23 : BitVec 32 := Scf.iv c0_i32_369 c1_i32_372 k0_t1
  let v1253 : Index := Scalar.indexCast arg23
  let c2_648 : Index := 2#32
  let c128_649 : Index := 128#32
  let c0_650 : Index := 0#32
  ![v1253.toNat, 2, 128, 0]
def k0_off21 (i : grid0.Coords) (k0_t1 : Fin (k0_t1_loop i).trips) : Fin 4 → Nat :=
  let c0_i32_369 : BitVec 32 := 0#32
  let c1_i32_372 : BitVec 32 := 1#32
  let arg23 : BitVec 32 := Scf.iv c0_i32_369 c1_i32_372 k0_t1
  let v1276 : Index := Scalar.indexCast arg23
  let c2_663 : Index := 2#32
  let c192_664 : Index := 192#32
  let c0_665 : Index := 0#32
  ![v1276.toNat, 2, 192, 0]
def k0_mult3 (i : grid0.Coords) (k0_t1 : Fin (k0_t1_loop i).trips) : BitVec 32 :=
  let c0_i32_369 : BitVec 32 := 0#32
  let c1_i32_372 : BitVec 32 := 1#32
  let arg23 : BitVec 32 := Scf.iv c0_i32_369 c1_i32_372 k0_t1
  let c256_i32_688 : BitVec 32 := 256#32
  let v1309 : BitVec 32 := Scalar.muli arg23 c256_i32_688
  v1309
def k0_off22 (i : grid0.Coords) (k0_t1 : Fin (k0_t1_loop i).trips) : Fin 4 → Nat :=
  let c0_i32_369 : BitVec 32 := 0#32
  let c1_i32_372 : BitVec 32 := 1#32
  let arg23 : BitVec 32 := Scf.iv c0_i32_369 c1_i32_372 k0_t1
  let v1366 : Index := Scalar.indexCast arg23
  let c2_728 : Index := 2#32
  let c0_729 : Index := 0#32
  let c0_730 : Index := 0#32
  ![v1366.toNat, 2, 0, 0]
def k0_off23 (i : grid0.Coords) (k0_t1 : Fin (k0_t1_loop i).trips) : Fin 4 → Nat :=
  let c0_i32_369 : BitVec 32 := 0#32
  let c1_i32_372 : BitVec 32 := 1#32
  let arg23 : BitVec 32 := Scf.iv c0_i32_369 c1_i32_372 k0_t1
  let v1377 : Index := Scalar.indexCast arg23
  let c3_738 : Index := 3#32
  let c0_739 : Index := 0#32
  let c0_740 : Index := 0#32
  ![v1377.toNat, 3, 0, 0]
def k0_off24 (i : grid0.Coords) (k0_t1 : Fin (k0_t1_loop i).trips) : Fin 4 → Nat :=
  let c0_i32_369 : BitVec 32 := 0#32
  let c1_i32_372 : BitVec 32 := 1#32
  let arg23 : BitVec 32 := Scf.iv c0_i32_369 c1_i32_372 k0_t1
  let v1399 : Index := Scalar.indexCast arg23
  let c3_753 : Index := 3#32
  let c64_754 : Index := 64#32
  let c0_755 : Index := 0#32
  ![v1399.toNat, 3, 64, 0]
def k0_off25 (i : grid0.Coords) (k0_t1 : Fin (k0_t1_loop i).trips) : Fin 4 → Nat :=
  let c0_i32_369 : BitVec 32 := 0#32
  let c1_i32_372 : BitVec 32 := 1#32
  let arg23 : BitVec 32 := Scf.iv c0_i32_369 c1_i32_372 k0_t1
  let v1422 : Index := Scalar.indexCast arg23
  let c3_768 : Index := 3#32
  let c128_769 : Index := 128#32
  let c0_770 : Index := 0#32
  ![v1422.toNat, 3, 128, 0]
def k0_off26 (i : grid0.Coords) (k0_t1 : Fin (k0_t1_loop i).trips) : Fin 4 → Nat :=
  let c0_i32_369 : BitVec 32 := 0#32
  let c1_i32_372 : BitVec 32 := 1#32
  let arg23 : BitVec 32 := Scf.iv c0_i32_369 c1_i32_372 k0_t1
  let v1445 : Index := Scalar.indexCast arg23
  let c3_783 : Index := 3#32
  let c192_784 : Index := 192#32
  let c0_785 : Index := 0#32
  ![v1445.toNat, 3, 192, 0]
def k0_mult4 (i : grid0.Coords) (k0_t1 : Fin (k0_t1_loop i).trips) : BitVec 32 :=
  let c0_i32_369 : BitVec 32 := 0#32
  let c1_i32_372 : BitVec 32 := 1#32
  let arg23 : BitVec 32 := Scf.iv c0_i32_369 c1_i32_372 k0_t1
  let c256_i32_808 : BitVec 32 := 256#32
  let v1478 : BitVec 32 := Scalar.muli arg23 c256_i32_808
  v1478
def k0_off27 (i : grid0.Coords) (k0_t1 : Fin (k0_t1_loop i).trips) : Fin 4 → Nat :=
  let c0_i32_369 : BitVec 32 := 0#32
  let c1_i32_372 : BitVec 32 := 1#32
  let arg23 : BitVec 32 := Scf.iv c0_i32_369 c1_i32_372 k0_t1
  let v1535 : Index := Scalar.indexCast arg23
  let c3_848 : Index := 3#32
  let c0_849 : Index := 0#32
  let c0_850 : Index := 0#32
  ![v1535.toNat, 3, 0, 0]
def k0_off28 (i : grid0.Coords) (k0_t1 : Fin (k0_t1_loop i).trips) : Fin 4 → Nat :=
  let c0_i32_369 : BitVec 32 := 0#32
  let c1_i32_372 : BitVec 32 := 1#32
  let arg23 : BitVec 32 := Scf.iv c0_i32_369 c1_i32_372 k0_t1
  let v1546 : Index := Scalar.indexCast arg23
  let c4_858 : Index := 4#32
  let c0_859 : Index := 0#32
  let c0_860 : Index := 0#32
  ![v1546.toNat, 4, 0, 0]
def k0_off29 (i : grid0.Coords) (k0_t1 : Fin (k0_t1_loop i).trips) : Fin 4 → Nat :=
  let c0_i32_369 : BitVec 32 := 0#32
  let c1_i32_372 : BitVec 32 := 1#32
  let arg23 : BitVec 32 := Scf.iv c0_i32_369 c1_i32_372 k0_t1
  let v1568 : Index := Scalar.indexCast arg23
  let c4_873 : Index := 4#32
  let c64_874 : Index := 64#32
  let c0_875 : Index := 0#32
  ![v1568.toNat, 4, 64, 0]
def k0_off30 (i : grid0.Coords) (k0_t1 : Fin (k0_t1_loop i).trips) : Fin 4 → Nat :=
  let c0_i32_369 : BitVec 32 := 0#32
  let c1_i32_372 : BitVec 32 := 1#32
  let arg23 : BitVec 32 := Scf.iv c0_i32_369 c1_i32_372 k0_t1
  let v1591 : Index := Scalar.indexCast arg23
  let c4_888 : Index := 4#32
  let c128_889 : Index := 128#32
  let c0_890 : Index := 0#32
  ![v1591.toNat, 4, 128, 0]
def k0_off31 (i : grid0.Coords) (k0_t1 : Fin (k0_t1_loop i).trips) : Fin 4 → Nat :=
  let c0_i32_369 : BitVec 32 := 0#32
  let c1_i32_372 : BitVec 32 := 1#32
  let arg23 : BitVec 32 := Scf.iv c0_i32_369 c1_i32_372 k0_t1
  let v1614 : Index := Scalar.indexCast arg23
  let c4_903 : Index := 4#32
  let c192_904 : Index := 192#32
  let c0_905 : Index := 0#32
  ![v1614.toNat, 4, 192, 0]
def k0_mult5 (i : grid0.Coords) (k0_t1 : Fin (k0_t1_loop i).trips) : BitVec 32 :=
  let c0_i32_369 : BitVec 32 := 0#32
  let c1_i32_372 : BitVec 32 := 1#32
  let arg23 : BitVec 32 := Scf.iv c0_i32_369 c1_i32_372 k0_t1
  let c256_i32_928 : BitVec 32 := 256#32
  let v1647 : BitVec 32 := Scalar.muli arg23 c256_i32_928
  v1647
def k0_off32 (i : grid0.Coords) (k0_t1 : Fin (k0_t1_loop i).trips) : Fin 4 → Nat :=
  let c0_i32_369 : BitVec 32 := 0#32
  let c1_i32_372 : BitVec 32 := 1#32
  let arg23 : BitVec 32 := Scf.iv c0_i32_369 c1_i32_372 k0_t1
  let v1704 : Index := Scalar.indexCast arg23
  let c4_968 : Index := 4#32
  let c0_969 : Index := 0#32
  let c0_970 : Index := 0#32
  ![v1704.toNat, 4, 0, 0]
@[reducible] def k0_t2_loop (i : grid0.Coords) : Scf.Loop 32 :=
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let v857 : BitVec 32 := Scalar.addi c0_i32_369 v856
  let c1_i32_373 : BitVec 32 := 1#32
  ⟨v860, v857, c1_i32_373⟩
def k0_off33 (i : grid0.Coords) (k0_t2 : Fin (k0_t2_loop i).trips) : Fin 5 → Nat :=
  let c0_377 : Index := 0#32
  let c0_378 : Index := 0#32
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let c1_i32_373 : BitVec 32 := 1#32
  let arg23 : BitVec 32 := Scf.iv v860 c1_i32_373 k0_t2
  let v865 : Index := Scalar.indexCast arg23
  let c0_379 : Index := 0#32
  let c0_380 : Index := 0#32
  ![0, 0, v865.toNat, 0, 0]
def k0_off34 (i : grid0.Coords) (k0_t2 : Fin (k0_t2_loop i).trips) : Fin 4 → Nat :=
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let c1_i32_373 : BitVec 32 := 1#32
  let arg23 : BitVec 32 := Scf.iv v860 c1_i32_373 k0_t2
  let v870 : Index := Scalar.indexCast arg23
  let c0_381 : Index := 0#32
  let c0_382 : Index := 0#32
  let c0_383 : Index := 0#32
  ![v870.toNat, 0, 0, 0]
def k0_off35 (i : grid0.Coords) (k0_t2 : Fin (k0_t2_loop i).trips) : Fin 5 → Nat :=
  let c0_392 : Index := 0#32
  let c0_393 : Index := 0#32
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let c1_i32_373 : BitVec 32 := 1#32
  let arg23 : BitVec 32 := Scf.iv v860 c1_i32_373 k0_t2
  let v887 : Index := Scalar.indexCast arg23
  let c1_394 : Index := 1#32
  let c0_395 : Index := 0#32
  ![0, 0, v887.toNat, 1, 0]
def k0_off36 (i : grid0.Coords) (k0_t2 : Fin (k0_t2_loop i).trips) : Fin 4 → Nat :=
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let c1_i32_373 : BitVec 32 := 1#32
  let arg23 : BitVec 32 := Scf.iv v860 c1_i32_373 k0_t2
  let v892 : Index := Scalar.indexCast arg23
  let c0_396 : Index := 0#32
  let c64 : Index := 64#32
  let c0_397 : Index := 0#32
  ![v892.toNat, 0, 64, 0]
def k0_off37 (i : grid0.Coords) (k0_t2 : Fin (k0_t2_loop i).trips) : Fin 5 → Nat :=
  let c0_406 : Index := 0#32
  let c0_407 : Index := 0#32
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let c1_i32_373 : BitVec 32 := 1#32
  let arg23 : BitVec 32 := Scf.iv v860 c1_i32_373 k0_t2
  let v910 : Index := Scalar.indexCast arg23
  let c2_408 : Index := 2#32
  let c0_409 : Index := 0#32
  ![0, 0, v910.toNat, 2, 0]
def k0_off38 (i : grid0.Coords) (k0_t2 : Fin (k0_t2_loop i).trips) : Fin 4 → Nat :=
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let c1_i32_373 : BitVec 32 := 1#32
  let arg23 : BitVec 32 := Scf.iv v860 c1_i32_373 k0_t2
  let v915 : Index := Scalar.indexCast arg23
  let c0_410 : Index := 0#32
  let c128_411 : Index := 128#32
  let c0_412 : Index := 0#32
  ![v915.toNat, 0, 128, 0]
def k0_off39 (i : grid0.Coords) (k0_t2 : Fin (k0_t2_loop i).trips) : Fin 5 → Nat :=
  let c0_421 : Index := 0#32
  let c0_422 : Index := 0#32
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let c1_i32_373 : BitVec 32 := 1#32
  let arg23 : BitVec 32 := Scf.iv v860 c1_i32_373 k0_t2
  let v933 : Index := Scalar.indexCast arg23
  let c3_423 : Index := 3#32
  let c0_424 : Index := 0#32
  ![0, 0, v933.toNat, 3, 0]
def k0_off40 (i : grid0.Coords) (k0_t2 : Fin (k0_t2_loop i).trips) : Fin 4 → Nat :=
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let c1_i32_373 : BitVec 32 := 1#32
  let arg23 : BitVec 32 := Scf.iv v860 c1_i32_373 k0_t2
  let v938 : Index := Scalar.indexCast arg23
  let c0_425 : Index := 0#32
  let c192 : Index := 192#32
  let c0_426 : Index := 0#32
  ![v938.toNat, 0, 192, 0]
def k0_off41 (i : grid0.Coords) (k0_t2 : Fin (k0_t2_loop i).trips) : Fin 5 → Nat :=
  let c0_441 : Index := 0#32
  let c0_442 : Index := 0#32
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let c1_i32_373 : BitVec 32 := 1#32
  let arg23 : BitVec 32 := Scf.iv v860 c1_i32_373 k0_t2
  let v962 : Index := Scalar.indexCast arg23
  let c0_443 : Index := 0#32
  let c0_444 : Index := 0#32
  ![0, 0, v962.toNat, 0, 0]
def k0_mult6 (i : grid0.Coords) (k0_t2 : Fin (k0_t2_loop i).trips) : BitVec 32 :=
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let c1_i32_373 : BitVec 32 := 1#32
  let arg23 : BitVec 32 := Scf.iv v860 c1_i32_373 k0_t2
  let c256_i32 : BitVec 32 := 256#32
  let v971 : BitVec 32 := Scalar.muli arg23 c256_i32
  v971
def k0_off42 (i : grid0.Coords) (k0_t2 : Fin (k0_t2_loop i).trips) : Fin 3 → Nat :=
  let c0_449 : Index := 0#32
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let c1_i32_373 : BitVec 32 := 1#32
  let arg23 : BitVec 32 := Scf.iv v860 c1_i32_373 k0_t2
  let c256_i32 : BitVec 32 := 256#32
  let v971 : BitVec 32 := Scalar.muli arg23 c256_i32
  let v972 : BitVec 32 := v971
  let v973 : Index := Scalar.indexCast v972
  let c0_450 : Index := 0#32
  ![0, v973.toNat, 0]
def k0_off43 (i : grid0.Coords) (k0_t2 : Fin (k0_t2_loop i).trips) : Fin 4 → Nat :=
  let c0_455 : Index := 0#32
  let c0_456 : Index := 0#32
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let c1_i32_373 : BitVec 32 := 1#32
  let arg23 : BitVec 32 := Scf.iv v860 c1_i32_373 k0_t2
  let c256_i32 : BitVec 32 := 256#32
  let v971 : BitVec 32 := Scalar.muli arg23 c256_i32
  let v972 : BitVec 32 := v971
  let v979 : Index := Scalar.indexCast v972
  let c0_457 : Index := 0#32
  ![0, 0, v979.toNat, 0]
def k0_off44 (i : grid0.Coords) (k0_t2 : Fin (k0_t2_loop i).trips) : Fin 4 → Nat :=
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let c1_i32_373 : BitVec 32 := 1#32
  let arg23 : BitVec 32 := Scf.iv v860 c1_i32_373 k0_t2
  let v1028 : Index := Scalar.indexCast arg23
  let c0_488 : Index := 0#32
  let c0_489 : Index := 0#32
  let c0_490 : Index := 0#32
  ![v1028.toNat, 0, 0, 0]
def k0_off45 (i : grid0.Coords) (k0_t2 : Fin (k0_t2_loop i).trips) : Fin 4 → Nat :=
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let c1_i32_373 : BitVec 32 := 1#32
  let arg23 : BitVec 32 := Scf.iv v860 c1_i32_373 k0_t2
  let v1039 : Index := Scalar.indexCast arg23
  let c1_498 : Index := 1#32
  let c0_499 : Index := 0#32
  let c0_500 : Index := 0#32
  ![v1039.toNat, 1, 0, 0]
def k0_off46 (i : grid0.Coords) (k0_t2 : Fin (k0_t2_loop i).trips) : Fin 4 → Nat :=
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let c1_i32_373 : BitVec 32 := 1#32
  let arg23 : BitVec 32 := Scf.iv v860 c1_i32_373 k0_t2
  let v1061 : Index := Scalar.indexCast arg23
  let c1_513 : Index := 1#32
  let c64_514 : Index := 64#32
  let c0_515 : Index := 0#32
  ![v1061.toNat, 1, 64, 0]
def k0_off47 (i : grid0.Coords) (k0_t2 : Fin (k0_t2_loop i).trips) : Fin 4 → Nat :=
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let c1_i32_373 : BitVec 32 := 1#32
  let arg23 : BitVec 32 := Scf.iv v860 c1_i32_373 k0_t2
  let v1084 : Index := Scalar.indexCast arg23
  let c1_528 : Index := 1#32
  let c128_529 : Index := 128#32
  let c0_530 : Index := 0#32
  ![v1084.toNat, 1, 128, 0]
def k0_off48 (i : grid0.Coords) (k0_t2 : Fin (k0_t2_loop i).trips) : Fin 4 → Nat :=
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let c1_i32_373 : BitVec 32 := 1#32
  let arg23 : BitVec 32 := Scf.iv v860 c1_i32_373 k0_t2
  let v1107 : Index := Scalar.indexCast arg23
  let c1_543 : Index := 1#32
  let c192_544 : Index := 192#32
  let c0_545 : Index := 0#32
  ![v1107.toNat, 1, 192, 0]
def k0_mult7 (i : grid0.Coords) (k0_t2 : Fin (k0_t2_loop i).trips) : BitVec 32 :=
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let c1_i32_373 : BitVec 32 := 1#32
  let arg23 : BitVec 32 := Scf.iv v860 c1_i32_373 k0_t2
  let c256_i32_568 : BitVec 32 := 256#32
  let v1140 : BitVec 32 := Scalar.muli arg23 c256_i32_568
  v1140
def k0_off49 (i : grid0.Coords) (k0_t2 : Fin (k0_t2_loop i).trips) : Fin 4 → Nat :=
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let c1_i32_373 : BitVec 32 := 1#32
  let arg23 : BitVec 32 := Scf.iv v860 c1_i32_373 k0_t2
  let v1197 : Index := Scalar.indexCast arg23
  let c1_608 : Index := 1#32
  let c0_609 : Index := 0#32
  let c0_610 : Index := 0#32
  ![v1197.toNat, 1, 0, 0]
def k0_off50 (i : grid0.Coords) (k0_t2 : Fin (k0_t2_loop i).trips) : Fin 4 → Nat :=
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let c1_i32_373 : BitVec 32 := 1#32
  let arg23 : BitVec 32 := Scf.iv v860 c1_i32_373 k0_t2
  let v1208 : Index := Scalar.indexCast arg23
  let c2_618 : Index := 2#32
  let c0_619 : Index := 0#32
  let c0_620 : Index := 0#32
  ![v1208.toNat, 2, 0, 0]
def k0_off51 (i : grid0.Coords) (k0_t2 : Fin (k0_t2_loop i).trips) : Fin 4 → Nat :=
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let c1_i32_373 : BitVec 32 := 1#32
  let arg23 : BitVec 32 := Scf.iv v860 c1_i32_373 k0_t2
  let v1230 : Index := Scalar.indexCast arg23
  let c2_633 : Index := 2#32
  let c64_634 : Index := 64#32
  let c0_635 : Index := 0#32
  ![v1230.toNat, 2, 64, 0]
def k0_off52 (i : grid0.Coords) (k0_t2 : Fin (k0_t2_loop i).trips) : Fin 4 → Nat :=
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let c1_i32_373 : BitVec 32 := 1#32
  let arg23 : BitVec 32 := Scf.iv v860 c1_i32_373 k0_t2
  let v1253 : Index := Scalar.indexCast arg23
  let c2_648 : Index := 2#32
  let c128_649 : Index := 128#32
  let c0_650 : Index := 0#32
  ![v1253.toNat, 2, 128, 0]
def k0_off53 (i : grid0.Coords) (k0_t2 : Fin (k0_t2_loop i).trips) : Fin 4 → Nat :=
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let c1_i32_373 : BitVec 32 := 1#32
  let arg23 : BitVec 32 := Scf.iv v860 c1_i32_373 k0_t2
  let v1276 : Index := Scalar.indexCast arg23
  let c2_663 : Index := 2#32
  let c192_664 : Index := 192#32
  let c0_665 : Index := 0#32
  ![v1276.toNat, 2, 192, 0]
def k0_mult8 (i : grid0.Coords) (k0_t2 : Fin (k0_t2_loop i).trips) : BitVec 32 :=
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let c1_i32_373 : BitVec 32 := 1#32
  let arg23 : BitVec 32 := Scf.iv v860 c1_i32_373 k0_t2
  let c256_i32_688 : BitVec 32 := 256#32
  let v1309 : BitVec 32 := Scalar.muli arg23 c256_i32_688
  v1309
def k0_off54 (i : grid0.Coords) (k0_t2 : Fin (k0_t2_loop i).trips) : Fin 4 → Nat :=
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let c1_i32_373 : BitVec 32 := 1#32
  let arg23 : BitVec 32 := Scf.iv v860 c1_i32_373 k0_t2
  let v1366 : Index := Scalar.indexCast arg23
  let c2_728 : Index := 2#32
  let c0_729 : Index := 0#32
  let c0_730 : Index := 0#32
  ![v1366.toNat, 2, 0, 0]
def k0_off55 (i : grid0.Coords) (k0_t2 : Fin (k0_t2_loop i).trips) : Fin 4 → Nat :=
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let c1_i32_373 : BitVec 32 := 1#32
  let arg23 : BitVec 32 := Scf.iv v860 c1_i32_373 k0_t2
  let v1377 : Index := Scalar.indexCast arg23
  let c3_738 : Index := 3#32
  let c0_739 : Index := 0#32
  let c0_740 : Index := 0#32
  ![v1377.toNat, 3, 0, 0]
def k0_off56 (i : grid0.Coords) (k0_t2 : Fin (k0_t2_loop i).trips) : Fin 4 → Nat :=
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let c1_i32_373 : BitVec 32 := 1#32
  let arg23 : BitVec 32 := Scf.iv v860 c1_i32_373 k0_t2
  let v1399 : Index := Scalar.indexCast arg23
  let c3_753 : Index := 3#32
  let c64_754 : Index := 64#32
  let c0_755 : Index := 0#32
  ![v1399.toNat, 3, 64, 0]
def k0_off57 (i : grid0.Coords) (k0_t2 : Fin (k0_t2_loop i).trips) : Fin 4 → Nat :=
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let c1_i32_373 : BitVec 32 := 1#32
  let arg23 : BitVec 32 := Scf.iv v860 c1_i32_373 k0_t2
  let v1422 : Index := Scalar.indexCast arg23
  let c3_768 : Index := 3#32
  let c128_769 : Index := 128#32
  let c0_770 : Index := 0#32
  ![v1422.toNat, 3, 128, 0]
def k0_off58 (i : grid0.Coords) (k0_t2 : Fin (k0_t2_loop i).trips) : Fin 4 → Nat :=
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let c1_i32_373 : BitVec 32 := 1#32
  let arg23 : BitVec 32 := Scf.iv v860 c1_i32_373 k0_t2
  let v1445 : Index := Scalar.indexCast arg23
  let c3_783 : Index := 3#32
  let c192_784 : Index := 192#32
  let c0_785 : Index := 0#32
  ![v1445.toNat, 3, 192, 0]
def k0_mult9 (i : grid0.Coords) (k0_t2 : Fin (k0_t2_loop i).trips) : BitVec 32 :=
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let c1_i32_373 : BitVec 32 := 1#32
  let arg23 : BitVec 32 := Scf.iv v860 c1_i32_373 k0_t2
  let c256_i32_808 : BitVec 32 := 256#32
  let v1478 : BitVec 32 := Scalar.muli arg23 c256_i32_808
  v1478
def k0_off59 (i : grid0.Coords) (k0_t2 : Fin (k0_t2_loop i).trips) : Fin 4 → Nat :=
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let c1_i32_373 : BitVec 32 := 1#32
  let arg23 : BitVec 32 := Scf.iv v860 c1_i32_373 k0_t2
  let v1535 : Index := Scalar.indexCast arg23
  let c3_848 : Index := 3#32
  let c0_849 : Index := 0#32
  let c0_850 : Index := 0#32
  ![v1535.toNat, 3, 0, 0]
def k0_off60 (i : grid0.Coords) (k0_t2 : Fin (k0_t2_loop i).trips) : Fin 4 → Nat :=
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let c1_i32_373 : BitVec 32 := 1#32
  let arg23 : BitVec 32 := Scf.iv v860 c1_i32_373 k0_t2
  let v1546 : Index := Scalar.indexCast arg23
  let c4_858 : Index := 4#32
  let c0_859 : Index := 0#32
  let c0_860 : Index := 0#32
  ![v1546.toNat, 4, 0, 0]
def k0_off61 (i : grid0.Coords) (k0_t2 : Fin (k0_t2_loop i).trips) : Fin 4 → Nat :=
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let c1_i32_373 : BitVec 32 := 1#32
  let arg23 : BitVec 32 := Scf.iv v860 c1_i32_373 k0_t2
  let v1568 : Index := Scalar.indexCast arg23
  let c4_873 : Index := 4#32
  let c64_874 : Index := 64#32
  let c0_875 : Index := 0#32
  ![v1568.toNat, 4, 64, 0]
def k0_off62 (i : grid0.Coords) (k0_t2 : Fin (k0_t2_loop i).trips) : Fin 4 → Nat :=
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let c1_i32_373 : BitVec 32 := 1#32
  let arg23 : BitVec 32 := Scf.iv v860 c1_i32_373 k0_t2
  let v1591 : Index := Scalar.indexCast arg23
  let c4_888 : Index := 4#32
  let c128_889 : Index := 128#32
  let c0_890 : Index := 0#32
  ![v1591.toNat, 4, 128, 0]
def k0_off63 (i : grid0.Coords) (k0_t2 : Fin (k0_t2_loop i).trips) : Fin 4 → Nat :=
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let c1_i32_373 : BitVec 32 := 1#32
  let arg23 : BitVec 32 := Scf.iv v860 c1_i32_373 k0_t2
  let v1614 : Index := Scalar.indexCast arg23
  let c4_903 : Index := 4#32
  let c192_904 : Index := 192#32
  let c0_905 : Index := 0#32
  ![v1614.toNat, 4, 192, 0]
def k0_mult10 (i : grid0.Coords) (k0_t2 : Fin (k0_t2_loop i).trips) : BitVec 32 :=
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let c1_i32_373 : BitVec 32 := 1#32
  let arg23 : BitVec 32 := Scf.iv v860 c1_i32_373 k0_t2
  let c256_i32_928 : BitVec 32 := 256#32
  let v1647 : BitVec 32 := Scalar.muli arg23 c256_i32_928
  v1647
def k0_off64 (i : grid0.Coords) (k0_t2 : Fin (k0_t2_loop i).trips) : Fin 4 → Nat :=
  let c0_i32_369 : BitVec 32 := 0#32
  let arg2 : BitVec 32 := BitVec.ofNat 32 (i 2).val
  let v856 : BitVec 32 := Scalar.subi arg2 c0_i32_369
  let c1_i32_371 : BitVec 32 := 1#32
  let v858 : BitVec 32 := Scalar.divsi v856 c1_i32_371
  let v859 : BitVec 32 := Scalar.muli v858 c1_i32_371
  let v860 : BitVec 32 := Scalar.addi c0_i32_369 v859
  let c1_i32_373 : BitVec 32 := 1#32
  let arg23 : BitVec 32 := Scf.iv v860 c1_i32_373 k0_t2
  let v1704 : Index := Scalar.indexCast arg23
  let c4_968 : Index := 4#32
  let c0_969 : Index := 0#32
  let c0_970 : Index := 0#32
  ![v1704.toNat, 4, 0, 0]
def k0_cond2 (i : grid0.Coords) : BitVec 1 :=
  let arg2 : BitVec 32 := BitVec.ofNat 32 (i 2).val
  let c31_i32_10 : BitVec 32 := 31#32
  let v15 : BitVec 1 := Scalar.cmpi .eq arg2 c31_i32_10
  let v16 : BitVec 32 := Scalar.extui v15
  let c0_i32_11 : BitVec 32 := 0#32
  let v17 : BitVec 1 := Scalar.cmpi .ne v16 c0_i32_11
  v17

@[reducible] def k0_t3_loop (i : grid0.Coords) : Scf.Loop 32 :=
  let c0_i32_16 : BitVec 32 := 0#32
  let arg2 : BitVec 32 := BitVec.ofNat 32 (i 2).val
  let v24 : BitVec 32 := Scalar.subi arg2 c0_i32_16
  let c1_i32 : BitVec 32 := 1#32
  let v26 : BitVec 32 := Scalar.divsi v24 c1_i32
  let v27 : BitVec 32 := Scalar.muli v26 c1_i32
  let v28 : BitVec 32 := Scalar.addi c0_i32_16 v27
  let c1_i32_18 : BitVec 32 := 1#32
  ⟨c0_i32_16, v28, c1_i32_18⟩
def k0_off65 (i : grid0.Coords) (k0_t3 : Fin (k0_t3_loop i).trips) : Fin 5 → Nat :=
  let c0_23 : Index := 0#32
  let c0_24 : Index := 0#32
  let c0_i32_16 : BitVec 32 := 0#32
  let c1_i32_18 : BitVec 32 := 1#32
  let arg23 : BitVec 32 := Scf.iv c0_i32_16 c1_i32_18 k0_t3
  let v33 : Index := Scalar.indexCast arg23
  let c0_25 : Index := 0#32
  let c0_26 : Index := 0#32
  ![0, 0, v33.toNat, 0, 0]
def k0_off66 (i : grid0.Coords) (k0_t3 : Fin (k0_t3_loop i).trips) : Fin 4 → Nat :=
  let c0_i32_16 : BitVec 32 := 0#32
  let c1_i32_18 : BitVec 32 := 1#32
  let arg23 : BitVec 32 := Scf.iv c0_i32_16 c1_i32_18 k0_t3
  let v38 : Index := Scalar.indexCast arg23
  let c0_27 : Index := 0#32
  let c0_28 : Index := 0#32
  let c0_29 : Index := 0#32
  ![v38.toNat, 0, 0, 0]
def k0_off67 (i : grid0.Coords) (k0_t3 : Fin (k0_t3_loop i).trips) : Fin 5 → Nat :=
  let c0_38 : Index := 0#32
  let c0_39 : Index := 0#32
  let c0_i32_16 : BitVec 32 := 0#32
  let c1_i32_18 : BitVec 32 := 1#32
  let arg23 : BitVec 32 := Scf.iv c0_i32_16 c1_i32_18 k0_t3
  let v55 : Index := Scalar.indexCast arg23
  let c1 : Index := 1#32
  let c0_40 : Index := 0#32
  ![0, 0, v55.toNat, 1, 0]
def k0_off68 (i : grid0.Coords) (k0_t3 : Fin (k0_t3_loop i).trips) : Fin 4 → Nat :=
  let c0_i32_16 : BitVec 32 := 0#32
  let c1_i32_18 : BitVec 32 := 1#32
  let arg23 : BitVec 32 := Scf.iv c0_i32_16 c1_i32_18 k0_t3
  let v60 : Index := Scalar.indexCast arg23
  let c0_41 : Index := 0#32
  let c64 : Index := 64#32
  let c0_42 : Index := 0#32
  ![v60.toNat, 0, 64, 0]
def k0_off69 (i : grid0.Coords) (k0_t3 : Fin (k0_t3_loop i).trips) : Fin 5 → Nat :=
  let c0_51 : Index := 0#32
  let c0_52 : Index := 0#32
  let c0_i32_16 : BitVec 32 := 0#32
  let c1_i32_18 : BitVec 32 := 1#32
  let arg23 : BitVec 32 := Scf.iv c0_i32_16 c1_i32_18 k0_t3
  let v78 : Index := Scalar.indexCast arg23
  let c2 : Index := 2#32
  let c0_53 : Index := 0#32
  ![0, 0, v78.toNat, 2, 0]
def k0_off70 (i : grid0.Coords) (k0_t3 : Fin (k0_t3_loop i).trips) : Fin 4 → Nat :=
  let c0_i32_16 : BitVec 32 := 0#32
  let c1_i32_18 : BitVec 32 := 1#32
  let arg23 : BitVec 32 := Scf.iv c0_i32_16 c1_i32_18 k0_t3
  let v83 : Index := Scalar.indexCast arg23
  let c0_54 : Index := 0#32
  let c128 : Index := 128#32
  let c0_55 : Index := 0#32
  ![v83.toNat, 0, 128, 0]
def k0_off71 (i : grid0.Coords) (k0_t3 : Fin (k0_t3_loop i).trips) : Fin 5 → Nat :=
  let c0_64 : Index := 0#32
  let c0_65 : Index := 0#32
  let c0_i32_16 : BitVec 32 := 0#32
  let c1_i32_18 : BitVec 32 := 1#32
  let arg23 : BitVec 32 := Scf.iv c0_i32_16 c1_i32_18 k0_t3
  let v101 : Index := Scalar.indexCast arg23
  let c3 : Index := 3#32
  let c0_66 : Index := 0#32
  ![0, 0, v101.toNat, 3, 0]
def k0_off72 (i : grid0.Coords) (k0_t3 : Fin (k0_t3_loop i).trips) : Fin 4 → Nat :=
  let c0_i32_16 : BitVec 32 := 0#32
  let c1_i32_18 : BitVec 32 := 1#32
  let arg23 : BitVec 32 := Scf.iv c0_i32_16 c1_i32_18 k0_t3
  let v106 : Index := Scalar.indexCast arg23
  let c0_67 : Index := 0#32
  let c192 : Index := 192#32
  let c0_68 : Index := 0#32
  ![v106.toNat, 0, 192, 0]
def k0_off73 (i : grid0.Coords) (k0_t3 : Fin (k0_t3_loop i).trips) : Fin 5 → Nat :=
  let c0_83 : Index := 0#32
  let c0_84 : Index := 0#32
  let c0_i32_16 : BitVec 32 := 0#32
  let c1_i32_18 : BitVec 32 := 1#32
  let arg23 : BitVec 32 := Scf.iv c0_i32_16 c1_i32_18 k0_t3
  let v130 : Index := Scalar.indexCast arg23
  let c0_85 : Index := 0#32
  let c0_86 : Index := 0#32
  ![0, 0, v130.toNat, 0, 0]
def k0_off74 (i : grid0.Coords) (k0_t3 : Fin (k0_t3_loop i).trips) : Fin 4 → Nat :=
  let c0_i32_16 : BitVec 32 := 0#32
  let c1_i32_18 : BitVec 32 := 1#32
  let arg23 : BitVec 32 := Scf.iv c0_i32_16 c1_i32_18 k0_t3
  let v146 : Index := Scalar.indexCast arg23
  let c1_98 : Index := 1#32
  let c0_99 : Index := 0#32
  let c0_100 : Index := 0#32
  ![v146.toNat, 1, 0, 0]
def k0_off75 (i : grid0.Coords) (k0_t3 : Fin (k0_t3_loop i).trips) : Fin 4 → Nat :=
  let c0_i32_16 : BitVec 32 := 0#32
  let c1_i32_18 : BitVec 32 := 1#32
  let arg23 : BitVec 32 := Scf.iv c0_i32_16 c1_i32_18 k0_t3
  let v168 : Index := Scalar.indexCast arg23
  let c1_113 : Index := 1#32
  let c64_114 : Index := 64#32
  let c0_115 : Index := 0#32
  ![v168.toNat, 1, 64, 0]
def k0_off76 (i : grid0.Coords) (k0_t3 : Fin (k0_t3_loop i).trips) : Fin 4 → Nat :=
  let c0_i32_16 : BitVec 32 := 0#32
  let c1_i32_18 : BitVec 32 := 1#32
  let arg23 : BitVec 32 := Scf.iv c0_i32_16 c1_i32_18 k0_t3
  let v191 : Index := Scalar.indexCast arg23
  let c1_128 : Index := 1#32
  let c128_129 : Index := 128#32
  let c0_130 : Index := 0#32
  ![v191.toNat, 1, 128, 0]
def k0_off77 (i : grid0.Coords) (k0_t3 : Fin (k0_t3_loop i).trips) : Fin 4 → Nat :=
  let c0_i32_16 : BitVec 32 := 0#32
  let c1_i32_18 : BitVec 32 := 1#32
  let arg23 : BitVec 32 := Scf.iv c0_i32_16 c1_i32_18 k0_t3
  let v214 : Index := Scalar.indexCast arg23
  let c1_143 : Index := 1#32
  let c192_144 : Index := 192#32
  let c0_145 : Index := 0#32
  ![v214.toNat, 1, 192, 0]
def k0_off78 (i : grid0.Coords) (k0_t3 : Fin (k0_t3_loop i).trips) : Fin 4 → Nat :=
  let c0_i32_16 : BitVec 32 := 0#32
  let c1_i32_18 : BitVec 32 := 1#32
  let arg23 : BitVec 32 := Scf.iv c0_i32_16 c1_i32_18 k0_t3
  let v254 : Index := Scalar.indexCast arg23
  let c2_175 : Index := 2#32
  let c0_176 : Index := 0#32
  let c0_177 : Index := 0#32
  ![v254.toNat, 2, 0, 0]
def k0_off79 (i : grid0.Coords) (k0_t3 : Fin (k0_t3_loop i).trips) : Fin 4 → Nat :=
  let c0_i32_16 : BitVec 32 := 0#32
  let c1_i32_18 : BitVec 32 := 1#32
  let arg23 : BitVec 32 := Scf.iv c0_i32_16 c1_i32_18 k0_t3
  let v276 : Index := Scalar.indexCast arg23
  let c2_190 : Index := 2#32
  let c64_191 : Index := 64#32
  let c0_192 : Index := 0#32
  ![v276.toNat, 2, 64, 0]
def k0_off80 (i : grid0.Coords) (k0_t3 : Fin (k0_t3_loop i).trips) : Fin 4 → Nat :=
  let c0_i32_16 : BitVec 32 := 0#32
  let c1_i32_18 : BitVec 32 := 1#32
  let arg23 : BitVec 32 := Scf.iv c0_i32_16 c1_i32_18 k0_t3
  let v299 : Index := Scalar.indexCast arg23
  let c2_205 : Index := 2#32
  let c128_206 : Index := 128#32
  let c0_207 : Index := 0#32
  ![v299.toNat, 2, 128, 0]
def k0_off81 (i : grid0.Coords) (k0_t3 : Fin (k0_t3_loop i).trips) : Fin 4 → Nat :=
  let c0_i32_16 : BitVec 32 := 0#32
  let c1_i32_18 : BitVec 32 := 1#32
  let arg23 : BitVec 32 := Scf.iv c0_i32_16 c1_i32_18 k0_t3
  let v322 : Index := Scalar.indexCast arg23
  let c2_220 : Index := 2#32
  let c192_221 : Index := 192#32
  let c0_222 : Index := 0#32
  ![v322.toNat, 2, 192, 0]
def k0_off82 (i : grid0.Coords) (k0_t3 : Fin (k0_t3_loop i).trips) : Fin 4 → Nat :=
  let c0_i32_16 : BitVec 32 := 0#32
  let c1_i32_18 : BitVec 32 := 1#32
  let arg23 : BitVec 32 := Scf.iv c0_i32_16 c1_i32_18 k0_t3
  let v362 : Index := Scalar.indexCast arg23
  let c3_252 : Index := 3#32
  let c0_253 : Index := 0#32
  let c0_254 : Index := 0#32
  ![v362.toNat, 3, 0, 0]
def k0_off83 (i : grid0.Coords) (k0_t3 : Fin (k0_t3_loop i).trips) : Fin 4 → Nat :=
  let c0_i32_16 : BitVec 32 := 0#32
  let c1_i32_18 : BitVec 32 := 1#32
  let arg23 : BitVec 32 := Scf.iv c0_i32_16 c1_i32_18 k0_t3
  let v384 : Index := Scalar.indexCast arg23
  let c3_267 : Index := 3#32
  let c64_268 : Index := 64#32
  let c0_269 : Index := 0#32
  ![v384.toNat, 3, 64, 0]
def k0_off84 (i : grid0.Coords) (k0_t3 : Fin (k0_t3_loop i).trips) : Fin 4 → Nat :=
  let c0_i32_16 : BitVec 32 := 0#32
  let c1_i32_18 : BitVec 32 := 1#32
  let arg23 : BitVec 32 := Scf.iv c0_i32_16 c1_i32_18 k0_t3
  let v407 : Index := Scalar.indexCast arg23
  let c3_282 : Index := 3#32
  let c128_283 : Index := 128#32
  let c0_284 : Index := 0#32
  ![v407.toNat, 3, 128, 0]
def k0_off85 (i : grid0.Coords) (k0_t3 : Fin (k0_t3_loop i).trips) : Fin 4 → Nat :=
  let c0_i32_16 : BitVec 32 := 0#32
  let c1_i32_18 : BitVec 32 := 1#32
  let arg23 : BitVec 32 := Scf.iv c0_i32_16 c1_i32_18 k0_t3
  let v430 : Index := Scalar.indexCast arg23
  let c3_297 : Index := 3#32
  let c192_298 : Index := 192#32
  let c0_299 : Index := 0#32
  ![v430.toNat, 3, 192, 0]
def k0_off86 (i : grid0.Coords) (k0_t3 : Fin (k0_t3_loop i).trips) : Fin 4 → Nat :=
  let c0_i32_16 : BitVec 32 := 0#32
  let c1_i32_18 : BitVec 32 := 1#32
  let arg23 : BitVec 32 := Scf.iv c0_i32_16 c1_i32_18 k0_t3
  let v470 : Index := Scalar.indexCast arg23
  let c4_328 : Index := 4#32
  let c0_329 : Index := 0#32
  let c0_330 : Index := 0#32
  ![v470.toNat, 4, 0, 0]
def k0_off87 (i : grid0.Coords) (k0_t3 : Fin (k0_t3_loop i).trips) : Fin 4 → Nat :=
  let c0_i32_16 : BitVec 32 := 0#32
  let c1_i32_18 : BitVec 32 := 1#32
  let arg23 : BitVec 32 := Scf.iv c0_i32_16 c1_i32_18 k0_t3
  let v492 : Index := Scalar.indexCast arg23
  let c4_343 : Index := 4#32
  let c64_344 : Index := 64#32
  let c0_345 : Index := 0#32
  ![v492.toNat, 4, 64, 0]
def k0_off88 (i : grid0.Coords) (k0_t3 : Fin (k0_t3_loop i).trips) : Fin 4 → Nat :=
  let c0_i32_16 : BitVec 32 := 0#32
  let c1_i32_18 : BitVec 32 := 1#32
  let arg23 : BitVec 32 := Scf.iv c0_i32_16 c1_i32_18 k0_t3
  let v515 : Index := Scalar.indexCast arg23
  let c4_358 : Index := 4#32
  let c128_359 : Index := 128#32
  let c0_360 : Index := 0#32
  ![v515.toNat, 4, 128, 0]
def k0_off89 (i : grid0.Coords) (k0_t3 : Fin (k0_t3_loop i).trips) : Fin 4 → Nat :=
  let c0_i32_16 : BitVec 32 := 0#32
  let c1_i32_18 : BitVec 32 := 1#32
  let arg23 : BitVec 32 := Scf.iv c0_i32_16 c1_i32_18 k0_t3
  let v538 : Index := Scalar.indexCast arg23
  let c4_373 : Index := 4#32
  let c192_374 : Index := 192#32
  let c0_375 : Index := 0#32
  ![v538.toNat, 4, 192, 0]
@[reducible] def k0_t4_loop (i : grid0.Coords) : Scf.Loop 32 :=
  let c0_i32_16 : BitVec 32 := 0#32
  let arg2 : BitVec 32 := BitVec.ofNat 32 (i 2).val
  let v24 : BitVec 32 := Scalar.subi arg2 c0_i32_16
  let c1_i32 : BitVec 32 := 1#32
  let v26 : BitVec 32 := Scalar.divsi v24 c1_i32
  let v27 : BitVec 32 := Scalar.muli v26 c1_i32
  let v28 : BitVec 32 := Scalar.addi c0_i32_16 v27
  let v25 : BitVec 32 := Scalar.addi c0_i32_16 v24
  let c1_i32_19 : BitVec 32 := 1#32
  ⟨v28, v25, c1_i32_19⟩
def k0_off90 (i : grid0.Coords) (k0_t4 : Fin (k0_t4_loop i).trips) : Fin 5 → Nat :=
  let c0_23 : Index := 0#32
  let c0_24 : Index := 0#32
  let c0_i32_16 : BitVec 32 := 0#32
  let arg2 : BitVec 32 := BitVec.ofNat 32 (i 2).val
  let v24 : BitVec 32 := Scalar.subi arg2 c0_i32_16
  let c1_i32 : BitVec 32 := 1#32
  let v26 : BitVec 32 := Scalar.divsi v24 c1_i32
  let v27 : BitVec 32 := Scalar.muli v26 c1_i32
  let v28 : BitVec 32 := Scalar.addi c0_i32_16 v27
  let c1_i32_19 : BitVec 32 := 1#32
  let arg23 : BitVec 32 := Scf.iv v28 c1_i32_19 k0_t4
  let v33 : Index := Scalar.indexCast arg23
  let c0_25 : Index := 0#32
  let c0_26 : Index := 0#32
  ![0, 0, v33.toNat, 0, 0]
def k0_off91 (i : grid0.Coords) (k0_t4 : Fin (k0_t4_loop i).trips) : Fin 4 → Nat :=
  let c0_i32_16 : BitVec 32 := 0#32
  let arg2 : BitVec 32 := BitVec.ofNat 32 (i 2).val
  let v24 : BitVec 32 := Scalar.subi arg2 c0_i32_16
  let c1_i32 : BitVec 32 := 1#32
  let v26 : BitVec 32 := Scalar.divsi v24 c1_i32
  let v27 : BitVec 32 := Scalar.muli v26 c1_i32
  let v28 : BitVec 32 := Scalar.addi c0_i32_16 v27
  let c1_i32_19 : BitVec 32 := 1#32
  let arg23 : BitVec 32 := Scf.iv v28 c1_i32_19 k0_t4
  let v38 : Index := Scalar.indexCast arg23
  let c0_27 : Index := 0#32
  let c0_28 : Index := 0#32
  let c0_29 : Index := 0#32
  ![v38.toNat, 0, 0, 0]
def k0_off92 (i : grid0.Coords) (k0_t4 : Fin (k0_t4_loop i).trips) : Fin 5 → Nat :=
  let c0_38 : Index := 0#32
  let c0_39 : Index := 0#32
  let c0_i32_16 : BitVec 32 := 0#32
  let arg2 : BitVec 32 := BitVec.ofNat 32 (i 2).val
  let v24 : BitVec 32 := Scalar.subi arg2 c0_i32_16
  let c1_i32 : BitVec 32 := 1#32
  let v26 : BitVec 32 := Scalar.divsi v24 c1_i32
  let v27 : BitVec 32 := Scalar.muli v26 c1_i32
  let v28 : BitVec 32 := Scalar.addi c0_i32_16 v27
  let c1_i32_19 : BitVec 32 := 1#32
  let arg23 : BitVec 32 := Scf.iv v28 c1_i32_19 k0_t4
  let v55 : Index := Scalar.indexCast arg23
  let c1 : Index := 1#32
  let c0_40 : Index := 0#32
  ![0, 0, v55.toNat, 1, 0]
def k0_off93 (i : grid0.Coords) (k0_t4 : Fin (k0_t4_loop i).trips) : Fin 4 → Nat :=
  let c0_i32_16 : BitVec 32 := 0#32
  let arg2 : BitVec 32 := BitVec.ofNat 32 (i 2).val
  let v24 : BitVec 32 := Scalar.subi arg2 c0_i32_16
  let c1_i32 : BitVec 32 := 1#32
  let v26 : BitVec 32 := Scalar.divsi v24 c1_i32
  let v27 : BitVec 32 := Scalar.muli v26 c1_i32
  let v28 : BitVec 32 := Scalar.addi c0_i32_16 v27
  let c1_i32_19 : BitVec 32 := 1#32
  let arg23 : BitVec 32 := Scf.iv v28 c1_i32_19 k0_t4
  let v60 : Index := Scalar.indexCast arg23
  let c0_41 : Index := 0#32
  let c64 : Index := 64#32
  let c0_42 : Index := 0#32
  ![v60.toNat, 0, 64, 0]
def k0_off94 (i : grid0.Coords) (k0_t4 : Fin (k0_t4_loop i).trips) : Fin 5 → Nat :=
  let c0_51 : Index := 0#32
  let c0_52 : Index := 0#32
  let c0_i32_16 : BitVec 32 := 0#32
  let arg2 : BitVec 32 := BitVec.ofNat 32 (i 2).val
  let v24 : BitVec 32 := Scalar.subi arg2 c0_i32_16
  let c1_i32 : BitVec 32 := 1#32
  let v26 : BitVec 32 := Scalar.divsi v24 c1_i32
  let v27 : BitVec 32 := Scalar.muli v26 c1_i32
  let v28 : BitVec 32 := Scalar.addi c0_i32_16 v27
  let c1_i32_19 : BitVec 32 := 1#32
  let arg23 : BitVec 32 := Scf.iv v28 c1_i32_19 k0_t4
  let v78 : Index := Scalar.indexCast arg23
  let c2 : Index := 2#32
  let c0_53 : Index := 0#32
  ![0, 0, v78.toNat, 2, 0]
def k0_off95 (i : grid0.Coords) (k0_t4 : Fin (k0_t4_loop i).trips) : Fin 4 → Nat :=
  let c0_i32_16 : BitVec 32 := 0#32
  let arg2 : BitVec 32 := BitVec.ofNat 32 (i 2).val
  let v24 : BitVec 32 := Scalar.subi arg2 c0_i32_16
  let c1_i32 : BitVec 32 := 1#32
  let v26 : BitVec 32 := Scalar.divsi v24 c1_i32
  let v27 : BitVec 32 := Scalar.muli v26 c1_i32
  let v28 : BitVec 32 := Scalar.addi c0_i32_16 v27
  let c1_i32_19 : BitVec 32 := 1#32
  let arg23 : BitVec 32 := Scf.iv v28 c1_i32_19 k0_t4
  let v83 : Index := Scalar.indexCast arg23
  let c0_54 : Index := 0#32
  let c128 : Index := 128#32
  let c0_55 : Index := 0#32
  ![v83.toNat, 0, 128, 0]
def k0_off96 (i : grid0.Coords) (k0_t4 : Fin (k0_t4_loop i).trips) : Fin 5 → Nat :=
  let c0_64 : Index := 0#32
  let c0_65 : Index := 0#32
  let c0_i32_16 : BitVec 32 := 0#32
  let arg2 : BitVec 32 := BitVec.ofNat 32 (i 2).val
  let v24 : BitVec 32 := Scalar.subi arg2 c0_i32_16
  let c1_i32 : BitVec 32 := 1#32
  let v26 : BitVec 32 := Scalar.divsi v24 c1_i32
  let v27 : BitVec 32 := Scalar.muli v26 c1_i32
  let v28 : BitVec 32 := Scalar.addi c0_i32_16 v27
  let c1_i32_19 : BitVec 32 := 1#32
  let arg23 : BitVec 32 := Scf.iv v28 c1_i32_19 k0_t4
  let v101 : Index := Scalar.indexCast arg23
  let c3 : Index := 3#32
  let c0_66 : Index := 0#32
  ![0, 0, v101.toNat, 3, 0]
def k0_off97 (i : grid0.Coords) (k0_t4 : Fin (k0_t4_loop i).trips) : Fin 4 → Nat :=
  let c0_i32_16 : BitVec 32 := 0#32
  let arg2 : BitVec 32 := BitVec.ofNat 32 (i 2).val
  let v24 : BitVec 32 := Scalar.subi arg2 c0_i32_16
  let c1_i32 : BitVec 32 := 1#32
  let v26 : BitVec 32 := Scalar.divsi v24 c1_i32
  let v27 : BitVec 32 := Scalar.muli v26 c1_i32
  let v28 : BitVec 32 := Scalar.addi c0_i32_16 v27
  let c1_i32_19 : BitVec 32 := 1#32
  let arg23 : BitVec 32 := Scf.iv v28 c1_i32_19 k0_t4
  let v106 : Index := Scalar.indexCast arg23
  let c0_67 : Index := 0#32
  let c192 : Index := 192#32
  let c0_68 : Index := 0#32
  ![v106.toNat, 0, 192, 0]
def k0_off98 (i : grid0.Coords) (k0_t4 : Fin (k0_t4_loop i).trips) : Fin 5 → Nat :=
  let c0_83 : Index := 0#32
  let c0_84 : Index := 0#32
  let c0_i32_16 : BitVec 32 := 0#32
  let arg2 : BitVec 32 := BitVec.ofNat 32 (i 2).val
  let v24 : BitVec 32 := Scalar.subi arg2 c0_i32_16
  let c1_i32 : BitVec 32 := 1#32
  let v26 : BitVec 32 := Scalar.divsi v24 c1_i32
  let v27 : BitVec 32 := Scalar.muli v26 c1_i32
  let v28 : BitVec 32 := Scalar.addi c0_i32_16 v27
  let c1_i32_19 : BitVec 32 := 1#32
  let arg23 : BitVec 32 := Scf.iv v28 c1_i32_19 k0_t4
  let v130 : Index := Scalar.indexCast arg23
  let c0_85 : Index := 0#32
  let c0_86 : Index := 0#32
  ![0, 0, v130.toNat, 0, 0]
def k0_off99 (i : grid0.Coords) (k0_t4 : Fin (k0_t4_loop i).trips) : Fin 4 → Nat :=
  let c0_i32_16 : BitVec 32 := 0#32
  let arg2 : BitVec 32 := BitVec.ofNat 32 (i 2).val
  let v24 : BitVec 32 := Scalar.subi arg2 c0_i32_16
  let c1_i32 : BitVec 32 := 1#32
  let v26 : BitVec 32 := Scalar.divsi v24 c1_i32
  let v27 : BitVec 32 := Scalar.muli v26 c1_i32
  let v28 : BitVec 32 := Scalar.addi c0_i32_16 v27
  let c1_i32_19 : BitVec 32 := 1#32
  let arg23 : BitVec 32 := Scf.iv v28 c1_i32_19 k0_t4
  let v146 : Index := Scalar.indexCast arg23
  let c1_98 : Index := 1#32
  let c0_99 : Index := 0#32
  let c0_100 : Index := 0#32
  ![v146.toNat, 1, 0, 0]
def k0_off100 (i : grid0.Coords) (k0_t4 : Fin (k0_t4_loop i).trips) : Fin 4 → Nat :=
  let c0_i32_16 : BitVec 32 := 0#32
  let arg2 : BitVec 32 := BitVec.ofNat 32 (i 2).val
  let v24 : BitVec 32 := Scalar.subi arg2 c0_i32_16
  let c1_i32 : BitVec 32 := 1#32
  let v26 : BitVec 32 := Scalar.divsi v24 c1_i32
  let v27 : BitVec 32 := Scalar.muli v26 c1_i32
  let v28 : BitVec 32 := Scalar.addi c0_i32_16 v27
  let c1_i32_19 : BitVec 32 := 1#32
  let arg23 : BitVec 32 := Scf.iv v28 c1_i32_19 k0_t4
  let v168 : Index := Scalar.indexCast arg23
  let c1_113 : Index := 1#32
  let c64_114 : Index := 64#32
  let c0_115 : Index := 0#32
  ![v168.toNat, 1, 64, 0]
def k0_off101 (i : grid0.Coords) (k0_t4 : Fin (k0_t4_loop i).trips) : Fin 4 → Nat :=
  let c0_i32_16 : BitVec 32 := 0#32
  let arg2 : BitVec 32 := BitVec.ofNat 32 (i 2).val
  let v24 : BitVec 32 := Scalar.subi arg2 c0_i32_16
  let c1_i32 : BitVec 32 := 1#32
  let v26 : BitVec 32 := Scalar.divsi v24 c1_i32
  let v27 : BitVec 32 := Scalar.muli v26 c1_i32
  let v28 : BitVec 32 := Scalar.addi c0_i32_16 v27
  let c1_i32_19 : BitVec 32 := 1#32
  let arg23 : BitVec 32 := Scf.iv v28 c1_i32_19 k0_t4
  let v191 : Index := Scalar.indexCast arg23
  let c1_128 : Index := 1#32
  let c128_129 : Index := 128#32
  let c0_130 : Index := 0#32
  ![v191.toNat, 1, 128, 0]
def k0_off102 (i : grid0.Coords) (k0_t4 : Fin (k0_t4_loop i).trips) : Fin 4 → Nat :=
  let c0_i32_16 : BitVec 32 := 0#32
  let arg2 : BitVec 32 := BitVec.ofNat 32 (i 2).val
  let v24 : BitVec 32 := Scalar.subi arg2 c0_i32_16
  let c1_i32 : BitVec 32 := 1#32
  let v26 : BitVec 32 := Scalar.divsi v24 c1_i32
  let v27 : BitVec 32 := Scalar.muli v26 c1_i32
  let v28 : BitVec 32 := Scalar.addi c0_i32_16 v27
  let c1_i32_19 : BitVec 32 := 1#32
  let arg23 : BitVec 32 := Scf.iv v28 c1_i32_19 k0_t4
  let v214 : Index := Scalar.indexCast arg23
  let c1_143 : Index := 1#32
  let c192_144 : Index := 192#32
  let c0_145 : Index := 0#32
  ![v214.toNat, 1, 192, 0]
def k0_off103 (i : grid0.Coords) (k0_t4 : Fin (k0_t4_loop i).trips) : Fin 4 → Nat :=
  let c0_i32_16 : BitVec 32 := 0#32
  let arg2 : BitVec 32 := BitVec.ofNat 32 (i 2).val
  let v24 : BitVec 32 := Scalar.subi arg2 c0_i32_16
  let c1_i32 : BitVec 32 := 1#32
  let v26 : BitVec 32 := Scalar.divsi v24 c1_i32
  let v27 : BitVec 32 := Scalar.muli v26 c1_i32
  let v28 : BitVec 32 := Scalar.addi c0_i32_16 v27
  let c1_i32_19 : BitVec 32 := 1#32
  let arg23 : BitVec 32 := Scf.iv v28 c1_i32_19 k0_t4
  let v254 : Index := Scalar.indexCast arg23
  let c2_175 : Index := 2#32
  let c0_176 : Index := 0#32
  let c0_177 : Index := 0#32
  ![v254.toNat, 2, 0, 0]
def k0_off104 (i : grid0.Coords) (k0_t4 : Fin (k0_t4_loop i).trips) : Fin 4 → Nat :=
  let c0_i32_16 : BitVec 32 := 0#32
  let arg2 : BitVec 32 := BitVec.ofNat 32 (i 2).val
  let v24 : BitVec 32 := Scalar.subi arg2 c0_i32_16
  let c1_i32 : BitVec 32 := 1#32
  let v26 : BitVec 32 := Scalar.divsi v24 c1_i32
  let v27 : BitVec 32 := Scalar.muli v26 c1_i32
  let v28 : BitVec 32 := Scalar.addi c0_i32_16 v27
  let c1_i32_19 : BitVec 32 := 1#32
  let arg23 : BitVec 32 := Scf.iv v28 c1_i32_19 k0_t4
  let v276 : Index := Scalar.indexCast arg23
  let c2_190 : Index := 2#32
  let c64_191 : Index := 64#32
  let c0_192 : Index := 0#32
  ![v276.toNat, 2, 64, 0]
def k0_off105 (i : grid0.Coords) (k0_t4 : Fin (k0_t4_loop i).trips) : Fin 4 → Nat :=
  let c0_i32_16 : BitVec 32 := 0#32
  let arg2 : BitVec 32 := BitVec.ofNat 32 (i 2).val
  let v24 : BitVec 32 := Scalar.subi arg2 c0_i32_16
  let c1_i32 : BitVec 32 := 1#32
  let v26 : BitVec 32 := Scalar.divsi v24 c1_i32
  let v27 : BitVec 32 := Scalar.muli v26 c1_i32
  let v28 : BitVec 32 := Scalar.addi c0_i32_16 v27
  let c1_i32_19 : BitVec 32 := 1#32
  let arg23 : BitVec 32 := Scf.iv v28 c1_i32_19 k0_t4
  let v299 : Index := Scalar.indexCast arg23
  let c2_205 : Index := 2#32
  let c128_206 : Index := 128#32
  let c0_207 : Index := 0#32
  ![v299.toNat, 2, 128, 0]
def k0_off106 (i : grid0.Coords) (k0_t4 : Fin (k0_t4_loop i).trips) : Fin 4 → Nat :=
  let c0_i32_16 : BitVec 32 := 0#32
  let arg2 : BitVec 32 := BitVec.ofNat 32 (i 2).val
  let v24 : BitVec 32 := Scalar.subi arg2 c0_i32_16
  let c1_i32 : BitVec 32 := 1#32
  let v26 : BitVec 32 := Scalar.divsi v24 c1_i32
  let v27 : BitVec 32 := Scalar.muli v26 c1_i32
  let v28 : BitVec 32 := Scalar.addi c0_i32_16 v27
  let c1_i32_19 : BitVec 32 := 1#32
  let arg23 : BitVec 32 := Scf.iv v28 c1_i32_19 k0_t4
  let v322 : Index := Scalar.indexCast arg23
  let c2_220 : Index := 2#32
  let c192_221 : Index := 192#32
  let c0_222 : Index := 0#32
  ![v322.toNat, 2, 192, 0]
def k0_off107 (i : grid0.Coords) (k0_t4 : Fin (k0_t4_loop i).trips) : Fin 4 → Nat :=
  let c0_i32_16 : BitVec 32 := 0#32
  let arg2 : BitVec 32 := BitVec.ofNat 32 (i 2).val
  let v24 : BitVec 32 := Scalar.subi arg2 c0_i32_16
  let c1_i32 : BitVec 32 := 1#32
  let v26 : BitVec 32 := Scalar.divsi v24 c1_i32
  let v27 : BitVec 32 := Scalar.muli v26 c1_i32
  let v28 : BitVec 32 := Scalar.addi c0_i32_16 v27
  let c1_i32_19 : BitVec 32 := 1#32
  let arg23 : BitVec 32 := Scf.iv v28 c1_i32_19 k0_t4
  let v362 : Index := Scalar.indexCast arg23
  let c3_252 : Index := 3#32
  let c0_253 : Index := 0#32
  let c0_254 : Index := 0#32
  ![v362.toNat, 3, 0, 0]
def k0_off108 (i : grid0.Coords) (k0_t4 : Fin (k0_t4_loop i).trips) : Fin 4 → Nat :=
  let c0_i32_16 : BitVec 32 := 0#32
  let arg2 : BitVec 32 := BitVec.ofNat 32 (i 2).val
  let v24 : BitVec 32 := Scalar.subi arg2 c0_i32_16
  let c1_i32 : BitVec 32 := 1#32
  let v26 : BitVec 32 := Scalar.divsi v24 c1_i32
  let v27 : BitVec 32 := Scalar.muli v26 c1_i32
  let v28 : BitVec 32 := Scalar.addi c0_i32_16 v27
  let c1_i32_19 : BitVec 32 := 1#32
  let arg23 : BitVec 32 := Scf.iv v28 c1_i32_19 k0_t4
  let v384 : Index := Scalar.indexCast arg23
  let c3_267 : Index := 3#32
  let c64_268 : Index := 64#32
  let c0_269 : Index := 0#32
  ![v384.toNat, 3, 64, 0]
def k0_off109 (i : grid0.Coords) (k0_t4 : Fin (k0_t4_loop i).trips) : Fin 4 → Nat :=
  let c0_i32_16 : BitVec 32 := 0#32
  let arg2 : BitVec 32 := BitVec.ofNat 32 (i 2).val
  let v24 : BitVec 32 := Scalar.subi arg2 c0_i32_16
  let c1_i32 : BitVec 32 := 1#32
  let v26 : BitVec 32 := Scalar.divsi v24 c1_i32
  let v27 : BitVec 32 := Scalar.muli v26 c1_i32
  let v28 : BitVec 32 := Scalar.addi c0_i32_16 v27
  let c1_i32_19 : BitVec 32 := 1#32
  let arg23 : BitVec 32 := Scf.iv v28 c1_i32_19 k0_t4
  let v407 : Index := Scalar.indexCast arg23
  let c3_282 : Index := 3#32
  let c128_283 : Index := 128#32
  let c0_284 : Index := 0#32
  ![v407.toNat, 3, 128, 0]
def k0_off110 (i : grid0.Coords) (k0_t4 : Fin (k0_t4_loop i).trips) : Fin 4 → Nat :=
  let c0_i32_16 : BitVec 32 := 0#32
  let arg2 : BitVec 32 := BitVec.ofNat 32 (i 2).val
  let v24 : BitVec 32 := Scalar.subi arg2 c0_i32_16
  let c1_i32 : BitVec 32 := 1#32
  let v26 : BitVec 32 := Scalar.divsi v24 c1_i32
  let v27 : BitVec 32 := Scalar.muli v26 c1_i32
  let v28 : BitVec 32 := Scalar.addi c0_i32_16 v27
  let c1_i32_19 : BitVec 32 := 1#32
  let arg23 : BitVec 32 := Scf.iv v28 c1_i32_19 k0_t4
  let v430 : Index := Scalar.indexCast arg23
  let c3_297 : Index := 3#32
  let c192_298 : Index := 192#32
  let c0_299 : Index := 0#32
  ![v430.toNat, 3, 192, 0]
def k0_off111 (i : grid0.Coords) (k0_t4 : Fin (k0_t4_loop i).trips) : Fin 4 → Nat :=
  let c0_i32_16 : BitVec 32 := 0#32
  let arg2 : BitVec 32 := BitVec.ofNat 32 (i 2).val
  let v24 : BitVec 32 := Scalar.subi arg2 c0_i32_16
  let c1_i32 : BitVec 32 := 1#32
  let v26 : BitVec 32 := Scalar.divsi v24 c1_i32
  let v27 : BitVec 32 := Scalar.muli v26 c1_i32
  let v28 : BitVec 32 := Scalar.addi c0_i32_16 v27
  let c1_i32_19 : BitVec 32 := 1#32
  let arg23 : BitVec 32 := Scf.iv v28 c1_i32_19 k0_t4
  let v470 : Index := Scalar.indexCast arg23
  let c4_328 : Index := 4#32
  let c0_329 : Index := 0#32
  let c0_330 : Index := 0#32
  ![v470.toNat, 4, 0, 0]
def k0_off112 (i : grid0.Coords) (k0_t4 : Fin (k0_t4_loop i).trips) : Fin 4 → Nat :=
  let c0_i32_16 : BitVec 32 := 0#32
  let arg2 : BitVec 32 := BitVec.ofNat 32 (i 2).val
  let v24 : BitVec 32 := Scalar.subi arg2 c0_i32_16
  let c1_i32 : BitVec 32 := 1#32
  let v26 : BitVec 32 := Scalar.divsi v24 c1_i32
  let v27 : BitVec 32 := Scalar.muli v26 c1_i32
  let v28 : BitVec 32 := Scalar.addi c0_i32_16 v27
  let c1_i32_19 : BitVec 32 := 1#32
  let arg23 : BitVec 32 := Scf.iv v28 c1_i32_19 k0_t4
  let v492 : Index := Scalar.indexCast arg23
  let c4_343 : Index := 4#32
  let c64_344 : Index := 64#32
  let c0_345 : Index := 0#32
  ![v492.toNat, 4, 64, 0]
def k0_off113 (i : grid0.Coords) (k0_t4 : Fin (k0_t4_loop i).trips) : Fin 4 → Nat :=
  let c0_i32_16 : BitVec 32 := 0#32
  let arg2 : BitVec 32 := BitVec.ofNat 32 (i 2).val
  let v24 : BitVec 32 := Scalar.subi arg2 c0_i32_16
  let c1_i32 : BitVec 32 := 1#32
  let v26 : BitVec 32 := Scalar.divsi v24 c1_i32
  let v27 : BitVec 32 := Scalar.muli v26 c1_i32
  let v28 : BitVec 32 := Scalar.addi c0_i32_16 v27
  let c1_i32_19 : BitVec 32 := 1#32
  let arg23 : BitVec 32 := Scf.iv v28 c1_i32_19 k0_t4
  let v515 : Index := Scalar.indexCast arg23
  let c4_358 : Index := 4#32
  let c128_359 : Index := 128#32
  let c0_360 : Index := 0#32
  ![v515.toNat, 4, 128, 0]
def k0_off114 (i : grid0.Coords) (k0_t4 : Fin (k0_t4_loop i).trips) : Fin 4 → Nat :=
  let c0_i32_16 : BitVec 32 := 0#32
  let arg2 : BitVec 32 := BitVec.ofNat 32 (i 2).val
  let v24 : BitVec 32 := Scalar.subi arg2 c0_i32_16
  let c1_i32 : BitVec 32 := 1#32
  let v26 : BitVec 32 := Scalar.divsi v24 c1_i32
  let v27 : BitVec 32 := Scalar.muli v26 c1_i32
  let v28 : BitVec 32 := Scalar.addi c0_i32_16 v27
  let c1_i32_19 : BitVec 32 := 1#32
  let arg23 : BitVec 32 := Scf.iv v28 c1_i32_19 k0_t4
  let v538 : Index := Scalar.indexCast arg23
  let c4_373 : Index := 4#32
  let c192_374 : Index := 192#32
  let c0_375 : Index := 0#32
  ![v538.toNat, 4, 192, 0]
def k0_cond4 (i : grid0.Coords) : BitVec 1 :=
  let arg2 : BitVec 32 := BitVec.ofNat 32 (i 2).val
  let c31_i32_14 : BitVec 32 := 31#32
  let v21 : BitVec 1 := Scalar.cmpi .slt arg2 c31_i32_14
  let v22 : BitVec 32 := Scalar.extui v21
  let c0_i32_15 : BitVec 32 := 0#32
  let v23 : BitVec 1 := Scalar.cmpi .ne v22 c0_i32_15
  v23

def k0_mult11 (i : grid0.Coords) : BitVec 32 :=
  let arg2 : BitVec 32 := BitVec.ofNat 32 (i 2).val
  let c256_i32 : BitVec 32 := 256#32
  let v27 : BitVec 32 := Scalar.muli arg2 c256_i32
  v27
def k0_off115 (i : grid0.Coords) : Fin 3 → Nat :=
  let c0_16 : Index := 0#32
  let arg2 : BitVec 32 := BitVec.ofNat 32 (i 2).val
  let c256_i32 : BitVec 32 := 256#32
  let v27 : BitVec 32 := Scalar.muli arg2 c256_i32
  let v28 : BitVec 32 := v27
  let v29 : Index := Scalar.indexCast v28
  let c0_17 : Index := 0#32
  ![0, v29.toNat, 0]
def k0_off116 (i : grid0.Coords) : Fin 4 → Nat :=
  let c0_22 : Index := 0#32
  let c0_23 : Index := 0#32
  let arg2 : BitVec 32 := BitVec.ofNat 32 (i 2).val
  let c256_i32 : BitVec 32 := 256#32
  let v27 : BitVec 32 := Scalar.muli arg2 c256_i32
  let v28 : BitVec 32 := v27
  let v35 : Index := Scalar.indexCast v28
  let c0_24 : Index := 0#32
  ![0, 0, v35.toNat, 0]
def k0_off117 (i : grid0.Coords) : Fin 5 → Nat :=
  let c0_34 : Index := 0#32
  let c0_35 : Index := 0#32
  let arg2 : BitVec 32 := BitVec.ofNat 32 (i 2).val
  let v50 : Index := Scalar.indexCast arg2
  let c0_36 : Index := 0#32
  let c0_37 : Index := 0#32
  ![0, 0, v50.toNat, 0, 0]
def k0_off118 (i : grid0.Coords) : Fin 5 → Nat :=
  let c0_39 : Index := 0#32
  let c0_40 : Index := 0#32
  let arg2 : BitVec 32 := BitVec.ofNat 32 (i 2).val
  let v58 : Index := Scalar.indexCast arg2
  let c1 : Index := 1#32
  let c0_41 : Index := 0#32
  ![0, 0, v58.toNat, 1, 0]
def k0_off119 (i : grid0.Coords) : Fin 5 → Nat :=
  let c0_43 : Index := 0#32
  let c0_44 : Index := 0#32
  let arg2 : BitVec 32 := BitVec.ofNat 32 (i 2).val
  let v67 : Index := Scalar.indexCast arg2
  let c2 : Index := 2#32
  let c0_45 : Index := 0#32
  ![0, 0, v67.toNat, 2, 0]
def k0_off120 (i : grid0.Coords) : Fin 5 → Nat :=
  let c0_47 : Index := 0#32
  let c0_48 : Index := 0#32
  let arg2 : BitVec 32 := BitVec.ofNat 32 (i 2).val
  let v76 : Index := Scalar.indexCast arg2
  let c3 : Index := 3#32
  let c0_49 : Index := 0#32
  ![0, 0, v76.toNat, 3, 0]
def k0_off121 (i : grid0.Coords) : Fin 4 → Nat :=
  let arg2 : BitVec 32 := BitVec.ofNat 32 (i 2).val
  let v98 : Index := Scalar.indexCast arg2
  let c0_64 : Index := 0#32
  let c0_65 : Index := 0#32
  let c0_66 : Index := 0#32
  ![v98.toNat, 0, 0, 0]
def k0_mult12 (i : grid0.Coords) : BitVec 32 :=
  let arg2 : BitVec 32 := BitVec.ofNat 32 (i 2).val
  let c256_i32_67 : BitVec 32 := 256#32
  let v102 : BitVec 32 := Scalar.muli arg2 c256_i32_67
  v102
def k0_off122 (i : grid0.Coords) : Fin 4 → Nat :=
  let arg2 : BitVec 32 := BitVec.ofNat 32 (i 2).val
  let v173 : Index := Scalar.indexCast arg2
  let c1_119 : Index := 1#32
  let c0_120 : Index := 0#32
  let c0_121 : Index := 0#32
  ![v173.toNat, 1, 0, 0]
def k0_mult13 (i : grid0.Coords) : BitVec 32 :=
  let arg2 : BitVec 32 := BitVec.ofNat 32 (i 2).val
  let c256_i32_122 : BitVec 32 := 256#32
  let v177 : BitVec 32 := Scalar.muli arg2 c256_i32_122
  v177
def k0_off123 (i : grid0.Coords) : Fin 4 → Nat :=
  let arg2 : BitVec 32 := BitVec.ofNat 32 (i 2).val
  let v248 : Index := Scalar.indexCast arg2
  let c2_174 : Index := 2#32
  let c0_175 : Index := 0#32
  let c0_176 : Index := 0#32
  ![v248.toNat, 2, 0, 0]
def k0_mult14 (i : grid0.Coords) : BitVec 32 :=
  let arg2 : BitVec 32 := BitVec.ofNat 32 (i 2).val
  let c256_i32_177 : BitVec 32 := 256#32
  let v252 : BitVec 32 := Scalar.muli arg2 c256_i32_177
  v252
def k0_off124 (i : grid0.Coords) : Fin 4 → Nat :=
  let arg2 : BitVec 32 := BitVec.ofNat 32 (i 2).val
  let v323 : Index := Scalar.indexCast arg2
  let c3_229 : Index := 3#32
  let c0_230 : Index := 0#32
  let c0_231 : Index := 0#32
  ![v323.toNat, 3, 0, 0]
def k0_mult15 (i : grid0.Coords) : BitVec 32 :=
  let arg2 : BitVec 32 := BitVec.ofNat 32 (i 2).val
  let c256_i32_232 : BitVec 32 := 256#32
  let v327 : BitVec 32 := Scalar.muli arg2 c256_i32_232
  v327
def k0_off125 (i : grid0.Coords) : Fin 4 → Nat :=
  let arg2 : BitVec 32 := BitVec.ofNat 32 (i 2).val
  let v398 : Index := Scalar.indexCast arg2
  let c4_283 : Index := 4#32
  let c0_284 : Index := 0#32
  let c0_285 : Index := 0#32
  ![v398.toNat, 4, 0, 0]
def k0_cond3 (i : grid0.Coords) : BitVec 1 :=
  let arg2 : BitVec 32 := BitVec.ofNat 32 (i 2).val
  let c0_i32_12 : BitVec 32 := 0#32
  let v18 : BitVec 1 := Scalar.cmpi .sgt arg2 c0_i32_12
  let v19 : BitVec 32 := Scalar.extui v18
  let c0_i32_13 : BitVec 32 := 0#32
  let v20 : BitVec 1 := Scalar.cmpi .ne v19 c0_i32_13
  v20

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c30_i32 : BitVec 32 := 30#32
  let v0 : BitVec 32 := Scalar.minsi arg2 c30_i32
  let c0_i32 : BitVec 32 := 0#32
  ![arg0.toNat, v0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  ![arg0.toNat, v1.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c30_i32 : BitVec 32 := 30#32
  let v0 : BitVec 32 := Scalar.minsi arg2 c30_i32
  let c0_i32 : BitVec 32 := 0#32
  ![arg0.toNat, v0.toNat, arg1.toNat]

def cc0_transform_9 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c30_i32 : BitVec 32 := 30#32
  let v0 : BitVec 32 := Scalar.minsi arg2 c30_i32
  let c0_i32 : BitVec 32 := 0#32
  let c0_i32_0 : BitVec 32 := 0#32
  let c0_i32_1 : BitVec 32 := 0#32
  ![arg0.toNat, arg1.toNat, v0.toNat, c0_i32.toNat, c0_i32_0.toNat]

def cc0_transform_10 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c30_i32 : BitVec 32 := 30#32
  let v0 : BitVec 32 := Scalar.minsi arg2 c30_i32
  let c0_i32 : BitVec 32 := 0#32
  let c0_i32_0 : BitVec 32 := 0#32
  let c0_i32_1 : BitVec 32 := 0#32
  ![arg0.toNat, v0.toNat, arg1.toNat, c0_i32.toNat, c0_i32_0.toNat]

abbrev stage0_0 : Fin 2 → Memref sig .tc .vmem S1x256x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x7936x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x7936x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x31x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x31x128x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x1x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x256x640 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x640 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x1x10x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x2x1x5x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== KernelIdeal.lean ====
variable {F : FTy → Type} [FloatOps F] [Named F]
def κ : String → Option EReal := fun
  | "softmax_scale_log2_e" => some (((Real.sqrt 128)⁻¹ * (Real.log 2)⁻¹ : ℝ) : EReal)
  | _ => none
-- ==== ReferenceIdeal.lean ====
abbrev S2x7936x5120 : Shape := ⟨3, ![2, 7936, 5120]⟩
abbrev S2x7936x1024 : Shape := ⟨3, ![2, 7936, 1024]⟩
abbrev S2x8x7936x128 : Shape := ⟨4, ![2, 8, 7936, 128]⟩
abbrev S2x8x31x4x128 : Shape := ⟨5, ![2, 8, 31, 4, 128]⟩
abbrev S2x8x31x128x256 : Shape := ⟨5, ![2, 8, 31, 128, 256]⟩
abbrev S2x8x1x128 : Shape := ⟨4, ![2, 8, 1, 128]⟩
abbrev S2x8x31x10x128 : Shape := ⟨5, ![2, 8, 31, 10, 128]⟩
abbrev S2x62x8x5x128 : Shape := ⟨5, ![2, 62, 8, 5, 128]⟩
abbrev S2x62x128x40x128 : Shape := ⟨5, ![2, 62, 128, 40, 128]⟩
abbrev S2x62x40x128 : Shape := ⟨4, ![2, 62, 40, 128]⟩
abbrev S2x62x1x40x128 : Shape := ⟨5, ![2, 62, 1, 40, 128]⟩
abbrev S2x62x40 : Shape := ⟨3, ![2, 62, 40]⟩
abbrev S2x62x1x40x1 : Shape := ⟨5, ![2, 62, 1, 40, 1]⟩
abbrev S255x2x62x1x40x1 : Shape := ⟨6, ![255, 2, 62, 1, 40, 1]⟩
abbrev S1x2x62x1x40x1 : Shape := ⟨6, ![1, 2, 62, 1, 40, 1]⟩
abbrev S2x31x2x8x5x1 : Shape := ⟨6, ![2, 31, 2, 8, 5, 1]⟩
abbrev S2x8x31x2x5x1 : Shape := ⟨6, ![2, 8, 31, 2, 5, 1]⟩
abbrev S2x8x31x10x1 : Shape := ⟨5, ![2, 8, 31, 10, 1]⟩
abbrev S2x7936x8x5x128 : Shape := ⟨5, ![2, 7936, 8, 5, 128]⟩
abbrev S2x7936x8x128 : Shape := ⟨4, ![2, 7936, 8, 128]⟩
abbrev S2x8x7936x7936x5 : Shape := ⟨5, ![2, 8, 7936, 7936, 5]⟩
abbrev S2x8x5x7936x7936 : Shape := ⟨5, ![2, 8, 5, 7936, 7936]⟩
abbrev S2x8x7936x62x5 : Shape := ⟨5, ![2, 8, 7936, 62, 5]⟩
abbrev S2x8x5x62x7936 : Shape := ⟨5, ![2, 8, 5, 62, 7936]⟩
abbrev S2x8x31x4x1 : Shape := ⟨5, ![2, 8, 31, 4, 1]⟩
abbrev S2x8x31x4x64 : Shape := ⟨5, ![2, 8, 31, 4, 64]⟩
abbrev S2x8x1x1x7936 : Shape := ⟨5, ![2, 8, 1, 1, 7936]⟩
abbrev S2x62x8x5 : Shape := ⟨4, ![2, 62, 8, 5]⟩
abbrev S2x8x5x62 : Shape := ⟨4, ![2, 8, 5, 62]⟩
abbrev S2x8x5x62x1x1 : Shape := ⟨6, ![2, 8, 5, 62, 1, 1]⟩
abbrev S2x8x5x62x128x7936 : Shape := ⟨6, ![2, 8, 5, 62, 128, 7936]⟩
abbrev S2x8x5x62x1x7936 : Shape := ⟨6, ![2, 8, 5, 62, 1, 7936]⟩
abbrev S7936x7936 : Shape := ⟨2, ![7936, 7936]⟩
abbrev S1x1x1x7936x7936 : Shape := ⟨5, ![1, 1, 1, 7936, 7936]⟩
abbrev S2x8x5x7936 : Shape := ⟨4, ![2, 8, 5, 7936]⟩
abbrev S2x8x5x7936x1 : Shape := ⟨5, ![2, 8, 5, 7936, 1]⟩
abbrev S2x8x31x256x128 : Shape := ⟨5, ![2, 8, 31, 256, 128]⟩
abbrev S2x8x5x7936x128 : Shape := ⟨5, ![2, 8, 5, 7936, 128]⟩
abbrev S2x8x1x1x128 : Shape := ⟨5, ![2, 8, 1, 1, 128]⟩

abbrev nBuf : Space → Nat
  | .hbm => 11
  | .vmem => 11
  | .smem => 0
  | _ => 0

abbrev bufTy : (tb : Table) → Fin (tcTables nBuf tb) → BufTy
  | .hbm, ⟨0, _⟩ => ⟨S2x7936x5120, .bf16⟩
  | .hbm, ⟨1, _⟩ => ⟨S2x7936x1024, .fp8e4m3⟩
  | .hbm, ⟨2, _⟩ => ⟨S2x8x7936x128, .bf16⟩
  | .hbm, ⟨3, _⟩ => ⟨S2x8x31x4x128, .f32⟩
  | .hbm, ⟨4, _⟩ => ⟨S2x8x31x128x256, .fp8e4m3⟩
  | .hbm, ⟨5, _⟩ => ⟨S2x8x1x128, .f32⟩
  | .hbm, ⟨6, _⟩ => ⟨S2x8x1x128, .bf16⟩
  | .hbm, ⟨7, _⟩ => ⟨S2x7936x5120, .bf16⟩
  | .hbm, ⟨8, _⟩ => ⟨S2x7936x5120, .fp8e4m3⟩
  | .hbm, ⟨9, _⟩ => ⟨S2x8x31x10x128, .f32⟩
  | .hbm, ⟨10, _⟩ => ⟨S2x62x8x5x128, .bf16⟩
  | .local _ .vmem, ⟨0, _⟩ => ⟨S2x7936x5120, .bf16⟩
  | .local _ .vmem, ⟨1, _⟩ => ⟨S2x7936x1024, .fp8e4m3⟩
  | .local _ .vmem, ⟨2, _⟩ => ⟨S2x8x7936x128, .bf16⟩
  | .local _ .vmem, ⟨3, _⟩ => ⟨S2x8x31x4x128, .f32⟩
  | .local _ .vmem, ⟨4, _⟩ => ⟨S2x8x31x128x256, .fp8e4m3⟩
  | .local _ .vmem, ⟨5, _⟩ => ⟨S2x8x1x128, .f32⟩
  | .local _ .vmem, ⟨6, _⟩ => ⟨S2x8x1x128, .bf16⟩
  | .local _ .vmem, ⟨7, _⟩ => ⟨S2x7936x5120, .bf16⟩
  | .local _ .vmem, ⟨8, _⟩ => ⟨S2x7936x5120, .fp8e4m3⟩
  | .local _ .vmem, ⟨9, _⟩ => ⟨S2x8x31x10x128, .f32⟩
  | .local _ .vmem, ⟨10, _⟩ => ⟨S2x62x8x5x128, .bf16⟩
  | _, _ => ⟨S2x7936x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F] [Named F]

def κ : String → Option EReal := fun
  | "softmax_scale" => some (((Real.sqrt 128)⁻¹ : ℝ) : EReal)
  | _ => none

abbrev grid0 : Pipeline.Grid := .none

abbrev stage0_0 : Fin 1 → Memref sig .tc .vmem S2x7936x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x7936x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8x7936x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x31x4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8x31x128x256 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x8x1x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x7936x5120 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x7936x5120 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x8x31x10x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x62x8x5x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== KV.lean ====
abbrev S2x7936x1024 : Shape := ⟨3, ![2, 7936, 1024]⟩
abbrev S2x8x31x4x128 : Shape := ⟨5, ![2, 8, 31, 4, 128]⟩
abbrev S2x8x1x128 : Shape := ⟨4, ![2, 8, 1, 128]⟩
abbrev S2x8x7936x128 : Shape := ⟨4, ![2, 8, 7936, 128]⟩
abbrev S2x8x31x128x256 : Shape := ⟨5, ![2, 8, 31, 128, 256]⟩
abbrev S1x7936x128 : Shape := ⟨3, ![1, 7936, 128]⟩
abbrev S1x1x31x4x128 : Shape := ⟨5, ![1, 1, 31, 4, 128]⟩
abbrev S1x1x1x128 : Shape := ⟨4, ![1, 1, 1, 128]⟩
abbrev S1x1x7936x128 : Shape := ⟨4, ![1, 1, 7936, 128]⟩
abbrev S1x1x31x128x256 : Shape := ⟨5, ![1, 1, 31, 128, 256]⟩
abbrev S256x128 : Shape := ⟨2, ![256, 128]⟩
abbrev S1x256x128 : Shape := ⟨3, ![1, 256, 128]⟩
abbrev S128 : Shape := ⟨1, ![128]⟩
abbrev S1x128 : Shape := ⟨2, ![1, 128]⟩
abbrev S64x128 : Shape := ⟨2, ![64, 128]⟩
abbrev S1 : Shape := ⟨1, ![1]⟩
abbrev S1x1 : Shape := ⟨2, ![1, 1]⟩
abbrev S256x1 : Shape := ⟨2, ![256, 1]⟩
abbrev S1x1x256x128 : Shape := ⟨4, ![1, 1, 256, 128]⟩
abbrev S4x128 : Shape := ⟨2, ![4, 128]⟩
abbrev S1x1x1x4x128 : Shape := ⟨5, ![1, 1, 1, 4, 128]⟩
abbrev S128x256 : Shape := ⟨2, ![128, 256]⟩
abbrev S1x1x1x128x256 : Shape := ⟨5, ![1, 1, 1, 128, 256]⟩

abbrev nBuf : Space → Nat
  | .hbm => 10
  | .vmem => 20
  | .smem => 0
  | _ => 0

abbrev bufTy : (tb : Table) → Fin (tcTables nBuf tb) → BufTy
  | .hbm, ⟨0, _⟩ => ⟨S2x7936x1024, .bf16⟩
  | .hbm, ⟨1, _⟩ => ⟨S2x7936x1024, .bf16⟩
  | .hbm, ⟨2, _⟩ => ⟨S2x7936x1024, .fp8e4m3⟩
  | .hbm, ⟨3, _⟩ => ⟨S2x8x31x4x128, .f32⟩
  | .hbm, ⟨4, _⟩ => ⟨S2x8x1x128, .bf16⟩
  | .hbm, ⟨5, _⟩ => ⟨S2x7936x1024, .fp8e4m3⟩
  | .hbm, ⟨6, _⟩ => ⟨S2x8x1x128, .f32⟩
  | .hbm, ⟨7, _⟩ => ⟨S2x8x1x128, .bf16⟩
  | .hbm, ⟨8, _⟩ => ⟨S2x8x7936x128, .bf16⟩
  | .hbm, ⟨9, _⟩ => ⟨S2x8x31x128x256, .fp8e4m3⟩
  | .local _ .vmem, ⟨0, _⟩ => ⟨S1x7936x128, .bf16⟩
  | .local _ .vmem, ⟨1, _⟩ => ⟨S1x7936x128, .bf16⟩
  | .local _ .vmem, ⟨2, _⟩ => ⟨S1x7936x128, .bf16⟩
  | .local _ .vmem, ⟨3, _⟩ => ⟨S1x7936x128, .bf16⟩
  | .local _ .vmem, ⟨4, _⟩ => ⟨S1x7936x128, .fp8e4m3⟩
  | .local _ .vmem, ⟨5, _⟩ => ⟨S1x7936x128, .fp8e4m3⟩
  | .local _ .vmem, ⟨6, _⟩ => ⟨S1x1x31x4x128, .f32⟩
  | .local _ .vmem, ⟨7, _⟩ => ⟨S1x1x31x4x128, .f32⟩
  | .local _ .vmem, ⟨8, _⟩ => ⟨S1x1x1x128, .bf16⟩
  | .local _ .vmem, ⟨9, _⟩ => ⟨S1x1x1x128, .bf16⟩
  | .local _ .vmem, ⟨10, _⟩ => ⟨S1x7936x128, .fp8e4m3⟩
  | .local _ .vmem, ⟨11, _⟩ => ⟨S1x7936x128, .fp8e4m3⟩
  | .local _ .vmem, ⟨12, _⟩ => ⟨S1x1x1x128, .f32⟩
  | .local _ .vmem, ⟨13, _⟩ => ⟨S1x1x1x128, .f32⟩
  | .local _ .vmem, ⟨14, _⟩ => ⟨S1x1x1x128, .bf16⟩
  | .local _ .vmem, ⟨15, _⟩ => ⟨S1x1x1x128, .bf16⟩
  | .local _ .vmem, ⟨16, _⟩ => ⟨S1x1x7936x128, .bf16⟩
  | .local _ .vmem, ⟨17, _⟩ => ⟨S1x1x7936x128, .bf16⟩
  | .local _ .vmem, ⟨18, _⟩ => ⟨S1x1x31x128x256, .fp8e4m3⟩
  | .local _ .vmem, ⟨19, _⟩ => ⟨S1x1x31x128x256, .fp8e4m3⟩
  | _, _ => ⟨S2x7936x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v0_5 : Ref sig .tc := ⟨.hbm, 7, rfl⟩
abbrev main_v0_6 : Ref sig .tc := ⟨.hbm, 8, rfl⟩
abbrev main_v0_7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32 : BitVec 32 := 0#32
  let c31_i32 : BitVec 32 := 31#32
  let v1 : BitVec 32 := Scalar.addi c0_i32 c31_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32 : BitVec 32 := 256#32
  let v66 : BitVec 32 := Scalar.muli arg12 c256_i32
  v66
def k0_off1 (k0_t1 : Fin k0_t1_loop.trips) : Fin 3 → Nat :=
  let c0_45 : Index := 0#32
  let c0_i32 : BitVec 32 := 0#32
  let c1_i32 : BitVec 32 := 1#32
  let arg12 : BitVec 32 := Scf.iv c0_i32 c1_i32 k0_t1
  let c256_i32 : BitVec 32 := 256#32
  let v66 : BitVec 32 := Scalar.muli arg12 c256_i32
  let v67 : BitVec 32 := v66
  let v68 : Index := Scalar.indexCast v67
  let c0_46 : Index := 0#32
  ![0, v68.toNat, 0]
@[reducible] def k0_t2_loop : Scf.Loop 32 :=
  let c0_i32_6 : BitVec 32 := 0#32
  let c31_i32_7 : BitVec 32 := 31#32
  let v12 : BitVec 32 := Scalar.addi c0_i32_6 c31_i32_7
  let c1_i32_8 : BitVec 32 := 1#32
  ⟨c0_i32_6, v12, c1_i32_8⟩
def k0_mult2 (k0_t2 : Fin k0_t2_loop.trips) : BitVec 32 :=
  let c0_i32_6 : BitVec 32 := 0#32
  let c1_i32_8 : BitVec 32 := 1#32
  let arg12 : BitVec 32 := Scf.iv c0_i32_6 c1_i32_8 k0_t2
  let c256_i32 : BitVec 32 := 256#32
  let v66 : BitVec 32 := Scalar.muli arg12 c256_i32
  v66
def k0_off2 (k0_t2 : Fin k0_t2_loop.trips) : Fin 3 → Nat :=
  let c0_45 : Index := 0#32
  let c0_i32_6 : BitVec 32 := 0#32
  let c1_i32_8 : BitVec 32 := 1#32
  let arg12 : BitVec 32 := Scf.iv c0_i32_6 c1_i32_8 k0_t2
  let c256_i32 : BitVec 32 := 256#32
  let v66 : BitVec 32 := Scalar.muli arg12 c256_i32
  let v67 : BitVec 32 := v66
  let v68 : Index := Scalar.indexCast v67
  let c0_46 : Index := 0#32
  ![0, v68.toNat, 0]
def k0_off3 (k0_t2 : Fin k0_t2_loop.trips) : Fin 4 → Nat :=
  let c0_117 : Index := 0#32
  let c0_118 : Index := 0#32
  let c0_i32_6 : BitVec 32 := 0#32
  let c1_i32_8 : BitVec 32 := 1#32
  let arg12 : BitVec 32 := Scf.iv c0_i32_6 c1_i32_8 k0_t2
  let c256_i32 : BitVec 32 := 256#32
  let v66 : BitVec 32 := Scalar.muli arg12 c256_i32
  let v67 : BitVec 32 := v66
  let v268 : Index := Scalar.indexCast v67
  let c0_119 : Index := 0#32
  ![0, 0, v268.toNat, 0]
def k0_off4 (k0_t2 : Fin k0_t2_loop.trips) : Fin 5 → Nat :=
  let c0_120 : Index := 0#32
  let c0_121 : Index := 0#32
  let c0_i32_6 : BitVec 32 := 0#32
  let c1_i32_8 : BitVec 32 := 1#32
  let arg12 : BitVec 32 := Scf.iv c0_i32_6 c1_i32_8 k0_t2
  let v273 : Index := Scalar.indexCast arg12
  let c0_122 : Index := 0#32
  let c0_123 : Index := 0#32
  ![0, 0, v273.toNat, 0, 0]
@[reducible] def k0_t3_loop : Scf.Loop 32 :=
  let c0_i32_11 : BitVec 32 := 0#32
  let c31_i32_12 : BitVec 32 := 31#32
  let v14 : BitVec 32 := Scalar.addi c0_i32_11 c31_i32_12
  let c1_i32_13 : BitVec 32 := 1#32
  ⟨c0_i32_11, v14, c1_i32_13⟩
def k0_mult3 (k0_t3 : Fin k0_t3_loop.trips) : BitVec 32 :=
  let c0_i32_11 : BitVec 32 := 0#32
  let c1_i32_13 : BitVec 32 := 1#32
  let arg12 : BitVec 32 := Scf.iv c0_i32_11 c1_i32_13 k0_t3
  let c256_i32 : BitVec 32 := 256#32
  let v66 : BitVec 32 := Scalar.muli arg12 c256_i32
  v66
def k0_off5 (k0_t3 : Fin k0_t3_loop.trips) : Fin 3 → Nat :=
  let c0_45 : Index := 0#32
  let c0_i32_11 : BitVec 32 := 0#32
  let c1_i32_13 : BitVec 32 := 1#32
  let arg12 : BitVec 32 := Scf.iv c0_i32_11 c1_i32_13 k0_t3
  let c256_i32 : BitVec 32 := 256#32
  let v66 : BitVec 32 := Scalar.muli arg12 c256_i32
  let v67 : BitVec 32 := v66
  let v68 : Index := Scalar.indexCast v67
  let c0_46 : Index := 0#32
  ![0, v68.toNat, 0]
@[reducible] def k0_t4_loop : Scf.Loop 32 :=
  let c0_i32_22 : BitVec 32 := 0#32
  let c31_i32_23 : BitVec 32 := 31#32
  let v26 : BitVec 32 := Scalar.addi c0_i32_22 c31_i32_23
  let c1_i32_24 : BitVec 32 := 1#32
  ⟨c0_i32_22, v26, c1_i32_24⟩
def k0_mult4 (k0_t4 : Fin k0_t4_loop.trips) : BitVec 32 :=
  let c0_i32_22 : BitVec 32 := 0#32
  let c1_i32_24 : BitVec 32 := 1#32
  let arg12 : BitVec 32 := Scf.iv c0_i32_22 c1_i32_24 k0_t4
  let c256_i32 : BitVec 32 := 256#32
  let v66 : BitVec 32 := Scalar.muli arg12 c256_i32
  v66
def k0_off6 (k0_t4 : Fin k0_t4_loop.trips) : Fin 3 → Nat :=
  let c0_45 : Index := 0#32
  let c0_i32_22 : BitVec 32 := 0#32
  let c1_i32_24 : BitVec 32 := 1#32
  let arg12 : BitVec 32 := Scf.iv c0_i32_22 c1_i32_24 k0_t4
  let c256_i32 : BitVec 32 := 256#32
  let v66 : BitVec 32 := Scalar.muli arg12 c256_i32
  let v67 : BitVec 32 := v66
  let v68 : Index := Scalar.indexCast v67
  let c0_46 : Index := 0#32
  ![0, v68.toNat, 0]
@[reducible] def k0_t5_loop : Scf.Loop 32 :=
  let c0_i32_41 : BitVec 32 := 0#32
  let c31_i32_42 : BitVec 32 := 31#32
  let v65 : BitVec 32 := Scalar.addi c0_i32_41 c31_i32_42
  let c1_i32_43 : BitVec 32 := 1#32
  ⟨c0_i32_41, v65, c1_i32_43⟩
def k0_mult5 (k0_t5 : Fin k0_t5_loop.trips) : BitVec 32 :=
  let c0_i32_41 : BitVec 32 := 0#32
  let c1_i32_43 : BitVec 32 := 1#32
  let arg12 : BitVec 32 := Scf.iv c0_i32_41 c1_i32_43 k0_t5
  let c256_i32 : BitVec 32 := 256#32
  let v66 : BitVec 32 := Scalar.muli arg12 c256_i32
  v66
def k0_off7 (k0_t5 : Fin k0_t5_loop.trips) : Fin 3 → Nat :=
  let c0_45 : Index := 0#32
  let c0_i32_41 : BitVec 32 := 0#32
  let c1_i32_43 : BitVec 32 := 1#32
  let arg12 : BitVec 32 := Scf.iv c0_i32_41 c1_i32_43 k0_t5
  let c256_i32 : BitVec 32 := 256#32
  let v66 : BitVec 32 := Scalar.muli arg12 c256_i32
  let v67 : BitVec 32 := v66
  let v68 : Index := Scalar.indexCast v67
  let c0_46 : Index := 0#32
  ![0, v68.toNat, 0]
def k0_off8 (k0_t5 : Fin k0_t5_loop.trips) : Fin 5 → Nat :=
  let c0_51 : Index := 0#32
  let c0_52 : Index := 0#32
  let c0_i32_41 : BitVec 32 := 0#32
  let c1_i32_43 : BitVec 32 := 1#32
  let arg12 : BitVec 32 := Scf.iv c0_i32_41 c1_i32_43 k0_t5
  let v88 : Index := Scalar.indexCast arg12
  let c0_53 : Index := 0#32
  let c0_54 : Index := 0#32
  ![0, 0, v88.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x7936x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x7936x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x7936x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x31x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x7936x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x7936x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x31x128x256 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KVIdeal.lean ====
variable {F : FTy → Type} [FloatOps F] [Named F]
def κ : String → Option EReal := fun
  | "mean_over_keys" => some ((7936⁻¹ : ℝ) : EReal)
  | _ => none
-- ==== KVReferenceIdeal.lean ====
abbrev S2x7936x1024 : Shape := ⟨3, ![2, 7936, 1024]⟩
abbrev S2x8x31x4x128 : Shape := ⟨5, ![2, 8, 31, 4, 128]⟩
abbrev S2x8x1x128 : Shape := ⟨4, ![2, 8, 1, 128]⟩
abbrev S2x8x7936x128 : Shape := ⟨4, ![2, 8, 7936, 128]⟩
abbrev S2x8x31x128x256 : Shape := ⟨5, ![2, 8, 31, 128, 256]⟩
abbrev S2x7936x8x128 : Shape := ⟨4, ![2, 7936, 8, 128]⟩
abbrev S2x8x128 : Shape := ⟨3, ![2, 8, 128]⟩
abbrev S2x1x8x128 : Shape := ⟨4, ![2, 1, 8, 128]⟩
abbrev S2x124x64x8x128 : Shape := ⟨5, ![2, 124, 64, 8, 128]⟩
abbrev S2x124x8 : Shape := ⟨3, ![2, 124, 8]⟩
abbrev S2x124x1x8x1 : Shape := ⟨5, ![2, 124, 1, 8, 1]⟩
abbrev S255x2x124x1x8x1 : Shape := ⟨6, ![255, 2, 124, 1, 8, 1]⟩
abbrev S1x2x124x1x8x1 : Shape := ⟨6, ![1, 2, 124, 1, 8, 1]⟩
abbrev S2x31x4x8x1 : Shape := ⟨5, ![2, 31, 4, 8, 1]⟩
abbrev S2x8x31x4x1 : Shape := ⟨5, ![2, 8, 31, 4, 1]⟩
abbrev S255x2x1x8x128 : Shape := ⟨5, ![255, 2, 1, 8, 128]⟩
abbrev S1x2x1x8x128 : Shape := ⟨5, ![1, 2, 1, 8, 128]⟩
abbrev S2x31x256x8x128 : Shape := ⟨5, ![2, 31, 256, 8, 128]⟩

abbrev nBuf : Space → Nat
  | .hbm => 10
  | .vmem => 10
  | .smem => 0
  | _ => 0

abbrev bufTy : (tb : Table) → Fin (tcTables nBuf tb) → BufTy
  | .hbm, ⟨0, _⟩ => ⟨S2x7936x1024, .bf16⟩
  | .hbm, ⟨1, _⟩ => ⟨S2x7936x1024, .bf16⟩
  | .hbm, ⟨2, _⟩ => ⟨S2x7936x1024, .fp8e4m3⟩
  | .hbm, ⟨3, _⟩ => ⟨S2x8x31x4x128, .f32⟩
  | .hbm, ⟨4, _⟩ => ⟨S2x8x1x128, .bf16⟩
  | .hbm, ⟨5, _⟩ => ⟨S2x7936x1024, .fp8e4m3⟩
  | .hbm, ⟨6, _⟩ => ⟨S2x8x1x128, .f32⟩
  | .hbm, ⟨7, _⟩ => ⟨S2x8x1x128, .bf16⟩
  | .hbm, ⟨8, _⟩ => ⟨S2x8x7936x128, .bf16⟩
  | .hbm, ⟨9, _⟩ => ⟨S2x8x31x128x256, .fp8e4m3⟩
  | .local _ .vmem, ⟨0, _⟩ => ⟨S2x7936x1024, .bf16⟩
  | .local _ .vmem, ⟨1, _⟩ => ⟨S2x7936x1024, .bf16⟩
  | .local _ .vmem, ⟨2, _⟩ => ⟨S2x7936x1024, .fp8e4m3⟩
  | .local _ .vmem, ⟨3, _⟩ => ⟨S2x8x31x4x128, .f32⟩
  | .local _ .vmem, ⟨4, _⟩ => ⟨S2x8x1x128, .bf16⟩
  | .local _ .vmem, ⟨5, _⟩ => ⟨S2x7936x1024, .fp8e4m3⟩
  | .local _ .vmem, ⟨6, _⟩ => ⟨S2x8x1x128, .f32⟩
  | .local _ .vmem, ⟨7, _⟩ => ⟨S2x8x1x128, .bf16⟩
  | .local _ .vmem, ⟨8, _⟩ => ⟨S2x8x7936x128, .bf16⟩
  | .local _ .vmem, ⟨9, _⟩ => ⟨S2x8x31x128x256, .fp8e4m3⟩
  | _, _ => ⟨S2x7936x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v0_5 : Ref sig .tc := ⟨.hbm, 7, rfl⟩
abbrev main_v0_6 : Ref sig .tc := ⟨.hbm, 8, rfl⟩
abbrev main_v0_7 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S2x7936x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x7936x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x7936x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x31x4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8x1x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x7936x1024 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x8x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x8x1x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x8x7936x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x8x31x128x256 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.RunAKernel.lean ====
/- The body of the attention kernel, run once per case of its conditionals. -/
module

public import proofs.«01_k».proof.Proof.Gen.Kernel.Frame
public import proofs.«01_k».proof.Proof.Gen.Kernel.Loops

@[expose] public section

set_option maxRecDepth 16384

noncomputable section

namespace Cert.Kernel.Attn

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The first step of a head: the queries of block 0 are quantised and its diagonal scores stored. -/
@[irreducible] def runA (c : Dev nD) (i : grid0.Coords) (arg3 : Memref sig .tc .vmem S1x256x640 .bf16) (harg3 : arg3.IsWhole) (arg4 : Memref sig .tc .vmem S1x7936x128 .fp8e4m3) (harg4 : arg4.IsWhole) (arg5 : Memref sig .tc .vmem S1x1x7936x128 .bf16) (harg5 : arg5.IsWhole) (arg6 : Memref sig .tc .vmem S1x1x31x4x128 .f32) (harg6 : arg6.IsWhole) (arg7 : Memref sig .tc .vmem S1x1x31x128x256 .fp8e4m3) (harg7 : arg7.IsWhole) (arg8 : Memref sig .tc .vmem S1x1x1x128 .f32) (harg8 : arg8.IsWhole) (arg9 : Memref sig .tc .vmem S1x1x1x128 .bf16) (harg9 : arg9.IsWhole) (arg10 : Memref sig .tc .vmem S1x256x640 .bf16) (harg10 : arg10.IsWhole) (arg11 : Memref sig .tc .vmem S1x256x640 .fp8e4m3) (harg11 : arg11.IsWhole) (arg12 : Memref sig .tc .vmem S1x1x1x10x128 .f32) (harg12 : arg12.IsWhole) (arg13 : Memref sig .tc .vmem S1x2x1x5x128 .bf16) (harg13 : arg13.IsWhole) (arg14 : Memref sig .tc .vmem S31x5x256x256 .f32) (harg14 : arg14.IsWhole) (arg15 : Memref sig .tc .vmem S5x128x256 .fp8e4m3) (harg15 : arg15.IsWhole) (arg16 : Memref sig .tc .vmem S5x128x256 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x8x256 .f32) (harg19 : arg19.IsWhole) (arg20 : Memref sig .tc .vmem S5x1x256 .f32) (harg20 : arg20.IsWhole) (arg21 : Memref sig .tc .vmem S5x8x256 .f32) (harg21 : arg21.IsWhole) (arg22 : Memref sig .tc .vmem S5x128x256 .f32) (harg22 : arg22.IsWhole)
    (h1 : k0_cond1 i = 1#1) (h2 : ¬k0_cond2 i = 1#1) (h3 : ¬k0_cond3 i = 1#1) (h4 : k0_cond4 i = 1#1)
    (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) :
    Σ' (g10 : BufTy.Contents (Elt F) arg10.view.ty), Σ' (g11 : BufTy.Contents (Elt F) arg11.view.ty), Σ' (g12 : BufTy.Contents (Elt F) arg12.view.ty), Σ' (g13 : BufTy.Contents (Elt F) arg13.view.ty), Σ' (g14 : BufTy.Contents (Elt F) arg14.view.ty), Σ' (g15 : BufTy.Contents (Elt F) arg15.view.ty), Σ' (g16 : BufTy.Contents (Elt F) arg16.view.ty), Σ' (g17 : BufTy.Contents (Elt F) arg17.view.ty), Σ' (g18 : BufTy.Contents (Elt F) arg18.view.ty), Σ' (g19 : BufTy.Contents (Elt F) arg19.view.ty), Σ' (g20 : BufTy.Contents (Elt F) arg20.view.ty), Σ' (g21 : BufTy.Contents (Elt F) arg21.view.ty), { g22 : BufTy.Contents (Elt F) arg22.view.ty //
    ∀ (E : Set ℕ) (K : PUnit → sProp 𝕄),
      iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22)
        ∗ (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21) ∗ (arg22.view.loc (c : Thread nD τ) ↦[arg22.view.set]{fullShare} g22)) -∗ K ⟨⟩))
      ⊢ wp frame (wpE (defs₀ (F := F)) Variants.none c none) E (cc0_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, ?_, ?_, ?_, ?_, fun E K => ?run⟩
  case run =>
  simp only [cc0_attention_eq_skeleton]; unfold cc0_attention_skel
  iintro ⟨H3, H4, H5, H6, H7, H8, H9, H10, H11, H12, H13, H14, H15, H16, H17, H18, H19, H20, H21, H22, Hk⟩
  sl_exec
  sl_step
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

variable (c : Dev nD) (i : grid0.Coords) (arg3 : Memref sig .tc .vmem S1x256x640 .bf16) (harg3 : arg3.IsWhole) (arg4 : Memref sig .tc .vmem S1x7936x128 .fp8e4m3) (harg4 : arg4.IsWhole) (arg5 : Memref sig .tc .vmem S1x1x7936x128 .bf16) (harg5 : arg5.IsWhole) (arg6 : Memref sig .tc .vmem S1x1x31x4x128 .f32) (harg6 : arg6.IsWhole) (arg7 : Memref sig .tc .vmem S1x1x31x128x256 .fp8e4m3) (harg7 : arg7.IsWhole) (arg8 : Memref sig .tc .vmem S1x1x1x128 .f32) (harg8 : arg8.IsWhole) (arg9 : Memref sig .tc .vmem S1x1x1x128 .bf16) (harg9 : arg9.IsWhole) (arg10 : Memref sig .tc .vmem S1x256x640 .bf16) (harg10 : arg10.IsWhole) (arg11 : Memref sig .tc .vmem S1x256x640 .fp8e4m3) (harg11 : arg11.IsWhole) (arg12 : Memref sig .tc .vmem S1x1x1x10x128 .f32) (harg12 : arg12.IsWhole) (arg13 : Memref sig .tc .vmem S1x2x1x5x128 .bf16) (harg13 : arg13.IsWhole) (arg14 : Memref sig .tc .vmem S31x5x256x256 .f32) (harg14 : arg14.IsWhole) (arg15 : Memref sig .tc .vmem S5x128x256 .fp8e4m3) (harg15 : arg15.IsWhole) (arg16 : Memref sig .tc .vmem S5x128x256 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x8x256 .f32) (harg19 : arg19.IsWhole) (arg20 : Memref sig .tc .vmem S5x1x256 .f32) (harg20 : arg20.IsWhole) (arg21 : Memref sig .tc .vmem S5x8x256 .f32) (harg21 : arg21.IsWhole) (arg22 : Memref sig .tc .vmem S5x128x256 .f32) (harg22 : arg22.IsWhole)
  (h1 : k0_cond1 i = 1#1) (h2 : ¬k0_cond2 i = 1#1) (h3 : ¬k0_cond3 i = 1#1) (h4 : k0_cond4 i = 1#1)
  (x3 : Vec F S1x256x640 .bf16) (x4 : Vec F S1x7936x128 .fp8e4m3) (x5 : Vec F S1x1x7936x128 .bf16) (x6 : Vec F S1x1x31x4x128 .f32) (x7 : Vec F S1x1x31x128x256 .fp8e4m3) (x8 : Vec F S1x1x1x128 .f32) (x9 : Vec F S1x1x1x128 .bf16) (x10 : Vec F S1x256x640 .bf16) (x11 : Vec F S1x256x640 .fp8e4m3) (x12 : Vec F S1x1x1x10x128 .f32) (x13 : Vec F S1x2x1x5x128 .bf16) (x14 : Vec F S31x5x256x256 .f32) (x15 : Vec F S5x128x256 .fp8e4m3) (x16 : Vec F S5x128x256 .bf16) (x17 : Vec F S5x1x256 .f32) (x18 : Vec F S5x1x256 .f32) (x19 : Vec F S5x8x256 .f32) (x20 : Vec F S5x1x256 .f32) (x21 : Vec F S5x8x256 .f32) (x22 : Vec F S5x128x256 .f32)

/-- What the step leaves in `arg10`. -/
@[irreducible] def leftA10 : Vec F S1x256x640 .bf16 :=
  arg10.view.read (Elt F) (runA (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).1

/-- What the step leaves in `arg11`. -/
@[irreducible] def leftA11 : Vec F S1x256x640 .fp8e4m3 :=
  arg11.view.read (Elt F) (runA (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.1

/-- What the step leaves in `arg12`. -/
@[irreducible] def leftA12 : Vec F S1x1x1x10x128 .f32 :=
  arg12.view.read (Elt F) (runA (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.1

/-- What the step leaves in `arg13`. -/
@[irreducible] def leftA13 : Vec F S1x2x1x5x128 .bf16 :=
  arg13.view.read (Elt F) (runA (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.1

/-- What the step leaves in `arg14`. -/
@[irreducible] def leftA14 : Vec F S31x5x256x256 .f32 :=
  arg14.view.read (Elt F) (runA (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.1

/-- What the step leaves in `arg15`. -/
@[irreducible] def leftA15 : Vec F S5x128x256 .fp8e4m3 :=
  arg15.view.read (Elt F) (runA (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.1

/-- What the step leaves in `arg16`. -/
@[irreducible] def leftA16 : Vec F S5x128x256 .bf16 :=
  arg16.view.read (Elt F) (runA (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.1

/-- What the step leaves in `arg17`. -/
@[irreducible] def leftA17 : Vec F S5x1x256 .f32 :=
  arg17.view.read (Elt F) (runA (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.1

/-- What the step leaves in `arg18`. -/
@[irreducible] def leftA18 : Vec F S5x1x256 .f32 :=
  arg18.view.read (Elt F) (runA (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.2.1

/-- What the step leaves in `arg19`. -/
@[irreducible] def leftA19 : Vec F S5x8x256 .f32 :=
  arg19.view.read (Elt F) (runA (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.2.2.1

/-- What the step leaves in `arg20`. -/
@[irreducible] def leftA20 : Vec F S5x1x256 .f32 :=
  arg20.view.read (Elt F) (runA (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.2.2.2.1

/-- What the step leaves in `arg21`. -/
@[irreducible] def leftA21 : Vec F S5x8x256 .f32 :=
  arg21.view.read (Elt F) (runA (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.2.2.2.2.1

/-- What the step leaves in `arg22`. -/
@[irreducible] def leftA22 : Vec F S5x128x256 .f32 :=
  arg22.view.read (Elt F) (runA (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.2.2.2.2.2.1

set_option maxHeartbeats 4000000 in
/-- The step from whole memrefs at contents `x…` to the same memrefs at `leftA…`. -/
theorem specA :
    ∀ (E : Set ℕ) (K : PUnit → sProp 𝕄),
      iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (leftA10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg11 fullShare (leftA11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg12 fullShare (leftA12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg13 fullShare (leftA13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg14 fullShare (leftA14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg15 fullShare (leftA15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg16 fullShare (leftA16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg17 fullShare (leftA17 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg18 fullShare (leftA18 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg19 fullShare (leftA19 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg20 fullShare (leftA20 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg21 fullShare (leftA21 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg22 fullShare (leftA22 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22)) -∗ K ⟨⟩))
      ⊢ wp frame (wpE (defs₀ (F := F)) Variants.none c none) E (cc0_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  intro E K
  unfold owns
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, Hk⟩
  obtain rfl := harg3.eq_unread e3; obtain rfl := harg4.eq_unread e4; obtain rfl := harg5.eq_unread e5; obtain rfl := harg6.eq_unread e6; obtain rfl := harg7.eq_unread e7; obtain rfl := harg8.eq_unread e8; obtain rfl := harg9.eq_unread e9; obtain rfl := harg10.eq_unread e10; obtain rfl := harg11.eq_unread e11; obtain rfl := harg12.eq_unread e12; obtain rfl := harg13.eq_unread e13; obtain rfl := harg14.eq_unread e14; obtain rfl := harg15.eq_unread e15; obtain rfl := harg16.eq_unread e16; obtain rfl := harg17.eq_unread e17; obtain rfl := harg18.eq_unread e18; obtain rfl := harg19.eq_unread e19; obtain rfl := harg20.eq_unread e20; obtain rfl := harg21.eq_unread e21; obtain rfl := harg22.eq_unread e22
  iapply ((runA (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.2.2.2.2.2.2 E K)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iintro ⟨H3, H4, H5, H6, H7, H8, H9, H10, H11, H12, H13, H14, H15, H16, H17, H18, H19, H20, H21, H22⟩
  iapply Hk
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; unfold leftA10; rfl
  isplitl [H11]
  · iexists _; isplitr; swap; · iexact H11
    ipureintro; unfold leftA11; rfl
  isplitl [H12]
  · iexists _; isplitr; swap; · iexact H12
    ipureintro; unfold leftA12; rfl
  isplitl [H13]
  · iexists _; isplitr; swap; · iexact H13
    ipureintro; unfold leftA13; rfl
  isplitl [H14]
  · iexists _; isplitr; swap; · iexact H14
    ipureintro; unfold leftA14; rfl
  isplitl [H15]
  · iexists _; isplitr; swap; · iexact H15
    ipureintro; unfold leftA15; rfl
  isplitl [H16]
  · iexists _; isplitr; swap; · iexact H16
    ipureintro; unfold leftA16; rfl
  isplitl [H17]
  · iexists _; isplitr; swap; · iexact H17
    ipureintro; unfold leftA17; rfl
  isplitl [H18]
  · iexists _; isplitr; swap; · iexact H18
    ipureintro; unfold leftA18; rfl
  isplitl [H19]
  · iexists _; isplitr; swap; · iexact H19
    ipureintro; unfold leftA19; rfl
  isplitl [H20]
  · iexists _; isplitr; swap; · iexact H20
    ipureintro; unfold leftA20; rfl
  isplitl [H21]
  · iexists _; isplitr; swap; · iexact H21
    ipureintro; unfold leftA21; rfl
  iexists _; isplitr; swap; · iexact H22
  ipureintro; unfold leftA22; rfl

end Cert.Kernel.Attn

end
-- ==== Proof.RunBKernel.lean ====
/- The body of the attention kernel, run once per case of its conditionals. -/
module

public import proofs.«01_k».proof.Proof.Gen.Kernel.Frame
public import proofs.«01_k».proof.Proof.Gen.Kernel.Loops

@[expose] public section

set_option maxRecDepth 16384

noncomputable section

namespace Cert.Kernel.Attn

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- A middle step: block `s - 1` is weighed and written while block `s` is quantised and scored. -/
@[irreducible] def runB (c : Dev nD) (i : grid0.Coords) (arg3 : Memref sig .tc .vmem S1x256x640 .bf16) (harg3 : arg3.IsWhole) (arg4 : Memref sig .tc .vmem S1x7936x128 .fp8e4m3) (harg4 : arg4.IsWhole) (arg5 : Memref sig .tc .vmem S1x1x7936x128 .bf16) (harg5 : arg5.IsWhole) (arg6 : Memref sig .tc .vmem S1x1x31x4x128 .f32) (harg6 : arg6.IsWhole) (arg7 : Memref sig .tc .vmem S1x1x31x128x256 .fp8e4m3) (harg7 : arg7.IsWhole) (arg8 : Memref sig .tc .vmem S1x1x1x128 .f32) (harg8 : arg8.IsWhole) (arg9 : Memref sig .tc .vmem S1x1x1x128 .bf16) (harg9 : arg9.IsWhole) (arg10 : Memref sig .tc .vmem S1x256x640 .bf16) (harg10 : arg10.IsWhole) (arg11 : Memref sig .tc .vmem S1x256x640 .fp8e4m3) (harg11 : arg11.IsWhole) (arg12 : Memref sig .tc .vmem S1x1x1x10x128 .f32) (harg12 : arg12.IsWhole) (arg13 : Memref sig .tc .vmem S1x2x1x5x128 .bf16) (harg13 : arg13.IsWhole) (arg14 : Memref sig .tc .vmem S31x5x256x256 .f32) (harg14 : arg14.IsWhole) (arg15 : Memref sig .tc .vmem S5x128x256 .fp8e4m3) (harg15 : arg15.IsWhole) (arg16 : Memref sig .tc .vmem S5x128x256 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x8x256 .f32) (harg19 : arg19.IsWhole) (arg20 : Memref sig .tc .vmem S5x1x256 .f32) (harg20 : arg20.IsWhole) (arg21 : Memref sig .tc .vmem S5x8x256 .f32) (harg21 : arg21.IsWhole) (arg22 : Memref sig .tc .vmem S5x128x256 .f32) (harg22 : arg22.IsWhole)
    (h1 : k0_cond1 i = 1#1) (h2 : ¬k0_cond2 i = 1#1) (h3 : k0_cond3 i = 1#1) (h4 : k0_cond4 i = 1#1)
    (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) :
    Σ' (g10 : BufTy.Contents (Elt F) arg10.view.ty), Σ' (g11 : BufTy.Contents (Elt F) arg11.view.ty), Σ' (g12 : BufTy.Contents (Elt F) arg12.view.ty), Σ' (g13 : BufTy.Contents (Elt F) arg13.view.ty), Σ' (g14 : BufTy.Contents (Elt F) arg14.view.ty), Σ' (g15 : BufTy.Contents (Elt F) arg15.view.ty), Σ' (g16 : BufTy.Contents (Elt F) arg16.view.ty), Σ' (g17 : BufTy.Contents (Elt F) arg17.view.ty), Σ' (g18 : BufTy.Contents (Elt F) arg18.view.ty), Σ' (g19 : BufTy.Contents (Elt F) arg19.view.ty), Σ' (g20 : BufTy.Contents (Elt F) arg20.view.ty), Σ' (g21 : BufTy.Contents (Elt F) arg21.view.ty), { g22 : BufTy.Contents (Elt F) arg22.view.ty //
    ∀ (E : Set ℕ) (K : PUnit → sProp 𝕄),
      iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22)
        ∗ (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21) ∗ (arg22.view.loc (c : Thread nD τ) ↦[arg22.view.set]{fullShare} g22)) -∗ K ⟨⟩))
      ⊢ wp frame (wpE (defs₀ (F := F)) Variants.none c none) E (cc0_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, ?_, ?_, ?_, ?_, fun E K => ?run⟩
  case run =>
  simp only [cc0_attention_eq_skeleton]; unfold cc0_attention_skel
  iintro ⟨H3, H4, H5, H6, H7, H8, H9, H10, H11, H12, H13, H14, H15, H16, H17, H18, H19, H20, H21, H22, Hk⟩
  sl_exec
  sl_step
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

variable (c : Dev nD) (i : grid0.Coords) (arg3 : Memref sig .tc .vmem S1x256x640 .bf16) (harg3 : arg3.IsWhole) (arg4 : Memref sig .tc .vmem S1x7936x128 .fp8e4m3) (harg4 : arg4.IsWhole) (arg5 : Memref sig .tc .vmem S1x1x7936x128 .bf16) (harg5 : arg5.IsWhole) (arg6 : Memref sig .tc .vmem S1x1x31x4x128 .f32) (harg6 : arg6.IsWhole) (arg7 : Memref sig .tc .vmem S1x1x31x128x256 .fp8e4m3) (harg7 : arg7.IsWhole) (arg8 : Memref sig .tc .vmem S1x1x1x128 .f32) (harg8 : arg8.IsWhole) (arg9 : Memref sig .tc .vmem S1x1x1x128 .bf16) (harg9 : arg9.IsWhole) (arg10 : Memref sig .tc .vmem S1x256x640 .bf16) (harg10 : arg10.IsWhole) (arg11 : Memref sig .tc .vmem S1x256x640 .fp8e4m3) (harg11 : arg11.IsWhole) (arg12 : Memref sig .tc .vmem S1x1x1x10x128 .f32) (harg12 : arg12.IsWhole) (arg13 : Memref sig .tc .vmem S1x2x1x5x128 .bf16) (harg13 : arg13.IsWhole) (arg14 : Memref sig .tc .vmem S31x5x256x256 .f32) (harg14 : arg14.IsWhole) (arg15 : Memref sig .tc .vmem S5x128x256 .fp8e4m3) (harg15 : arg15.IsWhole) (arg16 : Memref sig .tc .vmem S5x128x256 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x8x256 .f32) (harg19 : arg19.IsWhole) (arg20 : Memref sig .tc .vmem S5x1x256 .f32) (harg20 : arg20.IsWhole) (arg21 : Memref sig .tc .vmem S5x8x256 .f32) (harg21 : arg21.IsWhole) (arg22 : Memref sig .tc .vmem S5x128x256 .f32) (harg22 : arg22.IsWhole)
  (h1 : k0_cond1 i = 1#1) (h2 : ¬k0_cond2 i = 1#1) (h3 : k0_cond3 i = 1#1) (h4 : k0_cond4 i = 1#1)
  (x3 : Vec F S1x256x640 .bf16) (x4 : Vec F S1x7936x128 .fp8e4m3) (x5 : Vec F S1x1x7936x128 .bf16) (x6 : Vec F S1x1x31x4x128 .f32) (x7 : Vec F S1x1x31x128x256 .fp8e4m3) (x8 : Vec F S1x1x1x128 .f32) (x9 : Vec F S1x1x1x128 .bf16) (x10 : Vec F S1x256x640 .bf16) (x11 : Vec F S1x256x640 .fp8e4m3) (x12 : Vec F S1x1x1x10x128 .f32) (x13 : Vec F S1x2x1x5x128 .bf16) (x14 : Vec F S31x5x256x256 .f32) (x15 : Vec F S5x128x256 .fp8e4m3) (x16 : Vec F S5x128x256 .bf16) (x17 : Vec F S5x1x256 .f32) (x18 : Vec F S5x1x256 .f32) (x19 : Vec F S5x8x256 .f32) (x20 : Vec F S5x1x256 .f32) (x21 : Vec F S5x8x256 .f32) (x22 : Vec F S5x128x256 .f32)

/-- What the step leaves in `arg10`. -/
@[irreducible] def leftB10 : Vec F S1x256x640 .bf16 :=
  arg10.view.read (Elt F) (runB (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).1

/-- What the step leaves in `arg11`. -/
@[irreducible] def leftB11 : Vec F S1x256x640 .fp8e4m3 :=
  arg11.view.read (Elt F) (runB (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.1

/-- What the step leaves in `arg12`. -/
@[irreducible] def leftB12 : Vec F S1x1x1x10x128 .f32 :=
  arg12.view.read (Elt F) (runB (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.1

/-- What the step leaves in `arg13`. -/
@[irreducible] def leftB13 : Vec F S1x2x1x5x128 .bf16 :=
  arg13.view.read (Elt F) (runB (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.1

/-- What the step leaves in `arg14`. -/
@[irreducible] def leftB14 : Vec F S31x5x256x256 .f32 :=
  arg14.view.read (Elt F) (runB (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.1

/-- What the step leaves in `arg15`. -/
@[irreducible] def leftB15 : Vec F S5x128x256 .fp8e4m3 :=
  arg15.view.read (Elt F) (runB (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.1

/-- What the step leaves in `arg16`. -/
@[irreducible] def leftB16 : Vec F S5x128x256 .bf16 :=
  arg16.view.read (Elt F) (runB (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.1

/-- What the step leaves in `arg17`. -/
@[irreducible] def leftB17 : Vec F S5x1x256 .f32 :=
  arg17.view.read (Elt F) (runB (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.1

/-- What the step leaves in `arg18`. -/
@[irreducible] def leftB18 : Vec F S5x1x256 .f32 :=
  arg18.view.read (Elt F) (runB (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.2.1

/-- What the step leaves in `arg19`. -/
@[irreducible] def leftB19 : Vec F S5x8x256 .f32 :=
  arg19.view.read (Elt F) (runB (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.2.2.1

/-- What the step leaves in `arg20`. -/
@[irreducible] def leftB20 : Vec F S5x1x256 .f32 :=
  arg20.view.read (Elt F) (runB (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.2.2.2.1

/-- What the step leaves in `arg21`. -/
@[irreducible] def leftB21 : Vec F S5x8x256 .f32 :=
  arg21.view.read (Elt F) (runB (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.2.2.2.2.1

/-- What the step leaves in `arg22`. -/
@[irreducible] def leftB22 : Vec F S5x128x256 .f32 :=
  arg22.view.read (Elt F) (runB (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.2.2.2.2.2.1

set_option maxHeartbeats 4000000 in
/-- The step from whole memrefs at contents `x…` to the same memrefs at `leftB…`. -/
theorem specB :
    ∀ (E : Set ℕ) (K : PUnit → sProp 𝕄),
      iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (leftB10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg11 fullShare (leftB11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg12 fullShare (leftB12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg13 fullShare (leftB13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg14 fullShare (leftB14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg15 fullShare (leftB15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg16 fullShare (leftB16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg17 fullShare (leftB17 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg18 fullShare (leftB18 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg19 fullShare (leftB19 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg20 fullShare (leftB20 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg21 fullShare (leftB21 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg22 fullShare (leftB22 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22)) -∗ K ⟨⟩))
      ⊢ wp frame (wpE (defs₀ (F := F)) Variants.none c none) E (cc0_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  intro E K
  unfold owns
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, Hk⟩
  obtain rfl := harg3.eq_unread e3; obtain rfl := harg4.eq_unread e4; obtain rfl := harg5.eq_unread e5; obtain rfl := harg6.eq_unread e6; obtain rfl := harg7.eq_unread e7; obtain rfl := harg8.eq_unread e8; obtain rfl := harg9.eq_unread e9; obtain rfl := harg10.eq_unread e10; obtain rfl := harg11.eq_unread e11; obtain rfl := harg12.eq_unread e12; obtain rfl := harg13.eq_unread e13; obtain rfl := harg14.eq_unread e14; obtain rfl := harg15.eq_unread e15; obtain rfl := harg16.eq_unread e16; obtain rfl := harg17.eq_unread e17; obtain rfl := harg18.eq_unread e18; obtain rfl := harg19.eq_unread e19; obtain rfl := harg20.eq_unread e20; obtain rfl := harg21.eq_unread e21; obtain rfl := harg22.eq_unread e22
  iapply ((runB (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.2.2.2.2.2.2 E K)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iintro ⟨H3, H4, H5, H6, H7, H8, H9, H10, H11, H12, H13, H14, H15, H16, H17, H18, H19, H20, H21, H22⟩
  iapply Hk
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; unfold leftB10; rfl
  isplitl [H11]
  · iexists _; isplitr; swap; · iexact H11
    ipureintro; unfold leftB11; rfl
  isplitl [H12]
  · iexists _; isplitr; swap; · iexact H12
    ipureintro; unfold leftB12; rfl
  isplitl [H13]
  · iexists _; isplitr; swap; · iexact H13
    ipureintro; unfold leftB13; rfl
  isplitl [H14]
  · iexists _; isplitr; swap; · iexact H14
    ipureintro; unfold leftB14; rfl
  isplitl [H15]
  · iexists _; isplitr; swap; · iexact H15
    ipureintro; unfold leftB15; rfl
  isplitl [H16]
  · iexists _; isplitr; swap; · iexact H16
    ipureintro; unfold leftB16; rfl
  isplitl [H17]
  · iexists _; isplitr; swap; · iexact H17
    ipureintro; unfold leftB17; rfl
  isplitl [H18]
  · iexists _; isplitr; swap; · iexact H18
    ipureintro; unfold leftB18; rfl
  isplitl [H19]
  · iexists _; isplitr; swap; · iexact H19
    ipureintro; unfold leftB19; rfl
  isplitl [H20]
  · iexists _; isplitr; swap; · iexact H20
    ipureintro; unfold leftB20; rfl
  isplitl [H21]
  · iexists _; isplitr; swap; · iexact H21
    ipureintro; unfold leftB21; rfl
  iexists _; isplitr; swap; · iexact H22
  ipureintro; unfold leftB22; rfl

end Cert.Kernel.Attn

end
-- ==== Proof.RunCKernel.lean ====
/- The body of the attention kernel, run once per case of its conditionals. -/
module

public import proofs.«01_k».proof.Proof.Gen.Kernel.Frame
public import proofs.«01_k».proof.Proof.Gen.Kernel.Loops

@[expose] public section

set_option maxRecDepth 16384

noncomputable section

namespace Cert.Kernel.Attn

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The last step of a head: the last block is weighed and written. -/
@[irreducible] def runC (c : Dev nD) (i : grid0.Coords) (arg3 : Memref sig .tc .vmem S1x256x640 .bf16) (harg3 : arg3.IsWhole) (arg4 : Memref sig .tc .vmem S1x7936x128 .fp8e4m3) (harg4 : arg4.IsWhole) (arg5 : Memref sig .tc .vmem S1x1x7936x128 .bf16) (harg5 : arg5.IsWhole) (arg6 : Memref sig .tc .vmem S1x1x31x4x128 .f32) (harg6 : arg6.IsWhole) (arg7 : Memref sig .tc .vmem S1x1x31x128x256 .fp8e4m3) (harg7 : arg7.IsWhole) (arg8 : Memref sig .tc .vmem S1x1x1x128 .f32) (harg8 : arg8.IsWhole) (arg9 : Memref sig .tc .vmem S1x1x1x128 .bf16) (harg9 : arg9.IsWhole) (arg10 : Memref sig .tc .vmem S1x256x640 .bf16) (harg10 : arg10.IsWhole) (arg11 : Memref sig .tc .vmem S1x256x640 .fp8e4m3) (harg11 : arg11.IsWhole) (arg12 : Memref sig .tc .vmem S1x1x1x10x128 .f32) (harg12 : arg12.IsWhole) (arg13 : Memref sig .tc .vmem S1x2x1x5x128 .bf16) (harg13 : arg13.IsWhole) (arg14 : Memref sig .tc .vmem S31x5x256x256 .f32) (harg14 : arg14.IsWhole) (arg15 : Memref sig .tc .vmem S5x128x256 .fp8e4m3) (harg15 : arg15.IsWhole) (arg16 : Memref sig .tc .vmem S5x128x256 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x8x256 .f32) (harg19 : arg19.IsWhole) (arg20 : Memref sig .tc .vmem S5x1x256 .f32) (harg20 : arg20.IsWhole) (arg21 : Memref sig .tc .vmem S5x8x256 .f32) (harg21 : arg21.IsWhole) (arg22 : Memref sig .tc .vmem S5x128x256 .f32) (harg22 : arg22.IsWhole)
    (h1 : ¬k0_cond1 i = 1#1) (h2 : k0_cond2 i = 1#1) (h3 : k0_cond3 i = 1#1) (h4 : ¬k0_cond4 i = 1#1)
    (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) :
    Σ' (g10 : BufTy.Contents (Elt F) arg10.view.ty), Σ' (g11 : BufTy.Contents (Elt F) arg11.view.ty), Σ' (g12 : BufTy.Contents (Elt F) arg12.view.ty), Σ' (g13 : BufTy.Contents (Elt F) arg13.view.ty), Σ' (g14 : BufTy.Contents (Elt F) arg14.view.ty), Σ' (g15 : BufTy.Contents (Elt F) arg15.view.ty), Σ' (g16 : BufTy.Contents (Elt F) arg16.view.ty), Σ' (g17 : BufTy.Contents (Elt F) arg17.view.ty), Σ' (g18 : BufTy.Contents (Elt F) arg18.view.ty), Σ' (g19 : BufTy.Contents (Elt F) arg19.view.ty), Σ' (g20 : BufTy.Contents (Elt F) arg20.view.ty), Σ' (g21 : BufTy.Contents (Elt F) arg21.view.ty), { g22 : BufTy.Contents (Elt F) arg22.view.ty //
    ∀ (E : Set ℕ) (K : PUnit → sProp 𝕄),
      iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22)
        ∗ (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21) ∗ (arg22.view.loc (c : Thread nD τ) ↦[arg22.view.set]{fullShare} g22)) -∗ K ⟨⟩))
      ⊢ wp frame (wpE (defs₀ (F := F)) Variants.none c none) E (cc0_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, ?_, ?_, ?_, ?_, fun E K => ?run⟩
  case run =>
  simp only [cc0_attention_eq_skeleton]; unfold cc0_attention_skel
  iintro ⟨H3, H4, H5, H6, H7, H8, H9, H10, H11, H12, H13, H14, H15, H16, H17, H18, H19, H20, H21, H22, Hk⟩
  sl_exec
  sl_step
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

variable (c : Dev nD) (i : grid0.Coords) (arg3 : Memref sig .tc .vmem S1x256x640 .bf16) (harg3 : arg3.IsWhole) (arg4 : Memref sig .tc .vmem S1x7936x128 .fp8e4m3) (harg4 : arg4.IsWhole) (arg5 : Memref sig .tc .vmem S1x1x7936x128 .bf16) (harg5 : arg5.IsWhole) (arg6 : Memref sig .tc .vmem S1x1x31x4x128 .f32) (harg6 : arg6.IsWhole) (arg7 : Memref sig .tc .vmem S1x1x31x128x256 .fp8e4m3) (harg7 : arg7.IsWhole) (arg8 : Memref sig .tc .vmem S1x1x1x128 .f32) (harg8 : arg8.IsWhole) (arg9 : Memref sig .tc .vmem S1x1x1x128 .bf16) (harg9 : arg9.IsWhole) (arg10 : Memref sig .tc .vmem S1x256x640 .bf16) (harg10 : arg10.IsWhole) (arg11 : Memref sig .tc .vmem S1x256x640 .fp8e4m3) (harg11 : arg11.IsWhole) (arg12 : Memref sig .tc .vmem S1x1x1x10x128 .f32) (harg12 : arg12.IsWhole) (arg13 : Memref sig .tc .vmem S1x2x1x5x128 .bf16) (harg13 : arg13.IsWhole) (arg14 : Memref sig .tc .vmem S31x5x256x256 .f32) (harg14 : arg14.IsWhole) (arg15 : Memref sig .tc .vmem S5x128x256 .fp8e4m3) (harg15 : arg15.IsWhole) (arg16 : Memref sig .tc .vmem S5x128x256 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x8x256 .f32) (harg19 : arg19.IsWhole) (arg20 : Memref sig .tc .vmem S5x1x256 .f32) (harg20 : arg20.IsWhole) (arg21 : Memref sig .tc .vmem S5x8x256 .f32) (harg21 : arg21.IsWhole) (arg22 : Memref sig .tc .vmem S5x128x256 .f32) (harg22 : arg22.IsWhole)
  (h1 : ¬k0_cond1 i = 1#1) (h2 : k0_cond2 i = 1#1) (h3 : k0_cond3 i = 1#1) (h4 : ¬k0_cond4 i = 1#1)
  (x3 : Vec F S1x256x640 .bf16) (x4 : Vec F S1x7936x128 .fp8e4m3) (x5 : Vec F S1x1x7936x128 .bf16) (x6 : Vec F S1x1x31x4x128 .f32) (x7 : Vec F S1x1x31x128x256 .fp8e4m3) (x8 : Vec F S1x1x1x128 .f32) (x9 : Vec F S1x1x1x128 .bf16) (x10 : Vec F S1x256x640 .bf16) (x11 : Vec F S1x256x640 .fp8e4m3) (x12 : Vec F S1x1x1x10x128 .f32) (x13 : Vec F S1x2x1x5x128 .bf16) (x14 : Vec F S31x5x256x256 .f32) (x15 : Vec F S5x128x256 .fp8e4m3) (x16 : Vec F S5x128x256 .bf16) (x17 : Vec F S5x1x256 .f32) (x18 : Vec F S5x1x256 .f32) (x19 : Vec F S5x8x256 .f32) (x20 : Vec F S5x1x256 .f32) (x21 : Vec F S5x8x256 .f32) (x22 : Vec F S5x128x256 .f32)

/-- What the step leaves in `arg10`. -/
@[irreducible] def leftC10 : Vec F S1x256x640 .bf16 :=
  arg10.view.read (Elt F) (runC (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).1

/-- What the step leaves in `arg11`. -/
@[irreducible] def leftC11 : Vec F S1x256x640 .fp8e4m3 :=
  arg11.view.read (Elt F) (runC (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.1

/-- What the step leaves in `arg12`. -/
@[irreducible] def leftC12 : Vec F S1x1x1x10x128 .f32 :=
  arg12.view.read (Elt F) (runC (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.1

/-- What the step leaves in `arg13`. -/
@[irreducible] def leftC13 : Vec F S1x2x1x5x128 .bf16 :=
  arg13.view.read (Elt F) (runC (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.1

/-- What the step leaves in `arg14`. -/
@[irreducible] def leftC14 : Vec F S31x5x256x256 .f32 :=
  arg14.view.read (Elt F) (runC (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.1

/-- What the step leaves in `arg15`. -/
@[irreducible] def leftC15 : Vec F S5x128x256 .fp8e4m3 :=
  arg15.view.read (Elt F) (runC (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.1

/-- What the step leaves in `arg16`. -/
@[irreducible] def leftC16 : Vec F S5x128x256 .bf16 :=
  arg16.view.read (Elt F) (runC (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.1

/-- What the step leaves in `arg17`. -/
@[irreducible] def leftC17 : Vec F S5x1x256 .f32 :=
  arg17.view.read (Elt F) (runC (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.1

/-- What the step leaves in `arg18`. -/
@[irreducible] def leftC18 : Vec F S5x1x256 .f32 :=
  arg18.view.read (Elt F) (runC (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.2.1

/-- What the step leaves in `arg19`. -/
@[irreducible] def leftC19 : Vec F S5x8x256 .f32 :=
  arg19.view.read (Elt F) (runC (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.2.2.1

/-- What the step leaves in `arg20`. -/
@[irreducible] def leftC20 : Vec F S5x1x256 .f32 :=
  arg20.view.read (Elt F) (runC (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.2.2.2.1

/-- What the step leaves in `arg21`. -/
@[irreducible] def leftC21 : Vec F S5x8x256 .f32 :=
  arg21.view.read (Elt F) (runC (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.2.2.2.2.1

/-- What the step leaves in `arg22`. -/
@[irreducible] def leftC22 : Vec F S5x128x256 .f32 :=
  arg22.view.read (Elt F) (runC (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.2.2.2.2.2.1

set_option maxHeartbeats 4000000 in
/-- The step from whole memrefs at contents `x…` to the same memrefs at `leftC…`. -/
theorem specC :
    ∀ (E : Set ℕ) (K : PUnit → sProp 𝕄),
      iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (leftC10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg11 fullShare (leftC11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg12 fullShare (leftC12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg13 fullShare (leftC13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg14 fullShare (leftC14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg15 fullShare (leftC15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg16 fullShare (leftC16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg17 fullShare (leftC17 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg18 fullShare (leftC18 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg19 fullShare (leftC19 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg20 fullShare (leftC20 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg21 fullShare (leftC21 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg22 fullShare (leftC22 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22)) -∗ K ⟨⟩))
      ⊢ wp frame (wpE (defs₀ (F := F)) Variants.none c none) E (cc0_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  intro E K
  unfold owns
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, Hk⟩
  obtain rfl := harg3.eq_unread e3; obtain rfl := harg4.eq_unread e4; obtain rfl := harg5.eq_unread e5; obtain rfl := harg6.eq_unread e6; obtain rfl := harg7.eq_unread e7; obtain rfl := harg8.eq_unread e8; obtain rfl := harg9.eq_unread e9; obtain rfl := harg10.eq_unread e10; obtain rfl := harg11.eq_unread e11; obtain rfl := harg12.eq_unread e12; obtain rfl := harg13.eq_unread e13; obtain rfl := harg14.eq_unread e14; obtain rfl := harg15.eq_unread e15; obtain rfl := harg16.eq_unread e16; obtain rfl := harg17.eq_unread e17; obtain rfl := harg18.eq_unread e18; obtain rfl := harg19.eq_unread e19; obtain rfl := harg20.eq_unread e20; obtain rfl := harg21.eq_unread e21; obtain rfl := harg22.eq_unread e22
  iapply ((runC (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.2.2.2.2.2.2 E K)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iintro ⟨H3, H4, H5, H6, H7, H8, H9, H10, H11, H12, H13, H14, H15, H16, H17, H18, H19, H20, H21, H22⟩
  iapply Hk
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; unfold leftC10; rfl
  isplitl [H11]
  · iexists _; isplitr; swap; · iexact H11
    ipureintro; unfold leftC11; rfl
  isplitl [H12]
  · iexists _; isplitr; swap; · iexact H12
    ipureintro; unfold leftC12; rfl
  isplitl [H13]
  · iexists _; isplitr; swap; · iexact H13
    ipureintro; unfold leftC13; rfl
  isplitl [H14]
  · iexists _; isplitr; swap; · iexact H14
    ipureintro; unfold leftC14; rfl
  isplitl [H15]
  · iexists _; isplitr; swap; · iexact H15
    ipureintro; unfold leftC15; rfl
  isplitl [H16]
  · iexists _; isplitr; swap; · iexact H16
    ipureintro; unfold leftC16; rfl
  isplitl [H17]
  · iexists _; isplitr; swap; · iexact H17
    ipureintro; unfold leftC17; rfl
  isplitl [H18]
  · iexists _; isplitr; swap; · iexact H18
    ipureintro; unfold leftC18; rfl
  isplitl [H19]
  · iexists _; isplitr; swap; · iexact H19
    ipureintro; unfold leftC19; rfl
  isplitl [H20]
  · iexists _; isplitr; swap; · iexact H20
    ipureintro; unfold leftC20; rfl
  isplitl [H21]
  · iexists _; isplitr; swap; · iexact H21
    ipureintro; unfold leftC21; rfl
  iexists _; isplitr; swap; · iexact H22
  ipureintro; unfold leftC22; rfl

end Cert.Kernel.Attn

end
-- ==== Proof.FrameKernel.lean ====
/- The frame of the attention kernel: its outputs and scratch forgotten, its argument arrays unchanged. -/
module

public import proofs.«01_k».proof.Proof.Gen.Kernel.Frame
public import proofs.«01_k».proof.Proof.RunAKernel
public import proofs.«01_k».proof.Proof.RunBKernel
public import proofs.«01_k».proof.Proof.RunCKernel

@[expose] public section

set_option maxRecDepth 16384

noncomputable section

namespace Cert.Kernel.Attn

open Cert.Kernel.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditionals by the point -/

theorem cond_1 : ∀ t : Fin cfg0.N, k0_cond1 (grid0.coords t) = 1#1 ↔ t.val % 32 < 31 := (by decide +kernel : ∀ t : Fin grid0.N, _)
theorem cond_2 : ∀ t : Fin cfg0.N, k0_cond2 (grid0.coords t) = 1#1 ↔ t.val % 32 = 31 := (by decide +kernel : ∀ t : Fin grid0.N, _)
theorem cond_3 : ∀ t : Fin cfg0.N, k0_cond3 (grid0.coords t) = 1#1 ↔ 0 < t.val % 32 := (by decide +kernel : ∀ t : Fin grid0.N, _)
theorem cond_4 : ∀ t : Fin cfg0.N, k0_cond4 (grid0.coords t) = 1#1 ↔ t.val % 32 < 31 := (by decide +kernel : ∀ t : Fin grid0.N, _)

/-! ## The staging memrefs at a point -/

abbrev ms0 (t : Fin cfg0.N) : Memref sig .tc .vmem S1x256x640 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x7936x128 .fp8e4m3 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x7936x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x31x4x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x31x128x256 .fp8e4m3 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x1x128 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x256x640 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x256x640 .fp8e4m3 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x1x1x10x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x2x1x5x128 .bf16 := win0_10.stage (cfg0.slots t 10)
abbrev hs10 (t : Fin cfg0.N) : (ms10 t).IsWhole := hstage0_10 ((cfg0.slots t 10).cast nbuf0_10)

/-! ## The proof data: outputs forgotten, scratch at any contents -/

/-- The output windows forgotten. -/
def forgets : Fin 11 → Bool := fun w => w.val == 7 || w.val == 8 || w.val == 9 || w.val == 10

/-- The arrays as launched; after the body the inputs at their blocks; nothing said of outputs and scratch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare d)
    ∗ (∃ d, owns (c : Thread nD τ) (ms8 t) fullShare d)
    ∗ (∃ d, owns (c : Thread nD τ) (ms9 t) fullShare d)
    ∗ (∃ d, owns (c : Thread nD τ) (ms10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ (∃ d, owns (c : Thread nD τ) (ms7 t) fullShare d)
    ∗ (∃ d, owns (c : Thread nD τ) (ms8 t) fullShare d)
    ∗ (∃ d, owns (c : Thread nD τ) (ms9 t) fullShare d)
    ∗ (∃ d, owns (c : Thread nD τ) (ms10 t) fullShare d))

set_option maxHeartbeats 1600000 in
theorem bodyA (c : Dev nD) (t : Fin cfg0.N) (h1 : k0_cond1 (grid0.coords t) = 1#1) (h2 : ¬k0_cond2 (grid0.coords t) = 1#1) (h3 : ¬k0_cond3 (grid0.coords t) = 1#1) (h4 : k0_cond4 (grid0.coords t) = 1#1) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl,
    after_0, after_1, after_2, after_3, after_4, after_5, after_6]
  unfold Pipeline.ΦA
  rw [scopedRest0_eq]
  simp only [← owns_whole]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (specA (F := F) c (grid0.coords t) _ _ _ _ _ _ _ _ _ _ _ _ _ _ _ _ _ _ _ _ _ _ _ _ _ _ _ _ _ _ _ _ _ _ _ _ _ _ _ _ h1 h2 h3 h4 (iblk m c 0 t) (iblk m c 1 t) (iblk m c 2 t) (iblk m c 3 t) (iblk m c 4 t) (iblk m c 5 t) (iblk m c 6 t) d7 d8 d9 d10 s0 s1 s2 s3 s4 s5 s6 s7 s8 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iintro ⟨H0, H1, H2, H3, H4, H5, H6, H7, H8, H9, H10, S0, S1, S2, S3, S4, S5, S6, S7, S8⟩
  isplitl [S0 S1 S2 S3 S4 S5 S6 S7 S8 Hp]
  · isplitr [Hp]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      isplitl [S7]; · iexists _; iexact S7
      iexists _; iexact S8
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iexists _; iexact H10

set_option maxHeartbeats 1600000 in
theorem bodyB (c : Dev nD) (t : Fin cfg0.N) (h1 : k0_cond1 (grid0.coords t) = 1#1) (h2 : ¬k0_cond2 (grid0.coords t) = 1#1) (h3 : k0_cond3 (grid0.coords t) = 1#1) (h4 : k0_cond4 (grid0.coords t) = 1#1) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl,
    after_0, after_1, after_2, after_3, after_4, after_5, after_6]
  unfold Pipeline.ΦA
  rw [scopedRest0_eq]
  simp only [← owns_whole]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (specB (F := F) c (grid0.coords t) _ _ _ _ _ _ _ _ _ _ _ _ _ _ _ _ _ _ _ _ _ _ _ _ _ _ _ _ _ _ _ _ _ _ _ _ _ _ _ _ h1 h2 h3 h4 (iblk m c 0 t) (iblk m c 1 t) (iblk m c 2 t) (iblk m c 3 t) (iblk m c 4 t) (iblk m c 5 t) (iblk m c 6 t) d7 d8 d9 d10 s0 s1 s2 s3 s4 s5 s6 s7 s8 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iintro ⟨H0, H1, H2, H3, H4, H5, H6, H7, H8, H9, H10, S0, S1, S2, S3, S4, S5, S6, S7, S8⟩
  isplitl [S0 S1 S2 S3 S4 S5 S6 S7 S8 Hp]
  · isplitr [Hp]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      isplitl [S7]; · iexists _; iexact S7
      iexists _; iexact S8
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iexists _; iexact H10

set_option maxHeartbeats 1600000 in
theorem bodyC (c : Dev nD) (t : Fin cfg0.N) (h1 : ¬k0_cond1 (grid0.coords t) = 1#1) (h2 : k0_cond2 (grid0.coords t) = 1#1) (h3 : k0_cond3 (grid0.coords t) = 1#1) (h4 : ¬k0_cond4 (grid0.coords t) = 1#1) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl,
    after_0, after_1, after_2, after_3, after_4, after_5, after_6]
  unfold Pipeline.ΦA
  rw [scopedRest0_eq]
  simp only [← owns_whole]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (specC (F := F) c (grid0.coords t) _ _ _ _ _ _ _ _ _ _ _ _ _ _ _ _ _ _ _ _ _ _ _ _ _ _ _ _ _ _ _ _ _ _ _ _ _ _ _ _ h1 h2 h3 h4 (iblk m c 0 t) (iblk m c 1 t) (iblk m c 2 t) (iblk m c 3 t) (iblk m c 4 t) (iblk m c 5 t) (iblk m c 6 t) d7 d8 d9 d10 s0 s1 s2 s3 s4 s5 s6 s7 s8 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iintro ⟨H0, H1, H2, H3, H4, H5, H6, H7, H8, H9, H10, S0, S1, S2, S3, S4, S5, S6, S7, S8⟩
  isplitl [S0 S1 S2 S3 S4 S5 S6 S7 S8 Hp]
  · isplitr [Hp]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      isplitl [S7]; · iexists _; iexact S7
      iexists _; iexact S8
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iexists _; iexact H10

theorem sound_body (c : Dev nD) (t : Fin cfg0.N) :
    bodyPre m c t ⊢ wp frame (wpE (defs₀ (F := F)) Variants.none c none) Set.univ (bodyAt0 t) (fun _ => bodyPost m c t) := by
  have l : t.val % 32 < 32 := Nat.mod_lt _ (by decide)
  by_cases z : t.val % 32 = 0
  · exact bodyA m c t ((cond_1 t).mpr (by omega)) (fun h => by have := (cond_2 t).mp h; omega) (fun h => by have := (cond_3 t).mp h; omega) ((cond_4 t).mpr (by omega))
  by_cases y : t.val % 32 = 31
  · exact bodyC m c t (fun h => by have := (cond_1 t).mp h; omega) ((cond_2 t).mpr y) ((cond_3 t).mpr (by omega)) (fun h => by have := (cond_4 t).mp h; omega)
  · exact bodyB m c t ((cond_1 t).mpr (by omega)) (fun h => by have := (cond_2 t).mp h; omega) ((cond_3 t).mpr (by omega)) ((cond_4 t).mpr (by omega))

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run defs _ _).mono (fun r h => ⟨fun c => ?_, h.2⟩) (run_main_quiescent m ρ)
  exact ⟨(Pipeline.RDat.FramePost.arr_in h.1 c 0 rfl).trans ((A_eq m c 0).trans (V_main_arg0 m c)), (Pipeline.RDat.FramePost.arr_in h.1 c 1 rfl).trans ((A_eq m c 1).trans (V_main_arg1 m c)), (Pipeline.RDat.FramePost.arr_in h.1 c 2 rfl).trans ((A_eq m c 2).trans (V_main_arg2 m c)), (Pipeline.RDat.FramePost.arr_in h.1 c 3 rfl).trans ((A_eq m c 3).trans (V_main_arg3 m c)), (Pipeline.RDat.FramePost.arr_in h.1 c 4 rfl).trans ((A_eq m c 4).trans (V_main_arg4 m c)), (Pipeline.RDat.FramePost.arr_in h.1 c 5 rfl).trans ((A_eq m c 5).trans (V_main_arg5 m c)), (Pipeline.RDat.FramePost.arr_in h.1 c 6 rfl).trans ((A_eq m c 6).trans (V_main_arg6 m c))⟩

end Cert.Kernel.Attn

end
-- ==== Proof.RunAKernelIdeal.lean ====
/- The body of the attention kernel, run once per case of its conditionals. -/
module

public import proofs.«01_k».proof.Proof.Gen.KernelIdeal.Frame
public import proofs.«01_k».proof.Proof.Gen.KernelIdeal.Loops

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The first step of a head: the queries of block 0 are quantised and its diagonal scores stored. -/
@[irreducible] def runA (c : Dev nD) (i : grid0.Coords) (arg3 : Memref sig .tc .vmem S1x256x640 .bf16) (harg3 : arg3.IsWhole) (arg4 : Memref sig .tc .vmem S1x7936x128 .fp8e4m3) (harg4 : arg4.IsWhole) (arg5 : Memref sig .tc .vmem S1x1x7936x128 .bf16) (harg5 : arg5.IsWhole) (arg6 : Memref sig .tc .vmem S1x1x31x4x128 .f32) (harg6 : arg6.IsWhole) (arg7 : Memref sig .tc .vmem S1x1x31x128x256 .fp8e4m3) (harg7 : arg7.IsWhole) (arg8 : Memref sig .tc .vmem S1x1x1x128 .f32) (harg8 : arg8.IsWhole) (arg9 : Memref sig .tc .vmem S1x1x1x128 .bf16) (harg9 : arg9.IsWhole) (arg10 : Memref sig .tc .vmem S1x256x640 .bf16) (harg10 : arg10.IsWhole) (arg11 : Memref sig .tc .vmem S1x256x640 .fp8e4m3) (harg11 : arg11.IsWhole) (arg12 : Memref sig .tc .vmem S1x1x1x10x128 .f32) (harg12 : arg12.IsWhole) (arg13 : Memref sig .tc .vmem S1x2x1x5x128 .bf16) (harg13 : arg13.IsWhole) (arg14 : Memref sig .tc .vmem S31x5x256x256 .f32) (harg14 : arg14.IsWhole) (arg15 : Memref sig .tc .vmem S5x128x256 .fp8e4m3) (harg15 : arg15.IsWhole) (arg16 : Memref sig .tc .vmem S5x128x256 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x8x256 .f32) (harg19 : arg19.IsWhole) (arg20 : Memref sig .tc .vmem S5x1x256 .f32) (harg20 : arg20.IsWhole) (arg21 : Memref sig .tc .vmem S5x8x256 .f32) (harg21 : arg21.IsWhole) (arg22 : Memref sig .tc .vmem S5x128x256 .f32) (harg22 : arg22.IsWhole)
    (h1 : k0_cond1 i = 1#1) (h2 : ¬k0_cond2 i = 1#1) (h3 : ¬k0_cond3 i = 1#1) (h4 : k0_cond4 i = 1#1)
    (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) :
    Σ' (g10 : BufTy.Contents (Elt F) arg10.view.ty), Σ' (g11 : BufTy.Contents (Elt F) arg11.view.ty), Σ' (g12 : BufTy.Contents (Elt F) arg12.view.ty), Σ' (g13 : BufTy.Contents (Elt F) arg13.view.ty), Σ' (g14 : BufTy.Contents (Elt F) arg14.view.ty), Σ' (g15 : BufTy.Contents (Elt F) arg15.view.ty), Σ' (g16 : BufTy.Contents (Elt F) arg16.view.ty), Σ' (g17 : BufTy.Contents (Elt F) arg17.view.ty), Σ' (g18 : BufTy.Contents (Elt F) arg18.view.ty), Σ' (g19 : BufTy.Contents (Elt F) arg19.view.ty), Σ' (g20 : BufTy.Contents (Elt F) arg20.view.ty), Σ' (g21 : BufTy.Contents (Elt F) arg21.view.ty), { g22 : BufTy.Contents (Elt F) arg22.view.ty //
    ∀ (E : Set ℕ) (K : PUnit → sProp 𝕄),
      iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22)
        ∗ (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21) ∗ (arg22.view.loc (c : Thread nD τ) ↦[arg22.view.set]{fullShare} g22)) -∗ K ⟨⟩))
      ⊢ wp frame (wpE (defs₀ (F := F)) Variants.none c none) E (cc0_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, ?_, ?_, ?_, ?_, fun E K => ?run⟩
  case run =>
  simp only [cc0_attention_eq_skeleton]; unfold cc0_attention_skel
  iintro ⟨H3, H4, H5, H6, H7, H8, H9, H10, H11, H12, H13, H14, H15, H16, H17, H18, H19, H20, H21, H22, Hk⟩
  sl_exec
  sl_step
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

variable (c : Dev nD) (i : grid0.Coords) (arg3 : Memref sig .tc .vmem S1x256x640 .bf16) (harg3 : arg3.IsWhole) (arg4 : Memref sig .tc .vmem S1x7936x128 .fp8e4m3) (harg4 : arg4.IsWhole) (arg5 : Memref sig .tc .vmem S1x1x7936x128 .bf16) (harg5 : arg5.IsWhole) (arg6 : Memref sig .tc .vmem S1x1x31x4x128 .f32) (harg6 : arg6.IsWhole) (arg7 : Memref sig .tc .vmem S1x1x31x128x256 .fp8e4m3) (harg7 : arg7.IsWhole) (arg8 : Memref sig .tc .vmem S1x1x1x128 .f32) (harg8 : arg8.IsWhole) (arg9 : Memref sig .tc .vmem S1x1x1x128 .bf16) (harg9 : arg9.IsWhole) (arg10 : Memref sig .tc .vmem S1x256x640 .bf16) (harg10 : arg10.IsWhole) (arg11 : Memref sig .tc .vmem S1x256x640 .fp8e4m3) (harg11 : arg11.IsWhole) (arg12 : Memref sig .tc .vmem S1x1x1x10x128 .f32) (harg12 : arg12.IsWhole) (arg13 : Memref sig .tc .vmem S1x2x1x5x128 .bf16) (harg13 : arg13.IsWhole) (arg14 : Memref sig .tc .vmem S31x5x256x256 .f32) (harg14 : arg14.IsWhole) (arg15 : Memref sig .tc .vmem S5x128x256 .fp8e4m3) (harg15 : arg15.IsWhole) (arg16 : Memref sig .tc .vmem S5x128x256 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x8x256 .f32) (harg19 : arg19.IsWhole) (arg20 : Memref sig .tc .vmem S5x1x256 .f32) (harg20 : arg20.IsWhole) (arg21 : Memref sig .tc .vmem S5x8x256 .f32) (harg21 : arg21.IsWhole) (arg22 : Memref sig .tc .vmem S5x128x256 .f32) (harg22 : arg22.IsWhole)
  (h1 : k0_cond1 i = 1#1) (h2 : ¬k0_cond2 i = 1#1) (h3 : ¬k0_cond3 i = 1#1) (h4 : k0_cond4 i = 1#1)
  (x3 : Vec F S1x256x640 .bf16) (x4 : Vec F S1x7936x128 .fp8e4m3) (x5 : Vec F S1x1x7936x128 .bf16) (x6 : Vec F S1x1x31x4x128 .f32) (x7 : Vec F S1x1x31x128x256 .fp8e4m3) (x8 : Vec F S1x1x1x128 .f32) (x9 : Vec F S1x1x1x128 .bf16) (x10 : Vec F S1x256x640 .bf16) (x11 : Vec F S1x256x640 .fp8e4m3) (x12 : Vec F S1x1x1x10x128 .f32) (x13 : Vec F S1x2x1x5x128 .bf16) (x14 : Vec F S31x5x256x256 .f32) (x15 : Vec F S5x128x256 .fp8e4m3) (x16 : Vec F S5x128x256 .bf16) (x17 : Vec F S5x1x256 .f32) (x18 : Vec F S5x1x256 .f32) (x19 : Vec F S5x8x256 .f32) (x20 : Vec F S5x1x256 .f32) (x21 : Vec F S5x8x256 .f32) (x22 : Vec F S5x128x256 .f32)

/-- What the step leaves in `arg10`. -/
@[irreducible] def leftA10 : Vec F S1x256x640 .bf16 :=
  arg10.view.read (Elt F) (runA (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).1

/-- What the step leaves in `arg11`. -/
@[irreducible] def leftA11 : Vec F S1x256x640 .fp8e4m3 :=
  arg11.view.read (Elt F) (runA (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.1

/-- What the step leaves in `arg12`. -/
@[irreducible] def leftA12 : Vec F S1x1x1x10x128 .f32 :=
  arg12.view.read (Elt F) (runA (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.1

/-- What the step leaves in `arg13`. -/
@[irreducible] def leftA13 : Vec F S1x2x1x5x128 .bf16 :=
  arg13.view.read (Elt F) (runA (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.1

/-- What the step leaves in `arg14`. -/
@[irreducible] def leftA14 : Vec F S31x5x256x256 .f32 :=
  arg14.view.read (Elt F) (runA (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.1

/-- What the step leaves in `arg15`. -/
@[irreducible] def leftA15 : Vec F S5x128x256 .fp8e4m3 :=
  arg15.view.read (Elt F) (runA (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.1

/-- What the step leaves in `arg16`. -/
@[irreducible] def leftA16 : Vec F S5x128x256 .bf16 :=
  arg16.view.read (Elt F) (runA (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.1

/-- What the step leaves in `arg17`. -/
@[irreducible] def leftA17 : Vec F S5x1x256 .f32 :=
  arg17.view.read (Elt F) (runA (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.1

/-- What the step leaves in `arg18`. -/
@[irreducible] def leftA18 : Vec F S5x1x256 .f32 :=
  arg18.view.read (Elt F) (runA (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.2.1

/-- What the step leaves in `arg19`. -/
@[irreducible] def leftA19 : Vec F S5x8x256 .f32 :=
  arg19.view.read (Elt F) (runA (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.2.2.1

/-- What the step leaves in `arg20`. -/
@[irreducible] def leftA20 : Vec F S5x1x256 .f32 :=
  arg20.view.read (Elt F) (runA (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.2.2.2.1

/-- What the step leaves in `arg21`. -/
@[irreducible] def leftA21 : Vec F S5x8x256 .f32 :=
  arg21.view.read (Elt F) (runA (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.2.2.2.2.1

/-- What the step leaves in `arg22`. -/
@[irreducible] def leftA22 : Vec F S5x128x256 .f32 :=
  arg22.view.read (Elt F) (runA (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.2.2.2.2.2.1

set_option maxHeartbeats 4000000 in
/-- The step from whole memrefs at contents `x…` to the same memrefs at `leftA…`. -/
theorem specA :
    ∀ (E : Set ℕ) (K : PUnit → sProp 𝕄),
      iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (leftA10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg11 fullShare (leftA11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg12 fullShare (leftA12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg13 fullShare (leftA13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg14 fullShare (leftA14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg15 fullShare (leftA15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg16 fullShare (leftA16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg17 fullShare (leftA17 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg18 fullShare (leftA18 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg19 fullShare (leftA19 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg20 fullShare (leftA20 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg21 fullShare (leftA21 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg22 fullShare (leftA22 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22)) -∗ K ⟨⟩))
      ⊢ wp frame (wpE (defs₀ (F := F)) Variants.none c none) E (cc0_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  intro E K
  unfold owns
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, Hk⟩
  obtain rfl := harg3.eq_unread e3; obtain rfl := harg4.eq_unread e4; obtain rfl := harg5.eq_unread e5; obtain rfl := harg6.eq_unread e6; obtain rfl := harg7.eq_unread e7; obtain rfl := harg8.eq_unread e8; obtain rfl := harg9.eq_unread e9; obtain rfl := harg10.eq_unread e10; obtain rfl := harg11.eq_unread e11; obtain rfl := harg12.eq_unread e12; obtain rfl := harg13.eq_unread e13; obtain rfl := harg14.eq_unread e14; obtain rfl := harg15.eq_unread e15; obtain rfl := harg16.eq_unread e16; obtain rfl := harg17.eq_unread e17; obtain rfl := harg18.eq_unread e18; obtain rfl := harg19.eq_unread e19; obtain rfl := harg20.eq_unread e20; obtain rfl := harg21.eq_unread e21; obtain rfl := harg22.eq_unread e22
  iapply ((runA (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.2.2.2.2.2.2 E K)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iintro ⟨H3, H4, H5, H6, H7, H8, H9, H10, H11, H12, H13, H14, H15, H16, H17, H18, H19, H20, H21, H22⟩
  iapply Hk
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; unfold leftA10; rfl
  isplitl [H11]
  · iexists _; isplitr; swap; · iexact H11
    ipureintro; unfold leftA11; rfl
  isplitl [H12]
  · iexists _; isplitr; swap; · iexact H12
    ipureintro; unfold leftA12; rfl
  isplitl [H13]
  · iexists _; isplitr; swap; · iexact H13
    ipureintro; unfold leftA13; rfl
  isplitl [H14]
  · iexists _; isplitr; swap; · iexact H14
    ipureintro; unfold leftA14; rfl
  isplitl [H15]
  · iexists _; isplitr; swap; · iexact H15
    ipureintro; unfold leftA15; rfl
  isplitl [H16]
  · iexists _; isplitr; swap; · iexact H16
    ipureintro; unfold leftA16; rfl
  isplitl [H17]
  · iexists _; isplitr; swap; · iexact H17
    ipureintro; unfold leftA17; rfl
  isplitl [H18]
  · iexists _; isplitr; swap; · iexact H18
    ipureintro; unfold leftA18; rfl
  isplitl [H19]
  · iexists _; isplitr; swap; · iexact H19
    ipureintro; unfold leftA19; rfl
  isplitl [H20]
  · iexists _; isplitr; swap; · iexact H20
    ipureintro; unfold leftA20; rfl
  isplitl [H21]
  · iexists _; isplitr; swap; · iexact H21
    ipureintro; unfold leftA21; rfl
  iexists _; isplitr; swap; · iexact H22
  ipureintro; unfold leftA22; rfl

end Cert.KernelIdeal.Attn

end
-- ==== Proof.RunBKernelIdeal.lean ====
/- The body of the attention kernel, run once per case of its conditionals. -/
module

public import proofs.«01_k».proof.Proof.Gen.KernelIdeal.Frame
public import proofs.«01_k».proof.Proof.Gen.KernelIdeal.Loops

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- A middle step: block `s - 1` is weighed and written while block `s` is quantised and scored. -/
@[irreducible] def runB (c : Dev nD) (i : grid0.Coords) (arg3 : Memref sig .tc .vmem S1x256x640 .bf16) (harg3 : arg3.IsWhole) (arg4 : Memref sig .tc .vmem S1x7936x128 .fp8e4m3) (harg4 : arg4.IsWhole) (arg5 : Memref sig .tc .vmem S1x1x7936x128 .bf16) (harg5 : arg5.IsWhole) (arg6 : Memref sig .tc .vmem S1x1x31x4x128 .f32) (harg6 : arg6.IsWhole) (arg7 : Memref sig .tc .vmem S1x1x31x128x256 .fp8e4m3) (harg7 : arg7.IsWhole) (arg8 : Memref sig .tc .vmem S1x1x1x128 .f32) (harg8 : arg8.IsWhole) (arg9 : Memref sig .tc .vmem S1x1x1x128 .bf16) (harg9 : arg9.IsWhole) (arg10 : Memref sig .tc .vmem S1x256x640 .bf16) (harg10 : arg10.IsWhole) (arg11 : Memref sig .tc .vmem S1x256x640 .fp8e4m3) (harg11 : arg11.IsWhole) (arg12 : Memref sig .tc .vmem S1x1x1x10x128 .f32) (harg12 : arg12.IsWhole) (arg13 : Memref sig .tc .vmem S1x2x1x5x128 .bf16) (harg13 : arg13.IsWhole) (arg14 : Memref sig .tc .vmem S31x5x256x256 .f32) (harg14 : arg14.IsWhole) (arg15 : Memref sig .tc .vmem S5x128x256 .fp8e4m3) (harg15 : arg15.IsWhole) (arg16 : Memref sig .tc .vmem S5x128x256 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x8x256 .f32) (harg19 : arg19.IsWhole) (arg20 : Memref sig .tc .vmem S5x1x256 .f32) (harg20 : arg20.IsWhole) (arg21 : Memref sig .tc .vmem S5x8x256 .f32) (harg21 : arg21.IsWhole) (arg22 : Memref sig .tc .vmem S5x128x256 .f32) (harg22 : arg22.IsWhole)
    (h1 : k0_cond1 i = 1#1) (h2 : ¬k0_cond2 i = 1#1) (h3 : k0_cond3 i = 1#1) (h4 : k0_cond4 i = 1#1)
    (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) :
    Σ' (g10 : BufTy.Contents (Elt F) arg10.view.ty), Σ' (g11 : BufTy.Contents (Elt F) arg11.view.ty), Σ' (g12 : BufTy.Contents (Elt F) arg12.view.ty), Σ' (g13 : BufTy.Contents (Elt F) arg13.view.ty), Σ' (g14 : BufTy.Contents (Elt F) arg14.view.ty), Σ' (g15 : BufTy.Contents (Elt F) arg15.view.ty), Σ' (g16 : BufTy.Contents (Elt F) arg16.view.ty), Σ' (g17 : BufTy.Contents (Elt F) arg17.view.ty), Σ' (g18 : BufTy.Contents (Elt F) arg18.view.ty), Σ' (g19 : BufTy.Contents (Elt F) arg19.view.ty), Σ' (g20 : BufTy.Contents (Elt F) arg20.view.ty), Σ' (g21 : BufTy.Contents (Elt F) arg21.view.ty), { g22 : BufTy.Contents (Elt F) arg22.view.ty //
    ∀ (E : Set ℕ) (K : PUnit → sProp 𝕄),
      iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22)
        ∗ (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21) ∗ (arg22.view.loc (c : Thread nD τ) ↦[arg22.view.set]{fullShare} g22)) -∗ K ⟨⟩))
      ⊢ wp frame (wpE (defs₀ (F := F)) Variants.none c none) E (cc0_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, ?_, ?_, ?_, ?_, fun E K => ?run⟩
  case run =>
  simp only [cc0_attention_eq_skeleton]; unfold cc0_attention_skel
  iintro ⟨H3, H4, H5, H6, H7, H8, H9, H10, H11, H12, H13, H14, H15, H16, H17, H18, H19, H20, H21, H22, Hk⟩
  sl_exec
  sl_step
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

variable (c : Dev nD) (i : grid0.Coords) (arg3 : Memref sig .tc .vmem S1x256x640 .bf16) (harg3 : arg3.IsWhole) (arg4 : Memref sig .tc .vmem S1x7936x128 .fp8e4m3) (harg4 : arg4.IsWhole) (arg5 : Memref sig .tc .vmem S1x1x7936x128 .bf16) (harg5 : arg5.IsWhole) (arg6 : Memref sig .tc .vmem S1x1x31x4x128 .f32) (harg6 : arg6.IsWhole) (arg7 : Memref sig .tc .vmem S1x1x31x128x256 .fp8e4m3) (harg7 : arg7.IsWhole) (arg8 : Memref sig .tc .vmem S1x1x1x128 .f32) (harg8 : arg8.IsWhole) (arg9 : Memref sig .tc .vmem S1x1x1x128 .bf16) (harg9 : arg9.IsWhole) (arg10 : Memref sig .tc .vmem S1x256x640 .bf16) (harg10 : arg10.IsWhole) (arg11 : Memref sig .tc .vmem S1x256x640 .fp8e4m3) (harg11 : arg11.IsWhole) (arg12 : Memref sig .tc .vmem S1x1x1x10x128 .f32) (harg12 : arg12.IsWhole) (arg13 : Memref sig .tc .vmem S1x2x1x5x128 .bf16) (harg13 : arg13.IsWhole) (arg14 : Memref sig .tc .vmem S31x5x256x256 .f32) (harg14 : arg14.IsWhole) (arg15 : Memref sig .tc .vmem S5x128x256 .fp8e4m3) (harg15 : arg15.IsWhole) (arg16 : Memref sig .tc .vmem S5x128x256 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x8x256 .f32) (harg19 : arg19.IsWhole) (arg20 : Memref sig .tc .vmem S5x1x256 .f32) (harg20 : arg20.IsWhole) (arg21 : Memref sig .tc .vmem S5x8x256 .f32) (harg21 : arg21.IsWhole) (arg22 : Memref sig .tc .vmem S5x128x256 .f32) (harg22 : arg22.IsWhole)
  (h1 : k0_cond1 i = 1#1) (h2 : ¬k0_cond2 i = 1#1) (h3 : k0_cond3 i = 1#1) (h4 : k0_cond4 i = 1#1)
  (x3 : Vec F S1x256x640 .bf16) (x4 : Vec F S1x7936x128 .fp8e4m3) (x5 : Vec F S1x1x7936x128 .bf16) (x6 : Vec F S1x1x31x4x128 .f32) (x7 : Vec F S1x1x31x128x256 .fp8e4m3) (x8 : Vec F S1x1x1x128 .f32) (x9 : Vec F S1x1x1x128 .bf16) (x10 : Vec F S1x256x640 .bf16) (x11 : Vec F S1x256x640 .fp8e4m3) (x12 : Vec F S1x1x1x10x128 .f32) (x13 : Vec F S1x2x1x5x128 .bf16) (x14 : Vec F S31x5x256x256 .f32) (x15 : Vec F S5x128x256 .fp8e4m3) (x16 : Vec F S5x128x256 .bf16) (x17 : Vec F S5x1x256 .f32) (x18 : Vec F S5x1x256 .f32) (x19 : Vec F S5x8x256 .f32) (x20 : Vec F S5x1x256 .f32) (x21 : Vec F S5x8x256 .f32) (x22 : Vec F S5x128x256 .f32)

/-- What the step leaves in `arg10`. -/
@[irreducible] def leftB10 : Vec F S1x256x640 .bf16 :=
  arg10.view.read (Elt F) (runB (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).1

/-- What the step leaves in `arg11`. -/
@[irreducible] def leftB11 : Vec F S1x256x640 .fp8e4m3 :=
  arg11.view.read (Elt F) (runB (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.1

/-- What the step leaves in `arg12`. -/
@[irreducible] def leftB12 : Vec F S1x1x1x10x128 .f32 :=
  arg12.view.read (Elt F) (runB (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.1

/-- What the step leaves in `arg13`. -/
@[irreducible] def leftB13 : Vec F S1x2x1x5x128 .bf16 :=
  arg13.view.read (Elt F) (runB (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.1

/-- What the step leaves in `arg14`. -/
@[irreducible] def leftB14 : Vec F S31x5x256x256 .f32 :=
  arg14.view.read (Elt F) (runB (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.1

/-- What the step leaves in `arg15`. -/
@[irreducible] def leftB15 : Vec F S5x128x256 .fp8e4m3 :=
  arg15.view.read (Elt F) (runB (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.1

/-- What the step leaves in `arg16`. -/
@[irreducible] def leftB16 : Vec F S5x128x256 .bf16 :=
  arg16.view.read (Elt F) (runB (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.1

/-- What the step leaves in `arg17`. -/
@[irreducible] def leftB17 : Vec F S5x1x256 .f32 :=
  arg17.view.read (Elt F) (runB (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.1

/-- What the step leaves in `arg18`. -/
@[irreducible] def leftB18 : Vec F S5x1x256 .f32 :=
  arg18.view.read (Elt F) (runB (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.2.1

/-- What the step leaves in `arg19`. -/
@[irreducible] def leftB19 : Vec F S5x8x256 .f32 :=
  arg19.view.read (Elt F) (runB (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.2.2.1

/-- What the step leaves in `arg20`. -/
@[irreducible] def leftB20 : Vec F S5x1x256 .f32 :=
  arg20.view.read (Elt F) (runB (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.2.2.2.1

/-- What the step leaves in `arg21`. -/
@[irreducible] def leftB21 : Vec F S5x8x256 .f32 :=
  arg21.view.read (Elt F) (runB (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.2.2.2.2.1

/-- What the step leaves in `arg22`. -/
@[irreducible] def leftB22 : Vec F S5x128x256 .f32 :=
  arg22.view.read (Elt F) (runB (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.2.2.2.2.2.1

set_option maxHeartbeats 4000000 in
/-- The step from whole memrefs at contents `x…` to the same memrefs at `leftB…`. -/
theorem specB :
    ∀ (E : Set ℕ) (K : PUnit → sProp 𝕄),
      iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (leftB10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg11 fullShare (leftB11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg12 fullShare (leftB12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg13 fullShare (leftB13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg14 fullShare (leftB14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg15 fullShare (leftB15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg16 fullShare (leftB16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg17 fullShare (leftB17 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg18 fullShare (leftB18 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg19 fullShare (leftB19 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg20 fullShare (leftB20 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg21 fullShare (leftB21 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg22 fullShare (leftB22 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22)) -∗ K ⟨⟩))
      ⊢ wp frame (wpE (defs₀ (F := F)) Variants.none c none) E (cc0_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  intro E K
  unfold owns
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, Hk⟩
  obtain rfl := harg3.eq_unread e3; obtain rfl := harg4.eq_unread e4; obtain rfl := harg5.eq_unread e5; obtain rfl := harg6.eq_unread e6; obtain rfl := harg7.eq_unread e7; obtain rfl := harg8.eq_unread e8; obtain rfl := harg9.eq_unread e9; obtain rfl := harg10.eq_unread e10; obtain rfl := harg11.eq_unread e11; obtain rfl := harg12.eq_unread e12; obtain rfl := harg13.eq_unread e13; obtain rfl := harg14.eq_unread e14; obtain rfl := harg15.eq_unread e15; obtain rfl := harg16.eq_unread e16; obtain rfl := harg17.eq_unread e17; obtain rfl := harg18.eq_unread e18; obtain rfl := harg19.eq_unread e19; obtain rfl := harg20.eq_unread e20; obtain rfl := harg21.eq_unread e21; obtain rfl := harg22.eq_unread e22
  iapply ((runB (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.2.2.2.2.2.2 E K)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iintro ⟨H3, H4, H5, H6, H7, H8, H9, H10, H11, H12, H13, H14, H15, H16, H17, H18, H19, H20, H21, H22⟩
  iapply Hk
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; unfold leftB10; rfl
  isplitl [H11]
  · iexists _; isplitr; swap; · iexact H11
    ipureintro; unfold leftB11; rfl
  isplitl [H12]
  · iexists _; isplitr; swap; · iexact H12
    ipureintro; unfold leftB12; rfl
  isplitl [H13]
  · iexists _; isplitr; swap; · iexact H13
    ipureintro; unfold leftB13; rfl
  isplitl [H14]
  · iexists _; isplitr; swap; · iexact H14
    ipureintro; unfold leftB14; rfl
  isplitl [H15]
  · iexists _; isplitr; swap; · iexact H15
    ipureintro; unfold leftB15; rfl
  isplitl [H16]
  · iexists _; isplitr; swap; · iexact H16
    ipureintro; unfold leftB16; rfl
  isplitl [H17]
  · iexists _; isplitr; swap; · iexact H17
    ipureintro; unfold leftB17; rfl
  isplitl [H18]
  · iexists _; isplitr; swap; · iexact H18
    ipureintro; unfold leftB18; rfl
  isplitl [H19]
  · iexists _; isplitr; swap; · iexact H19
    ipureintro; unfold leftB19; rfl
  isplitl [H20]
  · iexists _; isplitr; swap; · iexact H20
    ipureintro; unfold leftB20; rfl
  isplitl [H21]
  · iexists _; isplitr; swap; · iexact H21
    ipureintro; unfold leftB21; rfl
  iexists _; isplitr; swap; · iexact H22
  ipureintro; unfold leftB22; rfl

end Cert.KernelIdeal.Attn

end
-- ==== Proof.RunCKernelIdeal.lean ====
/- The body of the attention kernel, run once per case of its conditionals. -/
module

public import proofs.«01_k».proof.Proof.Gen.KernelIdeal.Frame
public import proofs.«01_k».proof.Proof.Gen.KernelIdeal.Loops

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The last step of a head: the last block is weighed and written. -/
@[irreducible] def runC (c : Dev nD) (i : grid0.Coords) (arg3 : Memref sig .tc .vmem S1x256x640 .bf16) (harg3 : arg3.IsWhole) (arg4 : Memref sig .tc .vmem S1x7936x128 .fp8e4m3) (harg4 : arg4.IsWhole) (arg5 : Memref sig .tc .vmem S1x1x7936x128 .bf16) (harg5 : arg5.IsWhole) (arg6 : Memref sig .tc .vmem S1x1x31x4x128 .f32) (harg6 : arg6.IsWhole) (arg7 : Memref sig .tc .vmem S1x1x31x128x256 .fp8e4m3) (harg7 : arg7.IsWhole) (arg8 : Memref sig .tc .vmem S1x1x1x128 .f32) (harg8 : arg8.IsWhole) (arg9 : Memref sig .tc .vmem S1x1x1x128 .bf16) (harg9 : arg9.IsWhole) (arg10 : Memref sig .tc .vmem S1x256x640 .bf16) (harg10 : arg10.IsWhole) (arg11 : Memref sig .tc .vmem S1x256x640 .fp8e4m3) (harg11 : arg11.IsWhole) (arg12 : Memref sig .tc .vmem S1x1x1x10x128 .f32) (harg12 : arg12.IsWhole) (arg13 : Memref sig .tc .vmem S1x2x1x5x128 .bf16) (harg13 : arg13.IsWhole) (arg14 : Memref sig .tc .vmem S31x5x256x256 .f32) (harg14 : arg14.IsWhole) (arg15 : Memref sig .tc .vmem S5x128x256 .fp8e4m3) (harg15 : arg15.IsWhole) (arg16 : Memref sig .tc .vmem S5x128x256 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x8x256 .f32) (harg19 : arg19.IsWhole) (arg20 : Memref sig .tc .vmem S5x1x256 .f32) (harg20 : arg20.IsWhole) (arg21 : Memref sig .tc .vmem S5x8x256 .f32) (harg21 : arg21.IsWhole) (arg22 : Memref sig .tc .vmem S5x128x256 .f32) (harg22 : arg22.IsWhole)
    (h1 : ¬k0_cond1 i = 1#1) (h2 : k0_cond2 i = 1#1) (h3 : k0_cond3 i = 1#1) (h4 : ¬k0_cond4 i = 1#1)
    (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) :
    Σ' (g10 : BufTy.Contents (Elt F) arg10.view.ty), Σ' (g11 : BufTy.Contents (Elt F) arg11.view.ty), Σ' (g12 : BufTy.Contents (Elt F) arg12.view.ty), Σ' (g13 : BufTy.Contents (Elt F) arg13.view.ty), Σ' (g14 : BufTy.Contents (Elt F) arg14.view.ty), Σ' (g15 : BufTy.Contents (Elt F) arg15.view.ty), Σ' (g16 : BufTy.Contents (Elt F) arg16.view.ty), Σ' (g17 : BufTy.Contents (Elt F) arg17.view.ty), Σ' (g18 : BufTy.Contents (Elt F) arg18.view.ty), Σ' (g19 : BufTy.Contents (Elt F) arg19.view.ty), Σ' (g20 : BufTy.Contents (Elt F) arg20.view.ty), Σ' (g21 : BufTy.Contents (Elt F) arg21.view.ty), { g22 : BufTy.Contents (Elt F) arg22.view.ty //
    ∀ (E : Set ℕ) (K : PUnit → sProp 𝕄),
      iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22)
        ∗ (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21) ∗ (arg22.view.loc (c : Thread nD τ) ↦[arg22.view.set]{fullShare} g22)) -∗ K ⟨⟩))
      ⊢ wp frame (wpE (defs₀ (F := F)) Variants.none c none) E (cc0_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, ?_, ?_, ?_, ?_, fun E K => ?run⟩
  case run =>
  simp only [cc0_attention_eq_skeleton]; unfold cc0_attention_skel
  iintro ⟨H3, H4, H5, H6, H7, H8, H9, H10, H11, H12, H13, H14, H15, H16, H17, H18, H19, H20, H21, H22, Hk⟩
  sl_exec
  sl_step
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

variable (c : Dev nD) (i : grid0.Coords) (arg3 : Memref sig .tc .vmem S1x256x640 .bf16) (harg3 : arg3.IsWhole) (arg4 : Memref sig .tc .vmem S1x7936x128 .fp8e4m3) (harg4 : arg4.IsWhole) (arg5 : Memref sig .tc .vmem S1x1x7936x128 .bf16) (harg5 : arg5.IsWhole) (arg6 : Memref sig .tc .vmem S1x1x31x4x128 .f32) (harg6 : arg6.IsWhole) (arg7 : Memref sig .tc .vmem S1x1x31x128x256 .fp8e4m3) (harg7 : arg7.IsWhole) (arg8 : Memref sig .tc .vmem S1x1x1x128 .f32) (harg8 : arg8.IsWhole) (arg9 : Memref sig .tc .vmem S1x1x1x128 .bf16) (harg9 : arg9.IsWhole) (arg10 : Memref sig .tc .vmem S1x256x640 .bf16) (harg10 : arg10.IsWhole) (arg11 : Memref sig .tc .vmem S1x256x640 .fp8e4m3) (harg11 : arg11.IsWhole) (arg12 : Memref sig .tc .vmem S1x1x1x10x128 .f32) (harg12 : arg12.IsWhole) (arg13 : Memref sig .tc .vmem S1x2x1x5x128 .bf16) (harg13 : arg13.IsWhole) (arg14 : Memref sig .tc .vmem S31x5x256x256 .f32) (harg14 : arg14.IsWhole) (arg15 : Memref sig .tc .vmem S5x128x256 .fp8e4m3) (harg15 : arg15.IsWhole) (arg16 : Memref sig .tc .vmem S5x128x256 .bf16) (harg16 : arg16.IsWhole) (arg17 : Memref sig .tc .vmem S5x1x256 .f32) (harg17 : arg17.IsWhole) (arg18 : Memref sig .tc .vmem S5x1x256 .f32) (harg18 : arg18.IsWhole) (arg19 : Memref sig .tc .vmem S5x8x256 .f32) (harg19 : arg19.IsWhole) (arg20 : Memref sig .tc .vmem S5x1x256 .f32) (harg20 : arg20.IsWhole) (arg21 : Memref sig .tc .vmem S5x8x256 .f32) (harg21 : arg21.IsWhole) (arg22 : Memref sig .tc .vmem S5x128x256 .f32) (harg22 : arg22.IsWhole)
  (h1 : ¬k0_cond1 i = 1#1) (h2 : k0_cond2 i = 1#1) (h3 : k0_cond3 i = 1#1) (h4 : ¬k0_cond4 i = 1#1)
  (x3 : Vec F S1x256x640 .bf16) (x4 : Vec F S1x7936x128 .fp8e4m3) (x5 : Vec F S1x1x7936x128 .bf16) (x6 : Vec F S1x1x31x4x128 .f32) (x7 : Vec F S1x1x31x128x256 .fp8e4m3) (x8 : Vec F S1x1x1x128 .f32) (x9 : Vec F S1x1x1x128 .bf16) (x10 : Vec F S1x256x640 .bf16) (x11 : Vec F S1x256x640 .fp8e4m3) (x12 : Vec F S1x1x1x10x128 .f32) (x13 : Vec F S1x2x1x5x128 .bf16) (x14 : Vec F S31x5x256x256 .f32) (x15 : Vec F S5x128x256 .fp8e4m3) (x16 : Vec F S5x128x256 .bf16) (x17 : Vec F S5x1x256 .f32) (x18 : Vec F S5x1x256 .f32) (x19 : Vec F S5x8x256 .f32) (x20 : Vec F S5x1x256 .f32) (x21 : Vec F S5x8x256 .f32) (x22 : Vec F S5x128x256 .f32)

/-- What the step leaves in `arg10`. -/
@[irreducible] def leftC10 : Vec F S1x256x640 .bf16 :=
  arg10.view.read (Elt F) (runC (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).1

/-- What the step leaves in `arg11`. -/
@[irreducible] def leftC11 : Vec F S1x256x640 .fp8e4m3 :=
  arg11.view.read (Elt F) (runC (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.1

/-- What the step leaves in `arg12`. -/
@[irreducible] def leftC12 : Vec F S1x1x1x10x128 .f32 :=
  arg12.view.read (Elt F) (runC (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.1

/-- What the step leaves in `arg13`. -/
@[irreducible] def leftC13 : Vec F S1x2x1x5x128 .bf16 :=
  arg13.view.read (Elt F) (runC (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.1

/-- What the step leaves in `arg14`. -/
@[irreducible] def leftC14 : Vec F S31x5x256x256 .f32 :=
  arg14.view.read (Elt F) (runC (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.1

/-- What the step leaves in `arg15`. -/
@[irreducible] def leftC15 : Vec F S5x128x256 .fp8e4m3 :=
  arg15.view.read (Elt F) (runC (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.1

/-- What the step leaves in `arg16`. -/
@[irreducible] def leftC16 : Vec F S5x128x256 .bf16 :=
  arg16.view.read (Elt F) (runC (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.1

/-- What the step leaves in `arg17`. -/
@[irreducible] def leftC17 : Vec F S5x1x256 .f32 :=
  arg17.view.read (Elt F) (runC (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.1

/-- What the step leaves in `arg18`. -/
@[irreducible] def leftC18 : Vec F S5x1x256 .f32 :=
  arg18.view.read (Elt F) (runC (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.2.1

/-- What the step leaves in `arg19`. -/
@[irreducible] def leftC19 : Vec F S5x8x256 .f32 :=
  arg19.view.read (Elt F) (runC (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.2.2.1

/-- What the step leaves in `arg20`. -/
@[irreducible] def leftC20 : Vec F S5x1x256 .f32 :=
  arg20.view.read (Elt F) (runC (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.2.2.2.1

/-- What the step leaves in `arg21`. -/
@[irreducible] def leftC21 : Vec F S5x8x256 .f32 :=
  arg21.view.read (Elt F) (runC (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.2.2.2.2.1

/-- What the step leaves in `arg22`. -/
@[irreducible] def leftC22 : Vec F S5x128x256 .f32 :=
  arg22.view.read (Elt F) (runC (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.2.2.2.2.2.1

set_option maxHeartbeats 4000000 in
/-- The step from whole memrefs at contents `x…` to the same memrefs at `leftC…`. -/
theorem specC :
    ∀ (E : Set ℕ) (K : PUnit → sProp 𝕄),
      iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (leftC10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg11 fullShare (leftC11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg12 fullShare (leftC12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg13 fullShare (leftC13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg14 fullShare (leftC14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg15 fullShare (leftC15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg16 fullShare (leftC16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg17 fullShare (leftC17 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg18 fullShare (leftC18 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg19 fullShare (leftC19 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg20 fullShare (leftC20 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg21 fullShare (leftC21 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22) ∗ owns (c : Thread nD τ) arg22 fullShare (leftC22 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22)) -∗ K ⟨⟩))
      ⊢ wp frame (wpE (defs₀ (F := F)) Variants.none c none) E (cc0_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  intro E K
  unfold owns
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, Hk⟩
  obtain rfl := harg3.eq_unread e3; obtain rfl := harg4.eq_unread e4; obtain rfl := harg5.eq_unread e5; obtain rfl := harg6.eq_unread e6; obtain rfl := harg7.eq_unread e7; obtain rfl := harg8.eq_unread e8; obtain rfl := harg9.eq_unread e9; obtain rfl := harg10.eq_unread e10; obtain rfl := harg11.eq_unread e11; obtain rfl := harg12.eq_unread e12; obtain rfl := harg13.eq_unread e13; obtain rfl := harg14.eq_unread e14; obtain rfl := harg15.eq_unread e15; obtain rfl := harg16.eq_unread e16; obtain rfl := harg17.eq_unread e17; obtain rfl := harg18.eq_unread e18; obtain rfl := harg19.eq_unread e19; obtain rfl := harg20.eq_unread e20; obtain rfl := harg21.eq_unread e21; obtain rfl := harg22.eq_unread e22
  iapply ((runC (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22)).2.2.2.2.2.2.2.2.2.2.2.2.2 E K)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iintro ⟨H3, H4, H5, H6, H7, H8, H9, H10, H11, H12, H13, H14, H15, H16, H17, H18, H19, H20, H21, H22⟩
  iapply Hk
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; unfold leftC10; rfl
  isplitl [H11]
  · iexists _; isplitr; swap; · iexact H11
    ipureintro; unfold leftC11; rfl
  isplitl [H12]
  · iexists _; isplitr; swap; · iexact H12
    ipureintro; unfold leftC12; rfl
  isplitl [H13]
  · iexists _; isplitr; swap; · iexact H13
    ipureintro; unfold leftC13; rfl
  isplitl [H14]
  · iexists _; isplitr; swap; · iexact H14
    ipureintro; unfold leftC14; rfl
  isplitl [H15]
  · iexists _; isplitr; swap; · iexact H15
    ipureintro; unfold leftC15; rfl
  isplitl [H16]
  · iexists _; isplitr; swap; · iexact H16
    ipureintro; unfold leftC16; rfl
  isplitl [H17]
  · iexists _; isplitr; swap; · iexact H17
    ipureintro; unfold leftC17; rfl
  isplitl [H18]
  · iexists _; isplitr; swap; · iexact H18
    ipureintro; unfold leftC18; rfl
  isplitl [H19]
  · iexists _; isplitr; swap; · iexact H19
    ipureintro; unfold leftC19; rfl
  isplitl [H20]
  · iexists _; isplitr; swap; · iexact H20
    ipureintro; unfold leftC20; rfl
  isplitl [H21]
  · iexists _; isplitr; swap; · iexact H21
    ipureintro; unfold leftC21; rfl
  iexists _; isplitr; swap; · iexact H22
  ipureintro; unfold leftC22; rfl

end Cert.KernelIdeal.Attn

end
-- ==== Proof.FrameKernelIdeal.lean ====
/- The frame of the attention kernel: its outputs and scratch forgotten, its argument arrays unchanged. -/
module

public import proofs.«01_k».proof.Proof.Gen.KernelIdeal.Frame
public import proofs.«01_k».proof.Proof.RunAKernelIdeal
public import proofs.«01_k».proof.Proof.RunBKernelIdeal
public import proofs.«01_k».proof.Proof.RunCKernelIdeal

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The conditionals by the point -/

theorem cond_1 : ∀ t : Fin cfg0.N, k0_cond1 (grid0.coords t) = 1#1 ↔ t.val % 32 < 31 := (by decide +kernel : ∀ t : Fin grid0.N, _)
theorem cond_2 : ∀ t : Fin cfg0.N, k0_cond2 (grid0.coords t) = 1#1 ↔ t.val % 32 = 31 := (by decide +kernel : ∀ t : Fin grid0.N, _)
theorem cond_3 : ∀ t : Fin cfg0.N, k0_cond3 (grid0.coords t) = 1#1 ↔ 0 < t.val % 32 := (by decide +kernel : ∀ t : Fin grid0.N, _)
theorem cond_4 : ∀ t : Fin cfg0.N, k0_cond4 (grid0.coords t) = 1#1 ↔ t.val % 32 < 31 := (by decide +kernel : ∀ t : Fin grid0.N, _)

/-! ## The staging memrefs at a point -/

abbrev ms0 (t : Fin cfg0.N) : Memref sig .tc .vmem S1x256x640 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x7936x128 .fp8e4m3 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x7936x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x31x4x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x31x128x256 .fp8e4m3 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x1x128 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x256x640 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x256x640 .fp8e4m3 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x1x1x10x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x2x1x5x128 .bf16 := win0_10.stage (cfg0.slots t 10)
abbrev hs10 (t : Fin cfg0.N) : (ms10 t).IsWhole := hstage0_10 ((cfg0.slots t 10).cast nbuf0_10)

/-! ## The proof data: outputs forgotten, scratch at any contents -/

/-- The output windows forgotten. -/
def forgets : Fin 11 → Bool := fun w => w.val == 7 || w.val == 8 || w.val == 9 || w.val == 10

/-- The arrays as launched; after the body the inputs at their blocks; nothing said of outputs and scratch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare d)
    ∗ (∃ d, owns (c : Thread nD τ) (ms8 t) fullShare d)
    ∗ (∃ d, owns (c : Thread nD τ) (ms9 t) fullShare d)
    ∗ (∃ d, owns (c : Thread nD τ) (ms10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ (∃ d, owns (c : Thread nD τ) (ms7 t) fullShare d)
    ∗ (∃ d, owns (c : Thread nD τ) (ms8 t) fullShare d)
    ∗ (∃ d, owns (c : Thread nD τ) (ms9 t) fullShare d)
    ∗ (∃ d, owns (c : Thread nD τ) (ms10 t) fullShare d))

set_option maxHeartbeats 1600000 in
theorem bodyA (c : Dev nD) (t : Fin cfg0.N) (h1 : k0_cond1 (grid0.coords t) = 1#1) (h2 : ¬k0_cond2 (grid0.coords t) = 1#1) (h3 : ¬k0_cond3 (grid0.coords t) = 1#1) (h4 : k0_cond4 (grid0.coords t) = 1#1) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl,
    after_0, after_1, after_2, after_3, after_4, after_5, after_6]
  unfold Pipeline.ΦA
  rw [scopedRest0_eq]
  simp only [← owns_whole]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (specA (F := F) c (grid0.coords t) _ _ _ _ _ _ _ _ _ _ _ _ _ _ _ _ _ _ _ _ _ _ _ _ _ _ _ _ _ _ _ _ _ _ _ _ _ _ _ _ h1 h2 h3 h4 (iblk m c 0 t) (iblk m c 1 t) (iblk m c 2 t) (iblk m c 3 t) (iblk m c 4 t) (iblk m c 5 t) (iblk m c 6 t) d7 d8 d9 d10 s0 s1 s2 s3 s4 s5 s6 s7 s8 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iintro ⟨H0, H1, H2, H3, H4, H5, H6, H7, H8, H9, H10, S0, S1, S2, S3, S4, S5, S6, S7, S8⟩
  isplitl [S0 S1 S2 S3 S4 S5 S6 S7 S8 Hp]
  · isplitr [Hp]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      isplitl [S7]; · iexists _; iexact S7
      iexists _; iexact S8
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iexists _; iexact H10

set_option maxHeartbeats 1600000 in
theorem bodyB (c : Dev nD) (t : Fin cfg0.N) (h1 : k0_cond1 (grid0.coords t) = 1#1) (h2 : ¬k0_cond2 (grid0.coords t) = 1#1) (h3 : k0_cond3 (grid0.coords t) = 1#1) (h4 : k0_cond4 (grid0.coords t) = 1#1) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl,
    after_0, after_1, after_2, after_3, after_4, after_5, after_6]
  unfold Pipeline.ΦA
  rw [scopedRest0_eq]
  simp only [← owns_whole]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (specB (F := F) c (grid0.coords t) _ _ _ _ _ _ _ _ _ _ _ _ _ _ _ _ _ _ _ _ _ _ _ _ _ _ _ _ _ _ _ _ _ _ _ _ _ _ _ _ h1 h2 h3 h4 (iblk m c 0 t) (iblk m c 1 t) (iblk m c 2 t) (iblk m c 3 t) (iblk m c 4 t) (iblk m c 5 t) (iblk m c 6 t) d7 d8 d9 d10 s0 s1 s2 s3 s4 s5 s6 s7 s8 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iintro ⟨H0, H1, H2, H3, H4, H5, H6, H7, H8, H9, H10, S0, S1, S2, S3, S4, S5, S6, S7, S8⟩
  isplitl [S0 S1 S2 S3 S4 S5 S6 S7 S8 Hp]
  · isplitr [Hp]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      isplitl [S7]; · iexists _; iexact S7
      iexists _; iexact S8
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iexists _; iexact H10

set_option maxHeartbeats 1600000 in
theorem bodyC (c : Dev nD) (t : Fin cfg0.N) (h1 : ¬k0_cond1 (grid0.coords t) = 1#1) (h2 : k0_cond2 (grid0.coords t) = 1#1) (h3 : k0_cond3 (grid0.coords t) = 1#1) (h4 : ¬k0_cond4 (grid0.coords t) = 1#1) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl,
    after_0, after_1, after_2, after_3, after_4, after_5, after_6]
  unfold Pipeline.ΦA
  rw [scopedRest0_eq]
  simp only [← owns_whole]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (specC (F := F) c (grid0.coords t) _ _ _ _ _ _ _ _ _ _ _ _ _ _ _ _ _ _ _ _ _ _ _ _ _ _ _ _ _ _ _ _ _ _ _ _ _ _ _ _ h1 h2 h3 h4 (iblk m c 0 t) (iblk m c 1 t) (iblk m c 2 t) (iblk m c 3 t) (iblk m c 4 t) (iblk m c 5 t) (iblk m c 6 t) d7 d8 d9 d10 s0 s1 s2 s3 s4 s5 s6 s7 s8 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iintro ⟨H0, H1, H2, H3, H4, H5, H6, H7, H8, H9, H10, S0, S1, S2, S3, S4, S5, S6, S7, S8⟩
  isplitl [S0 S1 S2 S3 S4 S5 S6 S7 S8 Hp]
  · isplitr [Hp]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      isplitl [S7]; · iexists _; iexact S7
      iexists _; iexact S8
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iexists _; iexact H10

theorem sound_body (c : Dev nD) (t : Fin cfg0.N) :
    bodyPre m c t ⊢ wp frame (wpE (defs₀ (F := F)) Variants.none c none) Set.univ (bodyAt0 t) (fun _ => bodyPost m c t) := by
  have l : t.val % 32 < 32 := Nat.mod_lt _ (by decide)
  by_cases z : t.val % 32 = 0
  · exact bodyA m c t ((cond_1 t).mpr (by omega)) (fun h => by have := (cond_2 t).mp h; omega) (fun h => by have := (cond_3 t).mp h; omega) ((cond_4 t).mpr (by omega))
  by_cases y : t.val % 32 = 31
  · exact bodyC m c t (fun h => by have := (cond_1 t).mp h; omega) ((cond_2 t).mpr y) ((cond_3 t).mpr (by omega)) (fun h => by have := (cond_4 t).mp h; omega)
  · exact bodyB m c t ((cond_1 t).mpr (by omega)) (fun h => by have := (cond_2 t).mp h; omega) ((cond_3 t).mpr (by omega)) ((cond_4 t).mpr (by omega))

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run defs _ _).mono (fun r h => ⟨fun c => ?_, h.2⟩) (run_main_quiescent m ρ)
  exact ⟨(Pipeline.RDat.FramePost.arr_in h.1 c 0 rfl).trans ((A_eq m c 0).trans (V_main_arg0 m c)), (Pipeline.RDat.FramePost.arr_in h.1 c 1 rfl).trans ((A_eq m c 1).trans (V_main_arg1 m c)), (Pipeline.RDat.FramePost.arr_in h.1 c 2 rfl).trans ((A_eq m c 2).trans (V_main_arg2 m c)), (Pipeline.RDat.FramePost.arr_in h.1 c 3 rfl).trans ((A_eq m c 3).trans (V_main_arg3 m c)), (Pipeline.RDat.FramePost.arr_in h.1 c 4 rfl).trans ((A_eq m c 4).trans (V_main_arg4 m c)), (Pipeline.RDat.FramePost.arr_in h.1 c 5 rfl).trans ((A_eq m c 5).trans (V_main_arg5 m c)), (Pipeline.RDat.FramePost.arr_in h.1 c 6 rfl).trans ((A_eq m c 6).trans (V_main_arg6 m c))⟩

end Cert.KernelIdeal.Attn

end
-- ==== Proof.Units.lean ====
/- The pieces of one trip of the key loops, as functions of the tiles they read, and what each holds at an index. -/
module

public import proofs.«01_k».proof.Proof.Gen.KernelIdeal.Loops
public import Idealize.ShloMosaic.Lib.Pointwise

@[expose] public section

set_option maxRecDepth 16384

noncomputable section

namespace Cert.KernelIdeal.Attn

open Cert.KernelIdeal.Gen
open Idealize.ShloMosaic Idealize.ShloMosaic.TcCoe Idealize.ShloMosaic.Tactic Idealize.ShloMosaic.Pointwise

theorem ofBits_bot : Ideal.ofBits .f32 0xFF800000#32 = ⊥ := by simp [Ideal.ofBits, Ideal.ieee]

theorem fold_max_bot {ι : Type} (s : Finset ι) (f : ι → EReal) : Finset.fold max ⊥ f s = s.sup f := rfl

theorem sup_four (f : Fin 4 → EReal) : Finset.univ.sup f = max (max (max (f 0) (f 1)) (f 2)) (f 3) := by
  rw [show (Finset.univ : Finset (Fin 4)) = {0, 1, 2, 3} from rfl]
  simp [max_assoc]

/-- One weight `2 ^ (score · (query factor · key scale) − maximum)`. -/
def weight (fq k mc s : EReal) : EReal := Ideal.exp2 (s * (fq * k) - mc)

/-- A tile of 64 keys and 256 queries, at an index. -/
abbrev row8 (a r : Fin 8) : Fin 64 := ⟨a.val * 8 + r.val, by omega⟩

/-- The running sums of the weights after a block of keys. -/
def uSum (fq mc : Vec Ideal S1x1x256 .f32) (k : Fin 4 → Vec Ideal S1x1x1x1x1 .f32)
    (s : Fin 4 → Vec Ideal S1x1x64x256 .f32) (old : Vec Ideal S1x8x256 .f32) : Vec Ideal S1x8x256 .f32 :=
  k0_pay25 (k0_pay22 (k0_pay16 fq (k 0) (s 0) mc) (k0_pay17 fq (k 1) (s 1)) mc fq (k 2) (s 2) mc) (k0_pay23 fq) (k 3) (s 3) mc old

theorem uSum_apply (fq mc : Vec Ideal S1x1x256 .f32) (k : Fin 4 → Vec Ideal S1x1x1x1x1 .f32)
    (s : Fin 4 → Vec Ideal S1x1x64x256 .f32) (old : Vec Ideal S1x8x256 .f32) (r : Fin 8) (l : Fin 256) :
    uSum fq mc k s old (ix3 0 r l) = old (ix3 0 r l) + ∑ j : Fin 4, ∑ a : Fin 8,
      weight (fq (ix3 0 0 l)) (k j (ix5 0 0 0 0 0)) (mc (ix3 0 0 l)) (s j (ix4 0 0 (row8 a r) l)) := by
  rw [Fin.sum_univ_four]
  pointwise [uSum, k0_pay14, k0_pay16, k0_pay17, k0_pay18, k0_pay20, k0_pay22, k0_pay23, k0_pay24, k0_pay25, weight]
  rfl

/-- The accumulator of the weighted values after a block of keys. -/
def uAcc (fq mc : Vec Ideal S1x1x256 .f32) (k : Fin 4 → Vec Ideal S1x1x1x1x1 .f32)
    (s : Fin 4 → Vec Ideal S1x1x64x256 .f32) (v : Vec Ideal S1x1x1x128x256 .fp8e4m3)
    (old : Vec Ideal S1x128x256 .f32) : Vec Ideal S1x128x256 .f32 :=
  k0_pay28 (k0_pay26 old) (k0_pay27 (k0_pay15 fq (k 0) (s 0) mc) (k0_pay19 (k0_pay17 fq (k 1) (s 1)) mc)
    (k0_pay21 fq (k 2) (s 2) mc) (k0_pay23 fq) (k 3) (s 3) mc v)

theorem uAcc_apply (fq mc : Vec Ideal S1x1x256 .f32) (k : Fin 4 → Vec Ideal S1x1x1x1x1 .f32)
    (s : Fin 4 → Vec Ideal S1x1x64x256 .f32) (v : Vec Ideal S1x1x1x128x256 .fp8e4m3)
    (old : Vec Ideal S1x128x256 .f32) (d : Fin 128) (l : Fin 256) :
    uAcc fq mc k s v old (ix3 0 d l) = old (ix3 0 d l) + ∑ x : Fin 256, v (ix5 0 0 0 d x) *
      min (weight (fq (ix3 0 0 l)) (k ⟨x.val / 64, by omega⟩ (ix5 0 0 0 0 0)) (mc (ix3 0 0 l))
        (s ⟨x.val / 64, by omega⟩ (ix4 0 0 ⟨x.val % 64, by omega⟩ l))) (Ideal.ofBits .f32 0x43E00000#32) := by
  pointwise [uAcc, k0_pay14, k0_pay15, k0_pay17, k0_pay18, k0_pay19, k0_pay20, k0_pay21, k0_pay23, k0_pay24, k0_pay26, k0_pay27, k0_pay28, weight]
  congr 1

/-- The scores of a block of keys. -/
def uScore (kc : Vec Ideal S1x256x128 .fp8e4m3) (qt : Vec Ideal S1x128x256 .fp8e4m3)
    (kw : Vec Ideal S1x1x256x128 .bf16) (mt : Vec Ideal S1x128x256 .bf16) : Vec Ideal S1x1x256x256 .f32 :=
  k0_pay35 (k0_pay29 kc qt kw mt)

/-- One score. -/
def scoreAt (kc : Vec Ideal S1x256x128 .fp8e4m3) (qt : Vec Ideal S1x128x256 .fp8e4m3)
    (kw : Vec Ideal S1x1x256x128 .bf16) (mt : Vec Ideal S1x128x256 .bf16) (x l : Fin 256) : EReal :=
  (∑ d : Fin 128, kc (ix3 0 x d) * qt (ix3 0 d l)) + ∑ d : Fin 128, kw (ix4 0 0 x d) * mt (ix3 0 d l)

theorem uScore_apply (kc : Vec Ideal S1x256x128 .fp8e4m3) (qt : Vec Ideal S1x128x256 .fp8e4m3)
    (kw : Vec Ideal S1x1x256x128 .bf16) (mt : Vec Ideal S1x128x256 .bf16) (x l : Fin 256) :
    uScore kc qt kw mt (ix4 0 0 x l) = scoreAt kc qt kw mt x l := by
  pointwise [uScore, k0_pay35, k0_pay29, scoreAt]

/-- The running maxima after a block of keys. -/
def uMax (kc : Vec Ideal S1x256x128 .fp8e4m3) (qt : Vec Ideal S1x128x256 .fp8e4m3)
    (kw : Vec Ideal S1x1x256x128 .bf16) (mt : Vec Ideal S1x128x256 .bf16)
    (k : Fin 4 → Vec Ideal S1x1x1x1x1 .f32) (old : Vec Ideal S1x8x256 .f32) : Vec Ideal S1x8x256 .f32 :=
  k0_pay34 (k0_pay30 old) (k0_pay31 kc qt kw mt) (k0_pay32 kc qt kw mt (k 0)) (k0_pay33 kc qt kw mt) (k 1) (k 2) (k 3)

theorem uMax_apply (kc : Vec Ideal S1x256x128 .fp8e4m3) (qt : Vec Ideal S1x128x256 .fp8e4m3)
    (kw : Vec Ideal S1x1x256x128 .bf16) (mt : Vec Ideal S1x128x256 .bf16)
    (k : Fin 4 → Vec Ideal S1x1x1x1x1 .f32) (old : Vec Ideal S1x8x256 .f32) (r : Fin 8) (l : Fin 256) :
    uMax kc qt kw mt k old (ix3 0 r l) = max (old (ix3 0 r l)) (Finset.univ.sup fun j : Fin 4 =>
      (Finset.univ.sup fun a : Fin 8 => scoreAt kc qt kw mt ⟨64 * j.val + a.val * 8 + r.val, by omega⟩ l) * k j (ix5 0 0 0 0 0)) := by
  pointwise [uMax, k0_pay29, k0_pay30, k0_pay31, k0_pay32, k0_pay33, k0_pay34]
  rw [sup_four]
  simp only [ofBits_bot, fold_max_bot, scoreAt]
  simp [max_assoc]

end Cert.KernelIdeal.Attn

end
-- ==== Proof.Quant.lean ====
/- The units outside the key loops: quantising a tile of queries, the masked scores of the diagonal block, the running
   maximum's shift and the output, each read at an index. -/
module

public import proofs.«01_k».proof.Proof.Units

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.ShloMosaic.Pointwise

/-! ## Scalars of a tile of 128 queries of one head -/

/-- The mean of a column. -/
def meanOf (x : Fin 128 → Fin 128 → EReal) (d : Fin 128) : EReal := (∑ r, x r d) * Ideal.ofBits .f32 0x3C000000#32

/-- What the mean leaves. -/
def resOf (x : Fin 128 → Fin 128 → EReal) (r d : Fin 128) : EReal := x r d - meanOf x d

/-- The largest magnitude of what the mean leaves, over 448. -/
def topOf (x : Fin 128 → Fin 128 → EReal) : EReal :=
  Finset.fold max (Ideal.ofBits .f32 0xFF800000#32) (fun d => Finset.fold max (Ideal.ofBits .f32 0xFF800000#32)
    (fun r => (FloatOps.absf (F := Ideal) (φ := .f32) (resOf x r d) : EReal)) Finset.univ) Finset.univ * Ideal.ofBits .f32 0x3B124925#32

/-- The exponent the kernel counts: how many powers of two are at most `t`, less 126. -/
def expOf (t : EReal) : BitVec 32 :=
  if t = 0 then 0#32 else IntOp.subi (Finset.fold IntOp.addi (0#32) (fun k : Fin 256 => Scalar.select
    (IntOp.andi (IntOp.cmpi CmpIPredicate.sgt (BitVec.ofNat 32 k.val) 0#32)
      (BitVec.ofBool (decide (Ideal.ofBits FTy.f32 (IntOp.shli ArithUnit.vector (BitVec.ofNat 32 k.val) 23#32) ≤ t)))) 1#32 0#32)
    Finset.univ) 126#32

def scaleOf (e : BitVec 32) : EReal := Ideal.ofBits .f32 (IntOp.shli ArithUnit.vector (IntOp.addi 127#32 e) 23#32)
def invOf (e : BitVec 32) : EReal := Ideal.ofBits .f32 (IntOp.shli ArithUnit.vector (IntOp.subi 127#32 e) 23#32)

/-- The code of a residual. -/
def codeOf (r i : EReal) : EReal := min (Ideal.ofBits .f32 0x43E00000#32) (max (Ideal.ofBits .f32 0xC3E00000#32) (r * i))

/-- The attention scale times the base-two logarithm of `e`. -/
def scale2 : EReal := (((Real.sqrt 128)⁻¹ * (Real.log 2)⁻¹ : ℝ) : EReal)

theorem named_scale2 (b : BitVec 32) : (Named.named κ "softmax_scale_log2_e" b : Ideal .f32) = scale2 := by
  rfl

/-! ## The units of the quantiser -/

variable (xs : Vec Ideal S1x128x128 .bf16)

def qCodes : FVec Ideal S1x128x128 .fp8e4m3 := k0_pay255 (k0_pay249 xs) (k0_pay250 xs)
def qT : FVec Ideal S1x128x128 .fp8e4m3 := k0_pay257 (k0_pay249 xs) (k0_pay250 xs)
def qM : FVec Ideal S1x128x128 .bf16 := k0_pay258 (k0_pay248 xs) (k0_pay250 xs)
def qF : FVec Ideal S1x1x128 .f32 := k0_pay259 (k0_pay251 xs)
def qMean : FVec Ideal S1x128 .bf16 := k0_pay247 xs
def qScale : FVec Ideal S1x128 .f32 := k0_pay256 (F := Ideal) (k0_pay251 xs)

/-- The tile as a function of row and column. -/
abbrev tileOf (r d : Fin 128) : EReal := xs (ix3 0 r d)

theorem qMean_apply (d : Fin 128) : qMean xs (ix2 0 d) = meanOf (tileOf xs) d := by
  pointwise [qMean, k0_pay246, k0_pay247, meanOf]

theorem qRes_apply (r d : Fin 128) : k0_pay249 xs (ix2 r d) = resOf (tileOf xs) r d := by
  pointwise [k0_pay246, k0_pay247, k0_pay248, k0_pay249, resOf, meanOf]

theorem qExp_apply : k0_pay250 xs (ix2 0 0) = expOf (topOf (tileOf xs)) := by
  pointwise [k0_pay246, k0_pay247, k0_pay248, k0_pay249, k0_pay250, expOf, topOf, resOf, meanOf]

theorem qCodes_apply (r d : Fin 128) :
    qCodes xs (ix3 0 r d) = codeOf (resOf (tileOf xs) r d) (invOf (expOf (topOf (tileOf xs)))) := by
  rw [← qExp_apply, ← qRes_apply]
  pointwise [qCodes, k0_pay253, k0_pay254, k0_pay255, codeOf, invOf]

theorem qT_apply (d r : Fin 128) :
    qT xs (ix3 0 d r) = codeOf (resOf (tileOf xs) r d) (invOf (expOf (topOf (tileOf xs)))) := by
  rw [← qExp_apply, ← qRes_apply]
  pointwise [qT, k0_pay253, k0_pay254, k0_pay257, codeOf, invOf]

theorem qM_apply (d r : Fin 128) :
    qM xs (ix3 0 d r) = meanOf (tileOf xs) d * invOf (expOf (topOf (tileOf xs))) := by
  have e : k0_pay248 xs (ix2 0 d) = meanOf (tileOf xs) d := by pointwise [k0_pay246, k0_pay247, k0_pay248, meanOf]
  rw [← qExp_apply, ← e]
  pointwise [qM, k0_pay253, k0_pay258, invOf]

theorem qF_apply (d : Fin 128) : qF xs (ix3 0 0 d) = scaleOf (expOf (topOf (tileOf xs))) * scale2 := by
  rw [← qExp_apply, ← named_scale2 0x3E0293EE#32]
  pointwise [qF, k0_pay251, k0_pay252, k0_pay259, scaleOf]

theorem qScale_apply (d : Fin 128) : qScale xs (ix2 0 d) = scaleOf (expOf (topOf (tileOf xs))) := by
  rw [← qExp_apply]
  pointwise [qScale, k0_pay251, k0_pay252, k0_pay256, scaleOf]

/-! ## The diagonal block and the output -/

/-- The masked scores of the diagonal block. -/
def uDiag (kc : Vec Ideal S1x256x128 .fp8e4m3) (qt : Vec Ideal S1x128x256 .fp8e4m3)
    (kw : Vec Ideal S1x1x256x128 .bf16) (mt : Vec Ideal S1x128x256 .bf16) : FVec Ideal S1x1x256x256 .f32 :=
  k0_pay563 (k0_pay556 kc qt kw mt)

/-- The shift: the largest scaled score times the query's factor, less 8. -/
def uMc (old : Vec Ideal S1x8x256 .f32) (kc : Vec Ideal S1x256x128 .fp8e4m3) (qt : Vec Ideal S1x128x256 .fp8e4m3)
    (kw : Vec Ideal S1x1x256x128 .bf16) (mt : Vec Ideal S1x128x256 .bf16) (k : Fin 4 → Vec Ideal S1x1x1x1x1 .f32)
    (fq : Vec Ideal S1x1x256 .f32) : FVec Ideal S1x1x256 .f32 :=
  k0_pay561 (k0_pay557 old) (k0_pay558 kc qt kw mt) (k0_pay559 kc qt kw mt (k 0)) (k0_pay560 kc qt kw mt) (k 1) (k 2) (k 3) fq

def uOut (sum : Vec Ideal S1x8x256 .f32) (acc : Vec Ideal S1x128x256 .f32) (vs : Vec Ideal S1x1x1x128 .f32)
    (mv : Vec Ideal S1x1x1x128 .bf16) : FVec Ideal S1x256x128 .bf16 := k0_pay554 sum acc vs mv

/-- A score of the diagonal block: a key past the query counts as minus infinity. -/
def maskAt (kc : Vec Ideal S1x256x128 .fp8e4m3) (qt : Vec Ideal S1x128x256 .fp8e4m3)
    (kw : Vec Ideal S1x1x256x128 .bf16) (mt : Vec Ideal S1x128x256 .bf16) (x l : Fin 256) : EReal :=
  if x ≤ l then scoreAt kc qt kw mt x l else ⊥

theorem keep_apply (x l : Fin 256) : k0_pay555 (ix2 x l) = BitVec.ofBool (decide (x ≤ l)) := by
  pointwise [k0_pay555]
  simp only [IntOp.cmpi]
  congr 1
  simp only [BitVec.sle]
  rw [decide_eq_decide]
  have h1 : (BitVec.ofNat 32 x.val).toInt = x.val := by
    rw [BitVec.toInt_eq_toNat_of_lt] <;> simp only [BitVec.toNat_ofNat] <;> omega
  have h2 : (BitVec.ofNat 32 l.val).toInt = l.val := by
    rw [BitVec.toInt_eq_toNat_of_lt] <;> simp only [BitVec.toNat_ofNat] <;> omega
  rw [h1, h2]
  simp

theorem masked_apply (kc : Vec Ideal S1x256x128 .fp8e4m3) (qt : Vec Ideal S1x128x256 .fp8e4m3)
    (kw : Vec Ideal S1x1x256x128 .bf16) (mt : Vec Ideal S1x128x256 .bf16) (x l : Fin 256) :
    k0_pay556 kc qt kw mt (ix2 x l) = maskAt kc qt kw mt x l := by
  have e := keep_apply x l
  pointwise [k0_pay556]
  rw [e]
  by_cases h : x ≤ l
  · simp [maskAt, h, scoreAt, Scalar.select]
  · simp [maskAt, h, ofBits_bot, Scalar.select]

theorem uDiag_apply (kc : Vec Ideal S1x256x128 .fp8e4m3) (qt : Vec Ideal S1x128x256 .fp8e4m3)
    (kw : Vec Ideal S1x1x256x128 .bf16) (mt : Vec Ideal S1x128x256 .bf16) (x l : Fin 256) :
    uDiag kc qt kw mt (ix4 0 0 x l) = maskAt kc qt kw mt x l := by
  rw [← masked_apply]
  pointwise [uDiag, k0_pay563]

theorem uMc_apply (old : Vec Ideal S1x8x256 .f32) (kc : Vec Ideal S1x256x128 .fp8e4m3) (qt : Vec Ideal S1x128x256 .fp8e4m3)
    (kw : Vec Ideal S1x1x256x128 .bf16) (mt : Vec Ideal S1x128x256 .bf16) (k : Fin 4 → Vec Ideal S1x1x1x1x1 .f32)
    (fq : Vec Ideal S1x1x256 .f32) (l : Fin 256) :
    uMc old kc qt kw mt k fq (ix3 0 0 l) = (Finset.univ.sup fun r : Fin 8 => max (old (ix3 0 r l)) (Finset.univ.sup fun j : Fin 4 =>
      (Finset.univ.sup fun a : Fin 8 => maskAt kc qt kw mt ⟨64 * j.val + a.val * 8 + r.val, by omega⟩ l) * k j (ix5 0 0 0 0 0)))
        * fq (ix3 0 0 l) - Ideal.ofBits .f32 0x41000000#32 := by
  simp only [← masked_apply]
  pointwise [uMc, k0_pay557, k0_pay558, k0_pay559, k0_pay560, k0_pay561]
  simp only [sup_four]
  simp only [ofBits_bot, fold_max_bot]
  simp [max_assoc]

theorem uFq_apply (fq : Vec Ideal S1x1x256 .f32) (l : Fin 256) : k0_pay562 fq (ix3 0 0 l) = fq (ix3 0 0 l) := by
  pointwise [k0_pay562]

theorem uOut_apply (sum : Vec Ideal S1x8x256 .f32) (acc : Vec Ideal S1x128x256 .f32) (vs : Vec Ideal S1x1x1x128 .f32)
    (mv : Vec Ideal S1x1x1x128 .bf16) (l : Fin 256) (d : Fin 128) :
    uOut sum acc vs mv (ix3 0 l d) = acc (ix3 0 d l) * Ideal.div (Ideal.ofBits .f32 0x3F800000#32) (∑ r : Fin 8, sum (ix3 0 r l))
      * vs (ix4 0 0 0 d) + mv (ix4 0 0 0 d) := by
  pointwise [uOut, k0_pay554]

end Cert.KernelIdeal.Attn

end
-- ==== Proof.Scale.lean ====
/- The scale of a tile: the power of two the kernel reads off a count of powers of two is the least power of two above
   the tile's top. -/
module

public import proofs.«01_k».proof.Proof.Quant

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

/-- The `n`-th power of two among those of single precision, as a real. -/
def pw (n : ℤ) : EReal := (((2 : ℝ) ^ n : ℝ) : EReal)

theorem pw_pos (n : ℤ) : 0 < pw n := by unfold pw; exact_mod_cast zpow_pos (by norm_num : (0:ℝ) < 2) n
theorem pw_ne_top (n : ℤ) : pw n ≠ ⊤ := EReal.coe_ne_top _
theorem pw_ne_zero (n : ℤ) : pw n ≠ 0 := (pw_pos n).ne'
theorem pw_le {m n : ℤ} : pw m ≤ pw n ↔ m ≤ n := by
  unfold pw; rw [EReal.coe_le_coe_iff]; exact zpow_le_zpow_iff_right₀ (by norm_num)
theorem pw_lt {m n : ℤ} : pw m < pw n ↔ m < n := by
  unfold pw; rw [EReal.coe_lt_coe_iff]; exact zpow_lt_zpow_iff_right₀ (by norm_num)
theorem pw_mul (m n : ℤ) : pw m * pw n = pw (m + n) := by
  unfold pw; rw [← EReal.coe_mul, zpow_add₀ (by norm_num : (2:ℝ) ≠ 0)]

theorem ieee_pw (v : BitVec 32) (k : ℕ) (h1 : 1 ≤ k) (h2 : k ≤ 254) (hs : v.extractLsb' (8 + 23) 1 = 0#1)
    (hx : (v.extractLsb' 23 8).toNat = k) (hf : (v.extractLsb' 0 23).toNat = 0) :
    Ideal.ofBits .f32 v = pw ((k : ℤ) - 127) := by
  show Ideal.ieee 8 23 v = _
  unfold Ideal.ieee
  simp only [hs, hx, hf]
  rw [if_neg (by omega), if_neg (by omega)]
  unfold pw
  have : (2:ℝ) ^ ((k:ℤ) - (2 ^ (8 - 1) - 1) - (23:ℕ)) = (2:ℝ) ^ ((k:ℤ) - 127) * ((2:ℝ) ^ (23:ℕ))⁻¹ := by
    rw [← zpow_natCast, ← zpow_neg, ← zpow_add₀ (by norm_num : (2:ℝ) ≠ 0)]
    congr 1
  rw [this]
  push_cast
  refine congrArg (fun x : ℝ => (x : EReal)) ?_
  field_simp
  norm_num

/-- The float whose exponent field is `k`. -/
theorem ofBits_pw (k : ℕ) (h1 : 1 ≤ k) (h2 : k ≤ 254) :
    Ideal.ofBits .f32 (IntOp.shli ArithUnit.vector (BitVec.ofNat 32 k) 23#32) = pw ((k : ℤ) - 127) := by
  have hs : (IntOp.shli ArithUnit.vector (BitVec.ofNat 32 k) 23#32).extractLsb' (8 + 23) 1 = 0#1 :=
    (by decide +kernel : ∀ k : Fin 255, (IntOp.shli ArithUnit.vector (BitVec.ofNat 32 k.val) 23#32).extractLsb' (8 + 23) 1 = 0#1) ⟨k, by omega⟩
  have hx : ((IntOp.shli ArithUnit.vector (BitVec.ofNat 32 k) 23#32).extractLsb' 23 8).toNat = k :=
    (by decide +kernel : ∀ k : Fin 255, ((IntOp.shli ArithUnit.vector (BitVec.ofNat 32 k.val) 23#32).extractLsb' 23 8).toNat = k.val) ⟨k, by omega⟩
  have hf : ((IntOp.shli ArithUnit.vector (BitVec.ofNat 32 k) 23#32).extractLsb' 0 23).toNat = 0 :=
    (by decide +kernel : ∀ k : Fin 255, ((IntOp.shli ArithUnit.vector (BitVec.ofNat 32 k.val) 23#32).extractLsb' 0 23).toNat = 0) ⟨k, by omega⟩
  exact ieee_pw _ k h1 h2 hs hx hf

theorem ofBits_top : Ideal.ofBits .f32 (IntOp.shli ArithUnit.vector (BitVec.ofNat 32 255) 23#32) = ⊤ := by
  have e : IntOp.shli ArithUnit.vector (BitVec.ofNat 32 255) 23#32 = 0x7F800000#32 := by decide
  rw [e]; simp [Ideal.ofBits, Ideal.ieee]

/-- How many of the first `m` there are. -/
theorem count (m : Fin 255) : Finset.fold IntOp.addi (0#32) (fun k : Fin 256 => Scalar.select
      (IntOp.andi (IntOp.cmpi CmpIPredicate.sgt (BitVec.ofNat 32 k.val) 0#32) (BitVec.ofBool (decide (k.val ≤ m.val)))) 1#32 0#32)
    Finset.univ = BitVec.ofNat 32 m.val := by
  revert m; decide +kernel

/-- A top above zero and below `2 ^ 126`: the kernel's count is `m` with `2 ^ (m - 127) ≤ t < 2 ^ (m - 126)`. -/
theorem expOf_eq (t : EReal) (m : Fin 255) (h0 : t ≠ 0) (hm : m.val ≤ 252) (hlo : 1 ≤ m.val → pw ((m.val : ℤ) - 127) ≤ t)
    (hhi : t < pw ((m.val : ℤ) - 126)) : expOf t = IntOp.subi (BitVec.ofNat 32 m.val) 126#32 := by
  unfold expOf
  rw [if_neg h0, ← count m]
  refine congrArg (IntOp.subi · 126#32) (Finset.fold_congr fun k _ => ?_)
  by_cases hk : k.val = 0
  · have : k = 0 := Fin.ext hk
    subst this
    have : IntOp.cmpi CmpIPredicate.sgt (BitVec.ofNat 32 (0 : Fin 256).val) 0#32 = 0#1 := by decide
    rw [this]; simp [IntOp.andi]
  · have : (Ideal.ofBits FTy.f32 (IntOp.shli ArithUnit.vector (BitVec.ofNat 32 k.val) 23#32) ≤ t) ↔ k.val ≤ m.val := by
      by_cases h255 : k.val = 255
      · rw [h255, ofBits_top]
        constructor
        · intro h; exact absurd (lt_of_le_of_lt h (lt_of_lt_of_le hhi le_top)) (lt_irrefl _)
        · omega
      · rw [ofBits_pw k.val (by omega) (by omega)]
        constructor
        · intro h
          have := pw_lt.1 (lt_of_le_of_lt h hhi); omega
        · intro h
          exact le_trans (pw_le.2 (by omega)) (hlo (by omega))
    simp only [this]

/-- The count exists. -/
theorem exists_count (t : EReal) (h0 : 0 < t) (h1 : t < pw 126) : ∃ m : Fin 255, m.val ≤ 252 ∧
    (1 ≤ m.val → pw ((m.val : ℤ) - 127) ≤ t) ∧ t < pw ((m.val : ℤ) - 126) := by
  by_cases hs : t < pw (-126)
  · exact ⟨0, by decide, fun h => absurd h (by decide), hs⟩
  · lift t to ℝ using ⟨(lt_of_lt_of_le h1 le_top).ne, (lt_of_le_of_lt bot_le h0).ne'⟩
    have ht : (0:ℝ) < t := by exact_mod_cast h0
    obtain ⟨n, hn1, hn2⟩ := exists_mem_Ico_zpow ht (by norm_num : (1:ℝ) < 2)
    have a1 : pw n ≤ (t : EReal) := by unfold pw; exact_mod_cast hn1
    have a2 : (t : EReal) < pw (n + 1) := by unfold pw; exact_mod_cast hn2
    have b1 : n < 126 := pw_lt.1 (lt_of_le_of_lt a1 h1)
    have b2 : -126 < n + 1 := pw_lt.1 (lt_of_le_of_lt (not_lt.1 hs) a2)
    refine ⟨⟨(n + 127).toNat, by omega⟩, by simp only []; omega, fun _ => ?_, ?_⟩
    · convert a1 using 2; simp only []; omega
    · convert a2 using 2; simp only []; omega

/-- The reference's scale of a top `t`: one at zero, else the least power of two above it. -/
def leastOf (t : EReal) : EReal :=
  if t = 0 then 1 else Finset.univ.inf fun k : Fin 255 => if t < pw ((k.val : ℤ) - 126) then pw ((k.val : ℤ) - 126) else ⊤

theorem scale_facts (t : EReal) (h0 : 0 ≤ t) (h1 : t < pw 126) :
    ∃ n : ℤ, leastOf t = pw n ∧ scaleOf (expOf t) = pw n ∧ invOf (expOf t) = pw (-n) := by
  by_cases ht : t = 0
  · refine ⟨0, ?_, ?_, ?_⟩
    · rw [leastOf, if_pos ht]; simp [pw]
    · have := ofBits_pw 127 (by norm_num) (by norm_num)
      unfold scaleOf expOf; rw [if_pos ht]
      exact this
    · have := ofBits_pw 127 (by norm_num) (by norm_num)
      unfold invOf expOf; rw [if_pos ht]
      exact this
  · obtain ⟨m, hm, hlo, hhi⟩ := exists_count t (lt_of_le_of_ne h0 (Ne.symm ht)) h1
    refine ⟨(m.val : ℤ) - 126, ?_, ?_, ?_⟩
    · rw [leastOf, if_neg ht]
      refine le_antisymm ?_ ?_
      · have := Finset.inf_le (f := fun k : Fin 255 => if t < pw ((k.val : ℤ) - 126) then pw ((k.val : ℤ) - 126) else ⊤) (Finset.mem_univ m)
        simpa [hhi] using this
      · refine Finset.le_inf fun k _ => ?_
        by_cases hk : t < pw ((k.val : ℤ) - 126)
        · rw [if_pos hk]
          by_cases hm1 : 1 ≤ m.val
          · have := pw_lt.1 (lt_of_le_of_lt (hlo hm1) hk)
            exact pw_le.2 (by omega)
          · exact pw_le.2 (by omega)
        · rw [if_neg hk]; exact le_top
    · rw [expOf_eq t m ht hm hlo hhi]
      have := ofBits_pw (m.val + 1) (by omega) (by omega)
      unfold scaleOf
      have e : IntOp.addi 127#32 (IntOp.subi (BitVec.ofNat 32 m.val) 126#32) = BitVec.ofNat 32 (m.val + 1) :=
        (by decide +kernel : ∀ m : Fin 255, IntOp.addi 127#32 (IntOp.subi (BitVec.ofNat 32 m.val) 126#32) = BitVec.ofNat 32 (m.val + 1)) m
      rw [e, this]
      congr 1; push_cast; ring
    · rw [expOf_eq t m ht hm hlo hhi]
      have := ofBits_pw (253 - m.val) (by omega) (by omega)
      unfold invOf
      have e : IntOp.subi 127#32 (IntOp.subi (BitVec.ofNat 32 m.val) 126#32) = BitVec.ofNat 32 (253 - m.val) := by
        have := (by decide +kernel : ∀ m : Fin 253, IntOp.subi 127#32 (IntOp.subi (BitVec.ofNat 32 m.val) 126#32) = BitVec.ofNat 32 (253 - m.val)) ⟨m.val, by omega⟩
        exact this
      rw [e, this]
      congr 1; omega

end Cert.KernelIdeal.Attn
-- ==== Proof.Top.lean ====
/- The top of a tile of finite queries lies between zero and `2 ^ 126`. -/
module

public import proofs.«01_k».proof.Proof.Scale

@[expose] public section

set_option maxRecDepth 16384

noncomputable section

namespace Cert.KernelIdeal.Attn

open Idealize.ShloMosaic

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem bot_bits' : Ideal.ofBits .f32 0xFF800000#32 = ⊥ := by simp [Ideal.ofBits, Ideal.ieee]

/-- What the mean leaves, of finite queries, is finite. -/
theorem res_finite (x : Fin 128 → Fin 128 → EReal) (v : Fin 128 → Fin 128 → ℝ) (hx : ∀ r d, x r d = (v r d : EReal))
    (B : ℝ) (hv : ∀ r d, |v r d| ≤ B) (r d : Fin 128) : ∃ w : ℝ, resOf x r d = (w : EReal) ∧ |w| ≤ 2 * B := by
  have h2 : Ideal.ofBits FTy.f32 0x3C000000#32 = ((128⁻¹ : ℝ) : EReal) := by
    simp [Ideal.ofBits, Ideal.ieee, -EReal.coe_mul]; norm_num
  refine ⟨v r d - (∑ i, v i d) * 128⁻¹, ?_, ?_⟩
  · unfold resOf meanOf
    rw [h2, Finset.sum_congr rfl fun i _ => hx i d, coe_sum, hx, ← EReal.coe_mul, ← EReal.coe_sub]
  · have h : |∑ i, v i d| ≤ 128 * B := by
      refine (Finset.abs_sum_le_sum_abs _ _).trans ((Finset.sum_le_sum fun i _ => hv i d).trans ?_)
      simp
    have h' : |(∑ i, v i d) * 128⁻¹| ≤ B := by
      rw [abs_mul, abs_of_pos (by norm_num : (0:ℝ) < 128⁻¹)]
      linarith
    calc |v r d - (∑ i, v i d) * 128⁻¹| ≤ |v r d| + |(∑ i, v i d) * 128⁻¹| := abs_sub _ _
      _ ≤ 2 * B := by linarith [hv r d]

theorem top_bounds (x : Fin 128 → Fin 128 → EReal) (v : Fin 128 → Fin 128 → ℝ) (hx : ∀ r d, x r d = (v r d : EReal))
    (hv : ∀ r d, |v r d| ≤ 2 ^ 128) : 0 ≤ topOf x ∧ topOf x < pw 126 := by
  have hc : Ideal.ofBits FTy.f32 0x3B124925#32 = ((9586981 * (2:ℝ) ^ (-32 : ℤ) : ℝ) : EReal) := by
    simp [Ideal.ofBits, Ideal.ieee, -EReal.coe_mul]
  have ha : ∀ r d, ∃ w : ℝ, (FloatOps.absf (F := Ideal) (φ := .f32) (resOf x r d) : EReal) = (w : EReal) ∧ 0 ≤ w ∧ w ≤ 2 * 2 ^ 128 := by
    intro r d
    obtain ⟨w, hw, hb⟩ := res_finite x v hx _ hv r d
    refine ⟨|w|, ?_, abs_nonneg _, hb⟩
    rw [hw]
    show max (w : EReal) (-(w : EReal)) = _
    rw [← EReal.coe_neg]; exact (EReal.coe_strictMono.monotone.map_max).symm
  have e : topOf x = (Finset.univ.sup fun d => Finset.univ.sup fun r => (FloatOps.absf (F := Ideal) (φ := .f32) (resOf x r d) : EReal))
      * Ideal.ofBits FTy.f32 0x3B124925#32 := by
    unfold topOf; rw [bot_bits']; rfl
  generalize hS : (Finset.univ.sup fun d => Finset.univ.sup fun r => (FloatOps.absf (F := Ideal) (φ := .f32) (resOf x r d) : EReal)) = S at e
  have lo : 0 ≤ S := by
    obtain ⟨w, hw, h0, _⟩ := ha 0 0
    rw [← hS]
    refine le_trans ?_ (Finset.le_sup (f := fun d => Finset.univ.sup fun r => (FloatOps.absf (F := Ideal) (φ := .f32) (resOf x r d) : EReal)) (Finset.mem_univ 0))
    refine le_trans ?_ (Finset.le_sup (f := fun r => (FloatOps.absf (F := Ideal) (φ := .f32) (resOf x r 0) : EReal)) (Finset.mem_univ 0))
    show (0 : EReal) ≤ (FloatOps.absf (F := Ideal) (φ := .f32) (resOf x 0 0) : EReal)
    rw [hw]; exact_mod_cast h0
  have hi : S ≤ ((2 * 2 ^ 128 : ℝ) : EReal) := by
    rw [← hS]
    refine Finset.sup_le fun d _ => Finset.sup_le fun r _ => ?_
    obtain ⟨w, hw, _, h1⟩ := ha r d
    rw [hw]; exact_mod_cast h1
  rw [e, hc]
  lift S to ℝ using ⟨(lt_of_le_of_lt hi (EReal.coe_lt_top _)).ne, (lt_of_lt_of_le EReal.bot_lt_zero lo).ne'⟩
  have lo' : (0:ℝ) ≤ S := by exact_mod_cast lo
  have hi' : S ≤ 2 * 2 ^ 128 := by exact_mod_cast hi
  rw [← EReal.coe_mul]
  constructor
  · have : (0:ℝ) ≤ S * (9586981 * (2:ℝ) ^ (-32 : ℤ)) := by positivity
    exact_mod_cast this
  · unfold pw
    rw [EReal.coe_lt_coe_iff]
    refine lt_of_le_of_lt (mul_le_mul_of_nonneg_right hi' (by positivity)) ?_
    norm_num

/-- The scale facts of a tile of finite queries. -/
theorem tile_scale (x : Fin 128 → Fin 128 → EReal) (hx : ∀ r d, ∃ v : ℝ, x r d = (v : EReal) ∧ |v| ≤ 2 ^ 128) :
    ∃ n : ℤ, leastOf (topOf x) = pw n ∧ scaleOf (expOf (topOf x)) = pw n ∧ invOf (expOf (topOf x)) = pw (-n) := by
  choose v h1 h2 using hx
  obtain ⟨a, b⟩ := top_bounds x v h1 h2
  exact scale_facts _ a b

theorem div_pw (y : EReal) (n : ℤ) : Ideal.div y (pw n) = y * pw (-n) := by
  rw [Ideal.div, if_neg (pw_ne_zero n)]
  unfold pw
  rw [← EReal.coe_inv, zpow_neg]

end Cert.KernelIdeal.Attn
-- ==== Proof.Trip.lean ====
/- What one trip of the key loops stores, as the units of Units.lean at the tiles it reads. -/
module

public import proofs.«01_k».proof.Proof.Units

@[expose] public section

set_option maxRecDepth 16384

noncomputable section

namespace Cert.KernelIdeal.Attn

open Cert.KernelIdeal.Gen
open Idealize.ShloMosaic Idealize.ShloMosaic.TcCoe Idealize.ShloMosaic.Tactic Idealize.ShloMosaic.Pointwise

/-! ## Reading a rectangle at an index -/

section Read
variable {sg : RefSig} {κ : Kind} {sp : Space} {e : EltTy}

theorem rd3 {n0 n1 n2 : ℕ} (v : View sg κ sp ⟨3, ![n0, n1, n2]⟩ e) (o : Fin 3 → ℕ) (p0 p1 p2 : ℕ) (ho : o = ![p0, p1, p2])
    {m0 m1 m2 : ℕ} (h : ∀ a, o a + ![m0, m1, m2] a ≤ ![n0, n1, n2] a) (f : v.ty.Contents (Elt Ideal)) (x0 : Fin m0) (x1 : Fin m1) (x2 : Fin m2) (y0 : Fin n0) (y1 : Fin n1) (y2 : Fin n2)
    (h0 : y0.val = p0 + x0.val) (h1 : y1.val = p1 + x1.val) (h2 : y2.val = p2 + x2.val) :
    v.readAt (Elt Ideal) (Rect.unit (s := ⟨3, ![n0, n1, n2]⟩) o ![m0, m1, m2] h).toLoadRect f (ix3 x0 x1 x2) = v.read (Elt Ideal) f (ix3 y0 y1 y2) := by
  subst ho
  rw [View.readAt_apply]
  congr 1
  funext a
  apply Fin.ext
  fin_cases a <;> simp [LoadRect.idx, Rect.toLoadRect, Rect.unit, ix3, *]

theorem emb3 {n0 n1 n2 : ℕ} (o : Fin 3 → ℕ) (p0 p1 p2 : ℕ) (ho : o = ![p0, p1, p2])
    {m0 m1 m2 : ℕ} (h : ∀ a, o a + ![m0, m1, m2] a ≤ ![n0, n1, n2] a) (x0 : Fin m0) (x1 : Fin m1) (x2 : Fin m2) (y0 : Fin n0) (y1 : Fin n1) (y2 : Fin n2)
    (h0 : y0.val = p0 + x0.val) (h1 : y1.val = p1 + x1.val) (h2 : y2.val = p2 + x2.val) :
    (Rect.unit (s := ⟨3, ![n0, n1, n2]⟩) o ![m0, m1, m2] h).emb (ix3 x0 x1 x2) = ix3 y0 y1 y2 := by
  subst ho
  funext a
  apply Fin.ext
  fin_cases a <;> simp [Rect.emb, Rect.unit, ix3, *]

theorem rd4 {n0 n1 n2 n3 : ℕ} (v : View sg κ sp ⟨4, ![n0, n1, n2, n3]⟩ e) (o : Fin 4 → ℕ) (p0 p1 p2 p3 : ℕ) (ho : o = ![p0, p1, p2, p3])
    {m0 m1 m2 m3 : ℕ} (h : ∀ a, o a + ![m0, m1, m2, m3] a ≤ ![n0, n1, n2, n3] a) (f : v.ty.Contents (Elt Ideal)) (x0 : Fin m0) (x1 : Fin m1) (x2 : Fin m2) (x3 : Fin m3) (y0 : Fin n0) (y1 : Fin n1) (y2 : Fin n2) (y3 : Fin n3)
    (h0 : y0.val = p0 + x0.val) (h1 : y1.val = p1 + x1.val) (h2 : y2.val = p2 + x2.val) (h3 : y3.val = p3 + x3.val) :
    v.readAt (Elt Ideal) (Rect.unit (s := ⟨4, ![n0, n1, n2, n3]⟩) o ![m0, m1, m2, m3] h).toLoadRect f (ix4 x0 x1 x2 x3) = v.read (Elt Ideal) f (ix4 y0 y1 y2 y3) := by
  subst ho
  rw [View.readAt_apply]
  congr 1
  funext a
  apply Fin.ext
  fin_cases a <;> simp [LoadRect.idx, Rect.toLoadRect, Rect.unit, ix4, *]

theorem emb4 {n0 n1 n2 n3 : ℕ} (o : Fin 4 → ℕ) (p0 p1 p2 p3 : ℕ) (ho : o = ![p0, p1, p2, p3])
    {m0 m1 m2 m3 : ℕ} (h : ∀ a, o a + ![m0, m1, m2, m3] a ≤ ![n0, n1, n2, n3] a) (x0 : Fin m0) (x1 : Fin m1) (x2 : Fin m2) (x3 : Fin m3) (y0 : Fin n0) (y1 : Fin n1) (y2 : Fin n2) (y3 : Fin n3)
    (h0 : y0.val = p0 + x0.val) (h1 : y1.val = p1 + x1.val) (h2 : y2.val = p2 + x2.val) (h3 : y3.val = p3 + x3.val) :
    (Rect.unit (s := ⟨4, ![n0, n1, n2, n3]⟩) o ![m0, m1, m2, m3] h).emb (ix4 x0 x1 x2 x3) = ix4 y0 y1 y2 y3 := by
  subst ho
  funext a
  apply Fin.ext
  fin_cases a <;> simp [Rect.emb, Rect.unit, ix4, *]

theorem rd5 {n0 n1 n2 n3 n4 : ℕ} (v : View sg κ sp ⟨5, ![n0, n1, n2, n3, n4]⟩ e) (o : Fin 5 → ℕ) (p0 p1 p2 p3 p4 : ℕ) (ho : o = ![p0, p1, p2, p3, p4])
    {m0 m1 m2 m3 m4 : ℕ} (h : ∀ a, o a + ![m0, m1, m2, m3, m4] a ≤ ![n0, n1, n2, n3, n4] a) (f : v.ty.Contents (Elt Ideal)) (x0 : Fin m0) (x1 : Fin m1) (x2 : Fin m2) (x3 : Fin m3) (x4 : Fin m4) (y0 : Fin n0) (y1 : Fin n1) (y2 : Fin n2) (y3 : Fin n3) (y4 : Fin n4)
    (h0 : y0.val = p0 + x0.val) (h1 : y1.val = p1 + x1.val) (h2 : y2.val = p2 + x2.val) (h3 : y3.val = p3 + x3.val) (h4 : y4.val = p4 + x4.val) :
    v.readAt (Elt Ideal) (Rect.unit (s := ⟨5, ![n0, n1, n2, n3, n4]⟩) o ![m0, m1, m2, m3, m4] h).toLoadRect f (ix5 x0 x1 x2 x3 x4) = v.read (Elt Ideal) f (ix5 y0 y1 y2 y3 y4) := by
  subst ho
  rw [View.readAt_apply]
  congr 1
  funext a
  apply Fin.ext
  fin_cases a <;> simp [LoadRect.idx, Rect.toLoadRect, Rect.unit, ix5, *]

theorem emb5 {n0 n1 n2 n3 n4 : ℕ} (o : Fin 5 → ℕ) (p0 p1 p2 p3 p4 : ℕ) (ho : o = ![p0, p1, p2, p3, p4])
    {m0 m1 m2 m3 m4 : ℕ} (h : ∀ a, o a + ![m0, m1, m2, m3, m4] a ≤ ![n0, n1, n2, n3, n4] a) (x0 : Fin m0) (x1 : Fin m1) (x2 : Fin m2) (x3 : Fin m3) (x4 : Fin m4) (y0 : Fin n0) (y1 : Fin n1) (y2 : Fin n2) (y3 : Fin n3) (y4 : Fin n4)
    (h0 : y0.val = p0 + x0.val) (h1 : y1.val = p1 + x1.val) (h2 : y2.val = p2 + x2.val) (h3 : y3.val = p3 + x3.val) (h4 : y4.val = p4 + x4.val) :
    (Rect.unit (s := ⟨5, ![n0, n1, n2, n3, n4]⟩) o ![m0, m1, m2, m3, m4] h).emb (ix5 x0 x1 x2 x3 x4) = ix5 y0 y1 y2 y3 y4 := by
  subst ho
  funext a
  apply Fin.ext
  fin_cases a <;> simp [Rect.emb, Rect.unit, ix5, *]

end Read

/-! ## The trip counts and the offsets -/

theorem trips1 (i : grid0.Coords) : (k0_t1_loop i).trips = (i 2).val :=
  (by decide +kernel : ∀ n : Fin 32, (k0_t1_loop (fun | 0 => ⟨0, by decide⟩ | 1 => ⟨0, by decide⟩ | 2 => n)).trips = n.val) (i 2)

theorem trips2 (i : grid0.Coords) : (k0_t2_loop i).trips = 0 :=
  (by decide +kernel : ∀ n : Fin 32, (k0_t2_loop (fun | 0 => ⟨0, by decide⟩ | 1 => ⟨0, by decide⟩ | 2 => n)).trips = 0) (i 2)

theorem trips3 (i : grid0.Coords) : (k0_t3_loop i).trips = (i 2).val :=
  (by decide +kernel : ∀ n : Fin 32, (k0_t3_loop (fun | 0 => ⟨0, by decide⟩ | 1 => ⟨0, by decide⟩ | 2 => n)).trips = n.val) (i 2)

theorem trips4 (i : grid0.Coords) : (k0_t4_loop i).trips = 0 :=
  (by decide +kernel : ∀ n : Fin 32, (k0_t4_loop (fun | 0 => ⟨0, by decide⟩ | 1 => ⟨0, by decide⟩ | 2 => n)).trips = 0) (i 2)

theorem iv_val (k : ℕ) (hk : k < 32) : (Scf.iv (0#32) (1#32) k).toNat = k := by
  simp [Scf.iv]; omega

theorem off1 (i : grid0.Coords) (k : Fin (k0_t1_loop i).trips) (hk : k.val < 32) : k0_off1 i k = ![0, 0, k.val, 0, 0] := by
  have := iv_val k.val hk
  simp [k0_off1, Scalar.indexCast, this]

theorem off65 (i : grid0.Coords) (k : Fin (k0_t3_loop i).trips) (hk : k.val < 32) : k0_off65 i k = ![0, 0, k.val, 0, 0] := by
  have := iv_val k.val hk
  simp [k0_off65, Scalar.indexCast, this]

theorem off2 (i : grid0.Coords) (k : Fin (k0_t1_loop i).trips) (hk : k.val < 32) : k0_off2 i k = ![k.val, 0, 0, 0] := by
  have := iv_val k.val hk
  simp [k0_off2, Scalar.indexCast, this]

theorem off66 (i : grid0.Coords) (k : Fin (k0_t3_loop i).trips) (hk : k.val < 32) : k0_off66 i k = ![k.val, 0, 0, 0] := by
  have := iv_val k.val hk
  simp [k0_off66, Scalar.indexCast, this]

theorem off13 (i : grid0.Coords) (k : Fin (k0_t1_loop i).trips) (hk : k.val < 32) : k0_off13 i k = ![k.val, 1, 0, 0] := by
  have := iv_val k.val hk
  simp [k0_off13, Scalar.indexCast, this]

theorem off74 (i : grid0.Coords) (k : Fin (k0_t3_loop i).trips) (hk : k.val < 32) : k0_off74 i k = ![k.val, 1, 0, 0] := by
  have := iv_val k.val hk
  simp [k0_off74, Scalar.indexCast, this]

theorem off18 (i : grid0.Coords) (k : Fin (k0_t1_loop i).trips) (hk : k.val < 32) : k0_off18 i k = ![k.val, 2, 0, 0] := by
  have := iv_val k.val hk
  simp [k0_off18, Scalar.indexCast, this]

theorem off78 (i : grid0.Coords) (k : Fin (k0_t3_loop i).trips) (hk : k.val < 32) : k0_off78 i k = ![k.val, 2, 0, 0] := by
  have := iv_val k.val hk
  simp [k0_off78, Scalar.indexCast, this]

theorem off23 (i : grid0.Coords) (k : Fin (k0_t1_loop i).trips) (hk : k.val < 32) : k0_off23 i k = ![k.val, 3, 0, 0] := by
  have := iv_val k.val hk
  simp [k0_off23, Scalar.indexCast, this]

theorem off82 (i : grid0.Coords) (k : Fin (k0_t3_loop i).trips) (hk : k.val < 32) : k0_off82 i k = ![k.val, 3, 0, 0] := by
  have := iv_val k.val hk
  simp [k0_off82, Scalar.indexCast, this]

theorem off28 (i : grid0.Coords) (k : Fin (k0_t1_loop i).trips) (hk : k.val < 32) : k0_off28 i k = ![k.val, 4, 0, 0] := by
  have := iv_val k.val hk
  simp [k0_off28, Scalar.indexCast, this]

theorem off86 (i : grid0.Coords) (k : Fin (k0_t3_loop i).trips) (hk : k.val < 32) : k0_off86 i k = ![k.val, 4, 0, 0] := by
  have := iv_val k.val hk
  simp [k0_off86, Scalar.indexCast, this]

theorem off3 (i : grid0.Coords) (k : Fin (k0_t1_loop i).trips) (hk : k.val < 32) : k0_off3 i k = ![0, 0, k.val, 1, 0] := by
  have := iv_val k.val hk
  simp [k0_off3, Scalar.indexCast, this]

theorem off67 (i : grid0.Coords) (k : Fin (k0_t3_loop i).trips) (hk : k.val < 32) : k0_off67 i k = ![0, 0, k.val, 1, 0] := by
  have := iv_val k.val hk
  simp [k0_off67, Scalar.indexCast, this]

theorem off4 (i : grid0.Coords) (k : Fin (k0_t1_loop i).trips) (hk : k.val < 32) : k0_off4 i k = ![k.val, 0, 64, 0] := by
  have := iv_val k.val hk
  simp [k0_off4, Scalar.indexCast, this]

theorem off68 (i : grid0.Coords) (k : Fin (k0_t3_loop i).trips) (hk : k.val < 32) : k0_off68 i k = ![k.val, 0, 64, 0] := by
  have := iv_val k.val hk
  simp [k0_off68, Scalar.indexCast, this]

theorem off14 (i : grid0.Coords) (k : Fin (k0_t1_loop i).trips) (hk : k.val < 32) : k0_off14 i k = ![k.val, 1, 64, 0] := by
  have := iv_val k.val hk
  simp [k0_off14, Scalar.indexCast, this]

theorem off75 (i : grid0.Coords) (k : Fin (k0_t3_loop i).trips) (hk : k.val < 32) : k0_off75 i k = ![k.val, 1, 64, 0] := by
  have := iv_val k.val hk
  simp [k0_off75, Scalar.indexCast, this]

theorem off19 (i : grid0.Coords) (k : Fin (k0_t1_loop i).trips) (hk : k.val < 32) : k0_off19 i k = ![k.val, 2, 64, 0] := by
  have := iv_val k.val hk
  simp [k0_off19, Scalar.indexCast, this]

theorem off79 (i : grid0.Coords) (k : Fin (k0_t3_loop i).trips) (hk : k.val < 32) : k0_off79 i k = ![k.val, 2, 64, 0] := by
  have := iv_val k.val hk
  simp [k0_off79, Scalar.indexCast, this]

theorem off24 (i : grid0.Coords) (k : Fin (k0_t1_loop i).trips) (hk : k.val < 32) : k0_off24 i k = ![k.val, 3, 64, 0] := by
  have := iv_val k.val hk
  simp [k0_off24, Scalar.indexCast, this]

theorem off83 (i : grid0.Coords) (k : Fin (k0_t3_loop i).trips) (hk : k.val < 32) : k0_off83 i k = ![k.val, 3, 64, 0] := by
  have := iv_val k.val hk
  simp [k0_off83, Scalar.indexCast, this]

theorem off29 (i : grid0.Coords) (k : Fin (k0_t1_loop i).trips) (hk : k.val < 32) : k0_off29 i k = ![k.val, 4, 64, 0] := by
  have := iv_val k.val hk
  simp [k0_off29, Scalar.indexCast, this]

theorem off87 (i : grid0.Coords) (k : Fin (k0_t3_loop i).trips) (hk : k.val < 32) : k0_off87 i k = ![k.val, 4, 64, 0] := by
  have := iv_val k.val hk
  simp [k0_off87, Scalar.indexCast, this]

theorem off5 (i : grid0.Coords) (k : Fin (k0_t1_loop i).trips) (hk : k.val < 32) : k0_off5 i k = ![0, 0, k.val, 2, 0] := by
  have := iv_val k.val hk
  simp [k0_off5, Scalar.indexCast, this]

theorem off69 (i : grid0.Coords) (k : Fin (k0_t3_loop i).trips) (hk : k.val < 32) : k0_off69 i k = ![0, 0, k.val, 2, 0] := by
  have := iv_val k.val hk
  simp [k0_off69, Scalar.indexCast, this]

theorem off6 (i : grid0.Coords) (k : Fin (k0_t1_loop i).trips) (hk : k.val < 32) : k0_off6 i k = ![k.val, 0, 128, 0] := by
  have := iv_val k.val hk
  simp [k0_off6, Scalar.indexCast, this]

theorem off70 (i : grid0.Coords) (k : Fin (k0_t3_loop i).trips) (hk : k.val < 32) : k0_off70 i k = ![k.val, 0, 128, 0] := by
  have := iv_val k.val hk
  simp [k0_off70, Scalar.indexCast, this]

theorem off15 (i : grid0.Coords) (k : Fin (k0_t1_loop i).trips) (hk : k.val < 32) : k0_off15 i k = ![k.val, 1, 128, 0] := by
  have := iv_val k.val hk
  simp [k0_off15, Scalar.indexCast, this]

theorem off76 (i : grid0.Coords) (k : Fin (k0_t3_loop i).trips) (hk : k.val < 32) : k0_off76 i k = ![k.val, 1, 128, 0] := by
  have := iv_val k.val hk
  simp [k0_off76, Scalar.indexCast, this]

theorem off20 (i : grid0.Coords) (k : Fin (k0_t1_loop i).trips) (hk : k.val < 32) : k0_off20 i k = ![k.val, 2, 128, 0] := by
  have := iv_val k.val hk
  simp [k0_off20, Scalar.indexCast, this]

theorem off80 (i : grid0.Coords) (k : Fin (k0_t3_loop i).trips) (hk : k.val < 32) : k0_off80 i k = ![k.val, 2, 128, 0] := by
  have := iv_val k.val hk
  simp [k0_off80, Scalar.indexCast, this]

theorem off25 (i : grid0.Coords) (k : Fin (k0_t1_loop i).trips) (hk : k.val < 32) : k0_off25 i k = ![k.val, 3, 128, 0] := by
  have := iv_val k.val hk
  simp [k0_off25, Scalar.indexCast, this]

theorem off84 (i : grid0.Coords) (k : Fin (k0_t3_loop i).trips) (hk : k.val < 32) : k0_off84 i k = ![k.val, 3, 128, 0] := by
  have := iv_val k.val hk
  simp [k0_off84, Scalar.indexCast, this]

theorem off30 (i : grid0.Coords) (k : Fin (k0_t1_loop i).trips) (hk : k.val < 32) : k0_off30 i k = ![k.val, 4, 128, 0] := by
  have := iv_val k.val hk
  simp [k0_off30, Scalar.indexCast, this]

theorem off88 (i : grid0.Coords) (k : Fin (k0_t3_loop i).trips) (hk : k.val < 32) : k0_off88 i k = ![k.val, 4, 128, 0] := by
  have := iv_val k.val hk
  simp [k0_off88, Scalar.indexCast, this]

theorem off7 (i : grid0.Coords) (k : Fin (k0_t1_loop i).trips) (hk : k.val < 32) : k0_off7 i k = ![0, 0, k.val, 3, 0] := by
  have := iv_val k.val hk
  simp [k0_off7, Scalar.indexCast, this]

theorem off71 (i : grid0.Coords) (k : Fin (k0_t3_loop i).trips) (hk : k.val < 32) : k0_off71 i k = ![0, 0, k.val, 3, 0] := by
  have := iv_val k.val hk
  simp [k0_off71, Scalar.indexCast, this]

theorem off8 (i : grid0.Coords) (k : Fin (k0_t1_loop i).trips) (hk : k.val < 32) : k0_off8 i k = ![k.val, 0, 192, 0] := by
  have := iv_val k.val hk
  simp [k0_off8, Scalar.indexCast, this]

theorem off72 (i : grid0.Coords) (k : Fin (k0_t3_loop i).trips) (hk : k.val < 32) : k0_off72 i k = ![k.val, 0, 192, 0] := by
  have := iv_val k.val hk
  simp [k0_off72, Scalar.indexCast, this]

theorem off16 (i : grid0.Coords) (k : Fin (k0_t1_loop i).trips) (hk : k.val < 32) : k0_off16 i k = ![k.val, 1, 192, 0] := by
  have := iv_val k.val hk
  simp [k0_off16, Scalar.indexCast, this]

theorem off77 (i : grid0.Coords) (k : Fin (k0_t3_loop i).trips) (hk : k.val < 32) : k0_off77 i k = ![k.val, 1, 192, 0] := by
  have := iv_val k.val hk
  simp [k0_off77, Scalar.indexCast, this]

theorem off21 (i : grid0.Coords) (k : Fin (k0_t1_loop i).trips) (hk : k.val < 32) : k0_off21 i k = ![k.val, 2, 192, 0] := by
  have := iv_val k.val hk
  simp [k0_off21, Scalar.indexCast, this]

theorem off81 (i : grid0.Coords) (k : Fin (k0_t3_loop i).trips) (hk : k.val < 32) : k0_off81 i k = ![k.val, 2, 192, 0] := by
  have := iv_val k.val hk
  simp [k0_off81, Scalar.indexCast, this]

theorem off26 (i : grid0.Coords) (k : Fin (k0_t1_loop i).trips) (hk : k.val < 32) : k0_off26 i k = ![k.val, 3, 192, 0] := by
  have := iv_val k.val hk
  simp [k0_off26, Scalar.indexCast, this]

theorem off85 (i : grid0.Coords) (k : Fin (k0_t3_loop i).trips) (hk : k.val < 32) : k0_off85 i k = ![k.val, 3, 192, 0] := by
  have := iv_val k.val hk
  simp [k0_off85, Scalar.indexCast, this]

theorem off31 (i : grid0.Coords) (k : Fin (k0_t1_loop i).trips) (hk : k.val < 32) : k0_off31 i k = ![k.val, 4, 192, 0] := by
  have := iv_val k.val hk
  simp [k0_off31, Scalar.indexCast, this]

theorem off89 (i : grid0.Coords) (k : Fin (k0_t3_loop i).trips) (hk : k.val < 32) : k0_off89 i k = ![k.val, 4, 192, 0] := by
  have := iv_val k.val hk
  simp [k0_off89, Scalar.indexCast, this]

theorem off12 (i : grid0.Coords) (k : Fin (k0_t1_loop i).trips) (hk : k.val < 32) : k0_off12 i k = ![k.val, 0, 0, 0] := by
  have := iv_val k.val hk
  simp [k0_off12, Scalar.indexCast, this]

theorem off17 (i : grid0.Coords) (k : Fin (k0_t1_loop i).trips) (hk : k.val < 32) : k0_off17 i k = ![k.val, 1, 0, 0] := by
  have := iv_val k.val hk
  simp [k0_off17, Scalar.indexCast, this]

theorem off22 (i : grid0.Coords) (k : Fin (k0_t1_loop i).trips) (hk : k.val < 32) : k0_off22 i k = ![k.val, 2, 0, 0] := by
  have := iv_val k.val hk
  simp [k0_off22, Scalar.indexCast, this]

theorem off27 (i : grid0.Coords) (k : Fin (k0_t1_loop i).trips) (hk : k.val < 32) : k0_off27 i k = ![k.val, 3, 0, 0] := by
  have := iv_val k.val hk
  simp [k0_off27, Scalar.indexCast, this]

theorem off32 (i : grid0.Coords) (k : Fin (k0_t1_loop i).trips) (hk : k.val < 32) : k0_off32 i k = ![k.val, 4, 0, 0] := by
  have := iv_val k.val hk
  simp [k0_off32, Scalar.indexCast, this]

theorem off9 (i : grid0.Coords) (k : Fin (k0_t1_loop i).trips) (hk : k.val < 32) : k0_off9 i k = ![0, 0, k.val, 0, 0] := by
  have := iv_val k.val hk
  simp [k0_off9, Scalar.indexCast, this]

theorem off73 (i : grid0.Coords) (k : Fin (k0_t3_loop i).trips) (hk : k.val < 32) : k0_off73 i k = ![0, 0, k.val, 0, 0] := by
  have := iv_val k.val hk
  simp [k0_off73, Scalar.indexCast, this]

theorem off10 (i : grid0.Coords) (k : Fin (k0_t1_loop i).trips) (hk : k.val < 32) : k0_off10 i k = ![0, 256 * k.val, 0] := by
  have e : (Scf.iv (0#32) (1#32) k.val * 256#32).toNat = 256 * k.val := by
    rw [BitVec.toNat_mul, iv_val k.val hk]; simp; omega
  simp [k0_off10, Scalar.indexCast, Scalar.muli, IntOp.muli, e]

theorem off11 (i : grid0.Coords) (k : Fin (k0_t1_loop i).trips) (hk : k.val < 32) : k0_off11 i k = ![0, 0, 256 * k.val, 0] := by
  have e : (Scf.iv (0#32) (1#32) k.val * 256#32).toNat = 256 * k.val := by
    rw [BitVec.toNat_mul, iv_val k.val hk]; simp; omega
  simp [k0_off11, Scalar.indexCast, Scalar.muli, IntOp.muli, e]

/-- The offsets of the four key scales a trip reads. -/
def oK1 (i : grid0.Coords) (k : Fin (k0_t1_loop i).trips) : Fin 4 → Fin 5 → ℕ := ![k0_off1 i k, k0_off3 i k, k0_off5 i k, k0_off7 i k]

theorem oK1_eq (i : grid0.Coords) (k : Fin (k0_t1_loop i).trips) (hk : k.val < 32) (j : Fin 4) :
    oK1 i k j = ![0, 0, k.val, j.val, 0] := by
  fin_cases j
  · exact off1 i k hk
  · exact off3 i k hk
  · exact off5 i k hk
  · exact off7 i k hk

/-- The offsets of the four tiles of scores a trip reads of a head. -/
def oS1 (i : grid0.Coords) (k : Fin (k0_t1_loop i).trips) : Fin 5 → Fin 4 → Fin 4 → ℕ :=
  ![![k0_off2 i k, k0_off4 i k, k0_off6 i k, k0_off8 i k], ![k0_off13 i k, k0_off14 i k, k0_off15 i k, k0_off16 i k], ![k0_off18 i k, k0_off19 i k, k0_off20 i k, k0_off21 i k], ![k0_off23 i k, k0_off24 i k, k0_off25 i k, k0_off26 i k], ![k0_off28 i k, k0_off29 i k, k0_off30 i k, k0_off31 i k]]

theorem oS1_eq (i : grid0.Coords) (k : Fin (k0_t1_loop i).trips) (hk : k.val < 32) (g : Fin 5) (j : Fin 4) :
    oS1 i k g j = ![k.val, g.val, 64 * j.val, 0] := by
  fin_cases g <;> fin_cases j
  · exact off2 i k hk
  · exact off4 i k hk
  · exact off6 i k hk
  · exact off8 i k hk
  · exact off13 i k hk
  · exact off14 i k hk
  · exact off15 i k hk
  · exact off16 i k hk
  · exact off18 i k hk
  · exact off19 i k hk
  · exact off20 i k hk
  · exact off21 i k hk
  · exact off23 i k hk
  · exact off24 i k hk
  · exact off25 i k hk
  · exact off26 i k hk
  · exact off28 i k hk
  · exact off29 i k hk
  · exact off30 i k hk
  · exact off31 i k hk
/-- The offsets of the four key scales a trip reads. -/
def oK3 (i : grid0.Coords) (k : Fin (k0_t3_loop i).trips) : Fin 4 → Fin 5 → ℕ := ![k0_off65 i k, k0_off67 i k, k0_off69 i k, k0_off71 i k]

theorem oK3_eq (i : grid0.Coords) (k : Fin (k0_t3_loop i).trips) (hk : k.val < 32) (j : Fin 4) :
    oK3 i k j = ![0, 0, k.val, j.val, 0] := by
  fin_cases j
  · exact off65 i k hk
  · exact off67 i k hk
  · exact off69 i k hk
  · exact off71 i k hk

/-- The offsets of the four tiles of scores a trip reads of a head. -/
def oS3 (i : grid0.Coords) (k : Fin (k0_t3_loop i).trips) : Fin 5 → Fin 4 → Fin 4 → ℕ :=
  ![![k0_off66 i k, k0_off68 i k, k0_off70 i k, k0_off72 i k], ![k0_off74 i k, k0_off75 i k, k0_off76 i k, k0_off77 i k], ![k0_off78 i k, k0_off79 i k, k0_off80 i k, k0_off81 i k], ![k0_off82 i k, k0_off83 i k, k0_off84 i k, k0_off85 i k], ![k0_off86 i k, k0_off87 i k, k0_off88 i k, k0_off89 i k]]

theorem oS3_eq (i : grid0.Coords) (k : Fin (k0_t3_loop i).trips) (hk : k.val < 32) (g : Fin 5) (j : Fin 4) :
    oS3 i k g j = ![k.val, g.val, 64 * j.val, 0] := by
  fin_cases g <;> fin_cases j
  · exact off66 i k hk
  · exact off68 i k hk
  · exact off70 i k hk
  · exact off72 i k hk
  · exact off74 i k hk
  · exact off75 i k hk
  · exact off76 i k hk
  · exact off77 i k hk
  · exact off78 i k hk
  · exact off79 i k hk
  · exact off80 i k hk
  · exact off81 i k hk
  · exact off82 i k hk
  · exact off83 i k hk
  · exact off84 i k hk
  · exact off85 i k hk
  · exact off86 i k hk
  · exact off87 i k hk
  · exact off88 i k hk
  · exact off89 i k hk

/-- The offsets of the scores a trip stores of a head. -/
def oW1 (i : grid0.Coords) (k : Fin (k0_t1_loop i).trips) : Fin 5 → Fin 4 → ℕ := ![k0_off12 i k, k0_off17 i k, k0_off22 i k, k0_off27 i k, k0_off32 i k]

theorem oW1_eq (i : grid0.Coords) (k : Fin (k0_t1_loop i).trips) (hk : k.val < 32) (g : Fin 5) :
    oW1 i k g = ![k.val, g.val, 0, 0] := by
  fin_cases g
  · exact off12 i k hk
  · exact off17 i k hk
  · exact off22 i k hk
  · exact off27 i k hk
  · exact off32 i k hk

theorem inb3 {m1 m2 n1 n2 : ℕ} (g : Fin 5) (h1 : m1 ≤ n1) (h2 : m2 ≤ n2) :
    ∀ a, (![g.val, 0, 0] : Fin 3 → ℕ) a + (⟨3, ![1, m1, m2]⟩ : Shape).size a ≤ (⟨3, ![5, n1, n2]⟩ : Shape).size a := by
  intro a; fin_cases a <;> simp <;> omega

theorem inbK {o : Fin 5 → ℕ} {c j : ℕ} (ho : o = ![0, 0, c, j, 0]) (hc : c < 31) (hj : j < 4) :
    ∀ a, o a + S1x1x1x1x1.size a ≤ S1x1x31x4x128.size a := by
  subst ho; intro a; fin_cases a <;> simp <;> omega

theorem inbS {o : Fin 4 → ℕ} {c g j : ℕ} (ho : o = ![c, g, 64 * j, 0]) (hc : c < 31) (hg : g < 5) (hj : j < 4) :
    ∀ a, o a + S1x1x64x256.size a ≤ S31x5x256x256.size a := by
  subst ho; intro a; fin_cases a <;> simp <;> omega

theorem inbW {o : Fin 4 → ℕ} {c g : ℕ} (ho : o = ![c, g, 0, 0]) (hc : c < 31) (hg : g < 5) :
    ∀ a, o a + S1x1x256x256.size a ≤ S31x5x256x256.size a := by
  subst ho; intro a; fin_cases a <;> simp <;> omega

theorem inbV {o : Fin 5 → ℕ} {c : ℕ} (ho : o = ![0, 0, c, 0, 0]) (hc : c < 31) :
    ∀ a, o a + S1x1x1x128x256.size a ≤ S1x1x31x128x256.size a := by
  subst ho; intro a; fin_cases a <;> simp <;> omega

theorem inbC {o : Fin 3 → ℕ} {c : ℕ} (ho : o = ![0, 256 * c, 0]) (hc : c < 31) :
    ∀ a, o a + S1x256x128.size a ≤ S1x7936x128.size a := by
  subst ho; intro a; fin_cases a <;> simp <;> omega

theorem inbD {o : Fin 4 → ℕ} {c : ℕ} (ho : o = ![0, 0, 256 * c, 0]) (hc : c < 31) :
    ∀ a, o a + S1x1x256x128.size a ≤ S1x1x7936x128.size a := by
  subst ho; intro a; fin_cases a <;> simp <;> omega

/-! ## What a block of keys adds, at an index -/

abbrev key (j : Fin 4) (a r : Fin 8) : Fin 256 := ⟨64 * j.val + (a.val * 8 + r.val), by omega⟩
abbrev gkey (c : Fin 31) (x : Fin 256) : Fin 7936 := ⟨256 * c.val + x.val, by omega⟩
abbrev sub (x : Fin 256) : Fin 4 := ⟨x.val / 64, by omega⟩

/-- The weight of a key of block `c` for a query of head `g`. -/
def wAt (x6 : Vec Ideal S1x1x31x4x128 .f32) (x14 : Vec Ideal S31x5x256x256 .f32) (x18 x20 : Vec Ideal S5x1x256 .f32)
    (c : Fin 31) (g : Fin 5) (x l : Fin 256) : EReal :=
  weight (x18 (ix3 g 0 l)) (x6 (ix5 0 0 c (sub x) 0)) (x20 (ix3 g 0 l)) (x14 (ix4 c g x l))

/-- The score of a key of block `c` for a query of head `g`. -/
def sAt (x4 : Vec Ideal S1x7936x128 .fp8e4m3) (x5 : Vec Ideal S1x1x7936x128 .bf16) (x15 : Vec Ideal S5x128x256 .fp8e4m3)
    (x16 : Vec Ideal S5x128x256 .bf16) (c : Fin 31) (g : Fin 5) (x l : Fin 256) : EReal :=
  (∑ d : Fin 128, x4 (ix3 0 (gkey c x) d) * x15 (ix3 g d l)) + ∑ d : Fin 128, x5 (ix4 0 0 (gkey c x) d) * x16 (ix3 g d l)

def sumStep (x6 : Vec Ideal S1x1x31x4x128 .f32) (x14 : Vec Ideal S31x5x256x256 .f32) (x18 x20 : Vec Ideal S5x1x256 .f32)
    (c : Fin 31) (g : Fin 5) (r : Fin 8) (l : Fin 256) : EReal :=
  ∑ j : Fin 4, ∑ a : Fin 8, wAt x6 x14 x18 x20 c g (key j a r) l

def accStep (x6 : Vec Ideal S1x1x31x4x128 .f32) (x7 : Vec Ideal S1x1x31x128x256 .fp8e4m3)
    (x14 : Vec Ideal S31x5x256x256 .f32) (x18 x20 : Vec Ideal S5x1x256 .f32)
    (c : Fin 31) (g : Fin 5) (d : Fin 128) (l : Fin 256) : EReal :=
  ∑ x : Fin 256, x7 (ix5 0 0 c d x) * min (wAt x6 x14 x18 x20 c g x l) (Ideal.ofBits .f32 0x43E00000#32)

def maxStep (x4 : Vec Ideal S1x7936x128 .fp8e4m3) (x5 : Vec Ideal S1x1x7936x128 .bf16) (x6 : Vec Ideal S1x1x31x4x128 .f32)
    (x15 : Vec Ideal S5x128x256 .fp8e4m3) (x16 : Vec Ideal S5x128x256 .bf16) (c : Fin 31) (g : Fin 5) (r : Fin 8)
    (l : Fin 256) : EReal :=
  Finset.univ.sup fun j : Fin 4 => (Finset.univ.sup fun a : Fin 8 => sAt x4 x5 x15 x16 c g (key j a r) l) * x6 (ix5 0 0 c j 0)

section Pieces

variable (arg4 : Memref sig .tc .vmem S1x7936x128 .fp8e4m3) (arg5 : Memref sig .tc .vmem S1x1x7936x128 .bf16)
  (arg6 : Memref sig .tc .vmem S1x1x31x4x128 .f32) (arg7 : Memref sig .tc .vmem S1x1x31x128x256 .fp8e4m3)
  (arg14 : Memref sig .tc .vmem S31x5x256x256 .f32) (arg15 : Memref sig .tc .vmem S5x128x256 .fp8e4m3)
  (arg16 : Memref sig .tc .vmem S5x128x256 .bf16) (arg18 : Memref sig .tc .vmem S5x1x256 .f32)
  (arg19 : Memref sig .tc .vmem S5x8x256 .f32) (arg20 : Memref sig .tc .vmem S5x1x256 .f32)
  (arg21 : Memref sig .tc .vmem S5x8x256 .f32) (arg22 : Memref sig .tc .vmem S5x128x256 .f32)
  (X4 : BufTy.Contents (Elt Ideal) arg4.view.ty) (X5 : BufTy.Contents (Elt Ideal) arg5.view.ty)
  (X6 : BufTy.Contents (Elt Ideal) arg6.view.ty) (X7 : BufTy.Contents (Elt Ideal) arg7.view.ty)
  (f14 : BufTy.Contents (Elt Ideal) arg14.view.ty) (X15 : BufTy.Contents (Elt Ideal) arg15.view.ty)
  (X16 : BufTy.Contents (Elt Ideal) arg16.view.ty) (X18 : BufTy.Contents (Elt Ideal) arg18.view.ty)
  (f19 : BufTy.Contents (Elt Ideal) arg19.view.ty) (X20 : BufTy.Contents (Elt Ideal) arg20.view.ty)
  (f21 : BufTy.Contents (Elt Ideal) arg21.view.ty) (f22 : BufTy.Contents (Elt Ideal) arg22.view.ty)
  (g : Fin 5) (oK : Fin 4 → Fin 5 → ℕ) (hK : ∀ j, ∀ a, oK j a + S1x1x1x1x1.size a ≤ S1x1x31x4x128.size a)
  (oS : Fin 4 → Fin 4 → ℕ) (hS : ∀ j, ∀ a, oS j a + S1x1x64x256.size a ≤ S31x5x256x256.size a)
  (oV : Fin 5 → ℕ) (hV : ∀ a, oV a + S1x1x1x128x256.size a ≤ S1x1x31x128x256.size a)
  (oC : Fin 3 → ℕ) (hC : ∀ a, oC a + S1x256x128.size a ≤ S1x7936x128.size a)
  (oD : Fin 4 → ℕ) (hD : ∀ a, oD a + S1x1x256x128.size a ≤ S1x1x7936x128.size a)
  (oW : Fin 4 → ℕ) (hW : ∀ a, oW a + S1x1x256x256.size a ≤ S31x5x256x256.size a)

/-- The four key scales, as loaded. -/
def ldK (j : Fin 4) : Vec Ideal S1x1x1x1x1 .f32 :=
  View.readAt (Elt Ideal) arg6.view (Rect.unit (s := S1x1x31x4x128) (oK j) S1x1x1x1x1.size (hK j)).toLoadRect X6

/-- The four tiles of scores, as loaded. -/
def ldS (j : Fin 4) : Vec Ideal S1x1x64x256 .f32 :=
  View.readAt (Elt Ideal) arg14.view (Rect.unit (s := S31x5x256x256) (oS j) S1x1x64x256.size (hS j)).toLoadRect f14

/-- The row of a head, as loaded. -/
def ldH (m : Memref sig .tc .vmem S5x1x256 .f32) (X : BufTy.Contents (Elt Ideal) m.view.ty) : Vec Ideal S1x1x256 .f32 :=
  View.readAt (Elt Ideal) m.view (Rect.unit (s := S5x1x256) ![g.val, 0, 0] S1x1x256.size (inb3 g le_rfl le_rfl)).toLoadRect X

def ldR (m : Memref sig .tc .vmem S5x8x256 .f32) (X : BufTy.Contents (Elt Ideal) m.view.ty) : Vec Ideal S1x8x256 .f32 :=
  View.readAt (Elt Ideal) m.view (Rect.unit (s := S5x8x256) ![g.val, 0, 0] S1x8x256.size (inb3 g le_rfl le_rfl)).toLoadRect X

def ldD {e : EltTy} (m : Memref sig .tc .vmem S5x128x256 e) (X : BufTy.Contents (Elt Ideal) m.view.ty) : Vec Ideal S1x128x256 e :=
  View.readAt (Elt Ideal) m.view (Rect.unit (s := S5x128x256) ![g.val, 0, 0] S1x128x256.size (inb3 g le_rfl le_rfl)).toLoadRect X

def ldV : Vec Ideal S1x1x1x128x256 .fp8e4m3 :=
  View.readAt (Elt Ideal) arg7.view (Rect.unit (s := S1x1x31x128x256) oV S1x1x1x128x256.size hV).toLoadRect X7

def ldC : Vec Ideal S1x256x128 .fp8e4m3 :=
  View.readAt (Elt Ideal) arg4.view (Rect.unit (s := S1x7936x128) oC S1x256x128.size hC).toLoadRect X4

def ldW : Vec Ideal S1x1x256x128 .bf16 :=
  View.readAt (Elt Ideal) arg5.view (Rect.unit (s := S1x1x7936x128) oD S1x1x256x128.size hD).toLoadRect X5

def pcSum : View.Piece (Elt Ideal) S5x8x256 .f32 :=
  ⟨Rect.unit (s := S5x8x256) ![g.val, 0, 0] S1x8x256.size (inb3 g le_rfl le_rfl),
    uSum (ldH g arg18 X18) (ldH g arg20 X20) (ldK arg6 X6 oK hK) (ldS arg14 f14 oS hS) (ldR g arg21 f21)⟩

def pcAcc : View.Piece (Elt Ideal) S5x128x256 .f32 :=
  ⟨Rect.unit (s := S5x128x256) ![g.val, 0, 0] S1x128x256.size (inb3 g le_rfl le_rfl),
    uAcc (ldH g arg18 X18) (ldH g arg20 X20) (ldK arg6 X6 oK hK) (ldS arg14 f14 oS hS) (ldV arg7 X7 oV hV) (ldD g arg22 f22)⟩

def pcMax : View.Piece (Elt Ideal) S5x8x256 .f32 :=
  ⟨Rect.unit (s := S5x8x256) ![g.val, 0, 0] S1x8x256.size (inb3 g le_rfl le_rfl),
    uMax (ldC arg4 X4 oC hC) (ldD g arg15 X15) (ldW arg5 X5 oD hD) (ldD g arg16 X16) (ldK arg6 X6 oK hK) (ldR g arg19 f19)⟩

def pcScore : View.Piece (Elt Ideal) S31x5x256x256 .f32 :=
  ⟨Rect.unit (s := S31x5x256x256) oW S1x1x256x256.size hW,
    uScore (ldC arg4 X4 oC hC) (ldD g arg15 X15) (ldW arg5 X5 oD hD) (ldD g arg16 X16)⟩

variable (c : Fin 31) (eK : ∀ j, oK j = ![0, 0, c.val, j.val, 0]) (eS : ∀ j, oS j = ![c.val, g.val, 64 * j.val, 0])
  (eV : oV = ![0, 0, c.val, 0, 0]) (eC : oC = ![0, 256 * c.val, 0]) (eD : oD = ![0, 0, 256 * c.val, 0])
  (eW : oW = ![c.val, g.val, 0, 0])

include eK in
theorem ldK_apply (j : Fin 4) : ldK arg6 X6 oK hK j (ix5 0 0 0 0 0) = arg6.view.read (Elt Ideal) X6 (ix5 0 0 c j 0) :=
  rd5 arg6.view (oK j) _ _ _ _ _ (eK j) (hK j) X6 0 0 0 0 0 0 0 c j 0 rfl rfl rfl rfl rfl

include eS in
theorem ldS_apply (j : Fin 4) (y : Fin 64) (l : Fin 256) (x : Fin 256) (hx : x.val = 64 * j.val + y.val) :
    ldS arg14 f14 oS hS j (ix4 0 0 y l) = arg14.view.read (Elt Ideal) f14 (ix4 c g x l) :=
  rd4 arg14.view (oS j) _ _ _ _ (eS j) (hS j) f14 0 0 y l c g x l rfl rfl hx (by omega)

theorem ldH_apply (m : Memref sig .tc .vmem S5x1x256 .f32) (X : BufTy.Contents (Elt Ideal) m.view.ty) (l : Fin 256) :
    ldH g m X (ix3 0 0 l) = m.view.read (Elt Ideal) X (ix3 g 0 l) :=
  rd3 m.view _ _ _ _ rfl _ X 0 0 l g 0 l rfl rfl (by omega)

theorem ldR_apply (m : Memref sig .tc .vmem S5x8x256 .f32) (X : BufTy.Contents (Elt Ideal) m.view.ty) (r : Fin 8) (l : Fin 256) :
    ldR g m X (ix3 0 r l) = m.view.read (Elt Ideal) X (ix3 g r l) :=
  rd3 m.view _ _ _ _ rfl _ X 0 r l g r l rfl (by omega) (by omega)

theorem ldD_apply {e : EltTy} (m : Memref sig .tc .vmem S5x128x256 e) (X : BufTy.Contents (Elt Ideal) m.view.ty) (r : Fin 128) (l : Fin 256) :
    ldD g m X (ix3 0 r l) = m.view.read (Elt Ideal) X (ix3 g r l) :=
  rd3 m.view _ _ _ _ rfl _ X 0 r l g r l rfl (by omega) (by omega)

include eV in
theorem ldV_apply (d : Fin 128) (x : Fin 256) :
    ldV arg7 X7 oV hV (ix5 0 0 0 d x) = arg7.view.read (Elt Ideal) X7 (ix5 0 0 c d x) :=
  rd5 arg7.view oV _ _ _ _ _ eV hV X7 0 0 0 d x 0 0 c d x rfl rfl rfl (by omega) (by omega)

include eC in
theorem ldC_apply (x : Fin 256) (d : Fin 128) :
    ldC arg4 X4 oC hC (ix3 0 x d) = arg4.view.read (Elt Ideal) X4 (ix3 0 (gkey c x) d) :=
  rd3 arg4.view oC _ _ _ eC hC X4 0 x d 0 (gkey c x) d rfl rfl (by omega)

include eD in
theorem ldW_apply (x : Fin 256) (d : Fin 128) :
    ldW arg5 X5 oD hD (ix4 0 0 x d) = arg5.view.read (Elt Ideal) X5 (ix4 0 0 (gkey c x) d) :=
  rd4 arg5.view oD _ _ _ _ eD hD X5 0 0 x d 0 0 (gkey c x) d rfl rfl rfl (by omega)

include eK eS in
theorem pcSum_apply (x : (pcSum arg6 arg14 arg18 arg20 arg21 X6 f14 X18 X20 f21 g oK hK oS hS).1.shape.Idx) :
    (pcSum arg6 arg14 arg18 arg20 arg21 X6 f14 X18 X20 f21 g oK hK oS hS).2 x
      = (fun y : S5x8x256.Idx => arg21.view.read (Elt Ideal) f21 (ix3 (y 0) (y 1) (y 2)) + sumStep (arg6.view.read (Elt Ideal) X6)
          (arg14.view.read (Elt Ideal) f14) (arg18.view.read (Elt Ideal) X18) (arg20.view.read (Elt Ideal) X20) c (y 0) (y 1) (y 2))
        ((pcSum arg6 arg14 arg18 arg20 arg21 X6 f14 X18 X20 f21 g oK hK oS hS).1.emb x) := by
  obtain ⟨z, r, l, rfl⟩ : ∃ (z : Fin 1) (r : Fin 8) (l : Fin 256), x = ix3 z r l := ⟨x 0, x 1, x 2, eq_ix3 (n0 := 1) (n1 := 8) (n2 := 256) x⟩
  obtain rfl : z = 0 := Subsingleton.elim _ _
  have e : (pcSum arg6 arg14 arg18 arg20 arg21 X6 f14 X18 X20 f21 g oK hK oS hS).1.emb (ix3 0 r l) = ix3 g r l :=
    emb3 _ _ _ _ rfl (inb3 g le_rfl le_rfl) 0 r l g r l rfl (by omega) (by omega)
  rw [e]
  show uSum _ _ _ _ _ (ix3 0 r l) = arg21.view.read (Elt Ideal) f21 (ix3 g r l) + sumStep _ _ _ _ c g r l
  rw [uSum_apply, ldR_apply]
  refine congrArg _ (Finset.sum_congr rfl fun j _ => Finset.sum_congr rfl fun a _ => ?_)
  rw [ldH_apply, ldH_apply, ldK_apply _ _ _ _ c eK, ldS_apply _ _ _ _ _ c eS j _ l (key j a r) rfl]
  have hs : sub (key j a r) = j := Fin.ext (by show (64 * j.val + (a.val * 8 + r.val)) / 64 = j.val; omega)
  simp only [wAt, hs]

include eK eS eV in
theorem pcAcc_apply (x : (pcAcc arg6 arg7 arg14 arg18 arg20 arg22 X6 X7 f14 X18 X20 f22 g oK hK oS hS oV hV).1.shape.Idx) :
    (pcAcc arg6 arg7 arg14 arg18 arg20 arg22 X6 X7 f14 X18 X20 f22 g oK hK oS hS oV hV).2 x
      = (fun y : S5x128x256.Idx => arg22.view.read (Elt Ideal) f22 (ix3 (y 0) (y 1) (y 2)) + accStep (arg6.view.read (Elt Ideal) X6)
          (arg7.view.read (Elt Ideal) X7) (arg14.view.read (Elt Ideal) f14) (arg18.view.read (Elt Ideal) X18)
          (arg20.view.read (Elt Ideal) X20) c (y 0) (y 1) (y 2))
        ((pcAcc arg6 arg7 arg14 arg18 arg20 arg22 X6 X7 f14 X18 X20 f22 g oK hK oS hS oV hV).1.emb x) := by
  obtain ⟨z, r, l, rfl⟩ : ∃ (z : Fin 1) (r : Fin 128) (l : Fin 256), x = ix3 z r l := ⟨x 0, x 1, x 2, eq_ix3 (n0 := 1) (n1 := 128) (n2 := 256) x⟩
  obtain rfl : z = 0 := Subsingleton.elim _ _
  have e : (pcAcc arg6 arg7 arg14 arg18 arg20 arg22 X6 X7 f14 X18 X20 f22 g oK hK oS hS oV hV).1.emb (ix3 0 r l) = ix3 g r l :=
    emb3 _ _ _ _ rfl (inb3 g le_rfl le_rfl) 0 r l g r l rfl (by omega) (by omega)
  rw [e]
  show uAcc _ _ _ _ _ _ (ix3 0 r l) = arg22.view.read (Elt Ideal) f22 (ix3 g r l) + accStep _ _ _ _ _ c g r l
  rw [uAcc_apply, ldD_apply]
  refine congrArg _ (Finset.sum_congr rfl fun x _ => ?_)
  rw [ldH_apply, ldH_apply, ldK_apply _ _ _ _ c eK, ldS_apply _ _ _ _ _ c eS _ _ l x (by show x.val = 64 * (x.val / 64) + x.val % 64; omega),
    ldV_apply _ _ _ _ c eV]
  rfl

theorem scoreAt_ld (x l : Fin 256) (eC : oC = ![0, 256 * c.val, 0]) (eD : oD = ![0, 0, 256 * c.val, 0]) :
    scoreAt (ldC arg4 X4 oC hC) (ldD g arg15 X15) (ldW arg5 X5 oD hD) (ldD g arg16 X16) x l
      = sAt (arg4.view.read (Elt Ideal) X4) (arg5.view.read (Elt Ideal) X5) (arg15.view.read (Elt Ideal) X15)
          (arg16.view.read (Elt Ideal) X16) c g x l := by
  simp only [scoreAt, sAt]
  congr 1
  · exact Finset.sum_congr rfl fun d _ => by rw [ldC_apply _ _ _ _ c eC, ldD_apply]
  · exact Finset.sum_congr rfl fun d _ => by rw [ldW_apply _ _ _ _ c eD, ldD_apply]

include eK eC eD in
theorem pcMax_apply (x : (pcMax arg4 arg5 arg6 arg15 arg16 arg19 X4 X5 X6 X15 X16 f19 g oK hK oC hC oD hD).1.shape.Idx) :
    (pcMax arg4 arg5 arg6 arg15 arg16 arg19 X4 X5 X6 X15 X16 f19 g oK hK oC hC oD hD).2 x
      = (fun y : S5x8x256.Idx => max (arg19.view.read (Elt Ideal) f19 (ix3 (y 0) (y 1) (y 2))) (maxStep (arg4.view.read (Elt Ideal) X4)
          (arg5.view.read (Elt Ideal) X5) (arg6.view.read (Elt Ideal) X6) (arg15.view.read (Elt Ideal) X15)
          (arg16.view.read (Elt Ideal) X16) c (y 0) (y 1) (y 2)))
        ((pcMax arg4 arg5 arg6 arg15 arg16 arg19 X4 X5 X6 X15 X16 f19 g oK hK oC hC oD hD).1.emb x) := by
  obtain ⟨z, r, l, rfl⟩ : ∃ (z : Fin 1) (r : Fin 8) (l : Fin 256), x = ix3 z r l := ⟨x 0, x 1, x 2, eq_ix3 (n0 := 1) (n1 := 8) (n2 := 256) x⟩
  obtain rfl : z = 0 := Subsingleton.elim _ _
  have e : (pcMax arg4 arg5 arg6 arg15 arg16 arg19 X4 X5 X6 X15 X16 f19 g oK hK oC hC oD hD).1.emb (ix3 0 r l) = ix3 g r l :=
    emb3 _ _ _ _ rfl (inb3 g le_rfl le_rfl) 0 r l g r l rfl (by omega) (by omega)
  rw [e]
  show uMax _ _ _ _ _ _ (ix3 0 r l) = max (arg19.view.read (Elt Ideal) f19 (ix3 g r l)) (maxStep _ _ _ _ _ c g r l)
  rw [uMax_apply, ldR_apply, maxStep]
  refine congrArg _ (Finset.sup_congr rfl fun j _ => ?_)
  rw [ldK_apply _ _ _ _ c eK]
  refine congrArg (· * _) (Finset.sup_congr rfl fun a _ => ?_)
  rw [scoreAt_ld _ _ _ _ _ _ _ _ _ _ _ _ _ c _ _ eC eD]
  have hx : (⟨64 * j.val + a.val * 8 + r.val, by omega⟩ : Fin 256) = key j a r := Fin.ext (by simp [add_assoc])
  rw [← hx]

include eC eD eW in
theorem pcScore_apply (x : (pcScore arg4 arg5 arg15 arg16 X4 X5 X15 X16 g oC hC oD hD oW hW).1.shape.Idx) :
    (pcScore arg4 arg5 arg15 arg16 X4 X5 X15 X16 g oC hC oD hD oW hW).2 x
      = (fun y : S31x5x256x256.Idx => sAt (arg4.view.read (Elt Ideal) X4)
          (arg5.view.read (Elt Ideal) X5) (arg15.view.read (Elt Ideal) X15)
          (arg16.view.read (Elt Ideal) X16) c (y 1) (y 2) (y 3))
        ((pcScore arg4 arg5 arg15 arg16 X4 X5 X15 X16 g oC hC oD hD oW hW).1.emb x) := by
  obtain ⟨z, z', r, l, rfl⟩ : ∃ (z z' : Fin 1) (r l : Fin 256), x = ix4 z z' r l := ⟨x 0, x 1, x 2, x 3, eq_ix4 (n0 := 1) (n1 := 1) (n2 := 256) (n3 := 256) x⟩
  obtain rfl : z = 0 := Subsingleton.elim _ _
  obtain rfl : z' = 0 := Subsingleton.elim _ _
  have e : (pcScore arg4 arg5 arg15 arg16 X4 X5 X15 X16 g oC hC oD hD oW hW).1.emb (ix4 0 0 r l) = ix4 c g r l :=
    emb4 _ _ _ _ _ eW hW 0 0 r l c g r l rfl rfl (by omega) (by omega)
  rw [e]
  show uScore _ _ _ _ (ix4 0 0 r l) = sAt _ _ _ _ c g r l
  rw [uScore_apply, scoreAt_ld _ _ _ _ _ _ _ _ _ _ _ _ _ c _ _ eC eD]

end Pieces

end Cert.KernelIdeal.Attn

end
-- ==== Proof.Loop.lean ====
/- The loops over the blocks of keys: what the buffers hold after a number of trips. -/
module

public import proofs.«01_k».proof.Proof.Trip
public import proofs.«01_k».proof.Proof.Gen.KernelIdeal.Loops

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.ShloMosaic.Pointwise

theorem mem_head {m1 m2 : ℕ} (g : Fin 5) (y1 : Fin m1) (y2 : Fin m2) (h) :
    (ix3 g y1 y2 : (⟨3, ![5, m1, m2]⟩ : Shape).Idx) ∈ (Rect.unit (s := ⟨3, ![5, m1, m2]⟩) ![g.val, 0, 0] ![1, m1, m2] h).set := by
  rw [Rect.mem_set_unit]; intro a; fin_cases a <;> simp [ix3]

theorem mem_row (o : Fin 4 → ℕ) (c : Fin 31) (g : Fin 5) (eo : o = ![c.val, g.val, 0, 0]) (x l : Fin 256) (h) :
    (ix4 c g x l : S31x5x256x256.Idx) ∈ (Rect.unit (s := S31x5x256x256) o S1x1x256x256.size h).set := by
  subst eo; rw [Rect.mem_set_unit]; intro a; fin_cases a <;> simp [ix4]

theorem not_mem_row (o : Fin 4 → ℕ) (c a : Fin 31) (g g' : Fin 5) (eo : o = ![c.val, g'.val, 0, 0]) (x l : Fin 256) (h)
    (hne : a ≠ c) : (ix4 a g x l : S31x5x256x256.Idx) ∉ (Rect.unit (s := S31x5x256x256) o S1x1x256x256.size h).set := by
  subst eo; rw [Rect.mem_set_unit]; intro hm
  have := hm 0
  simp [ix4] at this
  exact hne (Fin.ext (by omega))

theorem forall5 {α : Type} (p : Fin 5 → α) (P : α → Prop) : (∀ q ∈ [p 4, p 3, p 2, p 1, p 0], P q) ↔ ∀ g, P (p g) := by
  simp [Fin.forall_fin_succ]; tauto

theorem mem5 {α : Type} (p : Fin 5 → α) (g : Fin 5) : p g ∈ [p 4, p 3, p 2, p 1, p 0] := by
  fin_cases g <;> simp

/-- Five pieces, one for each head, that agree with one function of the index leave that function. -/
theorem head_writes {m1 m2 : ℕ} (m : Memref sig .tc .vmem ⟨3, ![5, m1, m2]⟩ .f32) (f : BufTy.Contents (Elt Ideal) m.view.ty)
    (p : Fin 5 → View.Piece (Elt Ideal) ⟨3, ![5, m1, m2]⟩ .f32) (G : (⟨3, ![5, m1, m2]⟩ : Shape).Idx → EReal)
    (hr : ∀ g, ∃ h, (p g).1 = Rect.unit (s := ⟨3, ![5, m1, m2]⟩) ![g.val, 0, 0] ![1, m1, m2] h)
    (hG : ∀ g, ∀ x : (p g).1.shape.Idx, (p g).2 x = G ((p g).1.emb x)) (g : Fin 5) (y1 : Fin m1) (y2 : Fin m2) :
    m.view.read (Elt Ideal) (m.view.writes (Elt Ideal) f [p 4, p 3, p 2, p 1, p 0]) (ix3 g y1 y2) = G (ix3 g y1 y2) := by
  refine View.read_writes_apply_of_pieces (Val := Elt Ideal) (e := .f32) _ _ G _ ?_ _ ⟨_, mem5 _ g, ?_⟩
  · rw [forall5]; exact hG
  · obtain ⟨h, e⟩ := hr g
    rw [e]; exact mem_head g _ _ _

theorem row_writes (m : Memref sig .tc .vmem S31x5x256x256 .f32) (f : BufTy.Contents (Elt Ideal) m.view.ty)
    (p : Fin 5 → View.Piece (Elt Ideal) S31x5x256x256 .f32) (G : S31x5x256x256.Idx → EReal) (c : Fin 31)
    (hr : ∀ g, ∃ o h, o = ![c.val, g.val, 0, 0] ∧ (p g).1 = Rect.unit (s := S31x5x256x256) o S1x1x256x256.size h)
    (hG : ∀ g, ∀ x : (p g).1.shape.Idx, (p g).2 x = G ((p g).1.emb x)) (a : Fin 31) (g : Fin 5) (y1 y2 : Fin 256) :
    m.view.read (Elt Ideal) (m.view.writes (Elt Ideal) f [p 4, p 3, p 2, p 1, p 0]) (ix4 a g y1 y2)
      = if a.val = c.val then G (ix4 c g y1 y2) else m.view.read (Elt Ideal) f (ix4 a g y1 y2) := by
  split
  · rename_i ha
    obtain rfl : a = c := Fin.ext ha
    refine View.read_writes_apply_of_pieces (Val := Elt Ideal) (e := .f32) _ _ G _ ?_ _ ⟨_, mem5 _ g, ?_⟩
    · rw [forall5]; exact hG
    · obtain ⟨o, h, eo, e⟩ := hr g
      rw [e]; exact mem_row _ _ g eo _ _ _
  · rename_i ha
    refine View.read_writes_apply_of_forall_not_mem _ _ _ _ ?_
    rw [forall5]
    intro g'
    obtain ⟨o, h, eo, e⟩ := hr g'
    rw [e]; exact not_mem_row _ _ _ _ _ eo _ _ _ (fun e => ha (by rw [e]))

section Loop

variable (𝒱 : Variants) (c : Dev nD) (bd : Option 𝒱.V) (i : grid0.Coords)
  (arg3 : Memref sig .tc .vmem S1x256x640 .bf16) (harg3 : arg3.IsWhole)
  (arg4 : Memref sig .tc .vmem S1x7936x128 .fp8e4m3) (harg4 : arg4.IsWhole)
  (arg5 : Memref sig .tc .vmem S1x1x7936x128 .bf16) (harg5 : arg5.IsWhole)
  (arg6 : Memref sig .tc .vmem S1x1x31x4x128 .f32) (harg6 : arg6.IsWhole)
  (arg7 : Memref sig .tc .vmem S1x1x31x128x256 .fp8e4m3) (harg7 : arg7.IsWhole)
  (arg8 : Memref sig .tc .vmem S1x1x1x128 .f32) (harg8 : arg8.IsWhole)
  (arg9 : Memref sig .tc .vmem S1x1x1x128 .bf16) (harg9 : arg9.IsWhole)
  (arg10 : Memref sig .tc .vmem S1x256x640 .bf16) (harg10 : arg10.IsWhole)
  (arg11 : Memref sig .tc .vmem S1x256x640 .fp8e4m3) (harg11 : arg11.IsWhole)
  (arg12 : Memref sig .tc .vmem S1x1x1x10x128 .f32) (harg12 : arg12.IsWhole)
  (arg13 : Memref sig .tc .vmem S1x2x1x5x128 .bf16) (harg13 : arg13.IsWhole)
  (arg14 : Memref sig .tc .vmem S31x5x256x256 .f32) (harg14 : arg14.IsWhole)
  (arg15 : Memref sig .tc .vmem S5x128x256 .fp8e4m3) (harg15 : arg15.IsWhole)
  (arg16 : Memref sig .tc .vmem S5x128x256 .bf16) (harg16 : arg16.IsWhole)
  (arg17 : Memref sig .tc .vmem S5x1x256 .f32) (harg17 : arg17.IsWhole)
  (arg18 : Memref sig .tc .vmem S5x1x256 .f32) (harg18 : arg18.IsWhole)
  (arg19 : Memref sig .tc .vmem S5x8x256 .f32) (harg19 : arg19.IsWhole)
  (arg20 : Memref sig .tc .vmem S5x1x256 .f32) (harg20 : arg20.IsWhole)
  (arg21 : Memref sig .tc .vmem S5x8x256 .f32) (harg21 : arg21.IsWhole)
  (arg22 : Memref sig .tc .vmem S5x128x256 .f32) (harg22 : arg22.IsWhole)
  (X4 : BufTy.Contents (Elt Ideal) arg4.view.ty) (X5 : BufTy.Contents (Elt Ideal) arg5.view.ty)
  (X6 : BufTy.Contents (Elt Ideal) arg6.view.ty) (X7 : BufTy.Contents (Elt Ideal) arg7.view.ty)
  (G14 f14 : BufTy.Contents (Elt Ideal) arg14.view.ty) (X15 : BufTy.Contents (Elt Ideal) arg15.view.ty)
  (X16 : BufTy.Contents (Elt Ideal) arg16.view.ty) (X18 : BufTy.Contents (Elt Ideal) arg18.view.ty)
  (G19 f19 : BufTy.Contents (Elt Ideal) arg19.view.ty) (X20 : BufTy.Contents (Elt Ideal) arg20.view.ty)
  (G21 f21 : BufTy.Contents (Elt Ideal) arg21.view.ty) (G22 f22 : BufTy.Contents (Elt Ideal) arg22.view.ty)

theorem trip1_list0 (h1 : k0_cond1 i = 1#1) (k : Fin (k0_t1_loop i).trips) (acc : BitVec 32)
    (hK : ∀ j, ∀ a, oK1 i k j a + S1x1x1x1x1.size a ≤ S1x1x31x4x128.size a)
    (hS : ∀ g j, ∀ a, oS1 i k g j a + S1x1x64x256.size a ≤ S31x5x256x256.size a)
    (hV : ∀ a, k0_off9 i k a + S1x1x1x128x256.size a ≤ S1x1x31x128x256.size a)
    (hC : ∀ a, k0_off10 i k a + S1x256x128.size a ≤ S1x7936x128.size a)
    (hD : ∀ a, k0_off11 i k a + S1x1x256x128.size a ≤ S1x1x7936x128.size a)
    (hW : ∀ g, ∀ a, oW1 i k g a + S1x1x256x256.size a ≤ S31x5x256x256.size a) :
    (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 X4 X5 X6 X7 X15 X16 X18 X20 k acc f14 f19 f21 f22).1
      = [(fun g : Fin 5 => pcScore arg4 arg5 arg15 arg16 X4 X5 X15 X16 g (k0_off10 i k) hC (k0_off11 i k) hD (oW1 i k g) (hW g)) 4, (fun g : Fin 5 => pcScore arg4 arg5 arg15 arg16 X4 X5 X15 X16 g (k0_off10 i k) hC (k0_off11 i k) hD (oW1 i k g) (hW g)) 3, (fun g : Fin 5 => pcScore arg4 arg5 arg15 arg16 X4 X5 X15 X16 g (k0_off10 i k) hC (k0_off11 i k) hD (oW1 i k g) (hW g)) 2, (fun g : Fin 5 => pcScore arg4 arg5 arg15 arg16 X4 X5 X15 X16 g (k0_off10 i k) hC (k0_off11 i k) hD (oW1 i k g) (hW g)) 1, (fun g : Fin 5 => pcScore arg4 arg5 arg15 arg16 X4 X5 X15 X16 g (k0_off10 i k) hC (k0_off11 i k) hD (oW1 i k g) (hW g)) 0] := by
  unfold tripL_k0_t1 trip_k0_t1; rfl

theorem trip1_list1 (h1 : k0_cond1 i = 1#1) (k : Fin (k0_t1_loop i).trips) (acc : BitVec 32)
    (hK : ∀ j, ∀ a, oK1 i k j a + S1x1x1x1x1.size a ≤ S1x1x31x4x128.size a)
    (hS : ∀ g j, ∀ a, oS1 i k g j a + S1x1x64x256.size a ≤ S31x5x256x256.size a)
    (hV : ∀ a, k0_off9 i k a + S1x1x1x128x256.size a ≤ S1x1x31x128x256.size a)
    (hC : ∀ a, k0_off10 i k a + S1x256x128.size a ≤ S1x7936x128.size a)
    (hD : ∀ a, k0_off11 i k a + S1x1x256x128.size a ≤ S1x1x7936x128.size a)
    (hW : ∀ g, ∀ a, oW1 i k g a + S1x1x256x256.size a ≤ S31x5x256x256.size a) :
    (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 X4 X5 X6 X7 X15 X16 X18 X20 k acc f14 f19 f21 f22).2.1
      = [(fun g : Fin 5 => pcMax arg4 arg5 arg6 arg15 arg16 arg19 X4 X5 X6 X15 X16 f19 g (oK1 i k) hK (k0_off10 i k) hC (k0_off11 i k) hD) 4, (fun g : Fin 5 => pcMax arg4 arg5 arg6 arg15 arg16 arg19 X4 X5 X6 X15 X16 f19 g (oK1 i k) hK (k0_off10 i k) hC (k0_off11 i k) hD) 3, (fun g : Fin 5 => pcMax arg4 arg5 arg6 arg15 arg16 arg19 X4 X5 X6 X15 X16 f19 g (oK1 i k) hK (k0_off10 i k) hC (k0_off11 i k) hD) 2, (fun g : Fin 5 => pcMax arg4 arg5 arg6 arg15 arg16 arg19 X4 X5 X6 X15 X16 f19 g (oK1 i k) hK (k0_off10 i k) hC (k0_off11 i k) hD) 1, (fun g : Fin 5 => pcMax arg4 arg5 arg6 arg15 arg16 arg19 X4 X5 X6 X15 X16 f19 g (oK1 i k) hK (k0_off10 i k) hC (k0_off11 i k) hD) 0] := by
  unfold tripL_k0_t1 trip_k0_t1; rfl

theorem trip1_list2 (h1 : k0_cond1 i = 1#1) (k : Fin (k0_t1_loop i).trips) (acc : BitVec 32)
    (hK : ∀ j, ∀ a, oK1 i k j a + S1x1x1x1x1.size a ≤ S1x1x31x4x128.size a)
    (hS : ∀ g j, ∀ a, oS1 i k g j a + S1x1x64x256.size a ≤ S31x5x256x256.size a)
    (hV : ∀ a, k0_off9 i k a + S1x1x1x128x256.size a ≤ S1x1x31x128x256.size a)
    (hC : ∀ a, k0_off10 i k a + S1x256x128.size a ≤ S1x7936x128.size a)
    (hD : ∀ a, k0_off11 i k a + S1x1x256x128.size a ≤ S1x1x7936x128.size a)
    (hW : ∀ g, ∀ a, oW1 i k g a + S1x1x256x256.size a ≤ S31x5x256x256.size a) :
    (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 X4 X5 X6 X7 X15 X16 X18 X20 k acc f14 f19 f21 f22).2.2.1
      = [(fun g : Fin 5 => pcSum arg6 arg14 arg18 arg20 arg21 X6 f14 X18 X20 f21 g (oK1 i k) hK (oS1 i k g) (hS g)) 4, (fun g : Fin 5 => pcSum arg6 arg14 arg18 arg20 arg21 X6 f14 X18 X20 f21 g (oK1 i k) hK (oS1 i k g) (hS g)) 3, (fun g : Fin 5 => pcSum arg6 arg14 arg18 arg20 arg21 X6 f14 X18 X20 f21 g (oK1 i k) hK (oS1 i k g) (hS g)) 2, (fun g : Fin 5 => pcSum arg6 arg14 arg18 arg20 arg21 X6 f14 X18 X20 f21 g (oK1 i k) hK (oS1 i k g) (hS g)) 1, (fun g : Fin 5 => pcSum arg6 arg14 arg18 arg20 arg21 X6 f14 X18 X20 f21 g (oK1 i k) hK (oS1 i k g) (hS g)) 0] := by
  unfold tripL_k0_t1 trip_k0_t1; rfl

theorem trip1_list3 (h1 : k0_cond1 i = 1#1) (k : Fin (k0_t1_loop i).trips) (acc : BitVec 32)
    (hK : ∀ j, ∀ a, oK1 i k j a + S1x1x1x1x1.size a ≤ S1x1x31x4x128.size a)
    (hS : ∀ g j, ∀ a, oS1 i k g j a + S1x1x64x256.size a ≤ S31x5x256x256.size a)
    (hV : ∀ a, k0_off9 i k a + S1x1x1x128x256.size a ≤ S1x1x31x128x256.size a)
    (hC : ∀ a, k0_off10 i k a + S1x256x128.size a ≤ S1x7936x128.size a)
    (hD : ∀ a, k0_off11 i k a + S1x1x256x128.size a ≤ S1x1x7936x128.size a)
    (hW : ∀ g, ∀ a, oW1 i k g a + S1x1x256x256.size a ≤ S31x5x256x256.size a) :
    (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 X4 X5 X6 X7 X15 X16 X18 X20 k acc f14 f19 f21 f22).2.2.2
      = [(fun g : Fin 5 => pcAcc arg6 arg7 arg14 arg18 arg20 arg22 X6 X7 f14 X18 X20 f22 g (oK1 i k) hK (oS1 i k g) (hS g) (k0_off9 i k) hV) 4, (fun g : Fin 5 => pcAcc arg6 arg7 arg14 arg18 arg20 arg22 X6 X7 f14 X18 X20 f22 g (oK1 i k) hK (oS1 i k g) (hS g) (k0_off9 i k) hV) 3, (fun g : Fin 5 => pcAcc arg6 arg7 arg14 arg18 arg20 arg22 X6 X7 f14 X18 X20 f22 g (oK1 i k) hK (oS1 i k g) (hS g) (k0_off9 i k) hV) 2, (fun g : Fin 5 => pcAcc arg6 arg7 arg14 arg18 arg20 arg22 X6 X7 f14 X18 X20 f22 g (oK1 i k) hK (oS1 i k g) (hS g) (k0_off9 i k) hV) 1, (fun g : Fin 5 => pcAcc arg6 arg7 arg14 arg18 arg20 arg22 X6 X7 f14 X18 X20 f22 g (oK1 i k) hK (oS1 i k g) (hS g) (k0_off9 i k) hV) 0] := by
  unfold tripL_k0_t1 trip_k0_t1; rfl

theorem trip3_list0 (h2 : k0_cond2 i = 1#1) (k : Fin (k0_t3_loop i).trips) (acc : BitVec 32)
    (hK : ∀ j, ∀ a, oK3 i k j a + S1x1x1x1x1.size a ≤ S1x1x31x4x128.size a)
    (hS : ∀ g j, ∀ a, oS3 i k g j a + S1x1x64x256.size a ≤ S31x5x256x256.size a)
    (hV : ∀ a, k0_off73 i k a + S1x1x1x128x256.size a ≤ S1x1x31x128x256.size a) :
    (tripL_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h2 X6 X7 f14 X18 X20 k acc f21 f22).1
      = [(fun g : Fin 5 => pcSum arg6 arg14 arg18 arg20 arg21 X6 f14 X18 X20 f21 g (oK3 i k) hK (oS3 i k g) (hS g)) 4, (fun g : Fin 5 => pcSum arg6 arg14 arg18 arg20 arg21 X6 f14 X18 X20 f21 g (oK3 i k) hK (oS3 i k g) (hS g)) 3, (fun g : Fin 5 => pcSum arg6 arg14 arg18 arg20 arg21 X6 f14 X18 X20 f21 g (oK3 i k) hK (oS3 i k g) (hS g)) 2, (fun g : Fin 5 => pcSum arg6 arg14 arg18 arg20 arg21 X6 f14 X18 X20 f21 g (oK3 i k) hK (oS3 i k g) (hS g)) 1, (fun g : Fin 5 => pcSum arg6 arg14 arg18 arg20 arg21 X6 f14 X18 X20 f21 g (oK3 i k) hK (oS3 i k g) (hS g)) 0] := by
  unfold tripL_k0_t3 trip_k0_t3; rfl

theorem trip3_list1 (h2 : k0_cond2 i = 1#1) (k : Fin (k0_t3_loop i).trips) (acc : BitVec 32)
    (hK : ∀ j, ∀ a, oK3 i k j a + S1x1x1x1x1.size a ≤ S1x1x31x4x128.size a)
    (hS : ∀ g j, ∀ a, oS3 i k g j a + S1x1x64x256.size a ≤ S31x5x256x256.size a)
    (hV : ∀ a, k0_off73 i k a + S1x1x1x128x256.size a ≤ S1x1x31x128x256.size a) :
    (tripL_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h2 X6 X7 f14 X18 X20 k acc f21 f22).2
      = [(fun g : Fin 5 => pcAcc arg6 arg7 arg14 arg18 arg20 arg22 X6 X7 f14 X18 X20 f22 g (oK3 i k) hK (oS3 i k g) (hS g) (k0_off73 i k) hV) 4, (fun g : Fin 5 => pcAcc arg6 arg7 arg14 arg18 arg20 arg22 X6 X7 f14 X18 X20 f22 g (oK3 i k) hK (oS3 i k g) (hS g) (k0_off73 i k) hV) 3, (fun g : Fin 5 => pcAcc arg6 arg7 arg14 arg18 arg20 arg22 X6 X7 f14 X18 X20 f22 g (oK3 i k) hK (oS3 i k g) (hS g) (k0_off73 i k) hV) 2, (fun g : Fin 5 => pcAcc arg6 arg7 arg14 arg18 arg20 arg22 X6 X7 f14 X18 X20 f22 g (oK3 i k) hK (oS3 i k g) (hS g) (k0_off73 i k) hV) 1, (fun g : Fin 5 => pcAcc arg6 arg7 arg14 arg18 arg20 arg22 X6 X7 f14 X18 X20 f22 g (oK3 i k) hK (oS3 i k g) (hS g) (k0_off73 i k) hV) 0] := by
  unfold tripL_k0_t3 trip_k0_t3; rfl

theorem trip1_sum (h1 : k0_cond1 i = 1#1) (k : Fin (k0_t1_loop i).trips) (acc : BitVec 32) (hk : k.val < 31) (g : Fin 5) (r : Fin 8) (l : Fin 256) :
    arg21.view.read (Elt Ideal) (arg21.view.writes (Elt Ideal) f21 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 X4 X5 X6 X7 X15 X16 X18 X20 k acc f14 f19 f21 f22).2.2.1) (ix3 g r l) = (arg21.view.read (Elt Ideal) f21) (ix3 g r l) + sumStep (arg6.view.read (Elt Ideal) X6) (arg14.view.read (Elt Ideal) f14) (arg18.view.read (Elt Ideal) X18) (arg20.view.read (Elt Ideal) X20) ⟨k.val, hk⟩ g r l := by
  have hk' : k.val < 32 := by omega
  have hK := fun j => inbK (oK1_eq i k hk' j) hk j.isLt
  have hS := fun g j => inbS (oS1_eq i k hk' g j) hk g.isLt j.isLt
  have hV := inbV (off9 i k hk') hk
  have hC := inbC (off10 i k hk') hk
  have hD := inbD (off11 i k hk') hk
  have hW := fun g => inbW (oW1_eq i k hk' g) hk g.isLt
  rw [trip1_list2 (hK := hK) (hS := hS) (hV := hV) (hC := hC) (hD := hD) (hW := hW)]
  exact head_writes arg21 f21 (fun g : Fin 5 => pcSum arg6 arg14 arg18 arg20 arg21 X6 f14 X18 X20 f21 g (oK1 i k) hK (oS1 i k g) (hS g)) (fun y => (arg21.view.read (Elt Ideal) f21) (ix3 (y 0) (y 1) (y 2)) + sumStep (arg6.view.read (Elt Ideal) X6) (arg14.view.read (Elt Ideal) f14) (arg18.view.read (Elt Ideal) X18) (arg20.view.read (Elt Ideal) X20) ⟨k.val, hk⟩ (y 0) (y 1) (y 2)) (fun g => ⟨inb3 g le_rfl le_rfl, rfl⟩) (fun g => pcSum_apply arg6 arg14 arg18 arg20 arg21 X6 f14 X18 X20 f21 g _ _ _ _ ⟨k.val, hk⟩ (oK1_eq i k hk') (oS1_eq i k hk' g)) _ _ _

theorem trip1_acc (h1 : k0_cond1 i = 1#1) (k : Fin (k0_t1_loop i).trips) (acc : BitVec 32) (hk : k.val < 31) (g : Fin 5) (d : Fin 128) (l : Fin 256) :
    arg22.view.read (Elt Ideal) (arg22.view.writes (Elt Ideal) f22 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 X4 X5 X6 X7 X15 X16 X18 X20 k acc f14 f19 f21 f22).2.2.2) (ix3 g d l) = (arg22.view.read (Elt Ideal) f22) (ix3 g d l) + accStep (arg6.view.read (Elt Ideal) X6) (arg7.view.read (Elt Ideal) X7) (arg14.view.read (Elt Ideal) f14) (arg18.view.read (Elt Ideal) X18) (arg20.view.read (Elt Ideal) X20) ⟨k.val, hk⟩ g d l := by
  have hk' : k.val < 32 := by omega
  have hK := fun j => inbK (oK1_eq i k hk' j) hk j.isLt
  have hS := fun g j => inbS (oS1_eq i k hk' g j) hk g.isLt j.isLt
  have hV := inbV (off9 i k hk') hk
  have hC := inbC (off10 i k hk') hk
  have hD := inbD (off11 i k hk') hk
  have hW := fun g => inbW (oW1_eq i k hk' g) hk g.isLt
  rw [trip1_list3 (hK := hK) (hS := hS) (hV := hV) (hC := hC) (hD := hD) (hW := hW)]
  exact head_writes arg22 f22 (fun g : Fin 5 => pcAcc arg6 arg7 arg14 arg18 arg20 arg22 X6 X7 f14 X18 X20 f22 g (oK1 i k) hK (oS1 i k g) (hS g) (k0_off9 i k) hV) (fun y => (arg22.view.read (Elt Ideal) f22) (ix3 (y 0) (y 1) (y 2)) + accStep (arg6.view.read (Elt Ideal) X6) (arg7.view.read (Elt Ideal) X7) (arg14.view.read (Elt Ideal) f14) (arg18.view.read (Elt Ideal) X18) (arg20.view.read (Elt Ideal) X20) ⟨k.val, hk⟩ (y 0) (y 1) (y 2)) (fun g => ⟨inb3 g le_rfl le_rfl, rfl⟩) (fun g => pcAcc_apply arg6 arg7 arg14 arg18 arg20 arg22 X6 X7 f14 X18 X20 f22 g _ _ _ _ _ _ ⟨k.val, hk⟩ (oK1_eq i k hk') (oS1_eq i k hk' g) (off9 i k hk')) _ _ _

theorem trip1_max (h1 : k0_cond1 i = 1#1) (k : Fin (k0_t1_loop i).trips) (acc : BitVec 32) (hk : k.val < 31) (g : Fin 5) (r : Fin 8) (l : Fin 256) :
    arg19.view.read (Elt Ideal) (arg19.view.writes (Elt Ideal) f19 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 X4 X5 X6 X7 X15 X16 X18 X20 k acc f14 f19 f21 f22).2.1) (ix3 g r l) = max ((arg19.view.read (Elt Ideal) f19) (ix3 g r l)) (maxStep (arg4.view.read (Elt Ideal) X4) (arg5.view.read (Elt Ideal) X5) (arg6.view.read (Elt Ideal) X6) (arg15.view.read (Elt Ideal) X15) (arg16.view.read (Elt Ideal) X16) ⟨k.val, hk⟩ g r l) := by
  have hk' : k.val < 32 := by omega
  have hK := fun j => inbK (oK1_eq i k hk' j) hk j.isLt
  have hS := fun g j => inbS (oS1_eq i k hk' g j) hk g.isLt j.isLt
  have hV := inbV (off9 i k hk') hk
  have hC := inbC (off10 i k hk') hk
  have hD := inbD (off11 i k hk') hk
  have hW := fun g => inbW (oW1_eq i k hk' g) hk g.isLt
  rw [trip1_list1 (hK := hK) (hS := hS) (hV := hV) (hC := hC) (hD := hD) (hW := hW)]
  exact head_writes arg19 f19 (fun g : Fin 5 => pcMax arg4 arg5 arg6 arg15 arg16 arg19 X4 X5 X6 X15 X16 f19 g (oK1 i k) hK (k0_off10 i k) hC (k0_off11 i k) hD) (fun y => max ((arg19.view.read (Elt Ideal) f19) (ix3 (y 0) (y 1) (y 2))) (maxStep (arg4.view.read (Elt Ideal) X4) (arg5.view.read (Elt Ideal) X5) (arg6.view.read (Elt Ideal) X6) (arg15.view.read (Elt Ideal) X15) (arg16.view.read (Elt Ideal) X16) ⟨k.val, hk⟩ (y 0) (y 1) (y 2))) (fun g => ⟨inb3 g le_rfl le_rfl, rfl⟩) (fun g => pcMax_apply arg4 arg5 arg6 arg15 arg16 arg19 X4 X5 X6 X15 X16 f19 g _ _ _ _ _ _ ⟨k.val, hk⟩ (oK1_eq i k hk') (off10 i k hk') (off11 i k hk')) _ _ _

theorem trip1_score (h1 : k0_cond1 i = 1#1) (k : Fin (k0_t1_loop i).trips) (acc : BitVec 32) (hk : k.val < 31) (a : Fin 31) (g : Fin 5) (x l : Fin 256) :
    arg14.view.read (Elt Ideal) (arg14.view.writes (Elt Ideal) f14 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 X4 X5 X6 X7 X15 X16 X18 X20 k acc f14 f19 f21 f22).1) (ix4 a g x l) = if a.val = k.val then sAt (arg4.view.read (Elt Ideal) X4) (arg5.view.read (Elt Ideal) X5) (arg15.view.read (Elt Ideal) X15) (arg16.view.read (Elt Ideal) X16) ⟨k.val, hk⟩ g x l else (arg14.view.read (Elt Ideal) f14) (ix4 a g x l) := by
  have hk' : k.val < 32 := by omega
  have hK := fun j => inbK (oK1_eq i k hk' j) hk j.isLt
  have hS := fun g j => inbS (oS1_eq i k hk' g j) hk g.isLt j.isLt
  have hV := inbV (off9 i k hk') hk
  have hC := inbC (off10 i k hk') hk
  have hD := inbD (off11 i k hk') hk
  have hW := fun g => inbW (oW1_eq i k hk' g) hk g.isLt
  rw [trip1_list0 (hK := hK) (hS := hS) (hV := hV) (hC := hC) (hD := hD) (hW := hW)]
  exact row_writes arg14 f14 (fun g : Fin 5 => pcScore arg4 arg5 arg15 arg16 X4 X5 X15 X16 g (k0_off10 i k) hC (k0_off11 i k) hD (oW1 i k g) (hW g)) (fun y => sAt (arg4.view.read (Elt Ideal) X4) (arg5.view.read (Elt Ideal) X5) (arg15.view.read (Elt Ideal) X15) (arg16.view.read (Elt Ideal) X16) ⟨k.val, hk⟩ (y 1) (y 2) (y 3)) ⟨k.val, hk⟩ (fun g => ⟨oW1 i k g, hW g, oW1_eq i k hk' g, rfl⟩)
    (fun g => pcScore_apply arg4 arg5 arg15 arg16 X4 X5 X15 X16 g _ _ _ _ _ _ ⟨k.val, hk⟩ (off10 i k hk') (off11 i k hk') (oW1_eq i k hk' g)) _ _ _ _

theorem trip3_sum (h2 : k0_cond2 i = 1#1) (k : Fin (k0_t3_loop i).trips) (acc : BitVec 32) (hk : k.val < 31) (g : Fin 5) (r : Fin 8) (l : Fin 256) :
    arg21.view.read (Elt Ideal) (arg21.view.writes (Elt Ideal) f21 (tripL_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h2 X6 X7 f14 X18 X20 k acc f21 f22).1) (ix3 g r l) = (arg21.view.read (Elt Ideal) f21) (ix3 g r l) + sumStep (arg6.view.read (Elt Ideal) X6) (arg14.view.read (Elt Ideal) f14) (arg18.view.read (Elt Ideal) X18) (arg20.view.read (Elt Ideal) X20) ⟨k.val, hk⟩ g r l := by
  have hk' : k.val < 32 := by omega
  have hK := fun j => inbK (oK3_eq i k hk' j) hk j.isLt
  have hS := fun g j => inbS (oS3_eq i k hk' g j) hk g.isLt j.isLt
  have hV := inbV (off73 i k hk') hk
  rw [trip3_list0 (hK := hK) (hS := hS) (hV := hV)]
  exact head_writes arg21 f21 (fun g : Fin 5 => pcSum arg6 arg14 arg18 arg20 arg21 X6 f14 X18 X20 f21 g (oK3 i k) hK (oS3 i k g) (hS g)) (fun y => (arg21.view.read (Elt Ideal) f21) (ix3 (y 0) (y 1) (y 2)) + sumStep (arg6.view.read (Elt Ideal) X6) (arg14.view.read (Elt Ideal) f14) (arg18.view.read (Elt Ideal) X18) (arg20.view.read (Elt Ideal) X20) ⟨k.val, hk⟩ (y 0) (y 1) (y 2)) (fun g => ⟨inb3 g le_rfl le_rfl, rfl⟩) (fun g => pcSum_apply arg6 arg14 arg18 arg20 arg21 X6 f14 X18 X20 f21 g _ _ _ _ ⟨k.val, hk⟩ (oK3_eq i k hk') (oS3_eq i k hk' g)) _ _ _

theorem trip3_acc (h2 : k0_cond2 i = 1#1) (k : Fin (k0_t3_loop i).trips) (acc : BitVec 32) (hk : k.val < 31) (g : Fin 5) (d : Fin 128) (l : Fin 256) :
    arg22.view.read (Elt Ideal) (arg22.view.writes (Elt Ideal) f22 (tripL_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h2 X6 X7 f14 X18 X20 k acc f21 f22).2) (ix3 g d l) = (arg22.view.read (Elt Ideal) f22) (ix3 g d l) + accStep (arg6.view.read (Elt Ideal) X6) (arg7.view.read (Elt Ideal) X7) (arg14.view.read (Elt Ideal) f14) (arg18.view.read (Elt Ideal) X18) (arg20.view.read (Elt Ideal) X20) ⟨k.val, hk⟩ g d l := by
  have hk' : k.val < 32 := by omega
  have hK := fun j => inbK (oK3_eq i k hk' j) hk j.isLt
  have hS := fun g j => inbS (oS3_eq i k hk' g j) hk g.isLt j.isLt
  have hV := inbV (off73 i k hk') hk
  rw [trip3_list1 (hK := hK) (hS := hS) (hV := hV)]
  exact head_writes arg22 f22 (fun g : Fin 5 => pcAcc arg6 arg7 arg14 arg18 arg20 arg22 X6 X7 f14 X18 X20 f22 g (oK3 i k) hK (oS3 i k g) (hS g) (k0_off73 i k) hV) (fun y => (arg22.view.read (Elt Ideal) f22) (ix3 (y 0) (y 1) (y 2)) + accStep (arg6.view.read (Elt Ideal) X6) (arg7.view.read (Elt Ideal) X7) (arg14.view.read (Elt Ideal) f14) (arg18.view.read (Elt Ideal) X18) (arg20.view.read (Elt Ideal) X20) ⟨k.val, hk⟩ (y 0) (y 1) (y 2)) (fun g => ⟨inb3 g le_rfl le_rfl, rfl⟩) (fun g => pcAcc_apply arg6 arg7 arg14 arg18 arg20 arg22 X6 X7 f14 X18 X20 f22 g _ _ _ _ _ _ ⟨k.val, hk⟩ (oK3_eq i k hk') (oS3_eq i k hk' g) (off73 i k hk')) _ _ _

theorem sum_filter_succ (n : ℕ) (hn : n < 31) (f : Fin 31 → EReal) :
    ∑ b ∈ Finset.univ.filter (fun b : Fin 31 => b.val < n + 1), f b = (∑ b ∈ Finset.univ.filter (fun b : Fin 31 => b.val < n), f b) + f ⟨n, hn⟩ := by
  have e : Finset.univ.filter (fun b : Fin 31 => b.val < n + 1) = insert ⟨n, hn⟩ (Finset.univ.filter (fun b : Fin 31 => b.val < n)) := by
    ext b; simp [Fin.ext_iff]; omega
  rw [e, Finset.sum_insert (by simp), add_comm]

theorem sup_filter_succ (n : ℕ) (hn : n < 31) (f : Fin 31 → EReal) :
    (Finset.univ.filter (fun b : Fin 31 => b.val < n + 1)).sup f = max ((Finset.univ.filter (fun b : Fin 31 => b.val < n)).sup f) (f ⟨n, hn⟩) := by
  have e : Finset.univ.filter (fun b : Fin 31 => b.val < n + 1) = insert ⟨n, hn⟩ (Finset.univ.filter (fun b : Fin 31 => b.val < n)) := by
    ext b; simp [Fin.ext_iff]; omega
  rw [e, Finset.sup_insert, max_comm]

theorem wAt_congr (x6 : Vec Ideal S1x1x31x4x128 .f32) (x14 y14 : Vec Ideal S31x5x256x256 .f32) (x18 x20 : Vec Ideal S5x1x256 .f32)
    (c : Fin 31) (h : ∀ g x l, x14 (ix4 c g x l) = y14 (ix4 c g x l)) (g : Fin 5) (x l : Fin 256) :
    wAt x6 x14 x18 x20 c g x l = wAt x6 y14 x18 x20 c g x l := by rw [wAt, wAt, h]

/-- What the buffers hold after `n` trips of the first loop. -/
theorem loop1 (h1 : k0_cond1 i = 1#1) (init : BitVec 32) (n : ℕ) (hn : n ≤ (k0_t1_loop i).trips) (hb : (k0_t1_loop i).trips ≤ 31) :
    (∀ (a : Fin 31) (g : Fin 5) (x l : Fin 256), arg14.view.read (Elt Ideal) (arg14.view.writes (Elt Ideal) G14 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 X4 X5 X6 X7 X15 X16 X18 X20 G14 G19 G21 G22 init n).2.1) (ix4 a g x l)
      = if a.val < n then sAt (arg4.view.read (Elt Ideal) X4) (arg5.view.read (Elt Ideal) X5) (arg15.view.read (Elt Ideal) X15) (arg16.view.read (Elt Ideal) X16) a g x l else (arg14.view.read (Elt Ideal) G14) (ix4 a g x l)) ∧
    (∀ (g : Fin 5) (r : Fin 8) (l : Fin 256), arg19.view.read (Elt Ideal) (arg19.view.writes (Elt Ideal) G19 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 X4 X5 X6 X7 X15 X16 X18 X20 G14 G19 G21 G22 init n).2.2.1) (ix3 g r l)
      = max ((arg19.view.read (Elt Ideal) G19) (ix3 g r l)) ((Finset.univ.filter (fun b : Fin 31 => b.val < n)).sup fun b => maxStep (arg4.view.read (Elt Ideal) X4) (arg5.view.read (Elt Ideal) X5) (arg6.view.read (Elt Ideal) X6) (arg15.view.read (Elt Ideal) X15) (arg16.view.read (Elt Ideal) X16) b g r l)) ∧
    (∀ (g : Fin 5) (r : Fin 8) (l : Fin 256), arg21.view.read (Elt Ideal) (arg21.view.writes (Elt Ideal) G21 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 X4 X5 X6 X7 X15 X16 X18 X20 G14 G19 G21 G22 init n).2.2.2.1) (ix3 g r l)
      = (arg21.view.read (Elt Ideal) G21) (ix3 g r l) + ∑ b ∈ Finset.univ.filter (fun b : Fin 31 => b.val < n), sumStep (arg6.view.read (Elt Ideal) X6) (arg14.view.read (Elt Ideal) G14) (arg18.view.read (Elt Ideal) X18) (arg20.view.read (Elt Ideal) X20) b g r l) ∧
    (∀ (g : Fin 5) (d : Fin 128) (l : Fin 256), arg22.view.read (Elt Ideal) (arg22.view.writes (Elt Ideal) G22 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 X4 X5 X6 X7 X15 X16 X18 X20 G14 G19 G21 G22 init n).2.2.2.2) (ix3 g d l)
      = (arg22.view.read (Elt Ideal) G22) (ix3 g d l) + ∑ b ∈ Finset.univ.filter (fun b : Fin 31 => b.val < n), accStep (arg6.view.read (Elt Ideal) X6) (arg7.view.read (Elt Ideal) X7) (arg14.view.read (Elt Ideal) G14) (arg18.view.read (Elt Ideal) X18) (arg20.view.read (Elt Ideal) X20) b g d l) := by
  induction n with
  | zero =>
    refine ⟨fun a g x l => ?_, fun g r l => ?_, fun g r l => ?_, fun g d l => ?_⟩
    · rw [if_neg (by omega)]; rfl
    · simp; rfl
    · simp; rfl
    · simp; rfl
  | succ n ih =>
    have hn' : n < 31 := by omega
    obtain ⟨i1, i2, i3, i4⟩ := ih (by omega)
    rw [st_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 X4 X5 X6 X7 X15 X16 X18 X20 G14 G19 G21 G22 init ⟨n, by omega⟩]
    refine ⟨fun a g x l => ?_, fun g r l => ?_, fun g r l => ?_, fun g d l => ?_⟩
    · rw [View.writes_append]
      refine (trip1_score (hk := hn') ..).trans ?_
      rw [i1]
      by_cases h : a.val = n
      · rw [if_pos h, if_pos (by omega), show a = ⟨n, hn'⟩ from Fin.ext h]
      · rw [if_neg h]
        exact if_congr (by omega) rfl rfl
    · rw [View.writes_append]
      refine (trip1_max (hk := hn') ..).trans ?_
      rw [i2, sup_filter_succ n hn', max_assoc]
    · rw [View.writes_append]
      refine (trip1_sum (hk := hn') ..).trans ?_
      rw [i3, sum_filter_succ n hn', add_assoc]
      refine congrArg _ (congrArg _ ?_)
      refine Finset.sum_congr rfl fun j _ => Finset.sum_congr rfl fun a _ => wAt_congr _ _ _ _ _ _ (fun g x l => ?_) _ _ _
      rw [i1, if_neg (by simp)]
    · rw [View.writes_append]
      refine (trip1_acc (hk := hn') ..).trans ?_
      rw [i4, sum_filter_succ n hn', add_assoc]
      refine congrArg _ (congrArg _ ?_)
      refine Finset.sum_congr rfl fun x _ => ?_
      rw [wAt_congr _ _ _ _ _ _ (fun g x l => by rw [i1, if_neg (by simp)])]

/-- What the buffers hold after `n` trips of the last step's loop. -/
theorem loop3 (h2 : k0_cond2 i = 1#1) (init : BitVec 32) (n : ℕ) (hn : n ≤ (k0_t3_loop i).trips) (hb : (k0_t3_loop i).trips ≤ 31) :
    (∀ (g : Fin 5) (r : Fin 8) (l : Fin 256), arg21.view.read (Elt Ideal) (arg21.view.writes (Elt Ideal) G21 (st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h2 X6 X7 G14 X18 X20 G21 G22 init n).2.1) (ix3 g r l)
      = (arg21.view.read (Elt Ideal) G21) (ix3 g r l) + ∑ b ∈ Finset.univ.filter (fun b : Fin 31 => b.val < n), sumStep (arg6.view.read (Elt Ideal) X6) (arg14.view.read (Elt Ideal) G14) (arg18.view.read (Elt Ideal) X18) (arg20.view.read (Elt Ideal) X20) b g r l) ∧
    (∀ (g : Fin 5) (d : Fin 128) (l : Fin 256), arg22.view.read (Elt Ideal) (arg22.view.writes (Elt Ideal) G22 (st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h2 X6 X7 G14 X18 X20 G21 G22 init n).2.2) (ix3 g d l)
      = (arg22.view.read (Elt Ideal) G22) (ix3 g d l) + ∑ b ∈ Finset.univ.filter (fun b : Fin 31 => b.val < n), accStep (arg6.view.read (Elt Ideal) X6) (arg7.view.read (Elt Ideal) X7) (arg14.view.read (Elt Ideal) G14) (arg18.view.read (Elt Ideal) X18) (arg20.view.read (Elt Ideal) X20) b g d l) := by
  induction n with
  | zero =>
    refine ⟨fun g r l => ?_, fun g d l => ?_⟩
    · simp; rfl
    · simp; rfl
  | succ n ih =>
    have hn' : n < 31 := by omega
    obtain ⟨i3, i4⟩ := ih (by omega)
    rw [st_k0_t3_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h2 X6 X7 G14 X18 X20 G21 G22 init ⟨n, by omega⟩]
    refine ⟨fun g r l => ?_, fun g d l => ?_⟩
    · rw [View.writes_append]
      refine (trip3_sum (hk := hn') ..).trans ?_
      rw [i3, sum_filter_succ n hn', add_assoc]
    · rw [View.writes_append]
      refine (trip3_acc (hk := hn') ..).trans ?_
      rw [i4, sum_filter_succ n hn', add_assoc]

end Loop

end Cert.KernelIdeal.Attn

end
-- ==== Proof.Step.lean ====
/- What each step leaves in each buffer, as a list of the rectangles it writes. -/
module

public import proofs.«01_k».proof.Proof.Quant
public import proofs.«01_k».proof.Proof.Trip
public import proofs.«01_k».proof.Proof.Loop
public import proofs.«01_k».proof.Proof.RunAKernelIdeal
public import proofs.«01_k».proof.Proof.RunBKernelIdeal
public import proofs.«01_k».proof.Proof.RunCKernelIdeal

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.ShloMosaic.Pointwise

theorem inX (t : Fin 2) (g : Fin 5) : ∀ a, (![0, 128 * t.val, 128 * g.val] : Fin 3 → ℕ) a + S1x128x128.size a ≤ S1x256x640.size a := by
  intro a; fin_cases a <;> simp <;> omega
theorem inT (t : Fin 2) (g : Fin 5) : ∀ a, (![g.val, 0, 128 * t.val] : Fin 3 → ℕ) a + S1x128x128.size a ≤ S5x128x256.size a := by
  intro a; fin_cases a <;> simp <;> omega
theorem inF (t : Fin 2) (g : Fin 5) : ∀ a, (![g.val, 0, 128 * t.val] : Fin 3 → ℕ) a + S1x1x128.size a ≤ S5x1x256.size a := by
  intro a; fin_cases a <;> simp <;> omega
theorem inM (t : Fin 2) : ∀ a, (![0, t.val, 0, 0, 0] : Fin 5 → ℕ) a + S1x1x1x5x128.size a ≤ S1x2x1x5x128.size a := by
  intro a; fin_cases a <;> simp <;> omega
theorem inA : ∀ a, (![0, 0, 0, 0, 0] : Fin 5 → ℕ) a + S1x1x1x10x128.size a ≤ S1x1x1x10x128.size a := by
  intro a; fin_cases a <;> simp
theorem inO (g : Fin 5) : ∀ a, (![0, 0, 128 * g.val] : Fin 3 → ℕ) a + S1x256x128.size a ≤ S1x256x640.size a := by
  intro a; fin_cases a <;> simp <;> omega
theorem inZ : ∀ a, (![0, 0, 0, 0] : Fin 4 → ℕ) a + S1x1x1x128.size a ≤ S1x1x1x128.size a := by
  intro a; fin_cases a <;> simp

/-- The rows of keys' scales of the diagonal block, and where its scores go. -/
def oKd (i : grid0.Coords) : Fin 4 → Fin 5 → ℕ
  | 0 => k0_off117 i | 1 => k0_off118 i | 2 => k0_off119 i | 3 => k0_off120 i
def oWd (i : grid0.Coords) : Fin 5 → Fin 4 → ℕ
  | 0 => k0_off121 i | 1 => k0_off122 i | 2 => k0_off123 i | 3 => k0_off124 i | 4 => k0_off125 i

section Pieces

variable (arg3 : Memref sig .tc .vmem S1x256x640 .bf16) (f3 : BufTy.Contents (Elt Ideal) arg3.view.ty)

/-- Tile `t` of head `g` of the query block. -/
def xT (t : Fin 2) (g : Fin 5) : Vec Ideal S1x128x128 .bf16 :=
  arg3.view.readAt (Elt Ideal) (Rect.unit (s := S1x256x640) ![0, 128 * t.val, 128 * g.val] S1x128x128.size (inX t g)).toLoadRect f3

def pQ (t : Fin 2) (g : Fin 5) : View.Piece (Elt Ideal) S1x256x640 .fp8e4m3 :=
  ⟨Rect.unit (s := S1x256x640) ![0, 128 * t.val, 128 * g.val] S1x128x128.size (inX t g), qCodes (xT arg3 f3 t g)⟩
def pT (t : Fin 2) (g : Fin 5) : View.Piece (Elt Ideal) S5x128x256 .fp8e4m3 :=
  ⟨Rect.unit (s := S5x128x256) ![g.val, 0, 128 * t.val] S1x128x128.size (inT t g), qT (xT arg3 f3 t g)⟩
def pM (t : Fin 2) (g : Fin 5) : View.Piece (Elt Ideal) S5x128x256 .bf16 :=
  ⟨Rect.unit (s := S5x128x256) ![g.val, 0, 128 * t.val] S1x128x128.size (inT t g), qM (xT arg3 f3 t g)⟩
def pF (t : Fin 2) (g : Fin 5) : View.Piece (Elt Ideal) S5x1x256 .f32 :=
  ⟨Rect.unit (s := S5x1x256) ![g.val, 0, 128 * t.val] S1x1x128.size (inF t g), qF (xT arg3 f3 t g)⟩
def pMean (t : Fin 2) : View.Piece (Elt Ideal) S1x2x1x5x128 .bf16 :=
  ⟨Rect.unit (s := S1x2x1x5x128) ![0, t.val, 0, 0, 0] S1x1x1x5x128.size (inM t),
    k0_pay410 (qMean (xT arg3 f3 t 0)) (qMean (xT arg3 f3 t 1)) (qMean (xT arg3 f3 t 2)) (qMean (xT arg3 f3 t 3)) (qMean (xT arg3 f3 t 4))⟩
def pScale : View.Piece (Elt Ideal) S1x1x1x10x128 .f32 :=
  ⟨Rect.unit (s := S1x1x1x10x128) ![0, 0, 0, 0, 0] S1x1x1x10x128.size inA,
    k0_pay411 (qScale (xT arg3 f3 0 0)) (qScale (xT arg3 f3 0 1)) (qScale (xT arg3 f3 0 2)) (qScale (xT arg3 f3 0 3)) (qScale (xT arg3 f3 0 4))
      (qScale (xT arg3 f3 1 0)) (qScale (xT arg3 f3 1 1)) (qScale (xT arg3 f3 1 2)) (qScale (xT arg3 f3 1 3)) (qScale (xT arg3 f3 1 4))⟩

def LQ : List (View.Piece (Elt Ideal) S1x256x640 .fp8e4m3) := [pQ arg3 f3 1 4, pQ arg3 f3 1 3, pQ arg3 f3 1 2, pQ arg3 f3 1 1, pQ arg3 f3 1 0, pQ arg3 f3 0 4, pQ arg3 f3 0 3, pQ arg3 f3 0 2, pQ arg3 f3 0 1, pQ arg3 f3 0 0]
def LT : List (View.Piece (Elt Ideal) S5x128x256 .fp8e4m3) := [pT arg3 f3 1 4, pT arg3 f3 1 3, pT arg3 f3 1 2, pT arg3 f3 1 1, pT arg3 f3 1 0, pT arg3 f3 0 4, pT arg3 f3 0 3, pT arg3 f3 0 2, pT arg3 f3 0 1, pT arg3 f3 0 0]
def LM : List (View.Piece (Elt Ideal) S5x128x256 .bf16) := [pM arg3 f3 1 4, pM arg3 f3 1 3, pM arg3 f3 1 2, pM arg3 f3 1 1, pM arg3 f3 1 0, pM arg3 f3 0 4, pM arg3 f3 0 3, pM arg3 f3 0 2, pM arg3 f3 0 1, pM arg3 f3 0 0]
def LF : List (View.Piece (Elt Ideal) S5x1x256 .f32) := [pF arg3 f3 1 4, pF arg3 f3 1 3, pF arg3 f3 1 2, pF arg3 f3 1 1, pF arg3 f3 1 0, pF arg3 f3 0 4, pF arg3 f3 0 3, pF arg3 f3 0 2, pF arg3 f3 0 1, pF arg3 f3 0 0]

end Pieces

/-- What a step fills its accumulators with first: zeros, or minus infinities. -/
def fill8 (b : BitVec 32) : List (View.Piece (Elt Ideal) S5x8x256 .f32) :=
  [⟨Rect.unit (s := S5x8x256) ![0, 0, 0] S5x8x256.size (by intro a; fin_cases a <;> simp), fun _ => Ideal.ofBits .f32 b⟩]
def fill128 : List (View.Piece (Elt Ideal) S5x128x256 .f32) :=
  [⟨Rect.unit (s := S5x128x256) ![0, 0, 0] S5x128x256.size (by intro a; fin_cases a <;> simp), fun _ => Ideal.ofBits .f32 0#32⟩]
abbrev Z8 (m : Memref sig .tc .vmem S5x8x256 .f32) (b : BitVec 32) : BufTy.Contents (Elt Ideal) m.view.ty :=
  m.view.writes (Elt Ideal) m.view.junk (fill8 b)
abbrev Z128 (m : Memref sig .tc .vmem S5x128x256 .f32) : BufTy.Contents (Elt Ideal) m.view.ty :=
  m.view.writes (Elt Ideal) m.view.junk fill128

section Lists

variable (c : Dev nD) (i : grid0.Coords)
  (arg3 : Memref sig .tc .vmem S1x256x640 .bf16) (harg3 : arg3.IsWhole)
  (arg4 : Memref sig .tc .vmem S1x7936x128 .fp8e4m3) (harg4 : arg4.IsWhole)
  (arg5 : Memref sig .tc .vmem S1x1x7936x128 .bf16) (harg5 : arg5.IsWhole)
  (arg6 : Memref sig .tc .vmem S1x1x31x4x128 .f32) (harg6 : arg6.IsWhole)
  (arg7 : Memref sig .tc .vmem S1x1x31x128x256 .fp8e4m3) (harg7 : arg7.IsWhole)
  (arg8 : Memref sig .tc .vmem S1x1x1x128 .f32) (harg8 : arg8.IsWhole)
  (arg9 : Memref sig .tc .vmem S1x1x1x128 .bf16) (harg9 : arg9.IsWhole)
  (arg10 : Memref sig .tc .vmem S1x256x640 .bf16) (harg10 : arg10.IsWhole)
  (arg11 : Memref sig .tc .vmem S1x256x640 .fp8e4m3) (harg11 : arg11.IsWhole)
  (arg12 : Memref sig .tc .vmem S1x1x1x10x128 .f32) (harg12 : arg12.IsWhole)
  (arg13 : Memref sig .tc .vmem S1x2x1x5x128 .bf16) (harg13 : arg13.IsWhole)
  (arg14 : Memref sig .tc .vmem S31x5x256x256 .f32) (harg14 : arg14.IsWhole)
  (arg15 : Memref sig .tc .vmem S5x128x256 .fp8e4m3) (harg15 : arg15.IsWhole)
  (arg16 : Memref sig .tc .vmem S5x128x256 .bf16) (harg16 : arg16.IsWhole)
  (arg17 : Memref sig .tc .vmem S5x1x256 .f32) (harg17 : arg17.IsWhole)
  (arg18 : Memref sig .tc .vmem S5x1x256 .f32) (harg18 : arg18.IsWhole)
  (arg19 : Memref sig .tc .vmem S5x8x256 .f32) (harg19 : arg19.IsWhole)
  (arg20 : Memref sig .tc .vmem S5x1x256 .f32) (harg20 : arg20.IsWhole)
  (arg21 : Memref sig .tc .vmem S5x8x256 .f32) (harg21 : arg21.IsWhole)
  (arg22 : Memref sig .tc .vmem S5x128x256 .f32) (harg22 : arg22.IsWhole)
  (f3 : BufTy.Contents (Elt Ideal) arg3.view.ty)
  (f4 : BufTy.Contents (Elt Ideal) arg4.view.ty)
  (f5 : BufTy.Contents (Elt Ideal) arg5.view.ty)
  (f6 : BufTy.Contents (Elt Ideal) arg6.view.ty)
  (f7 : BufTy.Contents (Elt Ideal) arg7.view.ty)
  (f8 : BufTy.Contents (Elt Ideal) arg8.view.ty)
  (f9 : BufTy.Contents (Elt Ideal) arg9.view.ty)
  (f10 : BufTy.Contents (Elt Ideal) arg10.view.ty)
  (f11 : BufTy.Contents (Elt Ideal) arg11.view.ty)
  (f12 : BufTy.Contents (Elt Ideal) arg12.view.ty)
  (f13 : BufTy.Contents (Elt Ideal) arg13.view.ty)
  (f14 : BufTy.Contents (Elt Ideal) arg14.view.ty)
  (f15 : BufTy.Contents (Elt Ideal) arg15.view.ty)
  (f16 : BufTy.Contents (Elt Ideal) arg16.view.ty)
  (f17 : BufTy.Contents (Elt Ideal) arg17.view.ty)
  (f18 : BufTy.Contents (Elt Ideal) arg18.view.ty)
  (f19 : BufTy.Contents (Elt Ideal) arg19.view.ty)
  (f20 : BufTy.Contents (Elt Ideal) arg20.view.ty)
  (f21 : BufTy.Contents (Elt Ideal) arg21.view.ty)
  (f22 : BufTy.Contents (Elt Ideal) arg22.view.ty)

/-- The first loop's writes of a middle step, -/
def T1 (h1 : k0_cond1 i = 1#1) :=
  st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 f4 f5 f6 f7 (arg15.view.writes (Elt Ideal) arg15.view.junk (LT arg3 f3))
    (arg16.view.writes (Elt Ideal) arg16.view.junk (LM arg3 f3)) f18 f20 f14 (Z8 arg19 0xFF800000#32) (Z8 arg21 0#32) (Z128 arg22) 0#32 (k0_t1_loop i).trips
/-- and of the last. -/
def T3 (h2 : k0_cond2 i = 1#1) :=
  st_k0_t3 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h2 f6 f7 f14 f18 f20 (Z8 arg21 0#32) (Z128 arg22) 0#32 (k0_t3_loop i).trips

/-- The loop for a remainder, which takes no trip. -/
def T2 (h1 : k0_cond1 i = 1#1) :=
  st_k0_t2 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 (runB.sl.v860 i) f4 f5 f6 f7 (arg15.view.writes (Elt Ideal) arg15.view.junk (LT arg3 f3))
    (arg16.view.writes (Elt Ideal) arg16.view.junk (LM arg3 f3)) f18 f20 (arg14.view.writes (Elt Ideal) f14 (T1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1).2.1)
    (arg19.view.writes (Elt Ideal) arg19.view.junk ((T1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1).2.2.1 ++ fill8 0xFF800000#32))
    (arg21.view.writes (Elt Ideal) arg21.view.junk ((T1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1).2.2.2.1 ++ fill8 0#32))
    (arg22.view.writes (Elt Ideal) arg22.view.junk ((T1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1).2.2.2.2 ++ fill128)) (T1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1).1 (k0_t2_loop i).trips
def T4 (h2 : k0_cond2 i = 1#1) :=
  st_k0_t4 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h2 (runC.sl.v28 i) f6 f7 f14 f18 f20
    (arg21.view.writes (Elt Ideal) arg21.view.junk ((T3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f14 f18 f20 h2).2.1 ++ fill8 0#32))
    (arg22.view.writes (Elt Ideal) arg22.view.junk ((T3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f14 f18 f20 h2).2.2 ++ fill128)) (T3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f14 f18 f20 h2).1 (k0_t4_loop i).trips

/-- The running maximum, the sum and the weighted values after a middle step's loops. -/
def W19 (h1 : k0_cond1 i = 1#1) := arg19.view.writes (Elt Ideal) arg19.view.junk ((T2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1).2.2.1 ++ ((T1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1).2.2.1 ++ fill8 0xFF800000#32))
def W21 (h1 : k0_cond1 i = 1#1) := arg21.view.writes (Elt Ideal) arg21.view.junk ((T2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1).2.2.2.1 ++ ((T1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1).2.2.2.1 ++ fill8 0#32))
def W22 (h1 : k0_cond1 i = 1#1) := arg22.view.writes (Elt Ideal) arg22.view.junk ((T2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1).2.2.2.2 ++ ((T1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1).2.2.2.2 ++ fill128))
def Y21 (h2 : k0_cond2 i = 1#1) := arg21.view.writes (Elt Ideal) arg21.view.junk ((T4 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f14 f18 f20 h2).2.1 ++ ((T3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f14 f18 f20 h2).2.1 ++ fill8 0#32))
def Y22 (h2 : k0_cond2 i = 1#1) := arg22.view.writes (Elt Ideal) arg22.view.junk ((T4 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f14 f18 f20 h2).2.2 ++ ((T3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f14 f18 f20 h2).2.2 ++ fill128))

/-- The scores of the diagonal block of head `g`, the query's factor, the shift and the output of head `g`. -/
def pD (hC : ∀ a, k0_off115 i a + S1x256x128.size a ≤ S1x7936x128.size a) (hD : ∀ a, k0_off116 i a + S1x1x256x128.size a ≤ S1x1x7936x128.size a)
    (hW : ∀ g, ∀ a, oWd i g a + S1x1x256x256.size a ≤ S31x5x256x256.size a) (g : Fin 5) : View.Piece (Elt Ideal) S31x5x256x256 .f32 :=
  ⟨Rect.unit (s := S31x5x256x256) (oWd i g) S1x1x256x256.size (hW g), uDiag (ldC arg4 f4 (k0_off115 i) hC)
    (ldD g arg15 (arg15.view.writes (Elt Ideal) arg15.view.junk (LT arg3 f3))) (ldW arg5 f5 (k0_off116 i) hD)
    (ldD g arg16 (arg16.view.writes (Elt Ideal) arg16.view.junk (LM arg3 f3)))⟩
def pC (g : Fin 5) : View.Piece (Elt Ideal) S5x1x256 .f32 :=
  ⟨Rect.unit (s := S5x1x256) ![g.val, 0, 0] S1x1x256.size (inb3 g le_rfl le_rfl),
    k0_pay562 (ldH g arg17 (arg17.view.writes (Elt Ideal) arg17.view.junk (LF arg3 f3)))⟩
def pMc (h1 : k0_cond1 i = 1#1) (hC : ∀ a, k0_off115 i a + S1x256x128.size a ≤ S1x7936x128.size a) (hD : ∀ a, k0_off116 i a + S1x1x256x128.size a ≤ S1x1x7936x128.size a)
    (hK : ∀ j, ∀ a, oKd i j a + S1x1x1x1x1.size a ≤ S1x1x31x4x128.size a) (g : Fin 5) : View.Piece (Elt Ideal) S5x1x256 .f32 :=
  ⟨Rect.unit (s := S5x1x256) ![g.val, 0, 0] S1x1x256.size (inb3 g le_rfl le_rfl), uMc (ldR g arg19 (W19 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1)) (ldC arg4 f4 (k0_off115 i) hC)
    (ldD g arg15 (arg15.view.writes (Elt Ideal) arg15.view.junk (LT arg3 f3))) (ldW arg5 f5 (k0_off116 i) hD)
    (ldD g arg16 (arg16.view.writes (Elt Ideal) arg16.view.junk (LM arg3 f3))) (fun j => ldK arg6 f6 (oKd i) hK j)
    (ldH g arg17 (arg17.view.writes (Elt Ideal) arg17.view.junk (LF arg3 f3)))⟩
def pO (G21 : BufTy.Contents (Elt Ideal) arg21.view.ty) (G22 : BufTy.Contents (Elt Ideal) arg22.view.ty) (g : Fin 5) : View.Piece (Elt Ideal) S1x256x640 .bf16 :=
  ⟨Rect.unit (s := S1x256x640) ![0, 0, 128 * g.val] S1x256x128.size (inO g), uOut (ldR g arg21 G21) (ldD g arg22 G22)
    (arg8.view.readAt (Elt Ideal) (Rect.unit (s := S1x1x1x128) ![0, 0, 0, 0] S1x1x1x128.size inZ).toLoadRect f8)
    (arg9.view.readAt (Elt Ideal) (Rect.unit (s := S1x1x1x128) ![0, 0, 0, 0] S1x1x1x128.size inZ).toLoadRect f9)⟩

theorem runA_11 (h1 : k0_cond1 i = 1#1) (h2 : ¬k0_cond2 i = 1#1) (h3 : ¬k0_cond3 i = 1#1) (h4 : k0_cond4 i = 1#1) :
    (runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 f3 f4 f5 f6 f7 f8 f9 f10 f11 f12 f13 f14 f15 f16 f17 f18 f19 f20 f21 f22).2.1 = arg11.view.writes (Elt Ideal) arg11.view.junk (LQ arg3 f3) := by
  unfold runA; dsimp only; exact congrArg (arg11.view.writes (Elt Ideal) arg11.view.junk) (show runA.sl.H11_10 (F := Ideal) arg3 f3 = _ from rfl)

theorem runA_12 (h1 : k0_cond1 i = 1#1) (h2 : ¬k0_cond2 i = 1#1) (h3 : ¬k0_cond3 i = 1#1) (h4 : k0_cond4 i = 1#1) :
    (runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 f3 f4 f5 f6 f7 f8 f9 f10 f11 f12 f13 f14 f15 f16 f17 f18 f19 f20 f21 f22).2.2.1 = arg12.view.writes (Elt Ideal) arg12.view.junk [pScale arg3 f3] := by
  unfold runA; dsimp only; exact congrArg (arg12.view.writes (Elt Ideal) arg12.view.junk) (show runA.sl.H12_1 (F := Ideal) arg3 f3 = _ from rfl)

theorem runA_13 (h1 : k0_cond1 i = 1#1) (h2 : ¬k0_cond2 i = 1#1) (h3 : ¬k0_cond3 i = 1#1) (h4 : k0_cond4 i = 1#1) :
    (runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 f3 f4 f5 f6 f7 f8 f9 f10 f11 f12 f13 f14 f15 f16 f17 f18 f19 f20 f21 f22).2.2.2.1 = arg13.view.writes (Elt Ideal) arg13.view.junk [pMean arg3 f3 1, pMean arg3 f3 0] := by
  unfold runA; dsimp only; exact congrArg (arg13.view.writes (Elt Ideal) arg13.view.junk) (show runA.sl.H13_2 (F := Ideal) arg3 f3 = _ from rfl)

theorem runA_15 (h1 : k0_cond1 i = 1#1) (h2 : ¬k0_cond2 i = 1#1) (h3 : ¬k0_cond3 i = 1#1) (h4 : k0_cond4 i = 1#1) :
    (runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 f3 f4 f5 f6 f7 f8 f9 f10 f11 f12 f13 f14 f15 f16 f17 f18 f19 f20 f21 f22).2.2.2.2.2.1 = arg15.view.writes (Elt Ideal) arg15.view.junk (LT arg3 f3) := by
  unfold runA; dsimp only; exact congrArg (arg15.view.writes (Elt Ideal) arg15.view.junk) (show runA.sl.H15_10 (F := Ideal) arg3 f3 = _ from rfl)

theorem runA_16 (h1 : k0_cond1 i = 1#1) (h2 : ¬k0_cond2 i = 1#1) (h3 : ¬k0_cond3 i = 1#1) (h4 : k0_cond4 i = 1#1) :
    (runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 f3 f4 f5 f6 f7 f8 f9 f10 f11 f12 f13 f14 f15 f16 f17 f18 f19 f20 f21 f22).2.2.2.2.2.2.1 = arg16.view.writes (Elt Ideal) arg16.view.junk (LM arg3 f3) := by
  unfold runA; dsimp only; exact congrArg (arg16.view.writes (Elt Ideal) arg16.view.junk) (show runA.sl.H16_10 (F := Ideal) arg3 f3 = _ from rfl)

theorem runA_17 (h1 : k0_cond1 i = 1#1) (h2 : ¬k0_cond2 i = 1#1) (h3 : ¬k0_cond3 i = 1#1) (h4 : k0_cond4 i = 1#1) :
    (runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 f3 f4 f5 f6 f7 f8 f9 f10 f11 f12 f13 f14 f15 f16 f17 f18 f19 f20 f21 f22).2.2.2.2.2.2.2.1 = arg17.view.writes (Elt Ideal) arg17.view.junk (LF arg3 f3) := by
  unfold runA; dsimp only; exact congrArg (arg17.view.writes (Elt Ideal) arg17.view.junk) (show runA.sl.H17_10 (F := Ideal) arg3 f3 = _ from rfl)

theorem runB_11 (h1 : k0_cond1 i = 1#1) (h2 : ¬k0_cond2 i = 1#1) (h3 : k0_cond3 i = 1#1) (h4 : k0_cond4 i = 1#1) :
    (runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 f3 f4 f5 f6 f7 f8 f9 f10 f11 f12 f13 f14 f15 f16 f17 f18 f19 f20 f21 f22).2.1 = arg11.view.writes (Elt Ideal) arg11.view.junk (LQ arg3 f3) := by
  unfold runB; dsimp only; exact congrArg (arg11.view.writes (Elt Ideal) arg11.view.junk) (show runB.sl.H11_10 (F := Ideal) arg3 f3 = _ from rfl)

theorem runB_12 (h1 : k0_cond1 i = 1#1) (h2 : ¬k0_cond2 i = 1#1) (h3 : k0_cond3 i = 1#1) (h4 : k0_cond4 i = 1#1) :
    (runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 f3 f4 f5 f6 f7 f8 f9 f10 f11 f12 f13 f14 f15 f16 f17 f18 f19 f20 f21 f22).2.2.1 = arg12.view.writes (Elt Ideal) arg12.view.junk [pScale arg3 f3] := by
  unfold runB; dsimp only; exact congrArg (arg12.view.writes (Elt Ideal) arg12.view.junk) (show runB.sl.H12_1 (F := Ideal) arg3 f3 = _ from rfl)

theorem runB_13 (h1 : k0_cond1 i = 1#1) (h2 : ¬k0_cond2 i = 1#1) (h3 : k0_cond3 i = 1#1) (h4 : k0_cond4 i = 1#1) :
    (runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 f3 f4 f5 f6 f7 f8 f9 f10 f11 f12 f13 f14 f15 f16 f17 f18 f19 f20 f21 f22).2.2.2.1 = arg13.view.writes (Elt Ideal) arg13.view.junk [pMean arg3 f3 1, pMean arg3 f3 0] := by
  unfold runB; dsimp only; exact congrArg (arg13.view.writes (Elt Ideal) arg13.view.junk) (show runB.sl.H13_2 (F := Ideal) arg3 f3 = _ from rfl)

theorem runB_15 (h1 : k0_cond1 i = 1#1) (h2 : ¬k0_cond2 i = 1#1) (h3 : k0_cond3 i = 1#1) (h4 : k0_cond4 i = 1#1) :
    (runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 f3 f4 f5 f6 f7 f8 f9 f10 f11 f12 f13 f14 f15 f16 f17 f18 f19 f20 f21 f22).2.2.2.2.2.1 = arg15.view.writes (Elt Ideal) arg15.view.junk (LT arg3 f3) := by
  unfold runB; dsimp only; exact congrArg (arg15.view.writes (Elt Ideal) arg15.view.junk) (show runB.sl.H15_10 (F := Ideal) arg3 f3 = _ from rfl)

theorem runB_16 (h1 : k0_cond1 i = 1#1) (h2 : ¬k0_cond2 i = 1#1) (h3 : k0_cond3 i = 1#1) (h4 : k0_cond4 i = 1#1) :
    (runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 f3 f4 f5 f6 f7 f8 f9 f10 f11 f12 f13 f14 f15 f16 f17 f18 f19 f20 f21 f22).2.2.2.2.2.2.1 = arg16.view.writes (Elt Ideal) arg16.view.junk (LM arg3 f3) := by
  unfold runB; dsimp only; exact congrArg (arg16.view.writes (Elt Ideal) arg16.view.junk) (show runB.sl.H16_10 (F := Ideal) arg3 f3 = _ from rfl)

theorem runB_17 (h1 : k0_cond1 i = 1#1) (h2 : ¬k0_cond2 i = 1#1) (h3 : k0_cond3 i = 1#1) (h4 : k0_cond4 i = 1#1) :
    (runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 f3 f4 f5 f6 f7 f8 f9 f10 f11 f12 f13 f14 f15 f16 f17 f18 f19 f20 f21 f22).2.2.2.2.2.2.2.1 = arg17.view.writes (Elt Ideal) arg17.view.junk (LF arg3 f3) := by
  unfold runB; dsimp only; exact congrArg (arg17.view.writes (Elt Ideal) arg17.view.junk) (show runB.sl.H17_10 (F := Ideal) arg3 f3 = _ from rfl)

theorem runA_18 (h1 : k0_cond1 i = 1#1) (h2 : ¬k0_cond2 i = 1#1) (h3 : ¬k0_cond3 i = 1#1) (h4 : k0_cond4 i = 1#1)
    (hC : ∀ a, k0_off115 i a + S1x256x128.size a ≤ S1x7936x128.size a) (hD : ∀ a, k0_off116 i a + S1x1x256x128.size a ≤ S1x1x7936x128.size a)
    (hW : ∀ g, ∀ a, oWd i g a + S1x1x256x256.size a ≤ S31x5x256x256.size a) (hK : ∀ j, ∀ a, oKd i j a + S1x1x1x1x1.size a ≤ S1x1x31x4x128.size a) :
    (runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 f3 f4 f5 f6 f7 f8 f9 f10 f11 f12 f13 f14 f15 f16 f17 f18 f19 f20 f21 f22).2.2.2.2.2.2.2.2.1 = arg18.view.writes (Elt Ideal) f18 [(pC arg3 arg17 f3) 4, (pC arg3 arg17 f3) 3, (pC arg3 arg17 f3) 2, (pC arg3 arg17 f3) 1, (pC arg3 arg17 f3) 0] := by
  unfold runA; dsimp only; rfl

theorem runA_14 (h1 : k0_cond1 i = 1#1) (h2 : ¬k0_cond2 i = 1#1) (h3 : ¬k0_cond3 i = 1#1) (h4 : k0_cond4 i = 1#1)
    (hC : ∀ a, k0_off115 i a + S1x256x128.size a ≤ S1x7936x128.size a) (hD : ∀ a, k0_off116 i a + S1x1x256x128.size a ≤ S1x1x7936x128.size a)
    (hW : ∀ g, ∀ a, oWd i g a + S1x1x256x256.size a ≤ S31x5x256x256.size a) (hK : ∀ j, ∀ a, oKd i j a + S1x1x1x1x1.size a ≤ S1x1x31x4x128.size a) :
    (runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 f3 f4 f5 f6 f7 f8 f9 f10 f11 f12 f13 f14 f15 f16 f17 f18 f19 f20 f21 f22).2.2.2.2.1 = arg14.view.writes (Elt Ideal) f14 ([(pD i arg3 arg4 arg5 arg15 arg16 f3 f4 f5 hC hD hW) 4, (pD i arg3 arg4 arg5 arg15 arg16 f3 f4 f5 hC hD hW) 3, (pD i arg3 arg4 arg5 arg15 arg16 f3 f4 f5 hC hD hW) 2, (pD i arg3 arg4 arg5 arg15 arg16 f3 f4 f5 hC hD hW) 1, (pD i arg3 arg4 arg5 arg15 arg16 f3 f4 f5 hC hD hW) 0] ++ ((T2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1).2.1 ++ (T1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1).2.1)) := by
  unfold runA; dsimp only; rfl

theorem runA_20 (h1 : k0_cond1 i = 1#1) (h2 : ¬k0_cond2 i = 1#1) (h3 : ¬k0_cond3 i = 1#1) (h4 : k0_cond4 i = 1#1)
    (hC : ∀ a, k0_off115 i a + S1x256x128.size a ≤ S1x7936x128.size a) (hD : ∀ a, k0_off116 i a + S1x1x256x128.size a ≤ S1x1x7936x128.size a)
    (hW : ∀ g, ∀ a, oWd i g a + S1x1x256x256.size a ≤ S31x5x256x256.size a) (hK : ∀ j, ∀ a, oKd i j a + S1x1x1x1x1.size a ≤ S1x1x31x4x128.size a) :
    (runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 f3 f4 f5 f6 f7 f8 f9 f10 f11 f12 f13 f14 f15 f16 f17 f18 f19 f20 f21 f22).2.2.2.2.2.2.2.2.2.2.1 = arg20.view.writes (Elt Ideal) f20 [(pMc c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1 hC hD hK) 4, (pMc c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1 hC hD hK) 3, (pMc c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1 hC hD hK) 2, (pMc c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1 hC hD hK) 1, (pMc c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1 hC hD hK) 0] := by
  unfold runA; dsimp only; rfl

theorem runB_18 (h1 : k0_cond1 i = 1#1) (h2 : ¬k0_cond2 i = 1#1) (h3 : k0_cond3 i = 1#1) (h4 : k0_cond4 i = 1#1)
    (hC : ∀ a, k0_off115 i a + S1x256x128.size a ≤ S1x7936x128.size a) (hD : ∀ a, k0_off116 i a + S1x1x256x128.size a ≤ S1x1x7936x128.size a)
    (hW : ∀ g, ∀ a, oWd i g a + S1x1x256x256.size a ≤ S31x5x256x256.size a) (hK : ∀ j, ∀ a, oKd i j a + S1x1x1x1x1.size a ≤ S1x1x31x4x128.size a) :
    (runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 f3 f4 f5 f6 f7 f8 f9 f10 f11 f12 f13 f14 f15 f16 f17 f18 f19 f20 f21 f22).2.2.2.2.2.2.2.2.1 = arg18.view.writes (Elt Ideal) f18 [(pC arg3 arg17 f3) 4, (pC arg3 arg17 f3) 3, (pC arg3 arg17 f3) 2, (pC arg3 arg17 f3) 1, (pC arg3 arg17 f3) 0] := by
  unfold runB; dsimp only; rfl

theorem runB_14 (h1 : k0_cond1 i = 1#1) (h2 : ¬k0_cond2 i = 1#1) (h3 : k0_cond3 i = 1#1) (h4 : k0_cond4 i = 1#1)
    (hC : ∀ a, k0_off115 i a + S1x256x128.size a ≤ S1x7936x128.size a) (hD : ∀ a, k0_off116 i a + S1x1x256x128.size a ≤ S1x1x7936x128.size a)
    (hW : ∀ g, ∀ a, oWd i g a + S1x1x256x256.size a ≤ S31x5x256x256.size a) (hK : ∀ j, ∀ a, oKd i j a + S1x1x1x1x1.size a ≤ S1x1x31x4x128.size a) :
    (runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 f3 f4 f5 f6 f7 f8 f9 f10 f11 f12 f13 f14 f15 f16 f17 f18 f19 f20 f21 f22).2.2.2.2.1 = arg14.view.writes (Elt Ideal) f14 ([(pD i arg3 arg4 arg5 arg15 arg16 f3 f4 f5 hC hD hW) 4, (pD i arg3 arg4 arg5 arg15 arg16 f3 f4 f5 hC hD hW) 3, (pD i arg3 arg4 arg5 arg15 arg16 f3 f4 f5 hC hD hW) 2, (pD i arg3 arg4 arg5 arg15 arg16 f3 f4 f5 hC hD hW) 1, (pD i arg3 arg4 arg5 arg15 arg16 f3 f4 f5 hC hD hW) 0] ++ ((T2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1).2.1 ++ (T1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1).2.1)) := by
  unfold runB; dsimp only; rfl

theorem runB_20 (h1 : k0_cond1 i = 1#1) (h2 : ¬k0_cond2 i = 1#1) (h3 : k0_cond3 i = 1#1) (h4 : k0_cond4 i = 1#1)
    (hC : ∀ a, k0_off115 i a + S1x256x128.size a ≤ S1x7936x128.size a) (hD : ∀ a, k0_off116 i a + S1x1x256x128.size a ≤ S1x1x7936x128.size a)
    (hW : ∀ g, ∀ a, oWd i g a + S1x1x256x256.size a ≤ S31x5x256x256.size a) (hK : ∀ j, ∀ a, oKd i j a + S1x1x1x1x1.size a ≤ S1x1x31x4x128.size a) :
    (runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 f3 f4 f5 f6 f7 f8 f9 f10 f11 f12 f13 f14 f15 f16 f17 f18 f19 f20 f21 f22).2.2.2.2.2.2.2.2.2.2.1 = arg20.view.writes (Elt Ideal) f20 [(pMc c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1 hC hD hK) 4, (pMc c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1 hC hD hK) 3, (pMc c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1 hC hD hK) 2, (pMc c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1 hC hD hK) 1, (pMc c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1 hC hD hK) 0] := by
  unfold runB; dsimp only; rfl

theorem runA_10 (h1 : k0_cond1 i = 1#1) (h2 : ¬k0_cond2 i = 1#1) (h3 : ¬k0_cond3 i = 1#1) (h4 : k0_cond4 i = 1#1) :
    (runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 f3 f4 f5 f6 f7 f8 f9 f10 f11 f12 f13 f14 f15 f16 f17 f18 f19 f20 f21 f22).1 = f10 := by
  unfold runA; rfl

theorem runB_10 (h1 : k0_cond1 i = 1#1) (h2 : ¬k0_cond2 i = 1#1) (h3 : k0_cond3 i = 1#1) (h4 : k0_cond4 i = 1#1)
    (hC : ∀ a, k0_off115 i a + S1x256x128.size a ≤ S1x7936x128.size a) (hD : ∀ a, k0_off116 i a + S1x1x256x128.size a ≤ S1x1x7936x128.size a)
    (hW : ∀ g, ∀ a, oWd i g a + S1x1x256x256.size a ≤ S31x5x256x256.size a) (hK : ∀ j, ∀ a, oKd i j a + S1x1x1x1x1.size a ≤ S1x1x31x4x128.size a) :
    (runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 f3 f4 f5 f6 f7 f8 f9 f10 f11 f12 f13 f14 f15 f16 f17 f18 f19 f20 f21 f22).1 = arg10.view.writes (Elt Ideal) f10 [(pO arg8 arg9 arg21 arg22 f8 f9 (W21 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1) (W22 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1)) 4, (pO arg8 arg9 arg21 arg22 f8 f9 (W21 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1) (W22 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1)) 3, (pO arg8 arg9 arg21 arg22 f8 f9 (W21 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1) (W22 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1)) 2, (pO arg8 arg9 arg21 arg22 f8 f9 (W21 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1) (W22 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1)) 1, (pO arg8 arg9 arg21 arg22 f8 f9 (W21 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1) (W22 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1)) 0] := by
  unfold runB; dsimp only; rfl

theorem runC_10 (h1 : ¬k0_cond1 i = 1#1) (h2 : k0_cond2 i = 1#1) (h3 : k0_cond3 i = 1#1) (h4 : ¬k0_cond4 i = 1#1) :
    (runC (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 f3 f4 f5 f6 f7 f8 f9 f10 f11 f12 f13 f14 f15 f16 f17 f18 f19 f20 f21 f22).1 = arg10.view.writes (Elt Ideal) f10 [(pO arg8 arg9 arg21 arg22 f8 f9 (Y21 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f14 f18 f20 h2) (Y22 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f14 f18 f20 h2)) 4, (pO arg8 arg9 arg21 arg22 f8 f9 (Y21 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f14 f18 f20 h2) (Y22 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f14 f18 f20 h2)) 3, (pO arg8 arg9 arg21 arg22 f8 f9 (Y21 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f14 f18 f20 h2) (Y22 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f14 f18 f20 h2)) 2, (pO arg8 arg9 arg21 arg22 f8 f9 (Y21 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f14 f18 f20 h2) (Y22 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f14 f18 f20 h2)) 1, (pO arg8 arg9 arg21 arg22 f8 f9 (Y21 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f14 f18 f20 h2) (Y22 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f14 f18 f20 h2)) 0] := by
  unfold runC; dsimp only; rfl

theorem runC_11 (h1 : ¬k0_cond1 i = 1#1) (h2 : k0_cond2 i = 1#1) (h3 : k0_cond3 i = 1#1) (h4 : ¬k0_cond4 i = 1#1) :
    (runC (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 f3 f4 f5 f6 f7 f8 f9 f10 f11 f12 f13 f14 f15 f16 f17 f18 f19 f20 f21 f22).2.1 = f11 := by
  unfold runC; rfl

theorem runC_12 (h1 : ¬k0_cond1 i = 1#1) (h2 : k0_cond2 i = 1#1) (h3 : k0_cond3 i = 1#1) (h4 : ¬k0_cond4 i = 1#1) :
    (runC (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 f3 f4 f5 f6 f7 f8 f9 f10 f11 f12 f13 f14 f15 f16 f17 f18 f19 f20 f21 f22).2.2.1 = f12 := by
  unfold runC; rfl

theorem runC_13 (h1 : ¬k0_cond1 i = 1#1) (h2 : k0_cond2 i = 1#1) (h3 : k0_cond3 i = 1#1) (h4 : ¬k0_cond4 i = 1#1) :
    (runC (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 f3 f4 f5 f6 f7 f8 f9 f10 f11 f12 f13 f14 f15 f16 f17 f18 f19 f20 f21 f22).2.2.2.1 = f13 := by
  unfold runC; rfl

theorem runC_14 (h1 : ¬k0_cond1 i = 1#1) (h2 : k0_cond2 i = 1#1) (h3 : k0_cond3 i = 1#1) (h4 : ¬k0_cond4 i = 1#1) :
    (runC (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 f3 f4 f5 f6 f7 f8 f9 f10 f11 f12 f13 f14 f15 f16 f17 f18 f19 f20 f21 f22).2.2.2.2.1 = f14 := by
  unfold runC; rfl

theorem runC_18 (h1 : ¬k0_cond1 i = 1#1) (h2 : k0_cond2 i = 1#1) (h3 : k0_cond3 i = 1#1) (h4 : ¬k0_cond4 i = 1#1) :
    (runC (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 f3 f4 f5 f6 f7 f8 f9 f10 f11 f12 f13 f14 f15 f16 f17 f18 f19 f20 f21 f22).2.2.2.2.2.2.2.2.1 = f18 := by
  unfold runC; rfl

theorem runC_20 (h1 : ¬k0_cond1 i = 1#1) (h2 : k0_cond2 i = 1#1) (h3 : k0_cond3 i = 1#1) (h4 : ¬k0_cond4 i = 1#1) :
    (runC (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 f3 f4 f5 f6 f7 f8 f9 f10 f11 f12 f13 f14 f15 f16 f17 f18 f19 f20 f21 f22).2.2.2.2.2.2.2.2.2.2.1 = f20 := by
  unfold runC; rfl

end Lists

end Cert.KernelIdeal.Attn

end
-- ==== Proof.Left.lean ====
/- What each step leaves in each buffer, at an index, from what it found in the buffers. -/
module

public import proofs.«01_k».proof.Proof.Step

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.ShloMosaic.Pointwise

/-! ## The quantised query block -/

/-- Tile and row of a query, head and lane of a column. -/
abbrev tl (l : Fin 256) : Fin 2 := ⟨l.val / 128, by omega⟩
abbrev rl (l : Fin 256) : Fin 128 := ⟨l.val % 128, by omega⟩
abbrev hd (k : Fin 640) : Fin 5 := ⟨k.val / 128, by omega⟩
abbrev dm (k : Fin 640) : Fin 128 := ⟨k.val % 128, by omega⟩

def tile (x3 : Vec Ideal S1x256x640 .bf16) (t : Fin 2) (g : Fin 5) (r d : Fin 128) : EReal :=
  x3 (ix3 0 ⟨128 * t.val + r.val, by omega⟩ ⟨128 * g.val + d.val, by omega⟩)

/-- The exponent of a tile. -/
def expT (x3 : Vec Ideal S1x256x640 .bf16) (t : Fin 2) (g : Fin 5) : BitVec 32 := expOf (topOf (tile x3 t g))

def codeT (x3 : Vec Ideal S1x256x640 .bf16) (t : Fin 2) (g : Fin 5) (r d : Fin 128) : EReal :=
  codeOf (resOf (tile x3 t g) r d) (invOf (expT x3 t g))

def q11 (x3 : Vec Ideal S1x256x640 .bf16) : Vec Ideal S1x256x640 .fp8e4m3 := fun y => codeT x3 (tl (y 1)) (hd (y 2)) (rl (y 1)) (dm (y 2))
def q12 (x3 : Vec Ideal S1x256x640 .bf16) : Vec Ideal S1x1x1x10x128 .f32 := fun y =>
  scaleOf (expT x3 ⟨(y 3).val / 5, by have : (y 3).val < 10 := (y 3).isLt; omega⟩ ⟨(y 3).val % 5, by omega⟩)
def q13 (x3 : Vec Ideal S1x256x640 .bf16) : Vec Ideal S1x2x1x5x128 .bf16 := fun y => meanOf (tile x3 (y 1) (y 3)) (y 4)
def q15 (x3 : Vec Ideal S1x256x640 .bf16) : Vec Ideal S5x128x256 .fp8e4m3 := fun y => codeT x3 (tl (y 2)) (y 0) (rl (y 2)) (y 1)
def q16 (x3 : Vec Ideal S1x256x640 .bf16) : Vec Ideal S5x128x256 .bf16 := fun y =>
  meanOf (tile x3 (tl (y 2)) (y 0)) (y 1) * invOf (expT x3 (tl (y 2)) (y 0))
def q17 (x3 : Vec Ideal S1x256x640 .bf16) : Vec Ideal S5x1x256 .f32 := fun y => scaleOf (expT x3 (tl (y 2)) (y 0)) * scale2

theorem forall10 {α : Type} (p : Fin 2 → Fin 5 → α) (P : α → Prop) :
    (∀ q ∈ [p 1 4, p 1 3, p 1 2, p 1 1, p 1 0, p 0 4, p 0 3, p 0 2, p 0 1, p 0 0], P q) ↔ ∀ t g, P (p t g) := by
  simp [Fin.forall_fin_succ]; tauto

theorem mem10 {α : Type} (p : Fin 2 → Fin 5 → α) (t : Fin 2) (g : Fin 5) :
    p t g ∈ [p 1 4, p 1 3, p 1 2, p 1 1, p 1 0, p 0 4, p 0 3, p 0 2, p 0 1, p 0 0] := by
  fin_cases t <;> fin_cases g <;> simp

/-- Ten pieces, one for each tile and head, that agree with one function of the index leave that function. -/
theorem ten_writes {s : Shape} {e : EltTy} (m : Memref sig .tc .vmem s e) (f : BufTy.Contents (Elt Ideal) m.view.ty)
    (p : Fin 2 → Fin 5 → View.Piece (Elt Ideal) s e) (G : s.Idx → Elt Ideal e)
    (hG : ∀ t g, ∀ x : (p t g).1.shape.Idx, (p t g).2 x = G ((p t g).1.emb x)) (y : s.Idx) (t : Fin 2) (g : Fin 5)
    (hy : y ∈ (p t g).1.set) :
    m.view.read (Elt Ideal) (m.view.writes (Elt Ideal) f [p 1 4, p 1 3, p 1 2, p 1 1, p 1 0, p 0 4, p 0 3, p 0 2, p 0 1, p 0 0]) y = G y := by
  refine View.read_writes_apply_of_pieces (Val := Elt Ideal) (e := e) _ _ G _ ?_ _ ⟨_, mem10 _ t g, hy⟩
  rw [forall10]; exact hG

section Quant

variable (arg3 : Memref sig .tc .vmem S1x256x640 .bf16) (f3 : BufTy.Contents (Elt Ideal) arg3.view.ty)
  (arg11 : Memref sig .tc .vmem S1x256x640 .fp8e4m3) (arg12 : Memref sig .tc .vmem S1x1x1x10x128 .f32) (arg13 : Memref sig .tc .vmem S1x2x1x5x128 .bf16)
  (arg15 : Memref sig .tc .vmem S5x128x256 .fp8e4m3) (arg16 : Memref sig .tc .vmem S5x128x256 .bf16) (arg17 : Memref sig .tc .vmem S5x1x256 .f32)

theorem xT_tile (t : Fin 2) (g : Fin 5) : tileOf (xT arg3 f3 t g) = tile (arg3.view.read (Elt Ideal) f3) t g := by
  funext r d
  exact rd3 arg3.view _ _ _ _ rfl (inX t g) f3 0 r d 0 _ _ rfl rfl rfl

theorem tl_add (t : Fin 2) (r : Fin 128) (h) : tl ⟨128 * t.val + r.val, h⟩ = t := Fin.ext (by simp only []; omega)
theorem rl_add (t : Fin 2) (r : Fin 128) (h) : rl ⟨128 * t.val + r.val, h⟩ = r := Fin.ext (by simp only []; omega)
theorem hd_add (t : Fin 5) (r : Fin 128) (h) : hd ⟨128 * t.val + r.val, h⟩ = t := Fin.ext (by simp only []; omega)
theorem dm_add (t : Fin 5) (r : Fin 128) (h) : dm ⟨128 * t.val + r.val, h⟩ = r := Fin.ext (by simp only []; omega)

theorem read11 (f : BufTy.Contents (Elt Ideal) arg11.view.ty) :
    arg11.view.read (Elt Ideal) (arg11.view.writes (Elt Ideal) f (LQ arg3 f3)) = q11 (arg3.view.read (Elt Ideal) f3) := by
  funext y
  refine ten_writes arg11 f (pQ arg3 f3) _ (fun t g x => ?_) y (tl (y 1)) (hd (y 2)) ?_
  · obtain ⟨z, r, d, rfl⟩ : ∃ (z : Fin 1) (r d : Fin 128), x = ix3 z r d := ⟨x 0, x 1, x 2, eq_ix3 (n0 := 1) (n1 := 128) (n2 := 128) x⟩
    obtain rfl : z = 0 := Subsingleton.elim _ _
    have e : (pQ arg3 f3 t g).1.emb (ix3 0 r d) = ix3 0 ⟨128 * t.val + r.val, by omega⟩ ⟨128 * g.val + d.val, by omega⟩ :=
      emb3 _ _ _ _ rfl (inX t g) 0 r d 0 _ _ rfl rfl rfl
    rw [e]
    show qCodes _ (ix3 0 r d) = codeT _ (tl ⟨128 * t.val + r.val, by omega⟩) (hd ⟨128 * g.val + d.val, by omega⟩) (rl ⟨128 * t.val + r.val, by omega⟩) (dm ⟨128 * g.val + d.val, by omega⟩)
    rw [qCodes_apply, xT_tile, tl_add, rl_add, hd_add, dm_add]; rfl
  · have h0 : (y 0).val < 1 := (y 0).isLt
    have h1 : (y 1).val < 256 := (y 1).isLt
    have h2 : (y 2).val < 640 := (y 2).isLt
    show y ∈ (Rect.unit (s := S1x256x640) _ _ (inX (tl (y 1)) (hd (y 2)))).set
    rw [Rect.mem_set_unit]; intro a; fin_cases a <;> simp <;> omega

theorem read15 (f : BufTy.Contents (Elt Ideal) arg15.view.ty) :
    arg15.view.read (Elt Ideal) (arg15.view.writes (Elt Ideal) f (LT arg3 f3)) = q15 (arg3.view.read (Elt Ideal) f3) := by
  funext y
  refine ten_writes arg15 f (pT arg3 f3) _ (fun t g x => ?_) y (tl (y 2)) (y 0) ?_
  · obtain ⟨z, r, d, rfl⟩ : ∃ (z : Fin 1) (r d : Fin 128), x = ix3 z r d := ⟨x 0, x 1, x 2, eq_ix3 (n0 := 1) (n1 := 128) (n2 := 128) x⟩
    obtain rfl : z = 0 := Subsingleton.elim _ _
    have e : (pT arg3 f3 t g).1.emb (ix3 0 r d) = ix3 g r ⟨128 * t.val + d.val, by omega⟩ :=
      emb3 _ _ _ _ rfl (inT t g) 0 r d g _ _ (by simp) (by simp) rfl
    rw [e]
    show qT _ (ix3 0 r d) = codeT _ (tl ⟨128 * t.val + d.val, by omega⟩) g (rl ⟨128 * t.val + d.val, by omega⟩) r
    rw [qT_apply, xT_tile, tl_add, rl_add]; rfl
  · have h0 : (y 0).val < 5 := (y 0).isLt
    have h1 : (y 1).val < 128 := (y 1).isLt
    have h2 : (y 2).val < 256 := (y 2).isLt
    show y ∈ (Rect.unit (s := S5x128x256) _ _ (inT (tl (y 2)) (y 0))).set
    rw [Rect.mem_set_unit]; intro a; fin_cases a <;> simp <;> omega

theorem read16 (f : BufTy.Contents (Elt Ideal) arg16.view.ty) :
    arg16.view.read (Elt Ideal) (arg16.view.writes (Elt Ideal) f (LM arg3 f3)) = q16 (arg3.view.read (Elt Ideal) f3) := by
  funext y
  refine ten_writes arg16 f (pM arg3 f3) _ (fun t g x => ?_) y (tl (y 2)) (y 0) ?_
  · obtain ⟨z, r, d, rfl⟩ : ∃ (z : Fin 1) (r d : Fin 128), x = ix3 z r d := ⟨x 0, x 1, x 2, eq_ix3 (n0 := 1) (n1 := 128) (n2 := 128) x⟩
    obtain rfl : z = 0 := Subsingleton.elim _ _
    have e : (pM arg3 f3 t g).1.emb (ix3 0 r d) = ix3 g r ⟨128 * t.val + d.val, by omega⟩ :=
      emb3 _ _ _ _ rfl (inT t g) 0 r d g _ _ (by simp) (by simp) rfl
    rw [e]
    show qM _ (ix3 0 r d) = meanOf (tile _ (tl ⟨128 * t.val + d.val, by omega⟩) g) r * invOf (expT _ (tl ⟨128 * t.val + d.val, by omega⟩) g)
    rw [qM_apply, xT_tile, tl_add]; rfl
  · have h0 : (y 0).val < 5 := (y 0).isLt
    have h1 : (y 1).val < 128 := (y 1).isLt
    have h2 : (y 2).val < 256 := (y 2).isLt
    show y ∈ (Rect.unit (s := S5x128x256) _ _ (inT (tl (y 2)) (y 0))).set
    rw [Rect.mem_set_unit]; intro a; fin_cases a <;> simp <;> omega

theorem read17 (f : BufTy.Contents (Elt Ideal) arg17.view.ty) :
    arg17.view.read (Elt Ideal) (arg17.view.writes (Elt Ideal) f (LF arg3 f3)) = q17 (arg3.view.read (Elt Ideal) f3) := by
  funext y
  refine ten_writes arg17 f (pF arg3 f3) _ (fun t g x => ?_) y (tl (y 2)) (y 0) ?_
  · obtain ⟨z, r, d, rfl⟩ : ∃ (z r : Fin 1) (d : Fin 128), x = ix3 z r d := ⟨x 0, x 1, x 2, eq_ix3 (n0 := 1) (n1 := 1) (n2 := 128) x⟩
    obtain rfl : z = 0 := Subsingleton.elim _ _
    obtain rfl : r = 0 := Subsingleton.elim _ _
    have e : (pF arg3 f3 t g).1.emb (ix3 0 0 d) = ix3 g 0 ⟨128 * t.val + d.val, by omega⟩ :=
      emb3 _ _ _ _ rfl (inF t g) 0 0 d g _ _ (by simp) (by simp) rfl
    rw [e]
    show qF _ (ix3 0 0 d) = scaleOf (expT _ (tl ⟨128 * t.val + d.val, by omega⟩) g) * scale2
    rw [qF_apply, xT_tile, tl_add]; rfl
  · have h0 : (y 0).val < 5 := (y 0).isLt
    have h1 : (y 1).val < 1 := (y 1).isLt
    have h2 : (y 2).val < 256 := (y 2).isLt
    show y ∈ (Rect.unit (s := S5x1x256) _ _ (inF (tl (y 2)) (y 0))).set
    rw [Rect.mem_set_unit]; intro a; fin_cases a <;> simp <;> omega

theorem rows5 (a : Fin 5 → FVec Ideal S1x128 .bf16) (g : Fin 5) (d : Fin 128) :
    k0_pay410 (a 0) (a 1) (a 2) (a 3) (a 4) (ix5 0 0 0 g d) = a g (ix2 0 d) := by
  fin_cases g <;> pointwise [k0_pay410]

theorem rows10 (a : Fin 2 → Fin 5 → FVec Ideal S1x128 .f32) (t : Fin 2) (g : Fin 5) (d : Fin 128) :
    k0_pay411 (a 0 0) (a 0 1) (a 0 2) (a 0 3) (a 0 4) (a 1 0) (a 1 1) (a 1 2) (a 1 3) (a 1 4) (ix5 0 0 0 ⟨5 * t.val + g.val, by omega⟩ d)
      = a t g (ix2 0 d) := by
  fin_cases t <;> fin_cases g <;> pointwise [k0_pay411]

theorem read13 (f : BufTy.Contents (Elt Ideal) arg13.view.ty) :
    arg13.view.read (Elt Ideal) (arg13.view.writes (Elt Ideal) f [pMean arg3 f3 1, pMean arg3 f3 0]) = q13 (arg3.view.read (Elt Ideal) f3) := by
  funext y
  have hp : ∀ t : Fin 2, ∀ x, (pMean arg3 f3 t).2 x = q13 (arg3.view.read (Elt Ideal) f3) ((pMean arg3 f3 t).1.emb x) := by
    intro t x
    obtain ⟨z0, z1, z2, g, d, rfl⟩ : ∃ (z0 z1 z2 : Fin 1) (g : Fin 5) (d : Fin 128), x = ix5 z0 z1 z2 g d :=
      ⟨x 0, x 1, x 2, x 3, x 4, eq_ix5 (n0 := 1) (n1 := 1) (n2 := 1) (n3 := 5) (n4 := 128) x⟩
    obtain rfl : z0 = 0 := Subsingleton.elim _ _
    obtain rfl : z1 = 0 := Subsingleton.elim _ _
    obtain rfl : z2 = 0 := Subsingleton.elim _ _
    have e : (pMean arg3 f3 t).1.emb (ix5 0 0 0 g d) = ix5 0 t 0 g d :=
      emb5 _ _ _ _ _ _ rfl (inM t) 0 0 0 g d _ _ _ _ _ rfl (by simp) rfl (by simp) (by simp)
    rw [e]
    refine (rows5 (fun g => qMean (xT arg3 f3 t g)) g d).trans ?_
    show qMean (xT arg3 f3 t g) (ix2 0 d) = meanOf (tile _ t g) d
    rw [qMean_apply, xT_tile]
  refine View.read_writes_apply_of_pieces (Val := Elt Ideal) (e := .bf16) _ _ (q13 (arg3.view.read (Elt Ideal) f3)) _ ?_ _ ⟨pMean arg3 f3 (y 1), ?_, ?_⟩
  · intro p hpm
    rcases List.mem_cons.1 hpm with rfl | h
    · exact hp 1
    · rcases List.mem_singleton.1 h with rfl; exact hp 0
  · have : y 1 = (0 : Fin 2) ∨ y 1 = (1 : Fin 2) := by
      have h1 : (y 1).val < 2 := (y 1).isLt
      rcases Nat.lt_or_ge (y 1).val 1 with h | h
      · left; exact Fin.ext (by simp; omega)
      · right; exact Fin.ext (by simp; omega)
    rcases this with h | h <;> rw [h] <;> simp
  · have h0 : (y 0).val < 1 := (y 0).isLt
    have h1 : (y 1).val < 2 := (y 1).isLt
    have h2 : (y 2).val < 1 := (y 2).isLt
    have h3 : (y 3).val < 5 := (y 3).isLt
    have h4 : (y 4).val < 128 := (y 4).isLt
    show y ∈ (Rect.unit (s := S1x2x1x5x128) _ _ (inM (y 1))).set
    rw [Rect.mem_set_unit]; intro a; fin_cases a <;> simp <;> omega

theorem read12 (f : BufTy.Contents (Elt Ideal) arg12.view.ty) :
    arg12.view.read (Elt Ideal) (arg12.view.writes (Elt Ideal) f [pScale arg3 f3]) = q12 (arg3.view.read (Elt Ideal) f3) := by
  funext y
  refine View.read_writes_apply_of_pieces (Val := Elt Ideal) (e := .f32) _ _ (q12 (arg3.view.read (Elt Ideal) f3)) _ ?_ _ ⟨pScale arg3 f3, by simp, ?_⟩
  · intro p hpm x
    rcases List.mem_singleton.1 hpm with rfl
    obtain ⟨z0, z1, z2, k, d, rfl⟩ : ∃ (z0 z1 z2 : Fin 1) (g : Fin 10) (d : Fin 128), x = ix5 z0 z1 z2 g d :=
      ⟨x 0, x 1, x 2, x 3, x 4, eq_ix5 (n0 := 1) (n1 := 1) (n2 := 1) (n3 := 10) (n4 := 128) x⟩
    obtain rfl : z0 = 0 := Subsingleton.elim _ _
    obtain rfl : z1 = 0 := Subsingleton.elim _ _
    obtain rfl : z2 = 0 := Subsingleton.elim _ _
    have e : (pScale arg3 f3).1.emb (ix5 0 0 0 k d) = ix5 0 0 0 k d :=
      emb5 _ _ _ _ _ _ rfl inA 0 0 0 k d _ _ _ _ _ rfl rfl rfl (by simp) (by simp)
    rw [e]
    obtain ⟨t, g, rfl⟩ : ∃ (t : Fin 2) (g : Fin 5), k = ⟨5 * t.val + g.val, by omega⟩ :=
      ⟨⟨k.val / 5, by omega⟩, ⟨k.val % 5, by omega⟩, Fin.ext (by simp only []; omega)⟩
    refine (rows10 (fun t g => qScale (xT arg3 f3 t g)) t g d).trans ?_
    show qScale (xT arg3 f3 t g) (ix2 0 d) = scaleOf (expT _ ⟨(5 * t.val + g.val) / 5, by omega⟩ ⟨(5 * t.val + g.val) % 5, by omega⟩)
    rw [qScale_apply, xT_tile]
    have e1 : (⟨(5 * t.val + g.val) / 5, by omega⟩ : Fin 2) = t := Fin.ext (by simp only []; omega)
    have e2 : (⟨(5 * t.val + g.val) % 5, by omega⟩ : Fin 5) = g := Fin.ext (by simp only []; omega)
    rw [e1, e2]; rfl
  · have h0 : (y 0).val < 1 := (y 0).isLt
    have h1 : (y 1).val < 1 := (y 1).isLt
    have h2 : (y 2).val < 1 := (y 2).isLt
    have h3 : (y 3).val < 10 := (y 3).isLt
    have h4 : (y 4).val < 128 := (y 4).isLt
    show y ∈ (Rect.unit (s := S1x1x1x10x128) _ _ inA).set
    rw [Rect.mem_set_unit]; intro a; fin_cases a <;> simp <;> omega

end Quant

/-! ## The offsets of the diagonal block -/

abbrev cz (n : Fin 32) : grid0.Coords := fun | 0 => ⟨0, by decide⟩ | 1 => ⟨0, by decide⟩ | 2 => n

theorem offC (i : grid0.Coords) : k0_off115 i = ![0, 256 * (i 2).val, 0] :=
  (by decide +kernel : ∀ n : Fin 32, k0_off115 (cz n) = ![0, 256 * n.val, 0]) (i 2)
theorem offD (i : grid0.Coords) : k0_off116 i = ![0, 0, 256 * (i 2).val, 0] :=
  (by decide +kernel : ∀ n : Fin 32, k0_off116 (cz n) = ![0, 0, 256 * n.val, 0]) (i 2)
theorem offK (i : grid0.Coords) (j : Fin 4) : oKd i j = ![0, 0, (i 2).val, j.val, 0] :=
  (by decide +kernel : ∀ j : Fin 4, ∀ n : Fin 32, oKd (cz n) j = ![0, 0, n.val, j.val, 0]) j (i 2)
theorem offW (i : grid0.Coords) (g : Fin 5) : oWd i g = ![(i 2).val, g.val, 0, 0] :=
  (by decide +kernel : ∀ g : Fin 5, ∀ n : Fin 32, oWd (cz n) g = ![n.val, g.val, 0, 0]) g (i 2)

/-! ## What a step leaves -/

/-- A score of the diagonal block `s`. -/
def maskS (x3 : Vec Ideal S1x256x640 .bf16) (x4 : Vec Ideal S1x7936x128 .fp8e4m3) (x5 : Vec Ideal S1x1x7936x128 .bf16)
    (s : Fin 31) (g : Fin 5) (x l : Fin 256) : EReal := if x ≤ l then sAt x4 x5 (q15 x3) (q16 x3) s g x l else ⊥

/-- The scores after step `s`: those of the blocks before it, its own masked, the others as found. -/
def n14 (x3 : Vec Ideal S1x256x640 .bf16) (x4 : Vec Ideal S1x7936x128 .fp8e4m3) (x5 : Vec Ideal S1x1x7936x128 .bf16)
    (x14 : Vec Ideal S31x5x256x256 .f32) (s : Fin 31) : Vec Ideal S31x5x256x256 .f32 := fun y =>
  if (y 0).val = s.val then maskS x3 x4 x5 s (y 1) (y 2) (y 3)
  else if (y 0).val < s.val then sAt x4 x5 (q15 x3) (q16 x3) (y 0) (y 1) (y 2) (y 3) else x14 y

/-- The shift of step `s`. -/
def n20 (x3 : Vec Ideal S1x256x640 .bf16) (x4 : Vec Ideal S1x7936x128 .fp8e4m3) (x5 : Vec Ideal S1x1x7936x128 .bf16)
    (x6 : Vec Ideal S1x1x31x4x128 .f32) (s : Fin 31) : Vec Ideal S5x1x256 .f32 := fun y =>
  (Finset.univ.sup fun r : Fin 8 => max ((Finset.univ.filter (fun b : Fin 31 => b.val < s.val)).sup fun b =>
      maxStep x4 x5 x6 (q15 x3) (q16 x3) b (y 0) r (y 2))
    (Finset.univ.sup fun j : Fin 4 => (Finset.univ.sup fun a : Fin 8 => maskS x3 x4 x5 s (y 0) (key j a r) (y 2)) * x6 (ix5 0 0 s j 0)))
      * q17 x3 (ix3 (y 0) 0 (y 2)) - Ideal.ofBits .f32 0x41000000#32

/-- The output from the scores, factors and shifts found, over the first `n` blocks of keys. -/
def n10 (x6 : Vec Ideal S1x1x31x4x128 .f32) (x7 : Vec Ideal S1x1x31x128x256 .fp8e4m3) (x8 : Vec Ideal S1x1x1x128 .f32)
    (x9 : Vec Ideal S1x1x1x128 .bf16) (x14 : Vec Ideal S31x5x256x256 .f32) (x18 x20 : Vec Ideal S5x1x256 .f32) (n : ℕ) :
    Vec Ideal S1x256x640 .bf16 := fun y =>
  (∑ b ∈ Finset.univ.filter (fun b : Fin 31 => b.val < n), accStep x6 x7 x14 x18 x20 b (hd (y 2)) (dm (y 2)) (y 1))
    * Ideal.div (Ideal.ofBits .f32 0x3F800000#32)
        (∑ r : Fin 8, ∑ b ∈ Finset.univ.filter (fun b : Fin 31 => b.val < n), sumStep x6 x14 x18 x20 b (hd (y 2)) r (y 1))
    * x8 (ix4 0 0 0 (dm (y 2))) + x9 (ix4 0 0 0 (dm (y 2)))

theorem zero_bits : Ideal.ofBits .f32 0#32 = 0 := by simp [Ideal.ofBits, Ideal.ieee]

theorem read8 (m : Memref sig .tc .vmem S5x8x256 .f32) (b : BitVec 32) (y : S5x8x256.Idx) :
    m.view.read (Elt Ideal) (Z8 m b) y = Ideal.ofBits .f32 b := by
  refine View.read_writes_apply_of_pieces (Val := Elt Ideal) (e := .f32) _ _ (fun _ => Ideal.ofBits .f32 b) _ ?_ _ ⟨_, List.mem_singleton.2 rfl, ?_⟩
  · intro p hp x; rcases List.mem_singleton.1 hp with rfl; rfl
  · have h0 : (y 0).val < 5 := (y 0).isLt
    have h1 : (y 1).val < 8 := (y 1).isLt
    have h2 : (y 2).val < 256 := (y 2).isLt
    show y ∈ (Rect.unit (s := S5x8x256) ![0, 0, 0] S5x8x256.size (by intro a; fin_cases a <;> simp)).set
    rw [Rect.mem_set_unit]; intro a; fin_cases a <;> simp <;> omega

theorem read128 (m : Memref sig .tc .vmem S5x128x256 .f32) (y : S5x128x256.Idx) : m.view.read (Elt Ideal) (Z128 m) y = 0 := by
  rw [← zero_bits]
  refine View.read_writes_apply_of_pieces (Val := Elt Ideal) (e := .f32) _ _ (fun _ => Ideal.ofBits .f32 0#32) _ ?_ _ ⟨_, List.mem_singleton.2 rfl, ?_⟩
  · intro p hp x; rcases List.mem_singleton.1 hp with rfl; rfl
  · have h0 : (y 0).val < 5 := (y 0).isLt
    have h1 : (y 1).val < 128 := (y 1).isLt
    have h2 : (y 2).val < 256 := (y 2).isLt
    show y ∈ (Rect.unit (s := S5x128x256) ![0, 0, 0] S5x128x256.size (by intro a; fin_cases a <;> simp)).set
    rw [Rect.mem_set_unit]; intro a; fin_cases a <;> simp <;> omega

section Steps

variable (c : Dev nD) (i : grid0.Coords)
  (arg3 : Memref sig .tc .vmem S1x256x640 .bf16) (harg3 : arg3.IsWhole)
  (arg4 : Memref sig .tc .vmem S1x7936x128 .fp8e4m3) (harg4 : arg4.IsWhole)
  (arg5 : Memref sig .tc .vmem S1x1x7936x128 .bf16) (harg5 : arg5.IsWhole)
  (arg6 : Memref sig .tc .vmem S1x1x31x4x128 .f32) (harg6 : arg6.IsWhole)
  (arg7 : Memref sig .tc .vmem S1x1x31x128x256 .fp8e4m3) (harg7 : arg7.IsWhole)
  (arg8 : Memref sig .tc .vmem S1x1x1x128 .f32) (harg8 : arg8.IsWhole)
  (arg9 : Memref sig .tc .vmem S1x1x1x128 .bf16) (harg9 : arg9.IsWhole)
  (arg10 : Memref sig .tc .vmem S1x256x640 .bf16) (harg10 : arg10.IsWhole)
  (arg11 : Memref sig .tc .vmem S1x256x640 .fp8e4m3) (harg11 : arg11.IsWhole)
  (arg12 : Memref sig .tc .vmem S1x1x1x10x128 .f32) (harg12 : arg12.IsWhole)
  (arg13 : Memref sig .tc .vmem S1x2x1x5x128 .bf16) (harg13 : arg13.IsWhole)
  (arg14 : Memref sig .tc .vmem S31x5x256x256 .f32) (harg14 : arg14.IsWhole)
  (arg15 : Memref sig .tc .vmem S5x128x256 .fp8e4m3) (harg15 : arg15.IsWhole)
  (arg16 : Memref sig .tc .vmem S5x128x256 .bf16) (harg16 : arg16.IsWhole)
  (arg17 : Memref sig .tc .vmem S5x1x256 .f32) (harg17 : arg17.IsWhole)
  (arg18 : Memref sig .tc .vmem S5x1x256 .f32) (harg18 : arg18.IsWhole)
  (arg19 : Memref sig .tc .vmem S5x8x256 .f32) (harg19 : arg19.IsWhole)
  (arg20 : Memref sig .tc .vmem S5x1x256 .f32) (harg20 : arg20.IsWhole)
  (arg21 : Memref sig .tc .vmem S5x8x256 .f32) (harg21 : arg21.IsWhole)
  (arg22 : Memref sig .tc .vmem S5x128x256 .f32) (harg22 : arg22.IsWhole)
  (f3 : BufTy.Contents (Elt Ideal) arg3.view.ty)
  (f4 : BufTy.Contents (Elt Ideal) arg4.view.ty)
  (f5 : BufTy.Contents (Elt Ideal) arg5.view.ty)
  (f6 : BufTy.Contents (Elt Ideal) arg6.view.ty)
  (f7 : BufTy.Contents (Elt Ideal) arg7.view.ty)
  (f8 : BufTy.Contents (Elt Ideal) arg8.view.ty)
  (f9 : BufTy.Contents (Elt Ideal) arg9.view.ty)
  (f10 : BufTy.Contents (Elt Ideal) arg10.view.ty)
  (f11 : BufTy.Contents (Elt Ideal) arg11.view.ty)
  (f12 : BufTy.Contents (Elt Ideal) arg12.view.ty)
  (f13 : BufTy.Contents (Elt Ideal) arg13.view.ty)
  (f14 : BufTy.Contents (Elt Ideal) arg14.view.ty)
  (f15 : BufTy.Contents (Elt Ideal) arg15.view.ty)
  (f16 : BufTy.Contents (Elt Ideal) arg16.view.ty)
  (f17 : BufTy.Contents (Elt Ideal) arg17.view.ty)
  (f18 : BufTy.Contents (Elt Ideal) arg18.view.ty)
  (f19 : BufTy.Contents (Elt Ideal) arg19.view.ty)
  (f20 : BufTy.Contents (Elt Ideal) arg20.view.ty)
  (f21 : BufTy.Contents (Elt Ideal) arg21.view.ty)
  (f22 : BufTy.Contents (Elt Ideal) arg22.view.ty)

theorem T2_nil (h1 : k0_cond1 i = 1#1) : (T2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1).2 = ([], [], [], []) := by
  unfold T2; rw [trips2]; rfl
theorem T4_nil (h2 : k0_cond2 i = 1#1) : (T4 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f14 f18 f20 h2).2 = ([], []) := by
  unfold T4; rw [trips4]; rfl

theorem read19 (h1 : k0_cond1 i = 1#1) (hs : (i 2).val ≤ 30) (g : Fin 5) (r : Fin 8) (l : Fin 256) :
    arg19.view.read (Elt Ideal) (W19 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1) (ix3 g r l)
      = (Finset.univ.filter (fun b : Fin 31 => b.val < (i 2).val)).sup fun b =>
          maxStep (arg4.view.read (Elt Ideal) f4) (arg5.view.read (Elt Ideal) f5) (arg6.view.read (Elt Ideal) f6) (q15 (arg3.view.read (Elt Ideal) f3)) (q16 (arg3.view.read (Elt Ideal) f3)) b g r l := by
  unfold W19
  rw [T2_nil, List.nil_append, View.writes_append]
  have h := (loop1 Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f4 f5 f6 f7 f14 (arg15.view.writes (Elt Ideal) arg15.view.junk (LT arg3 f3)) (arg16.view.writes (Elt Ideal) arg16.view.junk (LM arg3 f3)) f18 (Z8 arg19 0xFF800000#32) f20 (Z8 arg21 0#32) (Z128 arg22) h1 0#32 _ le_rfl (by rw [trips1]; omega)).2.1 g r l
  refine h.trans ?_
  rw [read8, ofBits_bot, read15, read16, trips1, max_eq_right bot_le]

theorem read21 (h1 : k0_cond1 i = 1#1) (hs : (i 2).val ≤ 30) (g : Fin 5) (r : Fin 8) (l : Fin 256) :
    arg21.view.read (Elt Ideal) (W21 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1) (ix3 g r l)
      = ∑ b ∈ Finset.univ.filter (fun b : Fin 31 => b.val < (i 2).val), sumStep (arg6.view.read (Elt Ideal) f6) (arg14.view.read (Elt Ideal) f14) (arg18.view.read (Elt Ideal) f18) (arg20.view.read (Elt Ideal) f20) b g r l := by
  unfold W21
  rw [T2_nil, List.nil_append, View.writes_append]
  have h := (loop1 Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f4 f5 f6 f7 f14 (arg15.view.writes (Elt Ideal) arg15.view.junk (LT arg3 f3)) (arg16.view.writes (Elt Ideal) arg16.view.junk (LM arg3 f3)) f18 (Z8 arg19 0xFF800000#32) f20 (Z8 arg21 0#32) (Z128 arg22) h1 0#32 _ le_rfl (by rw [trips1]; omega)).2.2.1 g r l
  refine h.trans ?_
  rw [read8, zero_bits, trips1, zero_add]

theorem read22 (h1 : k0_cond1 i = 1#1) (hs : (i 2).val ≤ 30) (g : Fin 5) (d : Fin 128) (l : Fin 256) :
    arg22.view.read (Elt Ideal) (W22 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1) (ix3 g d l)
      = ∑ b ∈ Finset.univ.filter (fun b : Fin 31 => b.val < (i 2).val), accStep (arg6.view.read (Elt Ideal) f6) (arg7.view.read (Elt Ideal) f7) (arg14.view.read (Elt Ideal) f14) (arg18.view.read (Elt Ideal) f18) (arg20.view.read (Elt Ideal) f20) b g d l := by
  unfold W22
  rw [T2_nil, List.nil_append, View.writes_append]
  have h := (loop1 Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f4 f5 f6 f7 f14 (arg15.view.writes (Elt Ideal) arg15.view.junk (LT arg3 f3)) (arg16.view.writes (Elt Ideal) arg16.view.junk (LM arg3 f3)) f18 (Z8 arg19 0xFF800000#32) f20 (Z8 arg21 0#32) (Z128 arg22) h1 0#32 _ le_rfl (by rw [trips1]; omega)).2.2.2 g d l
  refine h.trans ?_
  rw [read128, trips1, zero_add]

theorem read21' (h2 : k0_cond2 i = 1#1) (hs : (i 2).val = 31) (g : Fin 5) (r : Fin 8) (l : Fin 256) :
    arg21.view.read (Elt Ideal) (Y21 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f14 f18 f20 h2) (ix3 g r l)
      = ∑ b ∈ Finset.univ.filter (fun b : Fin 31 => b.val < 31), sumStep (arg6.view.read (Elt Ideal) f6) (arg14.view.read (Elt Ideal) f14) (arg18.view.read (Elt Ideal) f18) (arg20.view.read (Elt Ideal) f20) b g r l := by
  unfold Y21
  rw [T4_nil, List.nil_append, View.writes_append]
  have h := (loop3 Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f14 f18 f20 (Z8 arg21 0#32) (Z128 arg22) h2 0#32 _ le_rfl (by rw [trips3]; omega)).1 g r l
  refine h.trans ?_
  rw [read8, zero_bits, trips3, zero_add, hs]

theorem read22' (h2 : k0_cond2 i = 1#1) (hs : (i 2).val = 31) (g : Fin 5) (d : Fin 128) (l : Fin 256) :
    arg22.view.read (Elt Ideal) (Y22 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f14 f18 f20 h2) (ix3 g d l)
      = ∑ b ∈ Finset.univ.filter (fun b : Fin 31 => b.val < 31), accStep (arg6.view.read (Elt Ideal) f6) (arg7.view.read (Elt Ideal) f7) (arg14.view.read (Elt Ideal) f14) (arg18.view.read (Elt Ideal) f18) (arg20.view.read (Elt Ideal) f20) b g d l := by
  unfold Y22
  rw [T4_nil, List.nil_append, View.writes_append]
  have h := (loop3 Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f14 f18 f20 (Z8 arg21 0#32) (Z128 arg22) h2 0#32 _ le_rfl (by rw [trips3]; omega)).2 g d l
  refine h.trans ?_
  rw [read128, trips3, zero_add, hs]

theorem mask_ld (s : Fin 31) (hs : (i 2).val = s.val) (hC : ∀ a, k0_off115 i a + S1x256x128.size a ≤ S1x7936x128.size a) (hD : ∀ a, k0_off116 i a + S1x1x256x128.size a ≤ S1x1x7936x128.size a)
    (g : Fin 5) (x l : Fin 256) :
    maskAt (ldC arg4 f4 (k0_off115 i) hC) (ldD g arg15 (arg15.view.writes (Elt Ideal) arg15.view.junk (LT arg3 f3))) (ldW arg5 f5 (k0_off116 i) hD)
      (ldD g arg16 (arg16.view.writes (Elt Ideal) arg16.view.junk (LM arg3 f3))) x l = maskS (arg3.view.read (Elt Ideal) f3) (arg4.view.read (Elt Ideal) f4) (arg5.view.read (Elt Ideal) f5) s g x l := by
  unfold maskAt maskS
  rw [scoreAt_ld _ _ _ _ _ _ _ _ _ _ _ _ _ s _ _ (by rw [offC, hs]) (by rw [offD, hs]), read15, read16]

theorem read14 (h1 : k0_cond1 i = 1#1) (s : Fin 31) (hs : (i 2).val = s.val)
    (hC : ∀ a, k0_off115 i a + S1x256x128.size a ≤ S1x7936x128.size a) (hD : ∀ a, k0_off116 i a + S1x1x256x128.size a ≤ S1x1x7936x128.size a)
    (hW : ∀ g, ∀ a, oWd i g a + S1x1x256x256.size a ≤ S31x5x256x256.size a) :
    arg14.view.read (Elt Ideal) (arg14.view.writes (Elt Ideal) f14 ([(pD i arg3 arg4 arg5 arg15 arg16 f3 f4 f5 hC hD hW) 4, (pD i arg3 arg4 arg5 arg15 arg16 f3 f4 f5 hC hD hW) 3, (pD i arg3 arg4 arg5 arg15 arg16 f3 f4 f5 hC hD hW) 2, (pD i arg3 arg4 arg5 arg15 arg16 f3 f4 f5 hC hD hW) 1, (pD i arg3 arg4 arg5 arg15 arg16 f3 f4 f5 hC hD hW) 0] ++ ((T2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1).2.1 ++ (T1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1).2.1)))
      = n14 (arg3.view.read (Elt Ideal) f3) (arg4.view.read (Elt Ideal) f4) (arg5.view.read (Elt Ideal) f5) (arg14.view.read (Elt Ideal) f14) s := by
  funext y
  obtain ⟨a, g, x, l, rfl⟩ : ∃ (a : Fin 31) (g : Fin 5) (x l : Fin 256), y = ix4 a g x l :=
    ⟨y 0, y 1, y 2, y 3, eq_ix4 (n0 := 31) (n1 := 5) (n2 := 256) (n3 := 256) y⟩
  rw [T2_nil, List.nil_append, View.writes_append]
  refine (row_writes arg14 _ (pD i arg3 arg4 arg5 arg15 arg16 f3 f4 f5 hC hD hW)
    (fun y => maskS (arg3.view.read (Elt Ideal) f3) (arg4.view.read (Elt Ideal) f4) (arg5.view.read (Elt Ideal) f5) s (y 1) (y 2) (y 3)) s (fun g => ⟨_, hW g, by rw [offW, hs], rfl⟩) (fun g x => ?_) a g x l).trans ?_
  · obtain ⟨z0, z1, r, l, rfl⟩ : ∃ (z0 z1 : Fin 1) (r l : Fin 256), x = ix4 z0 z1 r l :=
      ⟨x 0, x 1, x 2, x 3, eq_ix4 (n0 := 1) (n1 := 1) (n2 := 256) (n3 := 256) x⟩
    obtain rfl : z0 = 0 := Subsingleton.elim _ _
    obtain rfl : z1 = 0 := Subsingleton.elim _ _
    have e : (pD i arg3 arg4 arg5 arg15 arg16 f3 f4 f5 hC hD hW g).1.emb (ix4 0 0 r l) = ix4 s g r l :=
      emb4 _ _ _ _ _ (by rw [offW, hs]) (hW g) 0 0 r l s g r l rfl rfl (by omega) (by omega)
    rw [e]
    show uDiag _ _ _ _ (ix4 0 0 r l) = maskS _ _ _ s g r l
    rw [uDiag_apply, mask_ld (i := i) (s := s) (hs := hs)]
  · have h := (loop1 Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f4 f5 f6 f7 f14 (arg15.view.writes (Elt Ideal) arg15.view.junk (LT arg3 f3)) (arg16.view.writes (Elt Ideal) arg16.view.junk (LM arg3 f3)) f18 (Z8 arg19 0xFF800000#32) f20 (Z8 arg21 0#32) (Z128 arg22) h1 0#32 _ le_rfl (by rw [trips1]; omega)).1 a g x l
    show (if a.val = s.val then maskS _ _ _ s g x l else _) = if a.val = s.val then maskS _ _ _ s g x l else
      if a.val < s.val then sAt _ _ _ _ a g x l else _
    refine if_congr Iff.rfl rfl (h.trans ?_)
    rw [read15, read16, trips1, hs]

theorem read18 :
    arg18.view.read (Elt Ideal) (arg18.view.writes (Elt Ideal) f18 [(pC arg3 arg17 f3) 4, (pC arg3 arg17 f3) 3, (pC arg3 arg17 f3) 2, (pC arg3 arg17 f3) 1, (pC arg3 arg17 f3) 0]) = q17 (arg3.view.read (Elt Ideal) f3) := by
  funext y
  obtain ⟨g, z, l, rfl⟩ : ∃ (g : Fin 5) (z : Fin 1) (l : Fin 256), y = ix3 g z l := ⟨y 0, y 1, y 2, eq_ix3 (n0 := 5) (n1 := 1) (n2 := 256) y⟩
  refine head_writes arg18 _ (pC arg3 arg17 f3) (q17 (arg3.view.read (Elt Ideal) f3)) (fun g => ⟨inb3 g le_rfl le_rfl, rfl⟩) (fun g x => ?_) g z l
  obtain ⟨z0, z1, l, rfl⟩ : ∃ (z0 z1 : Fin 1) (l : Fin 256), x = ix3 z0 z1 l := ⟨x 0, x 1, x 2, eq_ix3 (n0 := 1) (n1 := 1) (n2 := 256) x⟩
  obtain rfl : z0 = 0 := Subsingleton.elim _ _
  obtain rfl : z1 = 0 := Subsingleton.elim _ _
  have e : (pC arg3 arg17 f3 g).1.emb (ix3 0 0 l) = ix3 g 0 l := emb3 _ _ _ _ rfl (inb3 g le_rfl le_rfl) 0 0 l g 0 l rfl rfl (by omega)
  rw [e]
  refine (uFq_apply (ldH g arg17 (arg17.view.writes (Elt Ideal) arg17.view.junk (LF arg3 f3))) l).trans ?_
  rw [ldH_apply, read17]

theorem read20 (h1 : k0_cond1 i = 1#1) (s : Fin 31) (hs : (i 2).val = s.val)
    (hC : ∀ a, k0_off115 i a + S1x256x128.size a ≤ S1x7936x128.size a) (hD : ∀ a, k0_off116 i a + S1x1x256x128.size a ≤ S1x1x7936x128.size a)
    (hK : ∀ j, ∀ a, oKd i j a + S1x1x1x1x1.size a ≤ S1x1x31x4x128.size a) :
    arg20.view.read (Elt Ideal) (arg20.view.writes (Elt Ideal) f20 [(pMc c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1 hC hD hK) 4, (pMc c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1 hC hD hK) 3, (pMc c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1 hC hD hK) 2, (pMc c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1 hC hD hK) 1, (pMc c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1 hC hD hK) 0])
      = n20 (arg3.view.read (Elt Ideal) f3) (arg4.view.read (Elt Ideal) f4) (arg5.view.read (Elt Ideal) f5) (arg6.view.read (Elt Ideal) f6) s := by
  funext y
  obtain ⟨g, z, l, rfl⟩ : ∃ (g : Fin 5) (z : Fin 1) (l : Fin 256), y = ix3 g z l := ⟨y 0, y 1, y 2, eq_ix3 (n0 := 5) (n1 := 1) (n2 := 256) y⟩
  refine head_writes arg20 _ (pMc c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1 hC hD hK) (n20 (arg3.view.read (Elt Ideal) f3) (arg4.view.read (Elt Ideal) f4) (arg5.view.read (Elt Ideal) f5) (arg6.view.read (Elt Ideal) f6) s)
    (fun g => ⟨inb3 g le_rfl le_rfl, rfl⟩) (fun g x => ?_) g z l
  obtain ⟨z0, z1, l, rfl⟩ : ∃ (z0 z1 : Fin 1) (l : Fin 256), x = ix3 z0 z1 l := ⟨x 0, x 1, x 2, eq_ix3 (n0 := 1) (n1 := 1) (n2 := 256) x⟩
  obtain rfl : z0 = 0 := Subsingleton.elim _ _
  obtain rfl : z1 = 0 := Subsingleton.elim _ _
  have e : ((pMc c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f6 f7 f14 f18 f20 h1 hC hD hK) g).1.emb (ix3 0 0 l) = ix3 g 0 l := emb3 _ _ _ _ rfl (inb3 g le_rfl le_rfl) 0 0 l g 0 l rfl rfl (by omega)
  rw [e]
  refine (uMc_apply _ _ _ _ _ _ _ l).trans ?_
  rw [ldH_apply, read17]
  refine congrArg (fun z => z * _ - _) (Finset.sup_congr rfl fun r _ => ?_)
  rw [ldR_apply, read19 (h1 := h1) (hs := by omega), hs]
  refine congrArg (max _) (Finset.sup_congr rfl fun j _ => ?_)
  rw [ldK_apply _ _ _ _ s (fun j => by rw [offK, hs])]
  refine congrArg (· * _) (Finset.sup_congr rfl fun a _ => ?_)
  rw [mask_ld (i := i) (s := s) (hs := hs)]
  have hx : (⟨64 * j.val + a.val * 8 + r.val, by omega⟩ : Fin 256) = key j a r := Fin.ext (by simp [add_assoc])
  rw [hx]; rfl

theorem read10 (G21 : BufTy.Contents (Elt Ideal) arg21.view.ty) (G22 : BufTy.Contents (Elt Ideal) arg22.view.ty) (n : ℕ)
    (e21 : ∀ (g : Fin 5) (r : Fin 8) (l : Fin 256), arg21.view.read (Elt Ideal) G21 (ix3 g r l)
      = ∑ b ∈ Finset.univ.filter (fun b : Fin 31 => b.val < n), sumStep (arg6.view.read (Elt Ideal) f6) (arg14.view.read (Elt Ideal) f14) (arg18.view.read (Elt Ideal) f18) (arg20.view.read (Elt Ideal) f20) b g r l)
    (e22 : ∀ (g : Fin 5) (d : Fin 128) (l : Fin 256), arg22.view.read (Elt Ideal) G22 (ix3 g d l)
      = ∑ b ∈ Finset.univ.filter (fun b : Fin 31 => b.val < n), accStep (arg6.view.read (Elt Ideal) f6) (arg7.view.read (Elt Ideal) f7) (arg14.view.read (Elt Ideal) f14) (arg18.view.read (Elt Ideal) f18) (arg20.view.read (Elt Ideal) f20) b g d l) :
    arg10.view.read (Elt Ideal) (arg10.view.writes (Elt Ideal) f10 [(pO arg8 arg9 arg21 arg22 f8 f9 G21 G22) 4, (pO arg8 arg9 arg21 arg22 f8 f9 G21 G22) 3, (pO arg8 arg9 arg21 arg22 f8 f9 G21 G22) 2, (pO arg8 arg9 arg21 arg22 f8 f9 G21 G22) 1, (pO arg8 arg9 arg21 arg22 f8 f9 G21 G22) 0])
      = n10 (arg6.view.read (Elt Ideal) f6) (arg7.view.read (Elt Ideal) f7) (arg8.view.read (Elt Ideal) f8) (arg9.view.read (Elt Ideal) f9) (arg14.view.read (Elt Ideal) f14) (arg18.view.read (Elt Ideal) f18) (arg20.view.read (Elt Ideal) f20) n := by
  funext y
  refine View.read_writes_apply_of_pieces (Val := Elt Ideal) (e := .bf16) _ _ (n10 (arg6.view.read (Elt Ideal) f6) (arg7.view.read (Elt Ideal) f7) (arg8.view.read (Elt Ideal) f8) (arg9.view.read (Elt Ideal) f9) (arg14.view.read (Elt Ideal) f14) (arg18.view.read (Elt Ideal) f18) (arg20.view.read (Elt Ideal) f20) n) _ ?_ _ ⟨_, mem5 (pO arg8 arg9 arg21 arg22 f8 f9 G21 G22) (hd (y 2)), ?_⟩
  · rw [forall5]
    intro g x
    obtain ⟨z, l, d, rfl⟩ : ∃ (z : Fin 1) (l : Fin 256) (d : Fin 128), x = ix3 z l d := ⟨x 0, x 1, x 2, eq_ix3 (n0 := 1) (n1 := 256) (n2 := 128) x⟩
    obtain rfl : z = 0 := Subsingleton.elim _ _
    have e : ((pO arg8 arg9 arg21 arg22 f8 f9 G21 G22) g).1.emb (ix3 0 l d) = ix3 0 l ⟨128 * g.val + d.val, by omega⟩ :=
      emb3 _ _ _ _ rfl (inO g) 0 l d 0 _ _ rfl (by simp) rfl
    rw [e]
    refine (uOut_apply _ _ _ _ l d).trans ?_
    show _ = (∑ b ∈ _, accStep _ _ _ _ _ b (hd ⟨128 * g.val + d.val, by omega⟩) (dm ⟨128 * g.val + d.val, by omega⟩) l)
      * Ideal.div _ (∑ r, ∑ b ∈ _, sumStep _ _ _ _ b (hd ⟨128 * g.val + d.val, by omega⟩) r l)
      * arg8.view.read (Elt Ideal) f8 (ix4 0 0 0 (dm ⟨128 * g.val + d.val, by omega⟩)) + arg9.view.read (Elt Ideal) f9 (ix4 0 0 0 (dm ⟨128 * g.val + d.val, by omega⟩))
    rw [hd_add, dm_add, ldD_apply, e22]
    have e8 := rd4 arg8.view _ _ _ _ _ rfl inZ f8 0 0 0 d 0 0 0 d rfl rfl rfl (by simp)
    have e9 := rd4 arg9.view _ _ _ _ _ rfl inZ f9 0 0 0 d 0 0 0 d rfl rfl rfl (by simp)
    rw [e8, e9]
    simp only [ldR_apply, e21]
  · have h0 : (y 0).val < 1 := (y 0).isLt
    have h1 : (y 1).val < 256 := (y 1).isLt
    have h2 : (y 2).val < 640 := (y 2).isLt
    show y ∈ (Rect.unit (s := S1x256x640) _ _ (inO (hd (y 2)))).set
    rw [Rect.mem_set_unit]; intro a; fin_cases a <;> simp <;> omega

end Steps

section Left

variable (c : Dev nD) (i : grid0.Coords)
  (arg3 : Memref sig .tc .vmem S1x256x640 .bf16) (harg3 : arg3.IsWhole)
  (arg4 : Memref sig .tc .vmem S1x7936x128 .fp8e4m3) (harg4 : arg4.IsWhole)
  (arg5 : Memref sig .tc .vmem S1x1x7936x128 .bf16) (harg5 : arg5.IsWhole)
  (arg6 : Memref sig .tc .vmem S1x1x31x4x128 .f32) (harg6 : arg6.IsWhole)
  (arg7 : Memref sig .tc .vmem S1x1x31x128x256 .fp8e4m3) (harg7 : arg7.IsWhole)
  (arg8 : Memref sig .tc .vmem S1x1x1x128 .f32) (harg8 : arg8.IsWhole)
  (arg9 : Memref sig .tc .vmem S1x1x1x128 .bf16) (harg9 : arg9.IsWhole)
  (arg10 : Memref sig .tc .vmem S1x256x640 .bf16) (harg10 : arg10.IsWhole)
  (arg11 : Memref sig .tc .vmem S1x256x640 .fp8e4m3) (harg11 : arg11.IsWhole)
  (arg12 : Memref sig .tc .vmem S1x1x1x10x128 .f32) (harg12 : arg12.IsWhole)
  (arg13 : Memref sig .tc .vmem S1x2x1x5x128 .bf16) (harg13 : arg13.IsWhole)
  (arg14 : Memref sig .tc .vmem S31x5x256x256 .f32) (harg14 : arg14.IsWhole)
  (arg15 : Memref sig .tc .vmem S5x128x256 .fp8e4m3) (harg15 : arg15.IsWhole)
  (arg16 : Memref sig .tc .vmem S5x128x256 .bf16) (harg16 : arg16.IsWhole)
  (arg17 : Memref sig .tc .vmem S5x1x256 .f32) (harg17 : arg17.IsWhole)
  (arg18 : Memref sig .tc .vmem S5x1x256 .f32) (harg18 : arg18.IsWhole)
  (arg19 : Memref sig .tc .vmem S5x8x256 .f32) (harg19 : arg19.IsWhole)
  (arg20 : Memref sig .tc .vmem S5x1x256 .f32) (harg20 : arg20.IsWhole)
  (arg21 : Memref sig .tc .vmem S5x8x256 .f32) (harg21 : arg21.IsWhole)
  (arg22 : Memref sig .tc .vmem S5x128x256 .f32) (harg22 : arg22.IsWhole)
  (x3 : Vec Ideal S1x256x640 .bf16) (x4 : Vec Ideal S1x7936x128 .fp8e4m3) (x5 : Vec Ideal S1x1x7936x128 .bf16) (x6 : Vec Ideal S1x1x31x4x128 .f32) (x7 : Vec Ideal S1x1x31x128x256 .fp8e4m3) (x8 : Vec Ideal S1x1x1x128 .f32) (x9 : Vec Ideal S1x1x1x128 .bf16) (x10 : Vec Ideal S1x256x640 .bf16) (x11 : Vec Ideal S1x256x640 .fp8e4m3) (x12 : Vec Ideal S1x1x1x10x128 .f32) (x13 : Vec Ideal S1x2x1x5x128 .bf16) (x14 : Vec Ideal S31x5x256x256 .f32) (x15 : Vec Ideal S5x128x256 .fp8e4m3) (x16 : Vec Ideal S5x128x256 .bf16) (x17 : Vec Ideal S5x1x256 .f32) (x18 : Vec Ideal S5x1x256 .f32) (x19 : Vec Ideal S5x8x256 .f32) (x20 : Vec Ideal S5x1x256 .f32) (x21 : Vec Ideal S5x8x256 .f32) (x22 : Vec Ideal S5x128x256 .f32)

theorem leftA11_eq (h1 : k0_cond1 i = 1#1) (h2 : ¬k0_cond2 i = 1#1) (h3 : ¬k0_cond3 i = 1#1) (h4 : k0_cond4 i = 1#1) :
    leftA11 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22 = q11 x3 := by
  unfold leftA11
  rw [runA_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22) h1 h2 h3 h4, read11, harg3.read_unread]

theorem leftA12_eq (h1 : k0_cond1 i = 1#1) (h2 : ¬k0_cond2 i = 1#1) (h3 : ¬k0_cond3 i = 1#1) (h4 : k0_cond4 i = 1#1) :
    leftA12 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22 = q12 x3 := by
  unfold leftA12
  rw [runA_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22) h1 h2 h3 h4, read12, harg3.read_unread]

theorem leftA13_eq (h1 : k0_cond1 i = 1#1) (h2 : ¬k0_cond2 i = 1#1) (h3 : ¬k0_cond3 i = 1#1) (h4 : k0_cond4 i = 1#1) :
    leftA13 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22 = q13 x3 := by
  unfold leftA13
  rw [runA_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22) h1 h2 h3 h4, read13, harg3.read_unread]

theorem leftA14_eq (h1 : k0_cond1 i = 1#1) (h2 : ¬k0_cond2 i = 1#1) (h3 : ¬k0_cond3 i = 1#1) (h4 : k0_cond4 i = 1#1) (s : Fin 31) (hs : (i 2).val = s.val) :
    leftA14 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22 = n14 x3 x4 x5 x14 s := by
  unfold leftA14
  rw [runA_14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22) h1 h2 h3 h4 (inbC (by rw [offC, hs]) s.isLt) (inbD (by rw [offD, hs]) s.isLt) (fun g => inbW (by rw [offW, hs]) s.isLt g.isLt) (fun j => inbK (by rw [offK, hs]) s.isLt j.isLt), read14 (h1 := h1) (hs := hs), harg3.read_unread, harg4.read_unread, harg5.read_unread, harg14.read_unread]

theorem leftA18_eq (h1 : k0_cond1 i = 1#1) (h2 : ¬k0_cond2 i = 1#1) (h3 : ¬k0_cond3 i = 1#1) (h4 : k0_cond4 i = 1#1) (s : Fin 31) (hs : (i 2).val = s.val) :
    leftA18 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22 = q17 x3 := by
  unfold leftA18
  rw [runA_18 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22) h1 h2 h3 h4 (inbC (by rw [offC, hs]) s.isLt) (inbD (by rw [offD, hs]) s.isLt) (fun g => inbW (by rw [offW, hs]) s.isLt g.isLt) (fun j => inbK (by rw [offK, hs]) s.isLt j.isLt), read18, harg3.read_unread]

theorem leftA20_eq (h1 : k0_cond1 i = 1#1) (h2 : ¬k0_cond2 i = 1#1) (h3 : ¬k0_cond3 i = 1#1) (h4 : k0_cond4 i = 1#1) (s : Fin 31) (hs : (i 2).val = s.val) :
    leftA20 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22 = n20 x3 x4 x5 x6 s := by
  unfold leftA20
  rw [runA_20 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22) h1 h2 h3 h4 (inbC (by rw [offC, hs]) s.isLt) (inbD (by rw [offD, hs]) s.isLt) (fun g => inbW (by rw [offW, hs]) s.isLt g.isLt) (fun j => inbK (by rw [offK, hs]) s.isLt j.isLt), read20 (h1 := h1) (hs := hs), harg3.read_unread, harg4.read_unread, harg5.read_unread, harg6.read_unread]

theorem leftB11_eq (h1 : k0_cond1 i = 1#1) (h2 : ¬k0_cond2 i = 1#1) (h3 : k0_cond3 i = 1#1) (h4 : k0_cond4 i = 1#1) :
    leftB11 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22 = q11 x3 := by
  unfold leftB11
  rw [runB_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22) h1 h2 h3 h4, read11, harg3.read_unread]

theorem leftB12_eq (h1 : k0_cond1 i = 1#1) (h2 : ¬k0_cond2 i = 1#1) (h3 : k0_cond3 i = 1#1) (h4 : k0_cond4 i = 1#1) :
    leftB12 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22 = q12 x3 := by
  unfold leftB12
  rw [runB_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22) h1 h2 h3 h4, read12, harg3.read_unread]

theorem leftB13_eq (h1 : k0_cond1 i = 1#1) (h2 : ¬k0_cond2 i = 1#1) (h3 : k0_cond3 i = 1#1) (h4 : k0_cond4 i = 1#1) :
    leftB13 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22 = q13 x3 := by
  unfold leftB13
  rw [runB_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22) h1 h2 h3 h4, read13, harg3.read_unread]

theorem leftB14_eq (h1 : k0_cond1 i = 1#1) (h2 : ¬k0_cond2 i = 1#1) (h3 : k0_cond3 i = 1#1) (h4 : k0_cond4 i = 1#1) (s : Fin 31) (hs : (i 2).val = s.val) :
    leftB14 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22 = n14 x3 x4 x5 x14 s := by
  unfold leftB14
  rw [runB_14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22) h1 h2 h3 h4 (inbC (by rw [offC, hs]) s.isLt) (inbD (by rw [offD, hs]) s.isLt) (fun g => inbW (by rw [offW, hs]) s.isLt g.isLt) (fun j => inbK (by rw [offK, hs]) s.isLt j.isLt), read14 (h1 := h1) (hs := hs), harg3.read_unread, harg4.read_unread, harg5.read_unread, harg14.read_unread]

theorem leftB18_eq (h1 : k0_cond1 i = 1#1) (h2 : ¬k0_cond2 i = 1#1) (h3 : k0_cond3 i = 1#1) (h4 : k0_cond4 i = 1#1) (s : Fin 31) (hs : (i 2).val = s.val) :
    leftB18 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22 = q17 x3 := by
  unfold leftB18
  rw [runB_18 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22) h1 h2 h3 h4 (inbC (by rw [offC, hs]) s.isLt) (inbD (by rw [offD, hs]) s.isLt) (fun g => inbW (by rw [offW, hs]) s.isLt g.isLt) (fun j => inbK (by rw [offK, hs]) s.isLt j.isLt), read18, harg3.read_unread]

theorem leftB20_eq (h1 : k0_cond1 i = 1#1) (h2 : ¬k0_cond2 i = 1#1) (h3 : k0_cond3 i = 1#1) (h4 : k0_cond4 i = 1#1) (s : Fin 31) (hs : (i 2).val = s.val) :
    leftB20 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22 = n20 x3 x4 x5 x6 s := by
  unfold leftB20
  rw [runB_20 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22) h1 h2 h3 h4 (inbC (by rw [offC, hs]) s.isLt) (inbD (by rw [offD, hs]) s.isLt) (fun g => inbW (by rw [offW, hs]) s.isLt g.isLt) (fun j => inbK (by rw [offK, hs]) s.isLt j.isLt), read20 (h1 := h1) (hs := hs), harg3.read_unread, harg4.read_unread, harg5.read_unread, harg6.read_unread]

theorem leftB10_eq (h1 : k0_cond1 i = 1#1) (h2 : ¬k0_cond2 i = 1#1) (h3 : k0_cond3 i = 1#1) (h4 : k0_cond4 i = 1#1) (s : Fin 31) (hs : (i 2).val = s.val) :
    leftB10 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22 = n10 x6 x7 x8 x9 x14 x18 x20 s.val := by
  unfold leftB10
  rw [runB_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22) h1 h2 h3 h4 (inbC (by rw [offC, hs]) s.isLt) (inbD (by rw [offD, hs]) s.isLt) (fun g => inbW (by rw [offW, hs]) s.isLt g.isLt) (fun j => inbK (by rw [offK, hs]) s.isLt j.isLt), read10 (n := (i 2).val) (f6 := harg6.unread x6) (f7 := harg7.unread x7) (f14 := harg14.unread x14) (f18 := harg18.unread x18) (f20 := harg20.unread x20), harg6.read_unread, harg7.read_unread, harg8.read_unread, harg9.read_unread, harg14.read_unread, harg18.read_unread, harg20.read_unread, hs]
  · intro g r l; exact read21 (h1 := h1) (hs := by omega) ..
  · intro g r l; exact read22 (h1 := h1) (hs := by omega) ..

theorem leftC10_eq (h1 : ¬k0_cond1 i = 1#1) (h2 : k0_cond2 i = 1#1) (h3 : k0_cond3 i = 1#1) (h4 : ¬k0_cond4 i = 1#1) (hs : (i 2).val = 31) :
    leftC10 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22 = n10 x6 x7 x8 x9 x14 x18 x20 31 := by
  unfold leftC10
  rw [runC_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22) h1 h2 h3 h4, read10 (n := 31) (f6 := harg6.unread x6) (f7 := harg7.unread x7) (f14 := harg14.unread x14) (f18 := harg18.unread x18) (f20 := harg20.unread x20), harg6.read_unread, harg7.read_unread, harg8.read_unread, harg9.read_unread, harg14.read_unread, harg18.read_unread, harg20.read_unread]
  · intro g r l; exact read21' (h2 := h2) (hs := hs) ..
  · intro g r l; exact read22' (h2 := h2) (hs := hs) ..

theorem leftA10_eq (h1 : k0_cond1 i = 1#1) (h2 : ¬k0_cond2 i = 1#1) (h3 : ¬k0_cond3 i = 1#1) (h4 : k0_cond4 i = 1#1) :
    leftA10 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22 = x10 := by
  unfold leftA10
  rw [runA_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22) h1 h2 h3 h4, harg10.read_unread]

theorem leftC11_eq (h1 : ¬k0_cond1 i = 1#1) (h2 : k0_cond2 i = 1#1) (h3 : k0_cond3 i = 1#1) (h4 : ¬k0_cond4 i = 1#1) :
    leftC11 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22 = x11 := by
  unfold leftC11
  rw [runC_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22) h1 h2 h3 h4, harg11.read_unread]

theorem leftC12_eq (h1 : ¬k0_cond1 i = 1#1) (h2 : k0_cond2 i = 1#1) (h3 : k0_cond3 i = 1#1) (h4 : ¬k0_cond4 i = 1#1) :
    leftC12 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22 = x12 := by
  unfold leftC12
  rw [runC_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22) h1 h2 h3 h4, harg12.read_unread]

theorem leftC13_eq (h1 : ¬k0_cond1 i = 1#1) (h2 : k0_cond2 i = 1#1) (h3 : k0_cond3 i = 1#1) (h4 : ¬k0_cond4 i = 1#1) :
    leftC13 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 x3 x4 x5 x6 x7 x8 x9 x10 x11 x12 x13 x14 x15 x16 x17 x18 x19 x20 x21 x22 = x13 := by
  unfold leftC13
  rw [runC_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22) h1 h2 h3 h4, harg13.read_unread]

end Left

end Cert.KernelIdeal.Attn

end
-- ==== Proof.Reference.lean ====
/- What the reference's one call leaves: its payloads read at an index, and its run. -/
module

public import proofs.«01_k».proof.Proof.Scale
public import proofs.«01_k».proof.Proof.Gen.ReferenceIdeal
public import proofs.«01_k».proof.Proof.Gen.ReferenceIdeal.Skeleton
public import proofs.«01_k».proof.Proof.Gen.ReferenceIdeal.Frame
public import Idealize.ShloMosaic.Lib.Pointwise

@[expose] public section

set_option maxRecDepth 16384

noncomputable section

namespace Cert.ReferenceIdeal.Spec

open Cert.ReferenceIdeal Cert.ReferenceIdeal.Gen
open Cert.KernelIdeal.Attn (meanOf resOf topOf leastOf pw ofBits_pw)
open Idealize.ShloMosaic Idealize.ShloMosaic.TcCoe Idealize.ShloMosaic.Tactic Idealize.ShloMosaic.Pointwise

/-! ## The quantiser -/

section Quantiser

variable (X : Vec Ideal S2x7936x5120 .bf16)

/-- Rows `128 n ..` of head `h` of batch `b`. -/
def tileR (b : Fin 2) (n : Fin 62) (h : Fin 40) (r d : Fin 128) : EReal :=
  X (ix3 b ⟨n.val * 128 + r.val, by omega⟩ ⟨h.val * 128 + d.val, by omega⟩)

/-- The scale of a tile. -/
def scaleR (b : Fin 2) (n : Fin 62) (h : Fin 40) : EReal := leastOf (topOf (tileR X b n h))

/-- The code of an element of a tile. -/
def codeR (b : Fin 2) (n : Fin 62) (h : Fin 40) (r d : Fin 128) : EReal :=
  min (Ideal.ofBits .f32 0x43E00000#32) (max (Ideal.ofBits .f32 0xC3E00000#32) (Ideal.div (resOf (tileR X b n h) r d) (scaleR X b n h)))

theorem div128 (x : EReal) : Ideal.div x (Ideal.ofBits FTy.f32 1124073472#32) = x * Ideal.ofBits .f32 0x3C000000#32 := by
  have h1 : Ideal.ofBits FTy.f32 1124073472#32 = ((128 : ℝ) : EReal) := by
    simp [Ideal.ofBits, Ideal.ieee, -EReal.coe_mul]; norm_num
  have h2 : Ideal.ofBits FTy.f32 0x3C000000#32 = ((128⁻¹ : ℝ) : EReal) := by
    simp [Ideal.ofBits, Ideal.ieee, -EReal.coe_mul]; norm_num
  rw [h1, h2, Ideal.div, if_neg (by exact_mod_cast (by norm_num : (128:ℝ) ≠ 0)), ← EReal.coe_inv]

theorem mean_apply (b : Fin 2) (n : Fin 62) (h : Fin 40) (d : Fin 128) : k0_pay3 X (ix5 b n 0 h d) = meanOf (tileR X b n h) d := by
  have e : k0_pay3 X (ix5 b n 0 h d) = Ideal.div (∑ x : Fin 128, X (ix3 b ⟨n.val * 128 + x.val, by omega⟩ ⟨h.val * 128 + d.val, by omega⟩)) (Ideal.ofBits FTy.f32 1124073472#32) := by
    pointwise [k0_pay2, k0_pay3]
  rw [e, div128]; rfl

theorem res_apply (b : Fin 2) (n : Fin 62) (r : Fin 128) (h : Fin 40) (d : Fin 128) :
    k0_pay4 X (ix5 b n r h d) = resOf (tileR X b n h) r d := by
  unfold resOf
  rw [← mean_apply]
  pointwise [k0_pay4, k0_pay2, tileR]

theorem bot_bits : Ideal.ofBits .f32 0xFF800000#32 = ⊥ := by simp [Ideal.ofBits, Ideal.ieee]
theorem top_bits : Ideal.ofBits .f32 0x7F800000#32 = ⊤ := by simp [Ideal.ofBits, Ideal.ieee]

theorem fold_max_eq {ι : Type} (s : Finset ι) (f : ι → EReal) : Finset.fold max ⊥ f s = s.sup f := rfl
theorem fold_min_eq {ι : Type} (s : Finset ι) (f : ι → EReal) : Finset.fold min ⊤ f s = s.inf f := rfl

/-- The largest over a tile's rows and lanes. -/
theorem max_apply (Y : FVec Ideal S2x62x128x40x128 .f32) (b : Fin 2) (n : Fin 62) (h : Fin 40) :
    multiReduction .maximumf [2, 4] S2x62x40 Y 0xFF800000#32 reduces_S2x62x128x40x128_S2x62x40 (.inl rfl) rfl (ix3 b n h)
      = Finset.univ.sup fun d : Fin 128 => Finset.univ.sup fun r : Fin 128 => (Y (ix5 b n r h d) : EReal) := by
  have e : multiReduction .maximumf [2, 4] S2x62x40 Y 0xFF800000#32 reduces_S2x62x128x40x128_S2x62x40 (.inl rfl) rfl (ix3 b n h)
      = Finset.fold max (Ideal.ofBits FTy.f32 0xFF800000#32) (fun i => (Y i : EReal)) {i | reduces_S2x62x128x40x128_S2x62x40.drop i = ix3 b n h} := by
    pointwise []
  rw [e, bot_bits, fold_max_eq]
  refine le_antisymm (Finset.sup_le fun i hi => ?_) (Finset.sup_le fun d _ => Finset.sup_le fun r _ => ?_)
  · obtain ⟨b', n', r, h', d, rfl⟩ : ∃ (b' : Fin 2) (n' : Fin 62) (r : Fin 128) (h' : Fin 40) (d : Fin 128), i = ix5 b' n' r h' d :=
      ⟨i 0, i 1, i 2, i 3, i 4, eq_ix5 (n0 := 2) (n1 := 62) (n2 := 128) (n3 := 40) (n4 := 128) i⟩
    have hd := (Finset.mem_filter.1 hi).2
    have h0 : b' = b := congrFun hd 0
    have h1 : n' = n := congrFun hd 1
    have h2 : h' = h := congrFun hd 2
    subst h0 h1 h2
    exact le_trans (Finset.le_sup (f := fun r : Fin 128 => (Y (ix5 b' n' r h' d) : EReal)) (Finset.mem_univ r))
      (Finset.le_sup (f := fun d : Fin 128 => Finset.univ.sup fun r : Fin 128 => (Y (ix5 b' n' r h' d) : EReal)) (Finset.mem_univ d))
  · refine Finset.le_sup (f := fun i => (Y i : EReal)) (Finset.mem_filter.2 ⟨Finset.mem_univ _, ?_⟩)
    funext a; fin_cases a <;> rfl

theorem power_apply (k : Fin 255) :
    (FloatOps.exp2 (F := Ideal) (φ := .f32) (FloatOps.sitofp (F := Ideal) FTy.f32 (IntOp.subi (BitVec.ofNat 32 k.val) 126#32)) : EReal)
      = pw ((k.val : ℤ) - 126) := by
  have e : (IntOp.subi (BitVec.ofNat 32 k.val) 126#32).toInt = (k.val : ℤ) - 126 :=
    (by decide +kernel : ∀ k : Fin 255, (IntOp.subi (BitVec.ofNat 32 k.val) 126#32).toInt = (k.val : ℤ) - 126) k
  show Ideal.exp2 ((((IntOp.subi (BitVec.ofNat 32 k.val) 126#32).toInt : ℝ)) : EReal) = _
  rw [e]
  unfold pw
  show (((2:ℝ) ^ (((((k.val : ℤ) - 126 : ℤ)) : ℝ)) : ℝ) : EReal) = _
  rw [Real.rpow_intCast]

theorem scale_apply (b : Fin 2) (n : Fin 62) (h : Fin 40) : k0_pay5 X (ix5 b n 0 h 0) = scaleR X b n h := by
  have e0 : ∀ m, multiReduction .maximumf [2, 4] S2x62x40 (absf (k0_pay4 X)) 0xFF800000#32 reduces_S2x62x128x40x128_S2x62x40 (.inl rfl) rfl = m →
      k0_pay5 X (ix5 b n 0 h 0) = (if m (ix3 b n h) * Ideal.ofBits FTy.f32 991054117#32 = 0 then 1
    else
      Finset.fold min (Ideal.ofBits FTy.f32 2139095040#32)
        (fun x : S255x2x62x1x40x1.Idx =>
          (if
              m (ix3 (x 1) (x 2) (x 4)) * Ideal.ofBits FTy.f32 991054117#32 <
                FloatOps.exp2 (F := Ideal) (φ := .f32) (FloatOps.sitofp (F := Ideal) FTy.f32 (IntOp.subi (BitVec.ofNat 32 (x 0).val) 126#32)) then
            FloatOps.exp2 (F := Ideal) (φ := .f32) (FloatOps.sitofp (F := Ideal) FTy.f32 (IntOp.subi (BitVec.ofNat 32 (x 0).val) 126#32))
          else Ideal.ofBits FTy.f32 2139095040#32 : EReal))
        {i | reduces_S255x2x62x1x40x1_S2x62x1x40x1.drop i = ix5 b n 0 h 0} : EReal) := by
    intro m hm
    unfold k0_pay5
    rw [hm]
    pointwise []
  rw [e0 _ rfl]
  clear e0
  have ht : ∀ b n h, (multiReduction .maximumf [2, 4] S2x62x40 (absf (k0_pay4 X)) 0xFF800000#32 reduces_S2x62x128x40x128_S2x62x40 (.inl rfl) rfl (ix3 b n h) : EReal)
      * Ideal.ofBits FTy.f32 991054117#32 = topOf (tileR X b n h) := by
    intro b n h
    rw [max_apply]
    unfold topOf
    rw [bot_bits]
    refine congrArg (· * Ideal.ofBits FTy.f32 991054117#32) ?_
    refine Finset.sup_congr rfl fun d _ => Finset.sup_congr rfl fun r _ => ?_
    rw [← res_apply]; rfl
  rw [ht]
  unfold scaleR leastOf
  by_cases hz : topOf (tileR X b n h) = 0
  · rw [if_pos hz, if_pos hz]
  · rw [if_neg hz, if_neg hz, top_bits, fold_min_eq]
    refine le_antisymm (Finset.le_inf fun k _ => ?_) (Finset.le_inf fun i hi => ?_)
    · refine le_trans (Finset.inf_le (b := ix6 k b n 0 h 0) (Finset.mem_filter.2 ⟨Finset.mem_univ _, ?_⟩)) ?_
      · funext a; fin_cases a <;> rfl
      · refine le_of_eq ?_
        show (if _ * _ < _ then _ else _) = _
        rw [← power_apply, ← ht]
        rfl
    · have hd := (Finset.mem_filter.1 hi).2
      have h0 : i 1 = b := congrFun hd 0
      have h1 : i 2 = n := congrFun hd 1
      have h2 : i 4 = h := congrFun hd 3
      have key : ∀ (k : Fin 255) (b : Fin 2) (n : Fin 62) (h : Fin 40),
          (if topOf (tileR X b n h) < pw ((k.val : ℤ) - 126) then pw ((k.val : ℤ) - 126) else ⊤)
            = (if (multiReduction .maximumf [2, 4] S2x62x40 (absf (k0_pay4 X)) 0xFF800000#32 reduces_S2x62x128x40x128_S2x62x40 (.inl rfl) rfl (ix3 b n h) : EReal)
                * Ideal.ofBits FTy.f32 991054117#32 < FloatOps.exp2 (F := Ideal) (φ := .f32) (FloatOps.sitofp (F := Ideal) FTy.f32 (IntOp.subi (BitVec.ofNat 32 k.val) 126#32))
              then FloatOps.exp2 (F := Ideal) (φ := .f32) (FloatOps.sitofp (F := Ideal) FTy.f32 (IntOp.subi (BitVec.ofNat 32 k.val) 126#32)) else ⊤ : EReal) := by
        intro k b n h; rw [← power_apply, ← ht]
      subst h0 h1 h2
      exact le_trans (Finset.inf_le (Finset.mem_univ (i 0 : Fin 255))) (le_of_eq (key (i 0) (i 1) (i 2) (i 4)))

theorem code_apply (b : Fin 2) (n : Fin 62) (r : Fin 128) (h : Fin 40) (d : Fin 128) :
    k0_pay6 X (ix5 b n r h d) = codeR X b n h r d := by
  have e : ∀ (u : FVec Ideal S2x62x128x40x128 .f32) (s : FVec Ideal S2x62x1x40x1 .f32), k0_pay4 X = u → k0_pay5 X = s →
      k0_pay6 X (ix5 b n r h d) = min (Ideal.ofBits FTy.f32 0x43E00000#32)
      (max (Ideal.ofBits FTy.f32 0xC3E00000#32) (Ideal.div (u (ix5 b n r h d)) (s (ix5 b n 0 h 0)))) := by
    intro u s hu hs
    unfold k0_pay6
    rw [hu, hs]
    pointwise []
  rw [e _ _ rfl rfl, res_apply, scale_apply]; rfl

theorem codes_apply (b : Fin 2) (q : Fin 7936) (c : Fin 5120) : k0_pay7 X (ix3 b q c)
    = codeR X b ⟨q.val / 128, by omega⟩ ⟨c.val / 128, by omega⟩ ⟨q.val % 128, by omega⟩ ⟨c.val % 128, by omega⟩ := by
  rw [← code_apply]
  pointwise [k0_pay7]

theorem scales_apply (b : Fin 2) (k : Fin 8) (n : Fin 31) (c : Fin 10) (d : Fin 128) : k0_pay8 (k0_pay5 X) (ix5 b k n c d)
    = scaleR X b ⟨n.val * 2 + c.val / 5, by omega⟩ ⟨k.val * 5 + c.val % 5, by omega⟩ := by
  rw [← scale_apply]
  pointwise [k0_pay8]

theorem means_apply (b : Fin 2) (n : Fin 62) (k : Fin 8) (c : Fin 5) (d : Fin 128) : k0_pay9 (k0_pay3 X) (ix5 b n k c d)
    = meanOf (tileR X b n ⟨k.val * 5 + c.val, by omega⟩) d := by
  rw [← mean_apply]
  pointwise [k0_pay9]

end Quantiser

/-! ## The attention -/

section Attention

variable (X : Vec Ideal S2x7936x5120 .bf16) (KC : Vec Ideal S2x7936x1024 .fp8e4m3) (KW : Vec Ideal S2x8x7936x128 .bf16)
  (KS : Vec Ideal S2x8x31x4x128 .f32) (VT : Vec Ideal S2x8x31x128x256 .fp8e4m3) (VS : Vec Ideal S2x8x1x128 .f32) (MV : Vec Ideal S2x8x1x128 .bf16)

abbrev hq (k : Fin 8) (g : Fin 5) : Fin 40 := ⟨k.val * 5 + g.val, by omega⟩
abbrev nq (q : Fin 7936) : Fin 62 := ⟨q.val / 128, by omega⟩
abbrev rq (q : Fin 7936) : Fin 128 := ⟨q.val % 128, by omega⟩

/-- The score of a key, dequantised but for the key's scale. -/
def scoreR (b : Fin 2) (k : Fin 8) (g : Fin 5) (q x : Fin 7936) : EReal :=
  scaleR X b (nq q) (hq k g) * (∑ d : Fin 128, KC (ix3 b x ⟨k.val * 128 + d.val, by omega⟩) * codeR X b (nq q) (hq k g) (rq q) d)
    + ∑ d : Fin 128, KW (ix4 b k x d) * meanOf (tileR X b (nq q) (hq k g)) d

/-- The attention scale. -/
def scale1 : EReal := (((Real.sqrt 128)⁻¹ : ℝ) : EReal)

/-- The masked logit. -/
def logitR (b : Fin 2) (k : Fin 8) (g : Fin 5) (q x : Fin 7936) : EReal :=
  if x ≤ q then KS (ix5 b k ⟨x.val / 256, by omega⟩ ⟨x.val / 64 % 4, by omega⟩ 0) * scoreR X KC KW b k g q x * scale1 else ⊥

/-- The weight of a key. -/
def probR (b : Fin 2) (k : Fin 8) (g : Fin 5) (q x : Fin 7936) : EReal :=
  Ideal.exp (logitR X KC KW KS b k g q x - Finset.univ.sup fun x => logitR X KC KW KS b k g q x)

/-- One output. -/
def outR (b : Fin 2) (k : Fin 8) (g : Fin 5) (q : Fin 7936) (d : Fin 128) : EReal :=
  (∑ x : Fin 7936, min (Ideal.ofBits .f32 0x43E00000#32) (max 0 (probR X KC KW KS b k g q x * Ideal.ofBits .f32 0x43800000#32))
      * VT (ix5 b k ⟨x.val / 256, by omega⟩ d ⟨x.val % 256, by omega⟩)) * Ideal.ofBits .f32 0x3B800000#32 * VS (ix4 b k 0 d)
    * Ideal.div 1 (∑ x : Fin 7936, probR X KC KW KS b k g q x) + MV (ix4 b k 0 d)

theorem keyScale_apply (b : Fin 2) (k : Fin 8) (x : Fin 7936) :
    k0_pay10 KS (ix5 b k 0 0 x) = KS (ix5 b k ⟨x.val / 256, by omega⟩ ⟨x.val / 64 % 4, by omega⟩ 0) := by
  pointwise [k0_pay10]

/-- The scores of the reference. -/
abbrev scores : FVec Ideal S2x8x5x62x128x7936 .f32 := k0_pay11 (k0_pay3 X) (k0_pay5 X) (k0_pay6 X) KC KW

theorem score_apply (b : Fin 2) (k : Fin 8) (g : Fin 5) (q x : Fin 7936) :
    shapeCast S2x8x5x7936x7936 (scores X KC KW) shapeCasts_S2x8x5x62x128x7936_S2x8x5x7936x7936 (ix5 b k g q x)
      = scoreR X KC KW b k g q x := by
  have e : ∀ (v7 : FVec Ideal S2x62x1x40x128 .bf16) (v30 : FVec Ideal S2x62x1x40x1 .f32) (v37 : FVec Ideal S2x62x128x40x128 .fp8e4m3),
      shapeCast S2x8x5x7936x7936 (k0_pay11 v7 v30 v37 KC KW) shapeCasts_S2x8x5x62x128x7936_S2x8x5x7936x7936 (ix5 b k g q x)
      = v30 (ix5 b (nq q) 0 (hq k g) 0) * (∑ d : Fin 128, KC (ix3 b x ⟨k.val * 128 + d.val, by omega⟩) * v37 (ix5 b (nq q) (rq q) (hq k g) d))
        + ∑ d : Fin 128, KW (ix4 b k x d) * v7 (ix5 b (nq q) 0 (hq k g) d) := by
    intro v7 v30 v37
    pointwise [k0_pay11, k0_pay9]
  rw [scores, e, scale_apply]
  simp only [code_apply, mean_apply]
  rfl

theorem le_bit (x q : Fin 7936) : IntOp.cmpi CmpIPredicate.sle (BitVec.ofNat 32 x.val) (BitVec.ofNat 32 q.val) = BitVec.ofBool (decide (x ≤ q)) := by
  simp only [IntOp.cmpi]
  congr 1
  simp only [BitVec.sle]
  rw [decide_eq_decide]
  have h1 : (BitVec.ofNat 32 x.val).toInt = x.val := by
    rw [BitVec.toInt_eq_toNat_of_lt] <;> simp only [BitVec.toNat_ofNat] <;> omega
  have h2 : (BitVec.ofNat 32 q.val).toInt = q.val := by
    rw [BitVec.toInt_eq_toNat_of_lt] <;> simp only [BitVec.toNat_ofNat] <;> omega
  rw [h1, h2]
  simp

theorem prob_apply (b : Fin 2) (k : Fin 8) (g : Fin 5) (q x : Fin 7936) :
    k0_pay12 (k0_pay10 KS) (scores X KC KW) (ix5 b k g q x) = probR X KC KW KS b k g q x := by
  have e : ∀ (s : FVec Ideal S2x8x1x1x7936 .f32) (v75 : FVec Ideal S2x8x5x62x128x7936 .f32) (w : FVec Ideal S2x8x5x7936x7936 .f32),
      shapeCast S2x8x5x7936x7936 v75 shapeCasts_S2x8x5x62x128x7936_S2x8x5x7936x7936 = w →
      k0_pay12 s v75 (ix5 b k g q x) = Ideal.exp
      (Scalar.select (IntOp.cmpi CmpIPredicate.sle (BitVec.ofNat 32 x.val) (BitVec.ofNat 32 q.val))
          (s (ix5 b k 0 0 x) * w (ix5 b k g q x) * (Named.named κ "softmax_scale" 1035273459#32 : Ideal .f32))
          (Ideal.ofBits FTy.f32 4286578688#32) -
        Finset.fold max (Ideal.ofBits FTy.f32 4286578688#32)
          (fun x : Fin 7936 =>
            Scalar.select (IntOp.cmpi CmpIPredicate.sle (BitVec.ofNat 32 x.val) (BitVec.ofNat 32 q.val))
              (s (ix5 b k 0 0 x) * w (ix5 b k g q x) * (Named.named κ "softmax_scale" 1035273459#32 : Ideal .f32))
              (Ideal.ofBits FTy.f32 4286578688#32))
          Finset.univ) := by
    intro s v75 w hw
    unfold k0_pay12
    rw [hw]
    pointwise []
  have l : ∀ x : Fin 7936, Scalar.select (IntOp.cmpi CmpIPredicate.sle (BitVec.ofNat 32 x.val) (BitVec.ofNat 32 q.val))
              (k0_pay10 KS (ix5 b k 0 0 x) * shapeCast S2x8x5x7936x7936 (scores X KC KW) shapeCasts_S2x8x5x62x128x7936_S2x8x5x7936x7936 (ix5 b k g q x)
                * (Named.named κ "softmax_scale" 1035273459#32 : Ideal .f32))
              (Ideal.ofBits FTy.f32 4286578688#32) = logitR X KC KW KS b k g q x := by
    intro x
    rw [le_bit, score_apply, keyScale_apply]
    unfold logitR
    by_cases h : x ≤ q
    · simp only [h, decide_true, if_true]; rfl
    · simp only [h, decide_false, if_false, bot_bits]; rfl
  rw [e _ _ _ rfl]
  simp only [l]
  rw [bot_bits]; rfl

theorem out_apply (b : Fin 2) (q : Fin 7936) (c : Fin 5120) :
    k0_pay1 (k0_pay13 (k0_pay10 KS) (scores X KC KW) VT VS) (k0_pay14 (k0_pay10 KS) (scores X KC KW)) MV (ix3 b q c)
      = outR X KC KW KS VT VS MV b ⟨c.val / 640, by omega⟩ ⟨c.val / 128 % 5, by omega⟩ q ⟨c.val % 128, by omega⟩ := by
  have e1 : ∀ (u w : FVec Ideal S2x8x5x7936x128 .f32), k0_pay1 u w MV (ix3 b q c)
      = u (ix5 b ⟨c.val / 640, by omega⟩ ⟨c.val / 128 % 5, by omega⟩ q ⟨c.val % 128, by omega⟩)
        * w (ix5 b ⟨c.val / 640, by omega⟩ ⟨c.val / 128 % 5, by omega⟩ q ⟨c.val % 128, by omega⟩) + MV (ix4 b ⟨c.val / 640, by omega⟩ 0 ⟨c.val % 128, by omega⟩) := by
    intro u w
    pointwise [k0_pay1]
  have e13 : ∀ (s : FVec Ideal S2x8x1x1x7936 .f32) (w : FVec Ideal S2x8x5x62x128x7936 .f32) (p : FVec Ideal S2x8x5x7936x7936 .f32),
      k0_pay12 s w = p → ∀ (k : Fin 8) (g : Fin 5) (d : Fin 128), k0_pay13 s w VT VS (ix5 b k g q d)
      = (∑ x : Fin 7936, min (Ideal.ofBits FTy.f32 1138753536#32) (max 0 (p (ix5 b k g q x) * Ideal.ofBits FTy.f32 1132462080#32)) *
            VT (ix5 b k ⟨x.val / 256, by omega⟩ d ⟨x.val % 256, by omega⟩)) * Ideal.ofBits FTy.f32 998244352#32 * VS (ix4 b k 0 d) := by
    intro s w p hp k g d
    unfold k0_pay13
    rw [hp]
    pointwise []
  have e14 : ∀ (s : FVec Ideal S2x8x1x1x7936 .f32) (w : FVec Ideal S2x8x5x62x128x7936 .f32) (p : FVec Ideal S2x8x5x7936x7936 .f32),
      k0_pay12 s w = p → ∀ (k : Fin 8) (g : Fin 5) (d : Fin 128), k0_pay14 s w (ix5 b k g q d)
      = Ideal.div 1 (∑ x : Fin 7936, p (ix5 b k g q x)) := by
    intro s w p hp k g d
    unfold k0_pay14
    rw [hp]
    pointwise []
  rw [e1, e13 _ _ _ rfl, e14 _ _ _ rfl]
  simp only [prob_apply]
  rfl

end Attention

end Cert.ReferenceIdeal.Spec
-- ==== Proof.Softmax.lean ====
/- The attention of one query, over extended reals: the kernel's blockwise base-two softmax, shifted by eight, is the
   reference's softmax over all keys. -/
module

public import proofs.«01_k».proof.Proof.Top
public import proofs.«01_k».proof.Proof.Left
public import proofs.«01_k».proof.Proof.Reference

@[expose] public section

set_option maxRecDepth 16384

noncomputable section

namespace Cert.KernelIdeal.Attn

open Cert.KernelIdeal Cert.KernelIdeal.Gen
open Cert.ReferenceIdeal.Spec (scale1)
open Idealize.ShloMosaic

/-- The base-two logarithm of `e`. -/
def lg : EReal := (((Real.log 2)⁻¹ : ℝ) : EReal)

theorem scale2_eq : scale2 = scale1 * lg := by unfold scale2 scale1 lg; rw [EReal.coe_mul]

theorem lg_pos : 0 < lg := by
  unfold lg; exact_mod_cast inv_pos.2 (Real.log_pos (by norm_num))

theorem fq_pos (n : ℤ) : 0 < pw n * scale2 := by
  unfold pw scale2
  rw [← EReal.coe_mul]
  have h1 := Real.log_pos (by norm_num : (1:ℝ) < 2)
  have h2 : (0:ℝ) < Real.sqrt 128 := Real.sqrt_pos.2 (by norm_num)
  have : (0:ℝ) < 2 ^ n * ((Real.sqrt 128)⁻¹ * (Real.log 2)⁻¹) := by positivity
  exact_mod_cast this

/-- A positive factor passes a supremum. -/
theorem sup_mul {ι : Type} (s : Finset ι) (f : ι → EReal) (c : EReal) (hc : 0 < c) : s.sup f * c = s.sup fun i => f i * c := by
  refine Finset.comp_sup_eq_sup_comp (fun y : EReal => y * c) (fun a b => ?_) (EReal.bot_mul_of_pos hc)
  exact Monotone.map_max (f := fun y : EReal => y * c) (fun a b h => mul_le_mul_of_nonneg_right h hc.le)

theorem max_mul' (a b c : EReal) (hc : 0 < c) : max a b * c = max (a * c) (b * c) :=
  Monotone.map_max (f := fun y : EReal => y * c) (fun a b h => mul_le_mul_of_nonneg_right h hc.le)

theorem eight : Ideal.ofBits .f32 0x41000000#32 = ((8 : ℝ) : EReal) := by
  simp [Ideal.ofBits, Ideal.ieee, -EReal.coe_mul]; norm_num
theorem bits256 : Ideal.ofBits .f32 0x43800000#32 = ((256 : ℝ) : EReal) := by
  simp [Ideal.ofBits, Ideal.ieee, -EReal.coe_mul]; norm_num
theorem bits256' : Ideal.ofBits .f32 0x3B800000#32 = ((256⁻¹ : ℝ) : EReal) := by
  simp [Ideal.ofBits, Ideal.ieee, -EReal.coe_mul]; norm_num
theorem bits1 : Ideal.ofBits .f32 0x3F800000#32 = 1 := by
  simp [Ideal.ofBits, Ideal.ieee, -EReal.coe_mul]; norm_num

theorem exp_bot : Ideal.exp ⊥ = 0 := rfl
theorem exp_top : Ideal.exp ⊤ = ⊤ := rfl
theorem exp2_bot : Ideal.exp2 ⊥ = 0 := rfl
theorem exp2_top : Ideal.exp2 ⊤ = ⊤ := rfl

theorem exp_shift (a M : EReal) : Ideal.exp2 (a * lg - (M * lg - ((8 : ℝ) : EReal))) = Ideal.exp (a - M) * ((256 : ℝ) : EReal) := by
  have hb : (⊥ : EReal) * lg = ⊥ := EReal.bot_mul_of_pos lg_pos
  have ht : (⊤ : EReal) * lg = ⊤ := EReal.top_mul_of_pos lg_pos
  have h256 : (0 : EReal) < ((256 : ℝ) : EReal) := by exact_mod_cast (by norm_num : (0:ℝ) < 256)
  induction a with
  | bot => rw [hb, EReal.bot_sub, EReal.bot_sub]; simp [exp_bot, exp_top, exp2_bot, exp2_top]
  | top =>
    induction M with
    | bot => rw [hb, ht, EReal.bot_sub]; simp [exp_bot, exp_top, exp2_bot, exp2_top, EReal.top_mul_of_pos h256]
    | top => rw [ht]; simp [exp_bot, exp_top, exp2_bot, exp2_top]
    | coe M =>
      rw [ht]; unfold lg; rw [← EReal.coe_mul, ← EReal.coe_sub, EReal.top_sub_coe, EReal.top_sub_coe]
      simp [exp_bot, exp_top, exp2_bot, exp2_top, EReal.top_mul_of_pos h256]
  | coe a =>
    induction M with
    | bot =>
      rw [hb, EReal.bot_sub]; unfold lg; rw [← EReal.coe_mul, EReal.coe_sub_bot, EReal.coe_sub_bot]
      simp [exp_bot, exp_top, exp2_bot, exp2_top, EReal.top_mul_of_pos h256]
    | top =>
      rw [ht]; unfold lg; rw [← EReal.coe_mul, EReal.top_sub_coe, sub_eq_add_neg, sub_eq_add_neg, EReal.neg_top, EReal.add_bot, EReal.add_bot]
      simp [exp_bot, exp_top, exp2_bot, exp2_top]
    | coe M =>
      unfold lg
      rw [← EReal.coe_mul, ← EReal.coe_mul, ← EReal.coe_sub, ← EReal.coe_sub, ← EReal.coe_sub]
      show ((((2:ℝ) ^ (a * (Real.log 2)⁻¹ - (M * (Real.log 2)⁻¹ - 8) : ℝ)) : ℝ) : EReal) = ((Real.exp (a - M) : ℝ) : EReal) * _
      rw [← EReal.coe_mul]
      refine congrArg (fun x : ℝ => (x : EReal)) ?_
      have hl : Real.log 2 ≠ 0 := (Real.log_pos (by norm_num)).ne'
      rw [show a * (Real.log 2)⁻¹ - (M * (Real.log 2)⁻¹ - 8) = (a - M) * (Real.log 2)⁻¹ + 8 by ring, Real.rpow_add (by norm_num),
        Real.rpow_def_of_pos (by norm_num : (0:ℝ) < 2)]
      rw [show Real.log 2 * ((a - M) * (Real.log 2)⁻¹) = a - M by field_simp]
      congr 1
      have : ((2:ℝ) ^ (8:ℝ)) = (2:ℝ) ^ (8:ℕ) := by exact_mod_cast Real.rpow_natCast 2 8
      rw [this]; norm_num

theorem exp_nonneg (a : EReal) : 0 ≤ Ideal.exp a := by
  induction a with
  | bot => simp [exp_bot, exp_top]
  | top => simp [exp_bot, exp_top]
  | coe a => show (0:EReal) ≤ ((Real.exp a : ℝ) : EReal); exact_mod_cast (Real.exp_pos a).le

theorem div_256 (S : EReal) : Ideal.div 1 (S * ((256 : ℝ) : EReal)) = ((256⁻¹ : ℝ) : EReal) * Ideal.div 1 S := by
  have h256 : ((256 : ℝ) : EReal) ≠ 0 := by exact_mod_cast (by norm_num : (256:ℝ) ≠ 0)
  have hp : (0 : EReal) < ((256⁻¹ : ℝ) : EReal) := by exact_mod_cast (by norm_num : (0:ℝ) < 256⁻¹)
  by_cases h : S = 0
  · subst h
    simp [Ideal.div, EReal.coe_mul_top_of_pos]
  · rw [Ideal.div, if_neg (mul_ne_zero h h256), Ideal.div, if_neg h, one_mul, one_mul, EReal.mul_inv, ← EReal.coe_inv, mul_comm]

/-- A sum over a block's keys, row by row. -/
theorem sum_keys (f : Fin 256 → EReal) : ∑ x, f x = ∑ r : Fin 8, ∑ j : Fin 4, ∑ a : Fin 8, f (key j a r) := by
  rw [← Fintype.sum_prod_type', ← Fintype.sum_prod_type']
  refine Fintype.sum_equiv ⟨fun x => ((⟨x.val % 8, by omega⟩, ⟨x.val / 64, by omega⟩), ⟨x.val / 8 % 8, by omega⟩),
    fun p => key p.1.2 p.2 p.1.1, fun x => ?_, fun p => ?_⟩ _ _ fun x => ?_
  · apply Fin.ext; simp only [key]; omega
  · obtain ⟨⟨r, j⟩, a⟩ := p
    refine Prod.ext (Prod.ext ?_ ?_) ?_ <;> apply Fin.ext <;> simp only [key] <;> omega
  · refine congrArg f (Fin.ext ?_); simp only [key, Equiv.coe_fn_mk]; omega

theorem sum_blocks (f : Fin 7936 → EReal) : ∑ x, f x = ∑ b : Fin 31, ∑ x : Fin 256, f (gkey b x) := by
  rw [← Fintype.sum_prod_type']
  refine Fintype.sum_equiv ⟨fun x => (⟨x.val / 256, by omega⟩, ⟨x.val % 256, by omega⟩), fun p => gkey p.1 p.2, fun x => ?_, fun p => ?_⟩ _ _ fun x => ?_
  · apply Fin.ext; simp only [gkey]; omega
  · obtain ⟨b, x⟩ := p
    refine Prod.ext ?_ ?_ <;> apply Fin.ext <;> simp only [gkey] <;> omega
  · refine congrArg f (Fin.ext ?_); simp only [gkey, Equiv.coe_fn_mk]; omega

theorem sub_key (j : Fin 4) (a r : Fin 8) : sub (key j a r) = j := by apply Fin.ext; simp only [sub, key]; omega

section One

variable (s : Fin 31) (l : Fin 256) (u : Fin 31 → Fin 256 → EReal) (ks : Fin 31 → Fin 4 → EReal) (hk : ∀ b j, 0 < ks b j) (n : ℤ)
  (L T : Fin 31 → Fin 256 → EReal)
  (hL : ∀ b x, L b x = if b.val < s.val ∨ (b.val = s.val ∧ x ≤ l) then ks b (sub x) * (pw n * u b x) * scale1 else ⊥)
  (hT : ∀ b x, b.val ≤ s.val → T b x = if b.val = s.val then (if x ≤ l then u b x else ⊥) else u b x)

include hk hL hT

/-- The kernel's base-two logit is the reference's, times the base-two logarithm of `e`. -/
theorem logit_eq (b : Fin 31) (x : Fin 256) (hb : b.val ≤ s.val) : T b x * (pw n * scale2 * ks b (sub x)) = L b x * lg := by
  have hp : 0 < pw n * scale2 * ks b (sub x) := EReal.mul_pos (fq_pos n) (hk _ _)
  rw [hT b x hb, hL]
  by_cases h : b.val = s.val
  · rw [if_pos h]
    by_cases hx : x ≤ l
    · rw [if_pos hx, if_pos (Or.inr ⟨h, hx⟩), scale2_eq]; ac_rfl
    · rw [if_neg hx, if_neg (by omega), EReal.bot_mul_of_pos hp, EReal.bot_mul_of_pos lg_pos]
  · rw [if_neg h, if_pos (Or.inl (by omega)), scale2_eq]; ac_rfl

theorem logit_none (b : Fin 31) (x : Fin 256) (hb : s.val < b.val) : L b x = ⊥ := by rw [hL, if_neg (by omega)]

/-- The largest logit, block by block and row by row. -/
theorem max_eq :
    (Finset.univ.sup fun r : Fin 8 => max ((Finset.univ.filter (fun b : Fin 31 => b.val < s.val)).sup fun b =>
        Finset.univ.sup fun j : Fin 4 => (Finset.univ.sup fun a : Fin 8 => u b (key j a r)) * ks b j)
      (Finset.univ.sup fun j : Fin 4 => (Finset.univ.sup fun a : Fin 8 => T s (key j a r)) * ks s j)) * (pw n * scale2)
    = (Finset.univ.sup fun b => Finset.univ.sup fun x => L b x) * lg := by
  have e : ∀ (b : Fin 31) (j : Fin 4) (a r : Fin 8), b.val ≤ s.val → T b (key j a r) * ks b j * (pw n * scale2) = L b (key j a r) * lg := by
    intro b j a r hb
    rw [← logit_eq s l u ks hk n L T hL hT b _ hb, sub_key]; ac_rfl
  have eu : ∀ (b : Fin 31) (x : Fin 256), b.val < s.val → u b x = T b x := by
    intro b x hb; rw [hT b x hb.le, if_neg hb.ne]
  rw [sup_mul _ _ _ (fq_pos n), sup_mul _ _ _ lg_pos]
  have e1 : ∀ r : Fin 8, max ((Finset.univ.filter (fun b : Fin 31 => b.val < s.val)).sup fun b =>
        Finset.univ.sup fun j : Fin 4 => (Finset.univ.sup fun a : Fin 8 => u b (key j a r)) * ks b j)
      (Finset.univ.sup fun j : Fin 4 => (Finset.univ.sup fun a : Fin 8 => T s (key j a r)) * ks s j) * (pw n * scale2)
      = max ((Finset.univ.filter (fun b : Fin 31 => b.val < s.val)).sup fun b =>
        Finset.univ.sup fun j : Fin 4 => Finset.univ.sup fun a : Fin 8 => L b (key j a r) * lg)
      (Finset.univ.sup fun j : Fin 4 => Finset.univ.sup fun a : Fin 8 => L s (key j a r) * lg) := by
    intro r
    rw [max_mul' _ _ _ (fq_pos n), sup_mul _ _ _ (fq_pos n), sup_mul _ _ _ (fq_pos n)]
    congr 1
    · refine Finset.sup_congr rfl fun b hb => ?_
      have hb' := (Finset.mem_filter.1 hb).2
      rw [sup_mul _ _ _ (fq_pos n)]
      refine Finset.sup_congr rfl fun j _ => ?_
      rw [sup_mul _ _ _ (hk b j), sup_mul _ _ _ (fq_pos n)]
      refine Finset.sup_congr rfl fun a _ => ?_
      rw [eu b _ hb', e b j a r hb'.le]
    · refine Finset.sup_congr rfl fun j _ => ?_
      rw [sup_mul _ _ _ (hk s j), sup_mul _ _ _ (fq_pos n)]
      exact Finset.sup_congr rfl fun a _ => e s j a r le_rfl
  have e2 : ∀ b : Fin 31, (Finset.univ.sup fun x => L b x) * lg = Finset.univ.sup fun x => L b x * lg := fun b => sup_mul _ _ _ lg_pos
  simp only [e1, e2]
  have top : ∀ b x, L b x * lg ≤ Finset.univ.sup fun b => Finset.univ.sup fun x => L b x * lg := fun b x =>
    le_trans (Finset.le_sup (f := fun x => L b x * lg) (Finset.mem_univ x))
      (Finset.le_sup (f := fun b => Finset.univ.sup fun x => L b x * lg) (Finset.mem_univ b))
  refine le_antisymm (Finset.sup_le fun r _ => max_le (Finset.sup_le fun b _ => Finset.sup_le fun j _ => Finset.sup_le fun a _ => top _ _)
    (Finset.sup_le fun j _ => Finset.sup_le fun a _ => top _ _)) (Finset.sup_le fun b _ => Finset.sup_le fun x _ => ?_)
  have hx : x = key (sub x) ⟨x.val / 8 % 8, by omega⟩ ⟨x.val % 8, by omega⟩ := Fin.ext (by simp only [key, sub]; omega)
  rcases lt_trichotomy b.val s.val with hb | hb | hb
  · refine le_trans ?_ (Finset.le_sup (Finset.mem_univ (⟨x.val % 8, by omega⟩ : Fin 8)))
    refine le_trans ?_ (le_max_left _ _)
    refine le_trans ?_ (Finset.le_sup (Finset.mem_filter.2 ⟨Finset.mem_univ b, hb⟩))
    refine le_trans ?_ (Finset.le_sup (Finset.mem_univ (sub x)))
    refine le_trans (le_of_eq ?_) (Finset.le_sup (Finset.mem_univ (⟨x.val / 8 % 8, by omega⟩ : Fin 8)))
    exact congrArg (fun x => L b x * lg) hx
  · obtain rfl : b = s := Fin.ext hb
    refine le_trans ?_ (Finset.le_sup (Finset.mem_univ (⟨x.val % 8, by omega⟩ : Fin 8)))
    refine le_trans ?_ (le_max_right _ _)
    refine le_trans ?_ (Finset.le_sup (Finset.mem_univ (sub x)))
    refine le_trans (le_of_eq ?_) (Finset.le_sup (Finset.mem_univ (⟨x.val / 8 % 8, by omega⟩ : Fin 8)))
    exact congrArg (fun x => L b x * lg) hx
  · rw [logit_none s l u ks hk n L T hL hT b x hb, EReal.bot_mul_of_pos lg_pos]; exact bot_le

/-- One output of the kernel is the reference's. -/
theorem one_out (v : Fin 31 → Fin 256 → EReal) (vs mv mc : EReal)
    (hmc : mc = (Finset.univ.sup fun r : Fin 8 => max ((Finset.univ.filter (fun b : Fin 31 => b.val < s.val)).sup fun b =>
        Finset.univ.sup fun j : Fin 4 => (Finset.univ.sup fun a : Fin 8 => u b (key j a r)) * ks b j)
      (Finset.univ.sup fun j : Fin 4 => (Finset.univ.sup fun a : Fin 8 => T s (key j a r)) * ks s j)) * (pw n * scale2)
        - Ideal.ofBits .f32 0x41000000#32)
    (P : Fin 31 → Fin 256 → EReal) (hP : ∀ b x, P b x = Ideal.exp (L b x - Finset.univ.sup fun b => Finset.univ.sup fun x => L b x)) :
    (∑ b ∈ Finset.univ.filter (fun b : Fin 31 => b.val < s.val + 1), ∑ x : Fin 256,
        v b x * min (weight (pw n * scale2) (ks b (sub x)) mc (T b x)) (Ideal.ofBits .f32 0x43E00000#32))
      * Ideal.div (Ideal.ofBits .f32 0x3F800000#32) (∑ r : Fin 8, ∑ b ∈ Finset.univ.filter (fun b : Fin 31 => b.val < s.val + 1),
          ∑ j : Fin 4, ∑ a : Fin 8, weight (pw n * scale2) (ks b (sub (key j a r))) mc (T b (key j a r))) * vs + mv
    = (∑ b : Fin 31, ∑ x : Fin 256, min (Ideal.ofBits .f32 0x43E00000#32) (max 0 (P b x * Ideal.ofBits .f32 0x43800000#32)) * v b x)
        * Ideal.ofBits .f32 0x3B800000#32 * vs * Ideal.div 1 (∑ b : Fin 31, ∑ x : Fin 256, P b x) + mv := by
  have h256 : (0 : EReal) ≤ ((256 : ℝ) : EReal) := by exact_mod_cast (by norm_num : (0:ℝ) ≤ 256)
  have hw : ∀ b x, b.val < s.val + 1 → weight (pw n * scale2) (ks b (sub x)) mc (T b x) = P b x * ((256 : ℝ) : EReal) := by
    intro b x hb
    unfold weight
    rw [hmc, max_eq s l u ks hk n L T hL hT, logit_eq s l u ks hk n L T hL hT b x (by omega), eight, exp_shift, hP]
  have h0 : ∀ b x, ¬ b.val < s.val + 1 → P b x = 0 := by
    intro b x hb
    rw [hP, logit_none s l u ks hk n L T hL hT b x (by omega), EReal.bot_sub, exp_bot]
  have hn : ∀ b x, 0 ≤ P b x := fun b x => by rw [hP]; exact exp_nonneg _
  have eA : (∑ b ∈ Finset.univ.filter (fun b : Fin 31 => b.val < s.val + 1), ∑ x : Fin 256,
        v b x * min (weight (pw n * scale2) (ks b (sub x)) mc (T b x)) (Ideal.ofBits .f32 0x43E00000#32))
      = ∑ b : Fin 31, ∑ x : Fin 256, min (Ideal.ofBits .f32 0x43E00000#32) (max 0 (P b x * Ideal.ofBits .f32 0x43800000#32)) * v b x := by
    rw [Finset.sum_filter]
    refine Finset.sum_congr rfl fun b _ => ?_
    by_cases hb : b.val < s.val + 1
    · rw [if_pos hb]
      refine Finset.sum_congr rfl fun x _ => ?_
      rw [hw b x hb, bits256, max_eq_right (mul_nonneg (hn b x) h256), mul_comm, min_comm]
    · rw [if_neg hb]
      refine (Finset.sum_eq_zero fun x _ => ?_).symm
      rw [h0 b x hb, zero_mul, max_self, min_eq_right, zero_mul]
      simp [Ideal.ofBits, Ideal.ieee, -EReal.coe_mul]
  have eS : (∑ r : Fin 8, ∑ b ∈ Finset.univ.filter (fun b : Fin 31 => b.val < s.val + 1),
          ∑ j : Fin 4, ∑ a : Fin 8, weight (pw n * scale2) (ks b (sub (key j a r))) mc (T b (key j a r)))
      = (∑ b : Fin 31, ∑ x : Fin 256, P b x) * ((256 : ℝ) : EReal) := by
    rw [Finset.sum_comm, Finset.sum_filter]
    have hs : ∀ {ι : Type} (t : Finset ι) (f : ι → EReal), (∀ i, 0 ≤ f i) → (∑ i ∈ t, f i) * ((256 : ℝ) : EReal) = ∑ i ∈ t, f i * ((256 : ℝ) : EReal) := by
      intro ι t f hf
      classical
      induction t using Finset.induction_on with
      | empty => simp
      | insert a t ha ih => rw [Finset.sum_insert ha, Finset.sum_insert ha, EReal.right_distrib_of_nonneg (hf a) (Finset.sum_nonneg fun i _ => hf i), ih]
    rw [hs _ _ fun b => Finset.sum_nonneg fun x _ => hn b x]
    refine Finset.sum_congr rfl fun b _ => ?_
    by_cases hb : b.val < s.val + 1
    · rw [if_pos hb, sum_keys, hs _ _ fun r => Finset.sum_nonneg fun j _ => Finset.sum_nonneg fun a _ => hn _ _]
      refine Finset.sum_congr rfl fun r _ => ?_
      rw [hs _ _ fun j => Finset.sum_nonneg fun a _ => hn _ _]
      refine Finset.sum_congr rfl fun j _ => ?_
      rw [hs _ _ fun a => hn _ _]
      exact Finset.sum_congr rfl fun a _ => hw b _ hb
    · rw [if_neg hb, Finset.sum_eq_zero fun x _ => h0 b x hb, zero_mul]
  rw [eA, eS, bits1, div_256, bits256']
  congr 1
  ac_rfl

end One

end Cert.KernelIdeal.Attn
-- ==== Proof.Bridge.lean ====
/- The kernel's blocks against the reference's arrays: tiles, codes, scores and outputs. -/
module

public import proofs.«01_k».proof.Proof.Softmax

@[expose] public section

set_option maxRecDepth 16384

noncomputable section

namespace Cert.KernelIdeal.Attn

open Cert.ReferenceIdeal.Spec
open Idealize.ShloMosaic.Pointwise
open Idealize.ShloMosaic

section Tiles

/-- A query of block `s`; a column of key head `k`, of the queries and of the keys; a tile of block `s`. -/
abbrev qa (s : Fin 31) (l : Fin 256) : Fin 7936 := ⟨s.val * 256 + l.val, by omega⟩
abbrev ca (k : Fin 8) (x : Fin 640) : Fin 5120 := ⟨k.val * 640 + x.val, by omega⟩
abbrev kd (k : Fin 8) (d : Fin 128) : Fin 1024 := ⟨k.val * 128 + d.val, by omega⟩
abbrev ta (s : Fin 31) (t : Fin 2) : Fin 62 := ⟨s.val * 2 + t.val, by omega⟩

variable (X : Vec Ideal S2x7936x5120 .bf16) (hX : ∀ i, ∃ v : ℝ, (X i : EReal) = (v : EReal) ∧ |v| ≤ 2 ^ 128)
  (b : Fin 2) (k : Fin 8) (s : Fin 31) (x3 : Vec Ideal S1x256x640 .bf16)
  (h3 : ∀ (l : Fin 256) (x : Fin 640), x3 (ix3 0 l x) = X (ix3 b (qa s l) (ca k x)))

include h3 in
theorem tile_eq (t : Fin 2) (g : Fin 5) : tile x3 t g = tileR X b (ta s t) (hq k g) := by
  funext r d
  unfold tile tileR
  rw [h3]
  exact congrArg₂ (fun u v => X (ix3 b u v)) (Fin.ext (by simp only []; omega)) (Fin.ext (by simp only [hq]; omega))

include hX h3

theorem exps (t : Fin 2) (g : Fin 5) : ∃ n : ℤ, scaleR X b (ta s t) (hq k g) = pw n
    ∧ scaleOf (expT x3 t g) = pw n ∧ invOf (expT x3 t g) = pw (-n) := by
  unfold expT scaleR
  rw [tile_eq X b k s x3 h3]
  exact tile_scale _ fun r d => hX _

theorem code_eq (t : Fin 2) (g : Fin 5) (r d : Fin 128) : codeT x3 t g r d = codeR X b (ta s t) (hq k g) r d := by
  obtain ⟨n, h1, h2, h4⟩ := exps X hX b k s x3 h3 t g
  unfold codeT codeR codeOf
  rw [h4, h1, div_pw, tile_eq X b k s x3 h3]

theorem q11_eq (l : Fin 256) (x : Fin 640) : q11 x3 (ix3 0 l x)
    = Cert.ReferenceIdeal.Gen.k0_pay7 (F := Ideal) X (ix3 b (qa s l) (ca k x)) := by
  rw [codes_apply]
  refine (code_eq X hX b k s x3 h3 (tl l) (hd x) (rl l) (dm x)).trans ?_
  have e1 : ta s (tl l) = ⟨(s.val * 256 + l.val) / 128, by omega⟩ := Fin.ext (by simp only [tl]; omega)
  have e2 : hq k (hd x) = ⟨(k.val * 640 + x.val) / 128, by omega⟩ := Fin.ext (by simp only [hq, hd]; omega)
  have e3 : rl l = ⟨(s.val * 256 + l.val) % 128, by omega⟩ := Fin.ext (by simp only [rl]; omega)
  have e4 : dm x = ⟨(k.val * 640 + x.val) % 128, by omega⟩ := Fin.ext (by simp only [dm]; omega)
  rw [e1, e2, e3, e4]

theorem q12_eq (g : Fin 10) (x : Fin 128) : q12 x3 (ix5 0 0 0 g x)
    = Cert.ReferenceIdeal.Gen.k0_pay8 (F := Ideal) (Cert.ReferenceIdeal.Gen.k0_pay5 X) (ix5 b k s g x) := by
  rw [scales_apply]
  obtain ⟨n, h1, h2, h4⟩ := exps X hX b k s x3 h3 ⟨g.val / 5, by omega⟩ ⟨g.val % 5, by omega⟩
  exact h2.trans h1.symm

omit hX in
theorem q13_eq (n : Fin 2) (g : Fin 5) (d : Fin 128) : q13 x3 (ix5 0 n 0 g d)
    = Cert.ReferenceIdeal.Gen.k0_pay9 (F := Ideal) (Cert.ReferenceIdeal.Gen.k0_pay3 X) (ix5 b (ta s n) k g d) := by
  rw [means_apply]
  exact congrArg (fun u => meanOf u d) (tile_eq X b k s x3 h3 n g)

theorem pw_sum (n : ℤ) (f : Fin 128 → EReal) : pw n * ∑ d, f d = ∑ d, pw n * f d := by
  have : ∀ t : Finset (Fin 128), pw n * ∑ d ∈ t, f d = ∑ d ∈ t, pw n * f d := by
    intro t
    induction t using Finset.induction_on with
    | empty => simp
    | insert a t ha ih => rw [Finset.sum_insert ha, Finset.sum_insert ha, EReal.left_distrib_of_nonneg_of_ne_top (pw_pos n).le (pw_ne_top n), ih]
  exact this _

variable (KC : Vec Ideal S2x7936x1024 .fp8e4m3) (KW : Vec Ideal S2x8x7936x128 .bf16) (x4 : Vec Ideal S1x7936x128 .fp8e4m3) (x5 : Vec Ideal S1x1x7936x128 .bf16)
  (h4 : ∀ (x : Fin 7936) (d : Fin 128), x4 (ix3 0 x d) = KC (ix3 b x (kd k d)))
  (h5 : ∀ (x : Fin 7936) (d : Fin 128), x5 (ix4 0 0 x d) = KW (ix4 b k x d))

include h4 h5

/-- The kernel's score, times the scale of the queries, is the reference's. -/
theorem score_eq (g : Fin 5) (l : Fin 256) : ∃ n : ℤ, scaleOf (expT x3 (tl l) g) = pw n ∧ ∀ (c : Fin 31) (x : Fin 256),
    scoreR X KC KW b k g (qa s l) (gkey c x) = pw n * sAt x4 x5 (q15 x3) (q16 x3) c g x l := by
  obtain ⟨n, e1, e2, e3⟩ := exps X hX b k s x3 h3 (tl l) g
  refine ⟨n, e2, fun c x => ?_⟩
  have en : nq (qa s l) = ta s (tl l) := Fin.ext (by simp only [nq, tl]; omega)
  have er : rq (qa s l) = rl l := Fin.ext (by simp only [rq, rl]; omega)
  unfold scoreR sAt
  rw [en, er, e1, EReal.left_distrib_of_nonneg_of_ne_top (pw_pos n).le (pw_ne_top n)]
  congr 1
  · refine congrArg (pw n * ·) (Finset.sum_congr rfl fun d _ => ?_)
    rw [h4]
    exact congrArg (_ * ·) (code_eq X hX b k s x3 h3 (tl l) g (rl l) d).symm
  · rw [pw_sum X hX b k s x3 h3]
    refine Finset.sum_congr rfl fun d _ => ?_
    rw [h5]
    show _ = pw n * (_ * (meanOf (tile x3 (tl l) g) d * invOf (expT x3 (tl l) g)))
    rw [e3, tile_eq X b k s x3 h3]
    have : pw n * pw (-n) = 1 := by rw [pw_mul]; simp [pw]
    calc _ = KW (ix4 b k (gkey c x) d) * meanOf (tileR X b (ta s (tl l)) (hq k g)) d * (pw n * pw (-n)) := by rw [this, mul_one]
      _ = _ := by ac_rfl

variable (KS : Vec Ideal S2x8x31x4x128 .f32) (VT : Vec Ideal S2x8x31x128x256 .fp8e4m3) (VS : Vec Ideal S2x8x1x128 .f32) (MV : Vec Ideal S2x8x1x128 .bf16)
  (hKS : ∀ i, (0 : EReal) < KS i)
  (x6 x6' : Vec Ideal S1x1x31x4x128 .f32) (x7 : Vec Ideal S1x1x31x128x256 .fp8e4m3) (x8 : Vec Ideal S1x1x1x128 .f32) (x9 : Vec Ideal S1x1x1x128 .bf16)
  (h6 : ∀ (c : Fin 31) (j : Fin 4) (x : Fin 128), x6 (ix5 0 0 c j x) = KS (ix5 b k c j x))
  (h6' : ∀ (c : Fin 31) (j : Fin 4) (x : Fin 128), x6' (ix5 0 0 c j x) = KS (ix5 b k c j x))
  (h7 : ∀ (c : Fin 31) (d : Fin 128) (x : Fin 256), x7 (ix5 0 0 c d x) = VT (ix5 b k c d x))
  (h8 : ∀ d : Fin 128, x8 (ix4 0 0 0 d) = VS (ix4 b k 0 d)) (h9 : ∀ d : Fin 128, x9 (ix4 0 0 0 d) = MV (ix4 b k 0 d))

omit hX h3 h4 h5 in
theorem sup_blocks (f : Fin 7936 → EReal) : Finset.univ.sup f = Finset.univ.sup fun c : Fin 31 => Finset.univ.sup fun x : Fin 256 => f (gkey c x) := by
  refine le_antisymm (Finset.sup_le fun x _ => ?_) (Finset.sup_le fun c _ => Finset.sup_le fun x _ => Finset.le_sup (f := f) (Finset.mem_univ _))
  refine le_trans ?_ (Finset.le_sup (Finset.mem_univ (⟨x.val / 256, by omega⟩ : Fin 31)))
  refine le_trans (le_of_eq ?_) (Finset.le_sup (Finset.mem_univ (⟨x.val % 256, by omega⟩ : Fin 256)))
  exact congrArg f (Fin.ext (by simp only [gkey]; omega))

include hKS h6 h6' h7 h8 h9

/-- The kernel's output block is the reference's. -/
theorem n10_eq (z : Vec Ideal S31x5x256x256 .f32) (l : Fin 256) (x : Fin 640) :
    n10 x6' x7 x8 x9 (n14 x3 x4 x5 z s) (q17 x3) (n20 x3 x4 x5 x6 s) (s.val + 1) (ix3 0 l x)
      = outR X KC KW KS VT VS MV b k (hd x) (qa s l) (dm x) := by
  obtain ⟨n, e2, esc⟩ := score_eq X hX b k s x3 h3 KC KW x4 x5 h4 h5 (hd x) l
  set q : Fin 7936 := qa s l with hq'
  have hL : ∀ (c : Fin 31) (y : Fin 256), logitR X KC KW KS b k (hd x) q (gkey c y)
      = if c.val < s.val ∨ (c.val = s.val ∧ y ≤ l) then KS (ix5 b k c (sub y) 0) * (pw n * sAt x4 x5 (q15 x3) (q16 x3) c (hd x) y l) * scale1 else ⊥ := by
    intro c y
    unfold logitR
    rw [esc]
    have i1 : (⟨(gkey c y).val / 256, by omega⟩ : Fin 31) = c := Fin.ext (by simp only [gkey]; omega)
    have i2 : (⟨(gkey c y).val / 64 % 4, by omega⟩ : Fin 4) = sub y := Fin.ext (by simp only [gkey, sub]; omega)
    rw [i1, i2]
    refine if_congr ?_ rfl rfl
    simp only [Fin.le_def, gkey, hq']
    omega
  have hT : ∀ (c : Fin 31) (y : Fin 256), c.val ≤ s.val → n14 x3 x4 x5 z s (ix4 c (hd x) y l)
      = if c.val = s.val then (if y ≤ l then sAt x4 x5 (q15 x3) (q16 x3) c (hd x) y l else ⊥) else sAt x4 x5 (q15 x3) (q16 x3) c (hd x) y l := by
    intro c y hc
    show (if c.val = s.val then maskS x3 x4 x5 s (hd x) y l else if c.val < s.val then sAt x4 x5 (q15 x3) (q16 x3) c (hd x) y l else _) = _
    by_cases h : c.val = s.val
    · obtain rfl : c = s := Fin.ext h
      rw [if_pos rfl, if_pos rfl]; rfl
    · rw [if_neg h, if_neg h, if_pos (by omega)]
  have hm := one_out s l (fun c y => sAt x4 x5 (q15 x3) (q16 x3) c (hd x) y l) (fun c j => KS (ix5 b k c j 0)) (fun c j => hKS _) n
    (fun c y => logitR X KC KW KS b k (hd x) q (gkey c y)) (fun c y => n14 x3 x4 x5 z s (ix4 c (hd x) y l)) hL hT
    (fun c y => VT (ix5 b k c (dm x) y)) (VS (ix4 b k 0 (dm x))) (MV (ix4 b k 0 (dm x))) (n20 x3 x4 x5 x6 s (ix3 (hd x) 0 l)) ?_
    (fun c y => probR X KC KW KS b k (hd x) q (gkey c y)) ?_
  · have e17 : q17 x3 (ix3 (hd x) 0 l) = pw n * scale2 := congrArg (· * scale2) e2
    have lhs : n10 x6' x7 x8 x9 (n14 x3 x4 x5 z s) (q17 x3) (n20 x3 x4 x5 x6 s) (s.val + 1) (ix3 0 l x)
        = (∑ c ∈ Finset.univ.filter (fun c : Fin 31 => c.val < s.val + 1), accStep x6' x7 (n14 x3 x4 x5 z s) (q17 x3) (n20 x3 x4 x5 x6 s) c (hd x) (dm x) l)
          * Ideal.div (Ideal.ofBits .f32 0x3F800000#32)
            (∑ r : Fin 8, ∑ c ∈ Finset.univ.filter (fun c : Fin 31 => c.val < s.val + 1), sumStep x6' (n14 x3 x4 x5 z s) (q17 x3) (n20 x3 x4 x5 x6 s) c (hd x) r l)
          * x8 (ix4 0 0 0 (dm x)) + x9 (ix4 0 0 0 (dm x)) := rfl
    rw [lhs]
    simp only [accStep, sumStep, wAt, e17, h6', h7, h8, h9]
    refine hm.trans ?_
    unfold outR
    rw [sum_blocks, sum_blocks]
    have i1 : ∀ (c : Fin 31) (y : Fin 256) h, (⟨(gkey c y).val / 256, h⟩ : Fin 31) = c := fun c y h => Fin.ext (by simp only [gkey]; omega)
    have i2 : ∀ (c : Fin 31) (y : Fin 256) h, (⟨(gkey c y).val % 256, h⟩ : Fin 256) = y := fun c y h => Fin.ext (by simp only [gkey]; omega)
    simp only [i1, i2]
  · have e17 : q17 x3 (ix3 (hd x) 0 l) = pw n * scale2 := congrArg (· * scale2) e2
    show (Finset.univ.sup fun r : Fin 8 => max ((Finset.univ.filter (fun b : Fin 31 => b.val < s.val)).sup fun b =>
      maxStep x4 x5 x6 (q15 x3) (q16 x3) b (hd x) r l)
      (Finset.univ.sup fun j : Fin 4 => (Finset.univ.sup fun a : Fin 8 => maskS x3 x4 x5 s (hd x) (key j a r) l) * x6 (ix5 0 0 s j 0)))
        * q17 x3 (ix3 (hd x) 0 l) - Ideal.ofBits .f32 0x41000000#32 = _
    have et : ∀ y, n14 x3 x4 x5 z s (ix4 s (hd x) y l) = maskS x3 x4 x5 s (hd x) y l := fun y => if_pos rfl
    simp only [e17, maxStep, h6, et]
  · intro c y
    unfold probR
    rw [sup_blocks]

end Tiles

end Cert.KernelIdeal.Attn
-- ==== Proof.Value.lean ====
/- The attention kernel over its whole grid at the ideal reading: the contents each step leaves in the output windows, the
   scratch carried from step to step, and the run they give. -/
module

public import proofs.«01_k».proof.Proof.FrameKernelIdeal
public import proofs.«01_k».proof.Proof.Left
public import Idealize.ShloMosaic.Lib.Pipeline.DatRel
public import Idealize.ShloMosaic.Lib.Pipeline.ArrRel

@[expose] public section

set_option maxRecDepth 16384

noncomputable section

namespace Cert.KernelIdeal.AttnV

open Cert.KernelIdeal.Gen
open Cert.KernelIdeal.Attn hiding frame
open Idealize.ShloMosaic.Pointwise
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ) (ρ : Dev nD → PrngReg)

theorem step_2 : ∀ t : Fin cfg0.N, (grid0.coords t 2).val = t.val % 32 := (by decide +kernel : ∀ t : Fin grid0.N, _)

/-! ## What the body leaves -/

/-- The point before. -/
abbrev prev (t : Fin cfg0.N) : Fin cfg0.N := ⟨t.val - 1, by omega⟩

/-- The scores, factors and shifts that step `s`, run at point `t`, leaves; of the later blocks of scores nothing is said. -/
def s14 (c : Dev nD) (t : Fin cfg0.N) (z : Vec Ideal S31x5x256x256 .f32) (s : Fin 31) : Vec Ideal S31x5x256x256 .f32 :=
  n14 (iblk m c 0 t) (iblk m c 1 t) (iblk m c 2 t) z s
def s18 (c : Dev nD) (t : Fin cfg0.N) : Vec Ideal S5x1x256 .f32 := q17 (iblk m c 0 t)
def s20 (c : Dev nD) (t : Fin cfg0.N) (s : Fin 31) : Vec Ideal S5x1x256 .f32 :=
  n20 (iblk m c 0 t) (iblk m c 1 t) (iblk m c 2 t) (iblk m c 3 t) s

/-- The scratch before point `n`: what the step before left, unless a new row of blocks begins. -/
def Carried (c : Dev nD) (n : ℕ) (x14 : Vec Ideal S31x5x256x256 .f32) (x18 x20 : Vec Ideal S5x1x256 .f32) : Prop :=
  ∀ s : Fin 31, n % 32 = s.val + 1 → ∀ h : n - 1 < cfg0.N,
    (∃ z, x14 = s14 m c ⟨n - 1, h⟩ z s) ∧ x18 = s18 m c ⟨n - 1, h⟩ ∧ x20 = s20 m c ⟨n - 1, h⟩ s

/-- The output block of the step after step `s`. -/
def o10 (c : Dev nD) (t : Fin cfg0.N) (s : Fin 31) : Vec Ideal S1x256x640 .bf16 :=
  n10 (iblk m c 3 t) (iblk m c 4 t) (iblk m c 5 t) (iblk m c 6 t) (s14 m c (prev t) (fun _ => 0) s) (s18 m c (prev t)) (s20 m c (prev t) s)
    (s.val + 1)

/-- The output is read from the blocks of scores up to the step's own. -/
theorem n10_carried (x6 : Vec Ideal S1x1x31x4x128 .f32) (x7 : Vec Ideal S1x1x31x128x256 .fp8e4m3) (x8 : Vec Ideal S1x1x1x128 .f32)
    (x9 : Vec Ideal S1x1x1x128 .bf16) (c : Dev nD) (t : Fin cfg0.N) (z z' : Vec Ideal S31x5x256x256 .f32) (x18 x20 : Vec Ideal S5x1x256 .f32) (s : Fin 31) :
    n10 x6 x7 x8 x9 (s14 m c t z s) x18 x20 (s.val + 1) = n10 x6 x7 x8 x9 (s14 m c t z' s) x18 x20 (s.val + 1) := by
  have e : ∀ b : Fin 31, b.val < s.val + 1 → ∀ g x l, s14 m c t z s (ix4 b g x l) = s14 m c t z' s (ix4 b g x l) := fun b hb g x l => by
    unfold s14 n14
    show (if b.val = s.val then _ else if b.val < s.val then _ else _) = (if b.val = s.val then _ else if b.val < s.val then _ else _)
    by_cases h : b.val = s.val
    · rw [if_pos h, if_pos h]
    · rw [if_neg h, if_neg h, if_pos (by omega), if_pos (by omega)]
  funext y
  unfold n10
  congr 2
  · congr 1
    · refine Finset.sum_congr rfl fun b hb => ?_
      unfold accStep wAt
      refine Finset.sum_congr rfl fun x _ => ?_
      exact congrArg (fun v => _ * min (weight _ _ _ v) _) (e b (Finset.mem_filter.mp hb).2 _ _ _)
    · refine congrArg (Ideal.div _) ?_
      refine Finset.sum_congr rfl fun r _ => Finset.sum_congr rfl fun b hb => ?_
      unfold sumStep wAt
      refine Finset.sum_congr rfl fun j _ => Finset.sum_congr rfl fun a _ => ?_
      exact congrArg (weight _ _ _) (e b (Finset.mem_filter.mp hb).2 _ _ _)

/-- What is said of each output window after point `t`. -/
def P7 (c : Dev nD) (t : Fin cfg0.N) (X : Vec Ideal S1x256x640 .bf16) : Prop := ∀ s : Fin 31, t.val % 32 = s.val + 1 → X = o10 m c t s
def P8 (c : Dev nD) (t : Fin cfg0.N) (X : Vec Ideal S1x256x640 .fp8e4m3) : Prop := X = q11 (iblk m c 0 t)
def P9 (c : Dev nD) (t : Fin cfg0.N) (X : Vec Ideal S1x1x1x10x128 .f32) : Prop := X = q12 (iblk m c 0 t)
def P10 (c : Dev nD) (t : Fin cfg0.N) (X : Vec Ideal S1x2x1x5x128 .bf16) : Prop := X = q13 (iblk m c 0 t)

def leftBy (c : Dev nD) (w : Fin cfg0.W) (t : Fin cfg0.N) : ((cfg0.win w).block.Idx → Elt Ideal (cfg0.win w).elt) → Prop :=
  match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun _ => True
  | ⟨7, _⟩ => P7 m c t
  | ⟨8, _⟩ => P8 m c t
  | ⟨9, _⟩ => P9 m c t
  | ⟨10, _⟩ => P10 m c t

/-- The scratch at contents that agree with what the step before left, and the generator register. -/
def scratch (c : Dev nD) (n : ℕ) : sProp 𝕄 :=
  iprop((∃ (x14 : Vec Ideal S31x5x256x256 .f32) (x15 : Vec Ideal S5x128x256 .fp8e4m3) (x16 : Vec Ideal S5x128x256 .bf16) (x17 : Vec Ideal S5x1x256 .f32) (x18 : Vec Ideal S5x1x256 .f32) (x19 : Vec Ideal S5x8x256 .f32) (x20 : Vec Ideal S5x1x256 .f32) (x21 : Vec Ideal S5x8x256 .f32) (x22 : Vec Ideal S5x128x256 .f32), ⌜Carried m c n x14 x18 x20⌝
    ∗ owns (c : Thread nD τ) (Memref.whole cc0_scratch0) fullShare x14
    ∗ owns (c : Thread nD τ) (Memref.whole cc0_scratch1) fullShare x15
    ∗ owns (c : Thread nD τ) (Memref.whole cc0_scratch2) fullShare x16
    ∗ owns (c : Thread nD τ) (Memref.whole cc0_scratch3) fullShare x17
    ∗ owns (c : Thread nD τ) (Memref.whole cc0_scratch4) fullShare x18
    ∗ owns (c : Thread nD τ) (Memref.whole cc0_scratch5) fullShare x19
    ∗ owns (c : Thread nD τ) (Memref.whole cc0_scratch6) fullShare x20
    ∗ owns (c : Thread nD τ) (Memref.whole cc0_scratch7) fullShare x21
    ∗ owns (c : Thread nD τ) (Memref.whole cc0_scratch8) fullShare x22) ∗ ∃ r, prngReg c r)

theorem scratch_in (c : Dev nD) : Pipeline.ΦA spec0 c ⊢ scratch m c 0 := by
  unfold Pipeline.ΦA scratch
  rw [scopedRest0_eq]
  simp only [← owns_whole]
  iintro ⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩⟩, Hp⟩
  isplitr [Hp]
  · iexists s0; iexists s1; iexists s2; iexists s3; iexists s4; iexists s5; iexists s6; iexists s7; iexists s8
    isplitr
    · ipureintro; intro s hs; omega
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact S8
  · iexact Hp

theorem scratch_out (c : Dev nD) (n : ℕ) : scratch m c n ⊢ Pipeline.ΦA spec0 c := by
  unfold Pipeline.ΦA scratch
  rw [scopedRest0_eq]
  simp only [← owns_whole]
  iintro ⟨⟨%s0, %s1, %s2, %s3, %s4, %s5, %s6, %s7, %s8, %hc, S0, S1, S2, S3, S4, S5, S6, S7, S8⟩, Hp⟩
  isplitr [Hp]
  · isplitl [S0]; · iexists s0; iexact S0
    isplitl [S1]; · iexists s1; iexact S1
    isplitl [S2]; · iexists s2; iexact S2
    isplitl [S3]; · iexists s3; iexact S3
    isplitl [S4]; · iexists s4; iexact S4
    isplitl [S5]; · iexists s5; iexact S5
    isplitl [S6]; · iexists s6; iexact S6
    isplitl [S7]; · iexists s7; iexact S7
    iexists s8; iexact S8
  · iexact Hp

def datV (_ : Fin 1) (c : Dev nD) : Dat τ (Elt Ideal) Unit ℕ (UR sig nD τ) ℕ cfg0 c where
  A := (dats m 0 c).A
  after := (dats m 0 c).after
  Φ t := scratch m c t.val
  q _ := fullShare
  owed _ := 0

theorem datV_A (c : Dev nD) (w : Fin cfg0.W) : (datV m 0 c).A w = V m c (Pipeline.arrRef spec0 w) := A_eq m c w
theorem v_after_0 (c : Dev nD) (t : Fin cfg0.N) : (datV m 0 c).after 0 t = iblk m c 0 t := after_0 m c t
theorem v_after_1 (c : Dev nD) (t : Fin cfg0.N) : (datV m 0 c).after 1 t = iblk m c 1 t := after_1 m c t
theorem v_after_2 (c : Dev nD) (t : Fin cfg0.N) : (datV m 0 c).after 2 t = iblk m c 2 t := after_2 m c t
theorem v_after_3 (c : Dev nD) (t : Fin cfg0.N) : (datV m 0 c).after 3 t = iblk m c 3 t := after_3 m c t
theorem v_after_4 (c : Dev nD) (t : Fin cfg0.N) : (datV m 0 c).after 4 t = iblk m c 4 t := after_4 m c t
theorem v_after_5 (c : Dev nD) (t : Fin cfg0.N) : (datV m 0 c).after 5 t = iblk m c 5 t := after_5 m c t
theorem v_after_6 (c : Dev nD) (t : Fin cfg0.N) : (datV m 0 c).after 6 t = iblk m c 6 t := after_6 m c t
theorem v_before_0 (c : Dev nD) (t : Fin cfg0.N) (d) : (datV m 0 c).before 0 t d = iblk m c 0 t :=
  before0_0_of m (datV m 0 c) (datV_A m c 0) (v_after_0 m c) t d
theorem v_before_1 (c : Dev nD) (t : Fin cfg0.N) (d) : (datV m 0 c).before 1 t d = iblk m c 1 t :=
  before0_1_of m (datV m 0 c) (datV_A m c 1) (v_after_1 m c) t d
theorem v_before_2 (c : Dev nD) (t : Fin cfg0.N) (d) : (datV m 0 c).before 2 t d = iblk m c 2 t :=
  before0_2_of m (datV m 0 c) (datV_A m c 2) (v_after_2 m c) t d
theorem v_before_3 (c : Dev nD) (t : Fin cfg0.N) (d) : (datV m 0 c).before 3 t d = iblk m c 3 t :=
  before0_3_of m (datV m 0 c) (datV_A m c 3) (v_after_3 m c) t d
theorem v_before_4 (c : Dev nD) (t : Fin cfg0.N) (d) : (datV m 0 c).before 4 t d = iblk m c 4 t :=
  before0_4_of m (datV m 0 c) (datV_A m c 4) (v_after_4 m c) t d
theorem v_before_5 (c : Dev nD) (t : Fin cfg0.N) (d) : (datV m 0 c).before 5 t d = iblk m c 5 t :=
  before0_5_of m (datV m 0 c) (datV_A m c 5) (v_after_5 m c) t d
theorem v_before_6 (c : Dev nD) (t : Fin cfg0.N) (d) : (datV m 0 c).before 6 t d = iblk m c 6 t :=
  before0_6_of m (datV m 0 c) (datV_A m c 6) (v_after_6 m c) t d

/-- What the body may find in an output window. -/
abbrev found (c : Dev nD) (w : Fin cfg0.W) (t : Fin cfg0.N) (X : (cfg0.win w).block.Idx → Elt Ideal (cfg0.win w).elt) : Prop :=
  ((datV m 0 c).toRRel forgets (leftBy m c)).Finds w t X

/-- What the last step of a row finds in the windows of the quantised queries is what the step before left. -/
theorem iblk_prev (c : Dev nD) (t : Fin cfg0.N) (y : t.val % 32 = 31) : iblk m c 0 t = iblk m c 0 (prev t) := by
  have e : ∀ t : Fin cfg0.N, t.val % 32 = 31 → win0_0.index t = win0_0.index (prev t) :=
    (by decide +kernel : ∀ t : Fin grid0.N, t.val % 32 = 31 → win0_0.index t = win0_0.index (⟨t.val - 1, lt_of_le_of_lt (Nat.sub_le _ _) t.isLt⟩ : Fin grid0.N))
  funext z
  show V m c main_arg0 ((win0_0.blk t).view.emb z) = V m c main_arg0 ((win0_0.blk (prev t)).view.emb z)
  refine congrArg (V m c main_arg0) (funext fun a => Fin.ext ?_)
  refine (Window.rect_emb_val win0_0 t _ a).trans (Eq.trans ?_ (Window.rect_emb_val win0_0 (prev t) _ a).symm)
  rw [e t y]

theorem flush_8 : ∀ t : Fin cfg0.N, t.val % 32 = 31 → ¬(cfg0.win 8).flush (prev t) = true := (by decide +kernel : ∀ t : Fin grid0.N, _)
theorem found_8 (c : Dev nD) (t : Fin cfg0.N) (y : t.val % 32 = 31) (X) (h : found m c 8 t X) : P8 m c t X := by
  have e : ((datV m 0 c).toRRel forgets (leftBy m c)).Leaves 8 (prev t) X := by
    refine ((Pipeline.RDat.finds_of_pos _ (w := 8) (t := t) ?_ (by omega) X).mp h).resolve_left ?_
    · rfl
    · exact flush_8 t y
  have e' : P8 m c (prev t) X := Dat.toRRel_leaves (datV m 0 c) (w := 8) rfl e
  unfold P8 at e' ⊢
  rw [e', iblk_prev m c t y]

theorem flush_9 : ∀ t : Fin cfg0.N, t.val % 32 = 31 → ¬(cfg0.win 9).flush (prev t) = true := (by decide +kernel : ∀ t : Fin grid0.N, _)
theorem found_9 (c : Dev nD) (t : Fin cfg0.N) (y : t.val % 32 = 31) (X) (h : found m c 9 t X) : P9 m c t X := by
  have e : ((datV m 0 c).toRRel forgets (leftBy m c)).Leaves 9 (prev t) X := by
    refine ((Pipeline.RDat.finds_of_pos _ (w := 9) (t := t) ?_ (by omega) X).mp h).resolve_left ?_
    · rfl
    · exact flush_9 t y
  have e' : P9 m c (prev t) X := Dat.toRRel_leaves (datV m 0 c) (w := 9) rfl e
  unfold P9 at e' ⊢
  rw [e', iblk_prev m c t y]

theorem flush_10 : ∀ t : Fin cfg0.N, t.val % 32 = 31 → ¬(cfg0.win 10).flush (prev t) = true := (by decide +kernel : ∀ t : Fin grid0.N, _)
theorem found_10 (c : Dev nD) (t : Fin cfg0.N) (y : t.val % 32 = 31) (X) (h : found m c 10 t X) : P10 m c t X := by
  have e : ((datV m 0 c).toRRel forgets (leftBy m c)).Leaves 10 (prev t) X := by
    refine ((Pipeline.RDat.finds_of_pos _ (w := 10) (t := t) ?_ (by omega) X).mp h).resolve_left ?_
    · rfl
    · exact flush_10 t y
  have e' : P10 m c (prev t) X := Dat.toRRel_leaves (datV m 0 c) (w := 10) rfl e
  unfold P10 at e' ⊢
  rw [e', iblk_prev m c t y]

/-- What the body is called with at point `t`, -/
def preV (c : Dev nD) (t : Fin cfg0.N) : sProp 𝕄 :=
  iprop((datV m 0 c).Φ t.castSucc ∗ (datV m 0 c).owesAt () t.castSucc
    ∗ (∃ d, owns (c : Thread nD τ) (ms0 t) fullShare ((datV m 0 c).before 0 t d))
    ∗ (∃ d, owns (c : Thread nD τ) (ms1 t) fullShare ((datV m 0 c).before 1 t d))
    ∗ (∃ d, owns (c : Thread nD τ) (ms2 t) fullShare ((datV m 0 c).before 2 t d))
    ∗ (∃ d, owns (c : Thread nD τ) (ms3 t) fullShare ((datV m 0 c).before 3 t d))
    ∗ (∃ d, owns (c : Thread nD τ) (ms4 t) fullShare ((datV m 0 c).before 4 t d))
    ∗ (∃ d, owns (c : Thread nD τ) (ms5 t) fullShare ((datV m 0 c).before 5 t d))
    ∗ (∃ d, owns (c : Thread nD τ) (ms6 t) fullShare ((datV m 0 c).before 6 t d))
    ∗ (∃ Y, ⌜found m c 7 t Y⌝ ∗ owns (c : Thread nD τ) (ms7 t) fullShare Y)
    ∗ (∃ Y, ⌜found m c 8 t Y⌝ ∗ owns (c : Thread nD τ) (ms8 t) fullShare Y)
    ∗ (∃ Y, ⌜found m c 9 t Y⌝ ∗ owns (c : Thread nD τ) (ms9 t) fullShare Y)
    ∗ (∃ Y, ⌜found m c 10 t Y⌝ ∗ owns (c : Thread nD τ) (ms10 t) fullShare Y))

/-- and what it returns. -/
def postV (c : Dev nD) (t : Fin cfg0.N) : sProp 𝕄 :=
  iprop((datV m 0 c).Φ t.succ ∗ (datV m 0 c).owesAt () t.succ
    ∗ owns (c : Thread nD τ) (ms0 t) fullShare ((datV m 0 c).after 0 t)
    ∗ owns (c : Thread nD τ) (ms1 t) fullShare ((datV m 0 c).after 1 t)
    ∗ owns (c : Thread nD τ) (ms2 t) fullShare ((datV m 0 c).after 2 t)
    ∗ owns (c : Thread nD τ) (ms3 t) fullShare ((datV m 0 c).after 3 t)
    ∗ owns (c : Thread nD τ) (ms4 t) fullShare ((datV m 0 c).after 4 t)
    ∗ owns (c : Thread nD τ) (ms5 t) fullShare ((datV m 0 c).after 5 t)
    ∗ owns (c : Thread nD τ) (ms6 t) fullShare ((datV m 0 c).after 6 t)
    ∗ (∃ X, ⌜P7 m c t X⌝ ∗ owns (c : Thread nD τ) (ms7 t) fullShare X)
    ∗ (∃ X, ⌜P8 m c t X⌝ ∗ owns (c : Thread nD τ) (ms8 t) fullShare X)
    ∗ (∃ X, ⌜P9 m c t X⌝ ∗ owns (c : Thread nD τ) (ms9 t) fullShare X)
    ∗ (∃ X, ⌜P10 m c t X⌝ ∗ owns (c : Thread nD τ) (ms10 t) fullShare X))

set_option maxHeartbeats 1600000 in
theorem valueBodyA (c : Dev nD) (t : Fin cfg0.N) (y : t.val % 32 = 0) (h1 : k0_cond1 (grid0.coords t) = 1#1) (h2 : ¬k0_cond2 (grid0.coords t) = 1#1) (h3 : ¬k0_cond3 (grid0.coords t) = 1#1) (h4 : k0_cond4 (grid0.coords t) = 1#1) :
    preV m c t ⊢ wp frame (wpE (defs₀ (F := Ideal)) Variants.none c none) Set.univ (bodyAt0 t) (fun _ => postV m c t) := by
  unfold preV postV bodyAt0
  simp only [v_before_0, v_before_1, v_before_2, v_before_3, v_before_4, v_before_5, v_before_6]
  rw [show (datV m 0 c).owesAt () t.succ = (datV m 0 c).owesAt () t.castSucc from rfl,
    show (datV m 0 c).Φ t.castSucc = scratch m c t.val from rfl, show (datV m 0 c).Φ t.succ = scratch m c (t.val + 1) from rfl,
    v_after_0, v_after_1, v_after_2, v_after_3, v_after_4, v_after_5, v_after_6]
  unfold scratch
  iintro ⟨⟨⟨%x14, %x15, %x16, %x17, %x18, %x19, %x20, %x21, %x22, %hc, S0, S1, S2, S3, S4, S5, S6, S7, S8⟩, Hp⟩, Ho, ⟨%d0, H0⟩, ⟨%d1, H1⟩, ⟨%d2, H2⟩, ⟨%d3, H3⟩, ⟨%d4, H4⟩, ⟨%d5, H5⟩, ⟨%d6, H6⟩, ⟨%d7, %g7, H7⟩, ⟨%d8, %g8, H8⟩, ⟨%d9, %g9, H9⟩, ⟨%d10, %g10, H10⟩⟩
  iapply (specA (F := Ideal) c (grid0.coords t) _ _ _ _ _ _ _ _ _ _ _ _ _ _ _ _ _ _ _ _ _ _ _ _ _ _ _ _ _ _ _ _ _ _ _ _ _ _ _ _ h1 h2 h3 h4 (iblk m c 0 t) (iblk m c 1 t) (iblk m c 2 t) (iblk m c 3 t) (iblk m c 4 t) (iblk m c 5 t) (iblk m c 6 t) d7 d8 d9 d10 x14 x15 x16 x17 x18 x19 x20 x21 x22 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iintro ⟨H0, H1, H2, H3, H4, H5, H6, H7, H8, H9, H10, S0, S1, S2, S3, S4, S5, S6, S7, S8⟩
  isplitl [S0 S1 S2 S3 S4 S5 S6 S7 S8 Hp]
  · isplitr [Hp]
    · iexists _; iexists _; iexists _; iexists _; iexists _; iexists _; iexists _; iexists _; iexists _
      isplitr; swap
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        iexact S8
      · ipureintro
        intro s hs hn
        have e : (⟨t.val + 1 - 1, hn⟩ : Fin cfg0.N) = t := Fin.ext (by simp)
        have es : (grid0.coords t 2).val = s.val := by rw [step_2]; omega
        rw [e]
        exact ⟨⟨x14, leftA14_eq (s := s) (hs := es) ..⟩, leftA18_eq (s := s) (hs := es) .., leftA20_eq (s := s) (hs := es) ..⟩
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap
    · iexact H7
    · ipureintro
      intro s hs; omega
  isplitl [H8]
  · iexists _; isplitr; swap
    · iexact H8
    · ipureintro
      exact leftA11_eq ..
  isplitl [H9]
  · iexists _; isplitr; swap
    · iexact H9
    · ipureintro
      exact leftA12_eq ..
  iexists _; isplitr; swap
  · iexact H10
  · ipureintro
    exact leftA13_eq ..

set_option maxHeartbeats 1600000 in
theorem valueBodyB (c : Dev nD) (t : Fin cfg0.N) (y : 0 < t.val % 32 ∧ t.val % 32 < 31) (h1 : k0_cond1 (grid0.coords t) = 1#1) (h2 : ¬k0_cond2 (grid0.coords t) = 1#1) (h3 : k0_cond3 (grid0.coords t) = 1#1) (h4 : k0_cond4 (grid0.coords t) = 1#1) :
    preV m c t ⊢ wp frame (wpE (defs₀ (F := Ideal)) Variants.none c none) Set.univ (bodyAt0 t) (fun _ => postV m c t) := by
  unfold preV postV bodyAt0
  simp only [v_before_0, v_before_1, v_before_2, v_before_3, v_before_4, v_before_5, v_before_6]
  rw [show (datV m 0 c).owesAt () t.succ = (datV m 0 c).owesAt () t.castSucc from rfl,
    show (datV m 0 c).Φ t.castSucc = scratch m c t.val from rfl, show (datV m 0 c).Φ t.succ = scratch m c (t.val + 1) from rfl,
    v_after_0, v_after_1, v_after_2, v_after_3, v_after_4, v_after_5, v_after_6]
  unfold scratch
  iintro ⟨⟨⟨%x14, %x15, %x16, %x17, %x18, %x19, %x20, %x21, %x22, %hc, S0, S1, S2, S3, S4, S5, S6, S7, S8⟩, Hp⟩, Ho, ⟨%d0, H0⟩, ⟨%d1, H1⟩, ⟨%d2, H2⟩, ⟨%d3, H3⟩, ⟨%d4, H4⟩, ⟨%d5, H5⟩, ⟨%d6, H6⟩, ⟨%d7, %g7, H7⟩, ⟨%d8, %g8, H8⟩, ⟨%d9, %g9, H9⟩, ⟨%d10, %g10, H10⟩⟩
  iapply (specB (F := Ideal) c (grid0.coords t) _ _ _ _ _ _ _ _ _ _ _ _ _ _ _ _ _ _ _ _ _ _ _ _ _ _ _ _ _ _ _ _ _ _ _ _ _ _ _ _ h1 h2 h3 h4 (iblk m c 0 t) (iblk m c 1 t) (iblk m c 2 t) (iblk m c 3 t) (iblk m c 4 t) (iblk m c 5 t) (iblk m c 6 t) d7 d8 d9 d10 x14 x15 x16 x17 x18 x19 x20 x21 x22 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iintro ⟨H0, H1, H2, H3, H4, H5, H6, H7, H8, H9, H10, S0, S1, S2, S3, S4, S5, S6, S7, S8⟩
  isplitl [S0 S1 S2 S3 S4 S5 S6 S7 S8 Hp]
  · isplitr [Hp]
    · iexists _; iexists _; iexists _; iexists _; iexists _; iexists _; iexists _; iexists _; iexists _
      isplitr; swap
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        iexact S8
      · ipureintro
        intro s hs hn
        have e : (⟨t.val + 1 - 1, hn⟩ : Fin cfg0.N) = t := Fin.ext (by simp)
        have es : (grid0.coords t 2).val = s.val := by rw [step_2]; omega
        rw [e]
        exact ⟨⟨x14, leftB14_eq (s := s) (hs := es) ..⟩, leftB18_eq (s := s) (hs := es) .., leftB20_eq (s := s) (hs := es) ..⟩
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap
    · iexact H7
    · ipureintro
      intro s hs
      obtain ⟨⟨z, e14⟩, e18, e20⟩ := hc s hs (by omega)
      subst e14 e18 e20
      have l : s.val + 1 < 31 := by omega
      refine (leftB10_eq (s := ⟨s.val + 1, l⟩) (hs := by rw [step_2]; exact hs) ..).trans ?_
      exact n10_carried m _ _ _ _ c (prev t) z _ _ _ s
  isplitl [H8]
  · iexists _; isplitr; swap
    · iexact H8
    · ipureintro
      exact leftB11_eq ..
  isplitl [H9]
  · iexists _; isplitr; swap
    · iexact H9
    · ipureintro
      exact leftB12_eq ..
  iexists _; isplitr; swap
  · iexact H10
  · ipureintro
    exact leftB13_eq ..

set_option maxHeartbeats 1600000 in
theorem valueBodyC (c : Dev nD) (t : Fin cfg0.N) (y : t.val % 32 = 31) (h1 : ¬k0_cond1 (grid0.coords t) = 1#1) (h2 : k0_cond2 (grid0.coords t) = 1#1) (h3 : k0_cond3 (grid0.coords t) = 1#1) (h4 : ¬k0_cond4 (grid0.coords t) = 1#1) :
    preV m c t ⊢ wp frame (wpE (defs₀ (F := Ideal)) Variants.none c none) Set.univ (bodyAt0 t) (fun _ => postV m c t) := by
  unfold preV postV bodyAt0
  simp only [v_before_0, v_before_1, v_before_2, v_before_3, v_before_4, v_before_5, v_before_6]
  rw [show (datV m 0 c).owesAt () t.succ = (datV m 0 c).owesAt () t.castSucc from rfl,
    show (datV m 0 c).Φ t.castSucc = scratch m c t.val from rfl, show (datV m 0 c).Φ t.succ = scratch m c (t.val + 1) from rfl,
    v_after_0, v_after_1, v_after_2, v_after_3, v_after_4, v_after_5, v_after_6]
  unfold scratch
  iintro ⟨⟨⟨%x14, %x15, %x16, %x17, %x18, %x19, %x20, %x21, %x22, %hc, S0, S1, S2, S3, S4, S5, S6, S7, S8⟩, Hp⟩, Ho, ⟨%d0, H0⟩, ⟨%d1, H1⟩, ⟨%d2, H2⟩, ⟨%d3, H3⟩, ⟨%d4, H4⟩, ⟨%d5, H5⟩, ⟨%d6, H6⟩, ⟨%d7, %g7, H7⟩, ⟨%d8, %g8, H8⟩, ⟨%d9, %g9, H9⟩, ⟨%d10, %g10, H10⟩⟩
  iapply (specC (F := Ideal) c (grid0.coords t) _ _ _ _ _ _ _ _ _ _ _ _ _ _ _ _ _ _ _ _ _ _ _ _ _ _ _ _ _ _ _ _ _ _ _ _ _ _ _ _ h1 h2 h3 h4 (iblk m c 0 t) (iblk m c 1 t) (iblk m c 2 t) (iblk m c 3 t) (iblk m c 4 t) (iblk m c 5 t) (iblk m c 6 t) d7 d8 d9 d10 x14 x15 x16 x17 x18 x19 x20 x21 x22 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iintro ⟨H0, H1, H2, H3, H4, H5, H6, H7, H8, H9, H10, S0, S1, S2, S3, S4, S5, S6, S7, S8⟩
  isplitl [S0 S1 S2 S3 S4 S5 S6 S7 S8 Hp]
  · isplitr [Hp]
    · iexists _; iexists _; iexists _; iexists _; iexists _; iexists _; iexists _; iexists _; iexists _
      isplitr; swap
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        iexact S8
      · ipureintro
        intro s hs; omega
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap
    · iexact H7
    · ipureintro
      intro s hs
      obtain ⟨⟨z, e14⟩, e18, e20⟩ := hc s hs (by omega)
      subst e14 e18 e20
      have l : s.val + 1 = 31 := by omega
      refine (leftC10_eq (hs := by rw [step_2]; exact y) ..).trans ?_
      rw [← l]
      exact n10_carried m _ _ _ _ c (prev t) z _ _ _ s
  isplitl [H8]
  · iexists _; isplitr; swap
    · iexact H8
    · ipureintro
      exact (congrArg (fun X => P8 m c t X) (leftC11_eq ..)).mpr (found_8 m c t y _ g8)
  isplitl [H9]
  · iexists _; isplitr; swap
    · iexact H9
    · ipureintro
      exact (congrArg (fun X => P9 m c t X) (leftC12_eq ..)).mpr (found_9 m c t y _ g9)
  iexists _; isplitr; swap
  · iexact H10
  · ipureintro
    exact (congrArg (fun X => P10 m c t X) (leftC13_eq ..)).mpr (found_10 m c t y _ g10)

theorem value_body (c : Dev nD) (t : Fin cfg0.N) :
    preV m c t ⊢ wp frame (wpE (defs₀ (F := Ideal)) Variants.none c none) Set.univ (bodyAt0 t) (fun _ => postV m c t) := by
  have l : t.val % 32 < 32 := Nat.mod_lt _ (by decide)
  by_cases z : t.val % 32 = 0
  · exact valueBodyA m c t z ((cond_1 t).mpr (by omega)) (fun h => by have := (cond_2 t).mp h; omega) (fun h => by have := (cond_3 t).mp h; omega) ((cond_4 t).mpr (by omega))
  by_cases y : t.val % 32 = 31
  · exact valueBodyC m c t y (fun h => by have := (cond_1 t).mp h; omega) ((cond_2 t).mpr y) ((cond_3 t).mpr (by omega)) (fun h => by have := (cond_4 t).mp h; omega)
  · exact valueBodyB m c t ⟨by omega, by omega⟩ ((cond_1 t).mpr (by omega)) (fun h => by have := (cond_2 t).mp h; omega) ((cond_3 t).mpr (by omega)) ((cond_4 t).mpr (by omega))

theorem value_obligation (c : Dev nD) :
    Pipeline.BodyObligationRel (datV m 0 c) (defs₀ (F := Ideal)) Variants.none () Set.univ forgets (leftBy m c) := fun t => by
  rw [bigSep_W0, bigSep_W0, defs₀_row]
  exact triple_restated (value_body m c t) rfl .rfl fun _ => .rfl

set_option backward.isDefEq.respectTransparency.types false in
/-- The run: each output array ends at the blocks its windows held, the argument arrays as launched. -/
theorem run_value : θ_run defs (onTc (τ := τ) (main (F := Ideal))) (s₀ m ρ) (fun r =>
    (Pipeline.RDat.FramePost (cfgs 0) (fun c => (datV m 0 c).toRRel forgets (leftBy m c)) (V m)) r ∧ r.2.sem = fun _ => 0) :=
  Pipeline.RDat.θ_run_frame_track (Q' := _) cfgs (0 : Fin 1) launch0 defs₀ Variants.none (fun c => (datV m 0 c).toRRel forgets (leftBy m c)) m ρ main
    (hbody := fun c => (value_obligation m c).toRRel) (hshare := fun c => (datV m 0 c).share_full fun _ => rfl)
    (howed := fun _ _ => rfl) (V := V m) (hmain := hmain m Variants.none) (hA := datV_A m)
    (hin := fun c => scratch_in m c) (hout := fun c => scratch_out m c _)

end Cert.KernelIdeal.AttnV

end
-- ==== Proof.Arrays.lean ====
/- The arrays after the kernel's run: each window's blocks placed in its array. -/
module

public import proofs.«01_k».proof.Proof.Value
public import Idealize.ShloMosaic.Lib.Pipeline.ValueKit

@[expose] public section

set_option maxRecDepth 16384

noncomputable section

namespace Cert.KernelIdeal.AttnV

open Cert.KernelIdeal.Gen
open Cert.KernelIdeal.Attn hiding frame
open Idealize.ShloMosaic.Pointwise
open Idealize.ShloMosaic Idealize.ShloMosaic.TcCoe Idealize.ShloMosaic.Tactic
open Idealize.ShloMosaic.Pipeline (Dat Cfg Window BodyObligation cellOf)
open Idealize.SL.Sem

variable (m : (ℓ : Loc nD τ sig) → Buf (Elt Ideal) ℓ) (ρ : Dev nD → PrngReg)

/-- The batch, the key head and the block of queries of a point. -/
abbrev bt (t : Fin cfg0.N) : Fin 2 := ⟨t.val / 256, by have : t.val < 512 := t.isLt; omega⟩
abbrev kt (t : Fin cfg0.N) : Fin 8 := ⟨t.val / 32 % 8, by omega⟩
abbrev st (t : Fin cfg0.N) : Fin 31 := ⟨min (t.val % 32) 30, by omega⟩
/-- The block of the output of a point. -/
abbrev ot (t : Fin cfg0.N) : Fin 31 := ⟨t.val % 32 - 1, by omega⟩

theorem index_0 : ∀ t : Fin cfg0.N, win0_0.index t = ![t.val / 256, min (t.val % 32) 30, t.val / 32 % 8] := (by decide +kernel : ∀ t : Fin grid0.N, _)

theorem emb_0 (t : Fin cfg0.N) (l : Fin 256) (x : Fin 640) :
    (win0_0.blk t).view.emb (ix3 0 l x) = ix3 (bt t) ⟨(st t).val * 256 + l.val, by omega⟩ ⟨(kt t).val * 640 + x.val, by omega⟩ := by
  funext a
  refine Fin.ext ((Window.rect_emb_val win0_0 t _ a).trans ?_)
  rw [index_0]
  fin_cases a <;> simp [ix3, ix4, ix5] <;> rfl

theorem read_0 (c : Dev nD) (t : Fin cfg0.N) (l : Fin 256) (x : Fin 640) :
    (iblk m c 0 t (ix3 0 l x) : EReal) = (m ((c : Thread nD τ).loc main_arg0) : Vec Ideal S2x7936x5120 .bf16) (ix3 (bt t) ⟨(st t).val * 256 + l.val, by omega⟩ ⟨(kt t).val * 640 + x.val, by omega⟩) := by
  show iblk m c 0 t (ix3 0 l x) = V m c main_arg0 _
  blk_simp [iblk]
  exact congrArg _ (emb_0 t l x)

theorem index_1 : ∀ t : Fin cfg0.N, win0_1.index t = ![t.val / 256, 0, t.val / 32 % 8] := (by decide +kernel : ∀ t : Fin grid0.N, _)

theorem emb_1 (t : Fin cfg0.N) (x : Fin 7936) (d : Fin 128) :
    (win0_1.blk t).view.emb (ix3 0 x d) = ix3 (bt t) x ⟨(kt t).val * 128 + d.val, by omega⟩ := by
  funext a
  refine Fin.ext ((Window.rect_emb_val win0_1 t _ a).trans ?_)
  rw [index_1]
  fin_cases a <;> simp [ix3, ix4, ix5] <;> rfl

theorem read_1 (c : Dev nD) (t : Fin cfg0.N) (x : Fin 7936) (d : Fin 128) :
    (iblk m c 1 t (ix3 0 x d) : EReal) = (m ((c : Thread nD τ).loc main_arg1) : Vec Ideal S2x7936x1024 .fp8e4m3) (ix3 (bt t) x ⟨(kt t).val * 128 + d.val, by omega⟩) := by
  show iblk m c 1 t (ix3 0 x d) = V m c main_arg1 _
  blk_simp [iblk]
  exact congrArg _ (emb_1 t x d)

theorem index_2 : ∀ t : Fin cfg0.N, win0_2.index t = ![t.val / 256, t.val / 32 % 8, 0, 0] := (by decide +kernel : ∀ t : Fin grid0.N, _)

theorem emb_2 (t : Fin cfg0.N) (x : Fin 7936) (d : Fin 128) :
    (win0_2.blk t).view.emb (ix4 0 0 x d) = ix4 (bt t) (kt t) x d := by
  funext a
  refine Fin.ext ((Window.rect_emb_val win0_2 t _ a).trans ?_)
  rw [index_2]
  fin_cases a <;> simp [ix3, ix4, ix5] <;> rfl

theorem read_2 (c : Dev nD) (t : Fin cfg0.N) (x : Fin 7936) (d : Fin 128) :
    (iblk m c 2 t (ix4 0 0 x d) : EReal) = (m ((c : Thread nD τ).loc main_arg2) : Vec Ideal S2x8x7936x128 .bf16) (ix4 (bt t) (kt t) x d) := by
  show iblk m c 2 t (ix4 0 0 x d) = V m c main_arg2 _
  blk_simp [iblk]
  exact congrArg _ (emb_2 t x d)

theorem index_3 : ∀ t : Fin cfg0.N, win0_3.index t = ![t.val / 256, t.val / 32 % 8, 0, 0, 0] := (by decide +kernel : ∀ t : Fin grid0.N, _)

theorem emb_3 (t : Fin cfg0.N) (b : Fin 31) (j : Fin 4) (x : Fin 128) :
    (win0_3.blk t).view.emb (ix5 0 0 b j x) = ix5 (bt t) (kt t) b j x := by
  funext a
  refine Fin.ext ((Window.rect_emb_val win0_3 t _ a).trans ?_)
  rw [index_3]
  fin_cases a <;> simp [ix3, ix4, ix5] <;> rfl

theorem read_3 (c : Dev nD) (t : Fin cfg0.N) (b : Fin 31) (j : Fin 4) (x : Fin 128) :
    (iblk m c 3 t (ix5 0 0 b j x) : EReal) = (m ((c : Thread nD τ).loc main_arg3) : Vec Ideal S2x8x31x4x128 .f32) (ix5 (bt t) (kt t) b j x) := by
  show iblk m c 3 t (ix5 0 0 b j x) = V m c main_arg3 _
  blk_simp [iblk]
  exact congrArg _ (emb_3 t b j x)

theorem index_4 : ∀ t : Fin cfg0.N, win0_4.index t = ![t.val / 256, t.val / 32 % 8, 0, 0, 0] := (by decide +kernel : ∀ t : Fin grid0.N, _)

theorem emb_4 (t : Fin cfg0.N) (b : Fin 31) (d : Fin 128) (x : Fin 256) :
    (win0_4.blk t).view.emb (ix5 0 0 b d x) = ix5 (bt t) (kt t) b d x := by
  funext a
  refine Fin.ext ((Window.rect_emb_val win0_4 t _ a).trans ?_)
  rw [index_4]
  fin_cases a <;> simp [ix3, ix4, ix5] <;> rfl

theorem read_4 (c : Dev nD) (t : Fin cfg0.N) (b : Fin 31) (d : Fin 128) (x : Fin 256) :
    (iblk m c 4 t (ix5 0 0 b d x) : EReal) = (m ((c : Thread nD τ).loc main_arg4) : Vec Ideal S2x8x31x128x256 .fp8e4m3) (ix5 (bt t) (kt t) b d x) := by
  show iblk m c 4 t (ix5 0 0 b d x) = V m c main_arg4 _
  blk_simp [iblk]
  exact congrArg _ (emb_4 t b d x)

theorem index_5 : ∀ t : Fin cfg0.N, win0_5.index t = ![t.val / 256, t.val / 32 % 8, 0, 0] := (by decide +kernel : ∀ t : Fin grid0.N, _)

theorem emb_5 (t : Fin cfg0.N) (d : Fin 128) :
    (win0_5.blk t).view.emb (ix4 0 0 0 d) = ix4 (bt t) (kt t) 0 d := by
  funext a
  refine Fin.ext ((Window.rect_emb_val win0_5 t _ a).trans ?_)
  rw [index_5]
  fin_cases a <;> simp [ix3, ix4, ix5] <;> rfl

theorem read_5 (c : Dev nD) (t : Fin cfg0.N) (d : Fin 128) :
    (iblk m c 5 t (ix4 0 0 0 d) : EReal) = (m ((c : Thread nD τ).loc main_arg5) : Vec Ideal S2x8x1x128 .f32) (ix4 (bt t) (kt t) 0 d) := by
  show iblk m c 5 t (ix4 0 0 0 d) = V m c main_arg5 _
  blk_simp [iblk]
  exact congrArg _ (emb_5 t d)

theorem index_6 : ∀ t : Fin cfg0.N, win0_6.index t = ![t.val / 256, t.val / 32 % 8, 0, 0] := (by decide +kernel : ∀ t : Fin grid0.N, _)

theorem emb_6 (t : Fin cfg0.N) (d : Fin 128) :
    (win0_6.blk t).view.emb (ix4 0 0 0 d) = ix4 (bt t) (kt t) 0 d := by
  funext a
  refine Fin.ext ((Window.rect_emb_val win0_6 t _ a).trans ?_)
  rw [index_6]
  fin_cases a <;> simp [ix3, ix4, ix5] <;> rfl

theorem read_6 (c : Dev nD) (t : Fin cfg0.N) (d : Fin 128) :
    (iblk m c 6 t (ix4 0 0 0 d) : EReal) = (m ((c : Thread nD τ).loc main_arg6) : Vec Ideal S2x8x1x128 .bf16) (ix4 (bt t) (kt t) 0 d) := by
  show iblk m c 6 t (ix4 0 0 0 d) = V m c main_arg6 _
  blk_simp [iblk]
  exact congrArg _ (emb_6 t d)

theorem index_7 : ∀ t : Fin cfg0.N, win0_7.index t = ![t.val / 256, t.val % 32 - 1, t.val / 32 % 8] := (by decide +kernel : ∀ t : Fin grid0.N, _)

theorem emb_7 (t : Fin cfg0.N) (l : Fin 256) (x : Fin 640) :
    (win0_7.blk t).view.emb (ix3 0 l x) = ix3 (bt t) ⟨(ot t).val * 256 + l.val, by omega⟩ ⟨(kt t).val * 640 + x.val, by omega⟩ := by
  funext a
  refine Fin.ext ((Window.rect_emb_val win0_7 t _ a).trans ?_)
  rw [index_7]
  fin_cases a <;> simp [ix3, ix4, ix5] <;> rfl

theorem arr_7 (after) (c : Dev nD) (h : ∀ t, (cfg0.win 7).flush t = true → P7 m c t (after 7 t)) (G : Vec Ideal S2x7936x5120 .bf16)
    (hG : ∀ (t : Fin cfg0.N) (l : Fin 256) (x : Fin 640), ∀ s : Fin 31, t.val % 32 = s.val + 1 → o10 m c t s (ix3 0 l x) = G (ix3 (bt t) ⟨(ot t).val * 256 + l.val, by omega⟩ ⟨(kt t).val * 640 + x.val, by omega⟩)) :
    (((datV m 0 c).toRRel forgets (leftBy m c)).withAfter after).arrAt 7 cfg0.N = G := by
  refine Dat.arrAt_eq_of_covers _ (7 : Fin cfg0.W) _ (by decide +kernel : (cfg0.win 7).Covers) (fun t hf y => ?_)
  blk_simp
  obtain ⟨u0, u1, u2, rfl⟩ : ∃ (u0 : Fin 1) (u1 : Fin 256) (u2 : Fin 640), y = ix3 u0 u1 u2 := ⟨y 0, y 1, y 2, eq_ix3 (n0 := 1) (n1 := 256) (n2 := 640) y⟩
  obtain rfl : u0 = 0 := Subsingleton.elim _ _
  have hp : 1 ≤ t.val % 32 := (by decide +kernel : ∀ t : Fin grid0.N, win0_7.flush t = true → 1 ≤ t.val % 32) t hf
  exact ((congrFun (h t hf (ot t) (by simp only []; omega)) _).trans (hG t u1 u2 (ot t) (by simp only []; omega))).trans (congrArg G (emb_7 t u1 u2).symm)

theorem index_8 : ∀ t : Fin cfg0.N, win0_8.index t = ![t.val / 256, min (t.val % 32) 30, t.val / 32 % 8] := (by decide +kernel : ∀ t : Fin grid0.N, _)

theorem emb_8 (t : Fin cfg0.N) (l : Fin 256) (x : Fin 640) :
    (win0_8.blk t).view.emb (ix3 0 l x) = ix3 (bt t) ⟨(st t).val * 256 + l.val, by omega⟩ ⟨(kt t).val * 640 + x.val, by omega⟩ := by
  funext a
  refine Fin.ext ((Window.rect_emb_val win0_8 t _ a).trans ?_)
  rw [index_8]
  fin_cases a <;> simp [ix3, ix4, ix5] <;> rfl

theorem arr_8 (after) (c : Dev nD) (h : ∀ t, (cfg0.win 8).flush t = true → P8 m c t (after 8 t)) (G : Vec Ideal S2x7936x5120 .fp8e4m3)
    (hG : ∀ (t : Fin cfg0.N) (l : Fin 256) (x : Fin 640), q11 (iblk m c 0 t) (ix3 0 l x) = G (ix3 (bt t) ⟨(st t).val * 256 + l.val, by omega⟩ ⟨(kt t).val * 640 + x.val, by omega⟩)) :
    (((datV m 0 c).toRRel forgets (leftBy m c)).withAfter after).arrAt 8 cfg0.N = G := by
  refine Dat.arrAt_eq_of_covers _ (8 : Fin cfg0.W) _ (by decide +kernel : (cfg0.win 8).Covers) (fun t hf y => ?_)
  blk_simp
  obtain ⟨u0, u1, u2, rfl⟩ : ∃ (u0 : Fin 1) (u1 : Fin 256) (u2 : Fin 640), y = ix3 u0 u1 u2 := ⟨y 0, y 1, y 2, eq_ix3 (n0 := 1) (n1 := 256) (n2 := 640) y⟩
  obtain rfl : u0 = 0 := Subsingleton.elim _ _
  exact ((congrFun (h t hf) _).trans (hG t u1 u2)).trans (congrArg G (emb_8 t u1 u2).symm)

theorem index_9 : ∀ t : Fin cfg0.N, win0_9.index t = ![t.val / 256, t.val / 32 % 8, min (t.val % 32) 30, 0, 0] := (by decide +kernel : ∀ t : Fin grid0.N, _)

theorem emb_9 (t : Fin cfg0.N) (g : Fin 10) (x : Fin 128) :
    (win0_9.blk t).view.emb (ix5 0 0 0 g x) = ix5 (bt t) (kt t) (st t) g x := by
  funext a
  refine Fin.ext ((Window.rect_emb_val win0_9 t _ a).trans ?_)
  rw [index_9]
  fin_cases a <;> simp [ix3, ix4, ix5] <;> rfl

theorem arr_9 (after) (c : Dev nD) (h : ∀ t, (cfg0.win 9).flush t = true → P9 m c t (after 9 t)) (G : Vec Ideal S2x8x31x10x128 .f32)
    (hG : ∀ (t : Fin cfg0.N) (g : Fin 10) (x : Fin 128), q12 (iblk m c 0 t) (ix5 0 0 0 g x) = G (ix5 (bt t) (kt t) (st t) g x)) :
    (((datV m 0 c).toRRel forgets (leftBy m c)).withAfter after).arrAt 9 cfg0.N = G := by
  refine Dat.arrAt_eq_of_covers _ (9 : Fin cfg0.W) _ (by decide +kernel : (cfg0.win 9).Covers) (fun t hf y => ?_)
  blk_simp
  obtain ⟨u0, u1, u2, u3, u4, rfl⟩ : ∃ (u0 : Fin 1) (u1 : Fin 1) (u2 : Fin 1) (u3 : Fin 10) (u4 : Fin 128), y = ix5 u0 u1 u2 u3 u4 := ⟨y 0, y 1, y 2, y 3, y 4, eq_ix5 (n0 := 1) (n1 := 1) (n2 := 1) (n3 := 10) (n4 := 128) y⟩
  obtain rfl : u0 = 0 := Subsingleton.elim _ _
  obtain rfl : u1 = 0 := Subsingleton.elim _ _
  obtain rfl : u2 = 0 := Subsingleton.elim _ _
  exact ((congrFun (h t hf) _).trans (hG t u3 u4)).trans (congrArg G (emb_9 t u3 u4).symm)

theorem index_10 : ∀ t : Fin cfg0.N, win0_10.index t = ![t.val / 256, min (t.val % 32) 30, t.val / 32 % 8, 0, 0] := (by decide +kernel : ∀ t : Fin grid0.N, _)

theorem emb_10 (t : Fin cfg0.N) (n : Fin 2) (g : Fin 5) (d : Fin 128) :
    (win0_10.blk t).view.emb (ix5 0 n 0 g d) = ix5 (bt t) ⟨(st t).val * 2 + n.val, by omega⟩ (kt t) g d := by
  funext a
  refine Fin.ext ((Window.rect_emb_val win0_10 t _ a).trans ?_)
  rw [index_10]
  fin_cases a <;> simp [ix3, ix4, ix5] <;> rfl

theorem arr_10 (after) (c : Dev nD) (h : ∀ t, (cfg0.win 10).flush t = true → P10 m c t (after 10 t)) (G : Vec Ideal S2x62x8x5x128 .bf16)
    (hG : ∀ (t : Fin cfg0.N) (n : Fin 2) (g : Fin 5) (d : Fin 128), q13 (iblk m c 0 t) (ix5 0 n 0 g d) = G (ix5 (bt t) ⟨(st t).val * 2 + n.val, by omega⟩ (kt t) g d)) :
    (((datV m 0 c).toRRel forgets (leftBy m c)).withAfter after).arrAt 10 cfg0.N = G := by
  refine Dat.arrAt_eq_of_covers _ (10 : Fin cfg0.W) _ (by decide +kernel : (cfg0.win 10).Covers) (fun t hf y => ?_)
  blk_simp
  obtain ⟨u0, u1, u2, u3, u4, rfl⟩ : ∃ (u0 : Fin 1) (u1 : Fin 2) (u2 : Fin 1) (u3 : Fin 5) (u4 : Fin 128), y = ix5 u0 u1 u2 u3 u4 := ⟨y 0, y 1, y 2, y 3, y 4, eq_ix5 (n0 := 1) (n1 := 2) (n2 := 1) (n3 := 5) (n4 := 128) y⟩
  obtain rfl : u0 = 0 := Subsingleton.elim _ _
  obtain rfl : u2 = 0 := Subsingleton.elim _ _
  exact ((congrFun (h t hf) _).trans (hG t u1 u3 u4)).trans (congrArg G (emb_10 t u1 u3 u4).symm)

end Cert.KernelIdeal.AttnV
-- ==== Proof.Attention.lean ====
/- The results of the attention kernel: from inputs in range, it leaves in its four arrays what the reference computes. -/
module

public import proofs.«01_k».proof.Proof.Bridge
public import proofs.«01_k».proof.Proof.Arrays

@[expose] public section

set_option maxRecDepth 16384

noncomputable section

namespace Cert.KernelIdeal.AttnV

open Cert.KernelIdeal.Gen
open Cert.KernelIdeal.Attn hiding frame
open Cert.ReferenceIdeal.Spec
open Idealize.ShloMosaic.Pointwise
open Idealize.ShloMosaic Idealize.ShloMosaic.TcCoe Idealize.ShloMosaic.Tactic
open Idealize.ShloMosaic.Pipeline (Dat Cfg Window BodyObligation cellOf RDat)
open Idealize.SL.Sem

variable (m : (ℓ : Loc nD τ sig) → Buf (Elt Ideal) ℓ) (ρ : Dev nD → PrngReg)

/-- The arguments, as arrays. -/
abbrev X (c : Dev nD) : Vec Ideal S2x7936x5120 .bf16 := m ((c : Thread nD τ).loc main_arg0)
abbrev KC (c : Dev nD) : Vec Ideal S2x7936x1024 .fp8e4m3 := m ((c : Thread nD τ).loc main_arg1)
abbrev KW (c : Dev nD) : Vec Ideal S2x8x7936x128 .bf16 := m ((c : Thread nD τ).loc main_arg2)
abbrev KS (c : Dev nD) : Vec Ideal S2x8x31x4x128 .f32 := m ((c : Thread nD τ).loc main_arg3)
abbrev VT (c : Dev nD) : Vec Ideal S2x8x31x128x256 .fp8e4m3 := m ((c : Thread nD τ).loc main_arg4)
abbrev VS (c : Dev nD) : Vec Ideal S2x8x1x128 .f32 := m ((c : Thread nD τ).loc main_arg5)
abbrev MV (c : Dev nD) : Vec Ideal S2x8x1x128 .bf16 := m ((c : Thread nD τ).loc main_arg6)

/-- The attention's output, as the reference computes it. -/
abbrev outA (c : Dev nD) : Vec Ideal S2x7936x5120 .bf16 :=
  Cert.ReferenceIdeal.Gen.k0_pay1 (F := Ideal) (Cert.ReferenceIdeal.Gen.k0_pay13 (Cert.ReferenceIdeal.Gen.k0_pay10 (KS m c)) (scores (X m c) (KC m c) (KW m c)) (VT m c) (VS m c))
    (Cert.ReferenceIdeal.Gen.k0_pay14 (Cert.ReferenceIdeal.Gen.k0_pay10 (KS m c)) (scores (X m c) (KC m c) (KW m c))) (MV m c)

variable (hX : ∀ c i, ∃ v : ℝ, (X m c i : EReal) = (v : EReal) ∧ |v| ≤ 2 ^ 128) (hKS : ∀ c i, (0 : EReal) < KS m c i)

include hX hKS in
theorem out_block (c : Dev nD) (t : Fin cfg0.N) (l : Fin 256) (x : Fin 640) (s : Fin 31) (hs : t.val % 32 = s.val + 1) :
    o10 m c t s (ix3 0 l x) = outA m c (ix3 (bt t) ⟨(ot t).val * 256 + l.val, by omega⟩ ⟨(kt t).val * 640 + x.val, by omega⟩) := by
  have hN : t.val < 512 := t.isLt
  have hb : bt (prev t) = bt t := Fin.ext (by simp only [bt, prev]; omega)
  have hk : kt (prev t) = kt t := Fin.ext (by simp only [kt, prev]; omega)
  have hst : st (prev t) = s := Fin.ext (by simp only [st, prev]; omega)
  refine (n10_eq (X m c) (hX c) (bt t) (kt t) s (iblk m c 0 (prev t)) ?_ (KC m c) (KW m c) (iblk m c 1 (prev t)) (iblk m c 2 (prev t)) ?_ ?_
    (KS m c) (VT m c) (VS m c) (MV m c) (hKS c) (iblk m c 3 (prev t)) (iblk m c 3 t) (iblk m c 4 t) (iblk m c 5 t) (iblk m c 6 t) ?_ ?_ ?_ ?_ ?_
    (fun _ => 0) l x).trans ?_
  · exact (by rw [← hb, ← hk, ← hst]; exact read_0 m c (prev t))
  · exact (by rw [← hb, ← hk]; exact read_1 m c (prev t))
  · exact (by rw [← hb, ← hk]; exact read_2 m c (prev t))
  · exact (by rw [← hb, ← hk]; exact read_3 m c (prev t))
  · exact fun b j x => read_3 m c t b j x
  · exact fun b d x => read_4 m c t b d x
  · exact fun d => read_5 m c t d
  · exact fun d => read_6 m c t d
  · refine Eq.trans ?_ (out_apply (X m c) (KC m c) (KW m c) (KS m c) (VT m c) (VS m c) (MV m c) _ _ _).symm
    have e1 : (⟨((kt t).val * 640 + x.val) / 640, by omega⟩ : Fin 8) = kt t := Fin.ext (by simp only []; omega)
    have e2 : (⟨((kt t).val * 640 + x.val) / 128 % 5, by omega⟩ : Fin 5) = hd x := Fin.ext (by simp only [hd]; omega)
    have e3 : (⟨((kt t).val * 640 + x.val) % 128, by omega⟩ : Fin 128) = dm x := Fin.ext (by simp only [dm]; omega)
    have e4 : qa s l = (⟨(ot t).val * 256 + l.val, by omega⟩ : Fin 7936) := Fin.ext (by simp only [ot]; omega)
    simp only [e1, e2, e3]
    exact congrArg (fun q => outR (X m c) (KC m c) (KW m c) (KS m c) (VT m c) (VS m c) (MV m c) (bt t) (kt t) (hd x) q (dm x)) e4

include hX hKS in
/-- The kernel ends with the reference's four results in its four arrays, and its arguments as they were. -/
theorem run_results : θ_run (defs (F := Ideal)) (onTc (τ := τ) (main (F := Ideal))) ⟨m, fun _ => 0, ρ⟩ (fun r => ∀ c : Dev nD,
    r.2.mem ((c.tc : Thread nD τ).loc main_v0_0) = outA m c
    ∧ r.2.mem ((c.tc : Thread nD τ).loc main_v0_1) = Cert.ReferenceIdeal.Gen.k0_pay7 (F := Ideal) (X m c)
    ∧ r.2.mem ((c.tc : Thread nD τ).loc main_v0_2) = Cert.ReferenceIdeal.Gen.k0_pay8 (F := Ideal) (Cert.ReferenceIdeal.Gen.k0_pay5 (X m c))
    ∧ r.2.mem ((c.tc : Thread nD τ).loc main_v0_3) = Cert.ReferenceIdeal.Gen.k0_pay9 (F := Ideal) (Cert.ReferenceIdeal.Gen.k0_pay3 (X m c))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) := by
  refine (θ_run (defs (F := Ideal)) _ _).mono (fun r h c => ?_) (run_value m ρ)
  obtain ⟨after, hL, hA⟩ := RDat.FramePost.exists_exact h.1 c
  refine ⟨(hA 7).trans (arr_7 m after c (fun t hf => Dat.toRRel_leaves (datV m 0 c) (w := 7) rfl (hL 7 t hf)) _ fun t l x s hs => ?_),
    (hA 8).trans (arr_8 m after c (fun t hf => Dat.toRRel_leaves (datV m 0 c) (w := 8) rfl (hL 8 t hf)) _ fun t l x => ?_),
    (hA 9).trans (arr_9 m after c (fun t hf => Dat.toRRel_leaves (datV m 0 c) (w := 9) rfl (hL 9 t hf)) _ fun t g x => ?_),
    (hA 10).trans (arr_10 m after c (fun t hf => Dat.toRRel_leaves (datV m 0 c) (w := 10) rfl (hL 10 t hf)) _ fun t n g d => ?_),
    (RDat.FramePost.arr_in h.1 c 0 rfl).trans ((A_eq m c 0).trans (V_main_arg0 m c)),
    (RDat.FramePost.arr_in h.1 c 1 rfl).trans ((A_eq m c 1).trans (V_main_arg1 m c)),
    (RDat.FramePost.arr_in h.1 c 2 rfl).trans ((A_eq m c 2).trans (V_main_arg2 m c)),
    (RDat.FramePost.arr_in h.1 c 3 rfl).trans ((A_eq m c 3).trans (V_main_arg3 m c)),
    (RDat.FramePost.arr_in h.1 c 4 rfl).trans ((A_eq m c 4).trans (V_main_arg4 m c)),
    (RDat.FramePost.arr_in h.1 c 5 rfl).trans ((A_eq m c 5).trans (V_main_arg5 m c)),
    (RDat.FramePost.arr_in h.1 c 6 rfl).trans ((A_eq m c 6).trans (V_main_arg6 m c))⟩
  · exact out_block m hX hKS c t l x s hs
  · exact q11_eq (X m c) (hX c) (bt t) (kt t) (st t) _ (fun l x => read_0 m c t l x) l x
  · exact q12_eq (X m c) (hX c) (bt t) (kt t) (st t) _ (fun l x => read_0 m c t l x) g x
  · exact q13_eq (X m c) (bt t) (kt t) (st t) _ (fun l x => read_0 m c t l x) n g d

end Cert.KernelIdeal.AttnV

end
-- ==== Proof.RefRun.lean ====
/- The reference's run with its values: one call over whole arrays, so each result is its payload of the arguments. -/
module

public import proofs.«01_k».proof.Proof.Reference
public import Idealize.ShloMosaic.Lib.Pipeline.Value

@[expose] public section

set_option maxRecDepth 16384

noncomputable section

namespace Cert.ReferenceIdeal.Spec

open Cert.ReferenceIdeal Cert.ReferenceIdeal.Gen
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- The one grid point. -/
def t₀ : Fin cfg0.N := ⟨0, by decide⟩

theorem in_0 (c : Dev nD) : iblk m c 0 t₀ = m ((c : Thread nD τ).loc main_arg0) := by
  have hz : (fun a => (win0_0.index t₀) a * main_arg0.ty.shape.size a) = fun _ => 0 :=
    funext fun a => by fin_cases a <;> decide
  have hr := fun f => Memref.read_access_unit_zero (Elt Ideal) main_arg0 hz (fun a => by fin_cases a <;> decide) f
  unfold iblk
  rw [hr]

theorem in_1 (c : Dev nD) : iblk m c 1 t₀ = m ((c : Thread nD τ).loc main_arg1) := by
  have hz : (fun a => (win0_1.index t₀) a * main_arg1.ty.shape.size a) = fun _ => 0 :=
    funext fun a => by fin_cases a <;> decide
  have hr := fun f => Memref.read_access_unit_zero (Elt Ideal) main_arg1 hz (fun a => by fin_cases a <;> decide) f
  unfold iblk
  rw [hr]

theorem in_2 (c : Dev nD) : iblk m c 2 t₀ = m ((c : Thread nD τ).loc main_arg2) := by
  have hz : (fun a => (win0_2.index t₀) a * main_arg2.ty.shape.size a) = fun _ => 0 :=
    funext fun a => by fin_cases a <;> decide
  have hr := fun f => Memref.read_access_unit_zero (Elt Ideal) main_arg2 hz (fun a => by fin_cases a <;> decide) f
  unfold iblk
  rw [hr]

theorem in_3 (c : Dev nD) : iblk m c 3 t₀ = m ((c : Thread nD τ).loc main_arg3) := by
  have hz : (fun a => (win0_3.index t₀) a * main_arg3.ty.shape.size a) = fun _ => 0 :=
    funext fun a => by fin_cases a <;> decide
  have hr := fun f => Memref.read_access_unit_zero (Elt Ideal) main_arg3 hz (fun a => by fin_cases a <;> decide) f
  unfold iblk
  rw [hr]

theorem in_4 (c : Dev nD) : iblk m c 4 t₀ = m ((c : Thread nD τ).loc main_arg4) := by
  have hz : (fun a => (win0_4.index t₀) a * main_arg4.ty.shape.size a) = fun _ => 0 :=
    funext fun a => by fin_cases a <;> decide
  have hr := fun f => Memref.read_access_unit_zero (Elt Ideal) main_arg4 hz (fun a => by fin_cases a <;> decide) f
  unfold iblk
  rw [hr]

theorem in_5 (c : Dev nD) : iblk m c 5 t₀ = m ((c : Thread nD τ).loc main_arg5) := by
  have hz : (fun a => (win0_5.index t₀) a * main_arg5.ty.shape.size a) = fun _ => 0 :=
    funext fun a => by fin_cases a <;> decide
  have hr := fun f => Memref.read_access_unit_zero (Elt Ideal) main_arg5 hz (fun a => by fin_cases a <;> decide) f
  unfold iblk
  rw [hr]

theorem in_6 (c : Dev nD) : iblk m c 6 t₀ = m ((c : Thread nD τ).loc main_arg6) := by
  have hz : (fun a => (win0_6.index t₀) a * main_arg6.ty.shape.size a) = fun _ => 0 :=
    funext fun a => by fin_cases a <;> decide
  have hr := fun f => Memref.read_access_unit_zero (Elt Ideal) main_arg6 hz (fun a => by fin_cases a <;> decide) f
  unfold iblk
  rw [hr]

theorem out_7 (x0 : Vec Ideal S2x7936x5120 .bf16) (x1 : Vec Ideal S2x7936x1024 .fp8e4m3) (x2 : Vec Ideal S2x8x7936x128 .bf16) (x3 : Vec Ideal S2x8x31x4x128 .f32) (x4 : Vec Ideal S2x8x31x128x256 .fp8e4m3) (x5 : Vec Ideal S2x8x1x128 .f32) (x6 : Vec Ideal S2x8x1x128 .bf16) : out0_7 (F := Ideal) x0 x1 x2 x3 x4 x5 x6 = k0_pay1 (k0_pay13 (k0_pay10 x3) (scores x0 x1 x2) x4 x5) (k0_pay14 (k0_pay10 x3) (scores x0 x1 x2)) x6 := by
  have a3 : (![0, 0, 0] : Fin S2x7936x5120.rank → Nat) = fun _ => 0 := funext fun a => by fin_cases a <;> rfl
  have b3 : (![0, 0, 0] : Fin S2x7936x1024.rank → Nat) = fun _ => 0 := funext fun a => by fin_cases a <;> rfl
  have a4 : (![0, 0, 0, 0] : Fin S2x8x7936x128.rank → Nat) = fun _ => 0 := funext fun a => by fin_cases a <;> rfl
  have b4 : (![0, 0, 0, 0] : Fin S2x8x1x128.rank → Nat) = fun _ => 0 := funext fun a => by fin_cases a <;> rfl
  have a5 : (![0, 0, 0, 0, 0] : Fin S2x8x31x4x128.rank → Nat) = fun _ => 0 := funext fun a => by fin_cases a <;> rfl
  have b5 : (![0, 0, 0, 0, 0] : Fin S2x8x31x128x256.rank → Nat) = fun _ => 0 := funext fun a => by fin_cases a <;> rfl
  have c5 : (![0, 0, 0, 0, 0] : Fin S2x8x31x10x128.rank → Nat) = fun _ => 0 := funext fun a => by fin_cases a <;> rfl
  have d5 : (![0, 0, 0, 0, 0] : Fin S2x62x8x5x128.rank → Nat) = fun _ => 0 := funext fun a => by fin_cases a <;> rfl
  unfold out0_7 k0_pay18 k0_pay17 k0_pay16 k0_pay15
  rw [View.canon_unit_zero a3, View.ld_unit_zero a5, View.ld_unit_zero a3, View.ld_unit_zero b3, View.ld_unit_zero a4, View.ld_unit_zero b5, View.ld_unit_zero b4, View.ld_unit_zero b4]

theorem final_7 (c : Dev nD) : (dats m 0 c).arrAt (7 : Fin 11) cfg0.N = k0_pay1 (k0_pay13 (k0_pay10 (m ((c : Thread nD τ).loc main_arg3))) (scores (m ((c : Thread nD τ).loc main_arg0)) (m ((c : Thread nD τ).loc main_arg1)) (m ((c : Thread nD τ).loc main_arg2))) (m ((c : Thread nD τ).loc main_arg4)) (m ((c : Thread nD τ).loc main_arg5))) (k0_pay14 (k0_pay10 (m ((c : Thread nD τ).loc main_arg3))) (scores (m ((c : Thread nD τ).loc main_arg0)) (m ((c : Thread nD τ).loc main_arg1)) (m ((c : Thread nD τ).loc main_arg2)))) (m ((c : Thread nD τ).loc main_arg6)) := by
  have ho : ((cfg0.win (7 : Fin 11)).blk t₀).view.read (Elt Ideal) ((dats m 0 c).arrAt (7 : Fin 11) cfg0.N) = (dats m 0 c).flushed (7 : Fin 11) t₀ := by
    rw [show cfg0.N = (t₀ : Fin cfg0.N).val + 1 from rfl, (dats m 0 c).arrAt_succ (7 : Fin 11) t₀]
    rw [show (cfg0.win (7 : Fin 11)).flush t₀ = true from by decide, if_pos rfl]
    exact View.read_write_univ _ _
  have hz : (fun a => (win0_7.index t₀) a * main_v0_0.ty.shape.size a) = fun _ => 0 :=
    funext fun a => by fin_cases a <;> decide
  have hr := fun f => Memref.read_access_unit_zero (Elt Ideal) main_v0_0 hz (fun a => by fin_cases a <;> decide) f
  rw [hr] at ho
  rw [ho]
  show (cfg0.win (7 : Fin 11)).cut _ ((dats m 0 c).after 7 t₀) = _
  rw [after0_7, in_0, in_1, in_2, in_3, in_4, in_5, in_6, out_7]
  rfl

theorem out_8 (x0 : Vec Ideal S2x7936x5120 .bf16) (x1 : Vec Ideal S2x7936x1024 .fp8e4m3) (x2 : Vec Ideal S2x8x7936x128 .bf16) (x3 : Vec Ideal S2x8x31x4x128 .f32) (x4 : Vec Ideal S2x8x31x128x256 .fp8e4m3) (x5 : Vec Ideal S2x8x1x128 .f32) (x6 : Vec Ideal S2x8x1x128 .bf16) : out0_8 (F := Ideal) x0 x1 x2 x3 x4 x5 x6 = k0_pay7 x0 := by
  have a3 : (![0, 0, 0] : Fin S2x7936x5120.rank → Nat) = fun _ => 0 := funext fun a => by fin_cases a <;> rfl
  have b3 : (![0, 0, 0] : Fin S2x7936x1024.rank → Nat) = fun _ => 0 := funext fun a => by fin_cases a <;> rfl
  have a4 : (![0, 0, 0, 0] : Fin S2x8x7936x128.rank → Nat) = fun _ => 0 := funext fun a => by fin_cases a <;> rfl
  have b4 : (![0, 0, 0, 0] : Fin S2x8x1x128.rank → Nat) = fun _ => 0 := funext fun a => by fin_cases a <;> rfl
  have a5 : (![0, 0, 0, 0, 0] : Fin S2x8x31x4x128.rank → Nat) = fun _ => 0 := funext fun a => by fin_cases a <;> rfl
  have b5 : (![0, 0, 0, 0, 0] : Fin S2x8x31x128x256.rank → Nat) = fun _ => 0 := funext fun a => by fin_cases a <;> rfl
  have c5 : (![0, 0, 0, 0, 0] : Fin S2x8x31x10x128.rank → Nat) = fun _ => 0 := funext fun a => by fin_cases a <;> rfl
  have d5 : (![0, 0, 0, 0, 0] : Fin S2x62x8x5x128.rank → Nat) = fun _ => 0 := funext fun a => by fin_cases a <;> rfl
  unfold out0_8
  rw [View.canon_unit_zero a3, View.ld_unit_zero a3]

theorem final_8 (c : Dev nD) : (dats m 0 c).arrAt (8 : Fin 11) cfg0.N = k0_pay7 (m ((c : Thread nD τ).loc main_arg0)) := by
  have ho : ((cfg0.win (8 : Fin 11)).blk t₀).view.read (Elt Ideal) ((dats m 0 c).arrAt (8 : Fin 11) cfg0.N) = (dats m 0 c).flushed (8 : Fin 11) t₀ := by
    rw [show cfg0.N = (t₀ : Fin cfg0.N).val + 1 from rfl, (dats m 0 c).arrAt_succ (8 : Fin 11) t₀]
    rw [show (cfg0.win (8 : Fin 11)).flush t₀ = true from by decide, if_pos rfl]
    exact View.read_write_univ _ _
  have hz : (fun a => (win0_8.index t₀) a * main_v0_1.ty.shape.size a) = fun _ => 0 :=
    funext fun a => by fin_cases a <;> decide
  have hr := fun f => Memref.read_access_unit_zero (Elt Ideal) main_v0_1 hz (fun a => by fin_cases a <;> decide) f
  rw [hr] at ho
  rw [ho]
  show (cfg0.win (8 : Fin 11)).cut _ ((dats m 0 c).after 8 t₀) = _
  rw [after0_8, in_0, in_1, in_2, in_3, in_4, in_5, in_6, out_8]
  rfl

theorem out_9 (x0 : Vec Ideal S2x7936x5120 .bf16) (x1 : Vec Ideal S2x7936x1024 .fp8e4m3) (x2 : Vec Ideal S2x8x7936x128 .bf16) (x3 : Vec Ideal S2x8x31x4x128 .f32) (x4 : Vec Ideal S2x8x31x128x256 .fp8e4m3) (x5 : Vec Ideal S2x8x1x128 .f32) (x6 : Vec Ideal S2x8x1x128 .bf16) : out0_9 (F := Ideal) x0 x1 x2 x3 x4 x5 x6 = k0_pay8 (k0_pay5 x0) := by
  have a3 : (![0, 0, 0] : Fin S2x7936x5120.rank → Nat) = fun _ => 0 := funext fun a => by fin_cases a <;> rfl
  have b3 : (![0, 0, 0] : Fin S2x7936x1024.rank → Nat) = fun _ => 0 := funext fun a => by fin_cases a <;> rfl
  have a4 : (![0, 0, 0, 0] : Fin S2x8x7936x128.rank → Nat) = fun _ => 0 := funext fun a => by fin_cases a <;> rfl
  have b4 : (![0, 0, 0, 0] : Fin S2x8x1x128.rank → Nat) = fun _ => 0 := funext fun a => by fin_cases a <;> rfl
  have a5 : (![0, 0, 0, 0, 0] : Fin S2x8x31x4x128.rank → Nat) = fun _ => 0 := funext fun a => by fin_cases a <;> rfl
  have b5 : (![0, 0, 0, 0, 0] : Fin S2x8x31x128x256.rank → Nat) = fun _ => 0 := funext fun a => by fin_cases a <;> rfl
  have c5 : (![0, 0, 0, 0, 0] : Fin S2x8x31x10x128.rank → Nat) = fun _ => 0 := funext fun a => by fin_cases a <;> rfl
  have d5 : (![0, 0, 0, 0, 0] : Fin S2x62x8x5x128.rank → Nat) = fun _ => 0 := funext fun a => by fin_cases a <;> rfl
  unfold out0_9 k0_pay16
  rw [View.canon_unit_zero c5, View.ld_unit_zero a3]

theorem final_9 (c : Dev nD) : (dats m 0 c).arrAt (9 : Fin 11) cfg0.N = k0_pay8 (k0_pay5 (m ((c : Thread nD τ).loc main_arg0))) := by
  have ho : ((cfg0.win (9 : Fin 11)).blk t₀).view.read (Elt Ideal) ((dats m 0 c).arrAt (9 : Fin 11) cfg0.N) = (dats m 0 c).flushed (9 : Fin 11) t₀ := by
    rw [show cfg0.N = (t₀ : Fin cfg0.N).val + 1 from rfl, (dats m 0 c).arrAt_succ (9 : Fin 11) t₀]
    rw [show (cfg0.win (9 : Fin 11)).flush t₀ = true from by decide, if_pos rfl]
    exact View.read_write_univ _ _
  have hz : (fun a => (win0_9.index t₀) a * main_v0_2.ty.shape.size a) = fun _ => 0 :=
    funext fun a => by fin_cases a <;> decide
  have hr := fun f => Memref.read_access_unit_zero (Elt Ideal) main_v0_2 hz (fun a => by fin_cases a <;> decide) f
  rw [hr] at ho
  rw [ho]
  show (cfg0.win (9 : Fin 11)).cut _ ((dats m 0 c).after 9 t₀) = _
  rw [after0_9, in_0, in_1, in_2, in_3, in_4, in_5, in_6, out_9]
  rfl

theorem out_10 (x0 : Vec Ideal S2x7936x5120 .bf16) (x1 : Vec Ideal S2x7936x1024 .fp8e4m3) (x2 : Vec Ideal S2x8x7936x128 .bf16) (x3 : Vec Ideal S2x8x31x4x128 .f32) (x4 : Vec Ideal S2x8x31x128x256 .fp8e4m3) (x5 : Vec Ideal S2x8x1x128 .f32) (x6 : Vec Ideal S2x8x1x128 .bf16) : out0_10 (F := Ideal) x0 x1 x2 x3 x4 x5 x6 = k0_pay9 (k0_pay3 x0) := by
  have a3 : (![0, 0, 0] : Fin S2x7936x5120.rank → Nat) = fun _ => 0 := funext fun a => by fin_cases a <;> rfl
  have b3 : (![0, 0, 0] : Fin S2x7936x1024.rank → Nat) = fun _ => 0 := funext fun a => by fin_cases a <;> rfl
  have a4 : (![0, 0, 0, 0] : Fin S2x8x7936x128.rank → Nat) = fun _ => 0 := funext fun a => by fin_cases a <;> rfl
  have b4 : (![0, 0, 0, 0] : Fin S2x8x1x128.rank → Nat) = fun _ => 0 := funext fun a => by fin_cases a <;> rfl
  have a5 : (![0, 0, 0, 0, 0] : Fin S2x8x31x4x128.rank → Nat) = fun _ => 0 := funext fun a => by fin_cases a <;> rfl
  have b5 : (![0, 0, 0, 0, 0] : Fin S2x8x31x128x256.rank → Nat) = fun _ => 0 := funext fun a => by fin_cases a <;> rfl
  have c5 : (![0, 0, 0, 0, 0] : Fin S2x8x31x10x128.rank → Nat) = fun _ => 0 := funext fun a => by fin_cases a <;> rfl
  have d5 : (![0, 0, 0, 0, 0] : Fin S2x62x8x5x128.rank → Nat) = fun _ => 0 := funext fun a => by fin_cases a <;> rfl
  unfold out0_10 k0_pay15
  rw [View.canon_unit_zero d5, View.ld_unit_zero a3]

theorem final_10 (c : Dev nD) : (dats m 0 c).arrAt (10 : Fin 11) cfg0.N = k0_pay9 (k0_pay3 (m ((c : Thread nD τ).loc main_arg0))) := by
  have ho : ((cfg0.win (10 : Fin 11)).blk t₀).view.read (Elt Ideal) ((dats m 0 c).arrAt (10 : Fin 11) cfg0.N) = (dats m 0 c).flushed (10 : Fin 11) t₀ := by
    rw [show cfg0.N = (t₀ : Fin cfg0.N).val + 1 from rfl, (dats m 0 c).arrAt_succ (10 : Fin 11) t₀]
    rw [show (cfg0.win (10 : Fin 11)).flush t₀ = true from by decide, if_pos rfl]
    exact View.read_write_univ _ _
  have hz : (fun a => (win0_10.index t₀) a * main_v0_3.ty.shape.size a) = fun _ => 0 :=
    funext fun a => by fin_cases a <;> decide
  have hr := fun f => Memref.read_access_unit_zero (Elt Ideal) main_v0_3 hz (fun a => by fin_cases a <;> decide) f
  rw [hr] at ho
  rw [ho]
  show (cfg0.win (10 : Fin 11)).cut _ ((dats m 0 c).after 10 t₀) = _
  rw [after0_10, in_0, in_1, in_2, in_3, in_4, in_5, in_6, out_10]
  rfl

theorem run : θ_run (defs (F := Ideal)) (onTc (τ := τ) (main (F := Ideal))) ⟨m, fun _ => 0, ρ⟩ (fun r => ∀ c : Dev nD,
    r.2.mem ((c.tc : Thread nD τ).loc main_v0_0) = k0_pay1 (k0_pay13 (k0_pay10 (m ((c : Thread nD τ).loc main_arg3))) (scores (m ((c : Thread nD τ).loc main_arg0)) (m ((c : Thread nD τ).loc main_arg1)) (m ((c : Thread nD τ).loc main_arg2))) (m ((c : Thread nD τ).loc main_arg4)) (m ((c : Thread nD τ).loc main_arg5))) (k0_pay14 (k0_pay10 (m ((c : Thread nD τ).loc main_arg3))) (scores (m ((c : Thread nD τ).loc main_arg0)) (m ((c : Thread nD τ).loc main_arg1)) (m ((c : Thread nD τ).loc main_arg2)))) (m ((c : Thread nD τ).loc main_arg6))
    ∧ r.2.mem ((c.tc : Thread nD τ).loc main_v0_1) = k0_pay7 (m ((c : Thread nD τ).loc main_arg0))
    ∧ r.2.mem ((c.tc : Thread nD τ).loc main_v0_2) = k0_pay8 (k0_pay5 (m ((c : Thread nD τ).loc main_arg0)))
    ∧ r.2.mem ((c.tc : Thread nD τ).loc main_v0_3) = k0_pay9 (k0_pay3 (m ((c : Thread nD τ).loc main_arg0)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) := by
  refine (θ_run defs _ _).mono (fun r h c => ?_) (run_main (F := Ideal) m ρ)
  exact ⟨((h c).1 7).trans (final_7 m c),
    ((h c).1 8).trans (final_8 m c),
    ((h c).1 9).trans (final_9 m c),
    ((h c).1 10).trans (final_10 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c)))⟩

end Cert.ReferenceIdeal.Spec
-- ==== Proof.PreFacts.lean ====
/- What the precondition says, element by element: the activations are numbers of at most the format's largest
   magnitude, and the keys' scales are positive. -/
module

public import proofs.«01_k».proof.Proof.Gen.Pre_in_range
public import Idealize.ShloMosaic.Lib.ReduceAll
public import Idealize.ShloMosaic.Lib.WordArith
public import Idealize.ShloMosaic.Lib.Affine
public import Idealize.ShloMosaic.Lib.Pointwise

@[expose] public section

noncomputable section

namespace Cert.Pre_in_range

open Idealize.ShloMosaic

theorem largest : ∃ M : ℝ, Ideal.ofBits .bf16 0x7F7F#16 = (M : EReal) ∧ M ≤ 2 ^ 128 := by
  refine ⟨255 * 2 ^ 120, ?_, by norm_num⟩
  simp [Ideal.ofBits, Ideal.ieee, -EReal.coe_mul]
  try norm_num

instance : Subsingleton S_.Idx := ⟨fun a b => funext fun i => i.elim0⟩

theorem of_pre (a0 : FVec Ideal S2x7936x5120 .bf16) (a1 : FVec Ideal S2x7936x1024 .fp8e4m3) (a2 : FVec Ideal S2x8x7936x128 .bf16)
    (a3 : FVec Ideal S2x8x31x4x128 .f32) (a4 : FVec Ideal S2x8x31x128x256 .fp8e4m3) (a5 : FVec Ideal S2x8x1x128 .f32)
    (a6 : FVec Ideal S2x8x1x128 .bf16) [Facts] (h : fn (F := Ideal) a0 a1 a2 a3 a4 a5 a6 = fun _ => 1#1) :
    (∀ i, ∃ v : ℝ, (a0 i : EReal) = (v : EReal) ∧ |v| ≤ 2 ^ 128) ∧ ∀ i, (0 : EReal) < a3 i := by
  have h' := congrFun h (fun i => i.elim0)
  simp only [fn] at h'
  obtain ⟨h1, h2⟩ := IntOp.andi_eq_one.1 h'
  refine ⟨fun i => ?_, fun i => ?_⟩
  · have e := Host.reduce_andi_all _ _ _ _ _ h1 i
    have e' : max (a0 i : EReal) (-(a0 i)) ≤ Ideal.ofBits .bf16 0x7F7F#16 := of_decide_eq_true ((WordArith.ofBool_eq_one_iff _).1 e)
    obtain ⟨M, hM, hM'⟩ := largest
    rw [hM] at e'
    generalize (a0 i : EReal) = x at e'
    induction x using EReal.rec with
    | bot => exact absurd (le_trans (le_max_right _ _) e') (by simp)
    | top => exact absurd (le_trans (le_max_left _ _) e') (by simp)
    | coe v =>
      refine ⟨v, rfl, abs_le.2 ⟨?_, ?_⟩⟩
      · have : -(v : EReal) ≤ (M : EReal) := le_trans (le_max_right _ _) e'
        have : -v ≤ M := by exact_mod_cast this
        linarith
      · have : (v : EReal) ≤ (M : EReal) := le_trans (le_max_left _ _) e'
        have : v ≤ M := by exact_mod_cast this
        linarith
  · have e := Host.reduce_andi_all _ _ _ _ _ h2 i
    have e' : Ideal.ofBits .f32 0x00000000#32 < (a3 i : EReal) := of_decide_eq_true ((WordArith.ofBool_eq_one_iff _).1 e)
    have z : Ideal.ofBits .f32 0x00000000#32 = 0 := by simp [Ideal.ofBits, Ideal.ieee]
    rwa [z] at e'

end Cert.Pre_in_range

end
-- ==== Proof.KvReference.lean ====
/- What the reference of the keys' and values' quantiser leaves in its two means, and its run. -/
module

public import proofs.«01_k».proof.Proof.Gen.KVReferenceIdeal.Frame
public import Idealize.ShloMosaic.Lib.Pipeline.Value
public import Idealize.ShloMosaic.Lib.Pointwise

@[expose] public section

set_option maxRecDepth 16384

noncomputable section

namespace Cert.KVReferenceIdeal.Spec

open Cert.KVReferenceIdeal Cert.KVReferenceIdeal.Gen
open Idealize.ShloMosaic Idealize.ShloMosaic.TcCoe Idealize.SL.Sem
open Idealize.ShloMosaic.Tactic Idealize.ShloMosaic.Pointwise
open Idealize.ShloMosaic.Pipeline (Dat Cfg Window)

/-- The mean over the sequence of column `d` of head `h`. -/
def meanR (X : Vec Ideal S2x7936x1024 .bf16) (b : Fin 2) (h : Fin 8) (d : Fin 128) : EReal :=
  (∑ x : Fin 7936, (X (ix3 b x ⟨h.val * 128 + d.val, by omega⟩) : EReal)) * ((7936⁻¹ : ℝ) : EReal)

theorem div7936 (x : EReal) : Ideal.div x (Ideal.ofBits FTy.f32 0x45F80000#32) = x * ((7936⁻¹ : ℝ) : EReal) := by
  have h1 : Ideal.ofBits FTy.f32 0x45F80000#32 = ((7936 : ℝ) : EReal) := by
    simp [Ideal.ofBits, Ideal.ieee, -EReal.coe_mul]; norm_num
  rw [h1, Ideal.div, if_neg (by exact_mod_cast (by norm_num : (7936:ℝ) ≠ 0)), ← EReal.coe_inv]

theorem key_apply (X : Vec Ideal S2x7936x1024 .bf16) (b : Fin 2) (h : Fin 8) (d : Fin 128) :
    (k0_pay14 (k0_pay8 X) (ix4 b h 0 d) : EReal) = meanR X b h d := by
  have e : (k0_pay14 (k0_pay8 X) (ix4 b h 0 d) : EReal) = Ideal.div (∑ x : Fin 7936, (X (ix3 b x ⟨h.val * 128 + d.val, by omega⟩) : EReal)) (Ideal.ofBits FTy.f32 0x45F80000#32) := by
    pointwise [k0_pay14, k0_pay8, k0_pay7]
  rw [e, div7936]; rfl

theorem value_apply (X : Vec Ideal S2x7936x1024 .bf16) (b : Fin 2) (h : Fin 8) (d : Fin 128) :
    (k0_pay5 (k0_pay17 X) (ix4 b h 0 d) : EReal) = meanR X b h d := by
  have e : (k0_pay5 (k0_pay17 X) (ix4 b h 0 d) : EReal) = Ideal.div (∑ x : Fin 7936, (X (ix3 b x ⟨h.val * 128 + d.val, by omega⟩) : EReal)) (Ideal.ofBits FTy.f32 0x45F80000#32) := by
    pointwise [k0_pay5, k0_pay17, k0_pay16]
  rw [e, div7936]; rfl

variable (m : (ℓ : Loc nD τ sig) → Buf (Elt Ideal) ℓ) (ρ : Dev nD → PrngReg)

/-- The one grid point. -/
def t₀ : Fin cfg0.N := ⟨0, by decide⟩

theorem in_0 (c : Dev nD) : iblk m c 0 t₀ = m ((c : Thread nD τ).loc main_arg0) := by
  have hz : (fun a => (win0_0.index t₀) a * main_arg0.ty.shape.size a) = fun _ => 0 :=
    funext fun a => by fin_cases a <;> decide
  have hr := fun f => Memref.read_access_unit_zero (Elt Ideal) main_arg0 hz (fun a => by fin_cases a <;> decide) f
  unfold iblk
  rw [hr]

theorem in_1 (c : Dev nD) : iblk m c 1 t₀ = m ((c : Thread nD τ).loc main_arg1) := by
  have hz : (fun a => (win0_1.index t₀) a * main_arg1.ty.shape.size a) = fun _ => 0 :=
    funext fun a => by fin_cases a <;> decide
  have hr := fun f => Memref.read_access_unit_zero (Elt Ideal) main_arg1 hz (fun a => by fin_cases a <;> decide) f
  unfold iblk
  rw [hr]

theorem out_4 (x0 x1 : Vec Ideal S2x7936x1024 .bf16) : out0_4 (F := Ideal) x0 x1 = k0_pay14 (k0_pay8 x0) := by
  have a3 : (![0, 0, 0] : Fin S2x7936x1024.rank → Nat) = fun _ => 0 := funext fun a => by fin_cases a <;> rfl
  have b4 : (![0, 0, 0, 0] : Fin S2x8x1x128.rank → Nat) = fun _ => 0 := funext fun a => by fin_cases a <;> rfl
  unfold out0_4
  rw [View.canon_unit_zero b4, View.ld_unit_zero a3]

theorem out_7 (x0 x1 : Vec Ideal S2x7936x1024 .bf16) : out0_7 (F := Ideal) x0 x1 = k0_pay5 (k0_pay17 x1) := by
  have a3 : (![0, 0, 0] : Fin S2x7936x1024.rank → Nat) = fun _ => 0 := funext fun a => by fin_cases a <;> rfl
  have b4 : (![0, 0, 0, 0] : Fin S2x8x1x128.rank → Nat) = fun _ => 0 := funext fun a => by fin_cases a <;> rfl
  unfold out0_7
  rw [View.canon_unit_zero b4, View.ld_unit_zero a3]

theorem final_4 (c : Dev nD) : (dats m 0 c).arrAt (4 : Fin 10) cfg0.N = k0_pay14 (k0_pay8 (m ((c : Thread nD τ).loc main_arg0))) := by
  have ho : ((cfg0.win (4 : Fin 10)).blk t₀).view.read (Elt Ideal) ((dats m 0 c).arrAt (4 : Fin 10) cfg0.N) = (dats m 0 c).flushed (4 : Fin 10) t₀ := by
    rw [show cfg0.N = (t₀ : Fin cfg0.N).val + 1 from rfl, (dats m 0 c).arrAt_succ (4 : Fin 10) t₀]
    rw [show (cfg0.win (4 : Fin 10)).flush t₀ = true from by decide, if_pos rfl]
    exact View.read_write_univ _ _
  have hz : (fun a => (win0_4.index t₀) a * main_v0_2.ty.shape.size a) = fun _ => 0 :=
    funext fun a => by fin_cases a <;> decide
  have hr := fun f => Memref.read_access_unit_zero (Elt Ideal) main_v0_2 hz (fun a => by fin_cases a <;> decide) f
  rw [hr] at ho
  rw [ho]
  show (cfg0.win (4 : Fin 10)).cut _ ((dats m 0 c).after 4 t₀) = _
  rw [after0_4, in_0, in_1, out_4]
  rfl

theorem final_7 (c : Dev nD) : (dats m 0 c).arrAt (7 : Fin 10) cfg0.N = k0_pay5 (k0_pay17 (m ((c : Thread nD τ).loc main_arg1))) := by
  have ho : ((cfg0.win (7 : Fin 10)).blk t₀).view.read (Elt Ideal) ((dats m 0 c).arrAt (7 : Fin 10) cfg0.N) = (dats m 0 c).flushed (7 : Fin 10) t₀ := by
    rw [show cfg0.N = (t₀ : Fin cfg0.N).val + 1 from rfl, (dats m 0 c).arrAt_succ (7 : Fin 10) t₀]
    rw [show (cfg0.win (7 : Fin 10)).flush t₀ = true from by decide, if_pos rfl]
    exact View.read_write_univ _ _
  have hz : (fun a => (win0_7.index t₀) a * main_v0_5.ty.shape.size a) = fun _ => 0 :=
    funext fun a => by fin_cases a <;> decide
  have hr := fun f => Memref.read_access_unit_zero (Elt Ideal) main_v0_5 hz (fun a => by fin_cases a <;> decide) f
  rw [hr] at ho
  rw [ho]
  show (cfg0.win (7 : Fin 10)).cut _ ((dats m 0 c).after 7 t₀) = _
  rw [after0_7, in_0, in_1, out_7]
  rfl

/-- The reference runs, and leaves the two means. -/
theorem run : θ_run (defs (F := Ideal)) (onTc (τ := τ) (main (F := Ideal))) ⟨m, fun _ => 0, ρ⟩ (fun r => ∀ c : Dev nD,
    r.2.mem ((c.tc : Thread nD τ).loc main_v0_2) = k0_pay14 (k0_pay8 (m ((c : Thread nD τ).loc main_arg0)))
    ∧ r.2.mem ((c.tc : Thread nD τ).loc main_v0_5) = k0_pay5 (k0_pay17 (m ((c : Thread nD τ).loc main_arg1)))
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  refine (θ_run defs _ _).mono (fun r h c => ?_) (run_main (F := Ideal) m ρ)
  exact ⟨((h c).1 4).trans (final_4 m c),
    ((h c).1 7).trans (final_7 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩

end Cert.KVReferenceIdeal.Spec
-- ==== Proof.KvMean.lean ====
/- The two means of the keys' and values' quantiser: what the kernel leaves in them, and that the reference leaves the same. -/
module

public import proofs.«01_k».proof.Proof.Gen.KVIdeal.Value
public import proofs.«01_k».proof.Proof.KvReference
public import Idealize.ShloMosaic.Lib.Pipeline.ValueKit
public import Idealize.ShloMosaic.Lib.VecWindow
public import Idealize.ShloMosaic.Lib.Pointwise

@[expose] public section

set_option maxRecDepth 16384

noncomputable section

namespace Cert.KVIdeal.Means

open Cert.KVIdeal.Gen
open Idealize.SL.Sem
open Cert.KVReferenceIdeal.Spec (meanR)
open Idealize.ShloMosaic Idealize.ShloMosaic.TcCoe Idealize.ShloMosaic.Tactic Idealize.ShloMosaic.Pointwise

section Body

variable (𝒱 : Variants) (c : Dev nD) (bd : Option 𝒱.V) (i : grid0.Coords) (arg2 : Memref sig .tc .vmem S1x7936x128 .bf16) (harg2 : arg2.IsWhole) (arg3 : Memref sig .tc .vmem S1x7936x128 .bf16) (harg3 : arg3.IsWhole) (arg4 : Memref sig .tc .vmem S1x7936x128 .fp8e4m3) (harg4 : arg4.IsWhole) (arg5 : Memref sig .tc .vmem S1x1x31x4x128 .f32) (harg5 : arg5.IsWhole) (arg6 : Memref sig .tc .vmem S1x1x1x128 .bf16) (harg6 : arg6.IsWhole) (arg7 : Memref sig .tc .vmem S1x7936x128 .fp8e4m3) (harg7 : arg7.IsWhole) (arg8 : Memref sig .tc .vmem S1x1x1x128 .f32) (harg8 : arg8.IsWhole) (arg9 : Memref sig .tc .vmem S1x1x1x128 .bf16) (harg9 : arg9.IsWhole) (arg10 : Memref sig .tc .vmem S1x1x7936x128 .bf16) (harg10 : arg10.IsWhole) (arg11 : Memref sig .tc .vmem S1x1x31x128x256 .fp8e4m3) (harg11 : arg11.IsWhole)

/-- A block of 256 rows of a staged array, at an index. -/
theorem block_apply {v : Memref sig .tc .vmem S1x7936x128 .bf16} (hv : v.IsWhole) (x : Vec Ideal S1x7936x128 .bf16) (off : Fin 3 → ℕ) (k : ℕ)
    (ho : off = ![0, 256 * k, 0]) (hk : k < 31) (inb) (r : Fin 256) (d : Fin 128) :
    (View.readAt (Elt Ideal) v.view (Rect.unit (s := S1x7936x128) off S1x256x128.size inb).toLoadRect (hv.unread (Val := Elt Ideal) x) (ix3 0 r d) : EReal)
      = x (ix3 0 ⟨256 * k + r.val, by omega⟩ d) := by
  subst ho
  rw [View.readAt_apply, hv.read_unread]
  congr 1
  funext a
  apply Fin.ext
  fin_cases a <;> simp [LoadRect.idx, Rect.toLoadRect, Rect.unit, ix3]

/-- The sum over all rows, block by block. -/
theorem sum_blocks (f : Fin 7936 → EReal) : ∑ r : Fin 256, ∑ k : Fin 31, f ⟨256 * k.val + r.val, by omega⟩ = ∑ q : Fin 7936, f q := by
  rw [Finset.sum_comm, ← Fintype.sum_prod_type']
  refine Fintype.sum_equiv (finProdFinEquiv (m := 31) (n := 256)) _ _ (fun p => congrArg f (Fin.ext ?_))
  simp only [finProdFinEquiv_apply_val]
  omega

/-- The mean of the running sums. -/
theorem mean1_apply (a : FVec Ideal S256x128 .f32) (d : Fin 128) :
    (k0_pay28 a (ix4 0 0 0 d) : EReal) = (∑ r : Fin 256, (a (ix2 r d) : EReal)) * ((7936⁻¹ : ℝ) : EReal) := by
  pointwise [k0_pay28, k0_pay27]
  rfl

theorem mean3_apply (a : FVec Ideal S256x128 .f32) (d : Fin 128) :
    (k0_pay38 a (ix4 0 0 0 d) : EReal) = (∑ r : Fin 256, (a (ix2 r d) : EReal)) * ((7936⁻¹ : ℝ) : EReal) := by
  pointwise [k0_pay38, k0_pay37]
  rfl

/-- One trip over the keys adds one block of 256 rows to the running sums. -/
theorem trip1_apply (x : Vec Ideal S1x7936x128 .bf16) (k : Fin k0_t1_loop.trips) (hk : k.val < 31) (acc : FVec Ideal S256x128 .f32) (r : Fin 256) (d : Fin 128) :
    ((trip_k0_t1 (F := Ideal) 𝒱 c bd i arg2 harg2 arg3 harg3 arg4 harg4 arg5 harg5 arg6 harg6 arg7 harg7 arg8 harg8 arg9 harg9 arg10 harg10 arg11 harg11 (harg2.unread (Val := Elt Ideal) x) k).1 acc (ix2 r d) : EReal)
      = acc (ix2 r d) + x (ix3 0 ⟨256 * k.val + r.val, by omega⟩ d) := by
  unfold trip_k0_t1
  dsimp only
  rw [← block_apply harg2 x (k0_off1 k) k.val (k0_off1_eq k) hk (k0_off1_inb k) r d]
  pointwise [k0_pay26]

/-- The running sums after `n` trips. -/
theorem sum1_apply (x : Vec Ideal S1x7936x128 .bf16) (n : ℕ) (hn : n ≤ 31) (r : Fin 256) (d : Fin 128) :
    (st_k0_t1 (F := Ideal) 𝒱 c bd i arg2 harg2 arg3 harg3 arg4 harg4 arg5 harg5 arg6 harg6 arg7 harg7 arg8 harg8 arg9 harg9 arg10 harg10 arg11 harg11 (harg2.unread (Val := Elt Ideal) x) k0_pay25 n (ix2 r d) : EReal)
      = ∑ k : Fin n, x (ix3 0 ⟨256 * k.val + r.val, by omega⟩ d) := by
  have ht : k0_t1_loop.trips = 31 := by decide +kernel
  induction n with
  | zero =>
    rw [st_k0_t1_zero]
    simp only [Finset.univ_eq_empty, Finset.sum_empty]
    pointwise [k0_pay25]
  | succ n ih =>
    have e := st_k0_t1_succ (F := Ideal) 𝒱 c bd i arg2 harg2 arg3 harg3 arg4 harg4 arg5 harg5 arg6 harg6 arg7 harg7 arg8 harg8 arg9 harg9 arg10 harg10 arg11 harg11 (harg2.unread (Val := Elt Ideal) x) k0_pay25 ⟨n, by omega⟩
    refine (congrFun e _).trans ((trip1_apply 𝒱 c bd i arg2 harg2 arg3 harg3 arg4 harg4 arg5 harg5 arg6 harg6 arg7 harg7 arg8 harg8 arg9 harg9 arg10 harg10 arg11 harg11 x ⟨n, by omega⟩ (by omega) _ r d).trans ?_)
    rw [ih (by omega), Fin.sum_univ_castSucc]
    rfl

/-- What a point leaves in the block of the means of the keys. -/
theorem out4_apply (x0 x1 : Vec Ideal S1x7936x128 .bf16) (d : Fin 128) :
    (out0_A_4 (F := Ideal) c i arg2 harg2 arg3 harg3 arg4 harg4 arg5 harg5 arg6 harg6 arg7 harg7 arg8 harg8 arg9 harg9 arg10 harg10 arg11 harg11 x0 x1 (ix4 0 0 0 d) : EReal) = (∑ q : Fin 7936, (x0 (ix3 0 q d) : EReal)) * ((7936⁻¹ : ℝ) : EReal) := by
  have hz : (![0, 0, 0, 0] : Fin S1x1x1x128.rank → Nat) = fun _ => 0 := funext fun a => by fin_cases a <;> rfl
  unfold out0_A_4
  unfold kernelRun0_A
  dsimp only
  rw [View.read_writes_junk_eq_canon]
  unfold kernelRun0_A.sl.H4_1
  rw [View.canon_unit_zero hz, show Scf.trips k0_t1_loop.lb k0_t1_loop.ub k0_t1_loop.st = 31 by decide +kernel]
  refine (mean1_apply _ d).trans ?_
  simp only [sum1_apply Variants.none c none i arg2 harg2 arg3 harg3 arg4 harg4 arg5 harg5 arg6 harg6 arg7 harg7 arg8 harg8 arg9 harg9 arg10 harg10 arg11 harg11 x0 31 le_rfl]
  exact congrArg (fun s : EReal => s * ((7936⁻¹ : ℝ) : EReal)) (sum_blocks fun q => x0 (ix3 0 q d))

/-- One trip over the values adds one block of 256 rows to the running sums. -/
theorem trip3_apply (x : Vec Ideal S1x7936x128 .bf16) (k : Fin k0_t3_loop.trips) (hk : k.val < 31) (acc : FVec Ideal S256x128 .f32) (r : Fin 256) (d : Fin 128) :
    ((trip_k0_t3 (F := Ideal) 𝒱 c bd i arg2 harg2 arg3 harg3 arg4 harg4 arg5 harg5 arg6 harg6 arg7 harg7 arg8 harg8 arg9 harg9 arg10 harg10 arg11 harg11 (harg3.unread (Val := Elt Ideal) x) k).1 acc (ix2 r d) : EReal)
      = acc (ix2 r d) + x (ix3 0 ⟨256 * k.val + r.val, by omega⟩ d) := by
  unfold trip_k0_t3
  dsimp only
  rw [← block_apply harg3 x (k0_off5 k) k.val (k0_off5_eq k) hk (k0_off5_inb k) r d]
  pointwise [k0_pay36]

/-- The running sums after `n` trips. -/
theorem sum3_apply (x : Vec Ideal S1x7936x128 .bf16) (n : ℕ) (hn : n ≤ 31) (r : Fin 256) (d : Fin 128) :
    (st_k0_t3 (F := Ideal) 𝒱 c bd i arg2 harg2 arg3 harg3 arg4 harg4 arg5 harg5 arg6 harg6 arg7 harg7 arg8 harg8 arg9 harg9 arg10 harg10 arg11 harg11 (harg3.unread (Val := Elt Ideal) x) k0_pay35 n (ix2 r d) : EReal)
      = ∑ k : Fin n, x (ix3 0 ⟨256 * k.val + r.val, by omega⟩ d) := by
  have ht : k0_t3_loop.trips = 31 := by decide +kernel
  induction n with
  | zero =>
    rw [st_k0_t3_zero]
    simp only [Finset.univ_eq_empty, Finset.sum_empty]
    pointwise [k0_pay35]
  | succ n ih =>
    have e := st_k0_t3_succ (F := Ideal) 𝒱 c bd i arg2 harg2 arg3 harg3 arg4 harg4 arg5 harg5 arg6 harg6 arg7 harg7 arg8 harg8 arg9 harg9 arg10 harg10 arg11 harg11 (harg3.unread (Val := Elt Ideal) x) k0_pay35 ⟨n, by omega⟩
    refine (congrFun e _).trans ((trip3_apply 𝒱 c bd i arg2 harg2 arg3 harg3 arg4 harg4 arg5 harg5 arg6 harg6 arg7 harg7 arg8 harg8 arg9 harg9 arg10 harg10 arg11 harg11 x ⟨n, by omega⟩ (by omega) _ r d).trans ?_)
    rw [ih (by omega), Fin.sum_univ_castSucc]
    rfl

/-- What a point leaves in the block of the means of the values. -/
theorem out7_apply (x0 x1 : Vec Ideal S1x7936x128 .bf16) (d : Fin 128) :
    (out0_A_7 (F := Ideal) c i arg2 harg2 arg3 harg3 arg4 harg4 arg5 harg5 arg6 harg6 arg7 harg7 arg8 harg8 arg9 harg9 arg10 harg10 arg11 harg11 x0 x1 (ix4 0 0 0 d) : EReal) = (∑ q : Fin 7936, (x1 (ix3 0 q d) : EReal)) * ((7936⁻¹ : ℝ) : EReal) := by
  have hz : (![0, 0, 0, 0] : Fin S1x1x1x128.rank → Nat) = fun _ => 0 := funext fun a => by fin_cases a <;> rfl
  unfold out0_A_7
  unfold kernelRun0_A
  dsimp only
  rw [View.read_writes_junk_eq_canon]
  unfold kernelRun0_A.sl.H7_1
  rw [View.canon_unit_zero hz, show Scf.trips k0_t3_loop.lb k0_t3_loop.ub k0_t3_loop.st = 31 by decide +kernel]
  refine (mean3_apply _ d).trans ?_
  simp only [sum3_apply Variants.none c none i arg2 harg2 arg3 harg3 arg4 harg4 arg5 harg5 arg6 harg6 arg7 harg7 arg8 harg8 arg9 harg9 arg10 harg10 arg11 harg11 x1 31 le_rfl]
  exact congrArg (fun s : EReal => s * ((7936⁻¹ : ℝ) : EReal)) (sum_blocks fun q => x1 (ix3 0 q d))

end Body

section Arrays

open Idealize.ShloMosaic.Pipeline (Dat Cfg Window BodyObligation cellOf)
open Idealize.ShloMosaic.TcCoe Cert.KVIdeal.Value

variable (m : (ℓ : Loc nD τ sig) → Buf (Elt Ideal) ℓ) (ρ : Dev nD → PrngReg)

/-- The batch and the head of a point. -/
abbrev bt (t : Fin cfg0.N) : Fin 2 := ⟨t.val / 8, by have : t.val < 16 := t.isLt; omega⟩
abbrev ht (t : Fin cfg0.N) : Fin 8 := ⟨t.val % 8, by omega⟩

/-- Which block of the array a point takes. -/
theorem index_0 : ∀ t : Fin cfg0.N, win0_0.index t = ![t.val / 8, 0, t.val % 8] := (by decide +kernel : ∀ t : Fin grid0.N, _)

theorem emb_0 (t : Fin cfg0.N) (x : Fin 7936) (d : Fin 128) :
    (win0_0.blk t).view.emb (ix3 0 x d) = ix3 (bt t) x ⟨(ht t).val * 128 + d.val, by omega⟩ := by
  funext a
  refine Fin.ext ((Window.rect_emb_val win0_0 t _ a).trans ?_)
  rw [index_0]
  fin_cases a <;> simp [ix3, ix4, ix5] <;> rfl

/-- The block a point reads, as a part of the argument. -/
theorem read_0 (c : Dev nD) (t : Fin cfg0.N) (x : Fin 7936) (d : Fin 128) :
    (iblk m c 0 t (ix3 0 x d) : EReal) = (m ((c : Thread nD τ).loc main_arg0) : Vec Ideal S2x7936x1024 .bf16) (ix3 (bt t) x ⟨(ht t).val * 128 + d.val, by omega⟩) := by
  show iblk m c 0 t (ix3 0 x d) = V m c main_arg0 _
  blk_simp [iblk]
  exact congrArg _ (emb_0 t x d)

/-- Which block of the array a point takes. -/
theorem index_1 : ∀ t : Fin cfg0.N, win0_1.index t = ![t.val / 8, 0, t.val % 8] := (by decide +kernel : ∀ t : Fin grid0.N, _)

theorem emb_1 (t : Fin cfg0.N) (x : Fin 7936) (d : Fin 128) :
    (win0_1.blk t).view.emb (ix3 0 x d) = ix3 (bt t) x ⟨(ht t).val * 128 + d.val, by omega⟩ := by
  funext a
  refine Fin.ext ((Window.rect_emb_val win0_1 t _ a).trans ?_)
  rw [index_1]
  fin_cases a <;> simp [ix3, ix4, ix5] <;> rfl

/-- The block a point reads, as a part of the argument. -/
theorem read_1 (c : Dev nD) (t : Fin cfg0.N) (x : Fin 7936) (d : Fin 128) :
    (iblk m c 1 t (ix3 0 x d) : EReal) = (m ((c : Thread nD τ).loc main_arg1) : Vec Ideal S2x7936x1024 .bf16) (ix3 (bt t) x ⟨(ht t).val * 128 + d.val, by omega⟩) := by
  show iblk m c 1 t (ix3 0 x d) = V m c main_arg1 _
  blk_simp [iblk]
  exact congrArg _ (emb_1 t x d)

/-- Which block of the array a point takes. -/
theorem index_4 : ∀ t : Fin cfg0.N, win0_4.index t = ![t.val / 8, t.val % 8, 0, 0] := (by decide +kernel : ∀ t : Fin grid0.N, _)

theorem emb_4 (t : Fin cfg0.N) (d : Fin 128) : (win0_4.blk t).view.emb (ix4 0 0 0 d) = ix4 (bt t) (ht t) 0 d := by
  funext a
  refine Fin.ext ((Window.rect_emb_val win0_4 t _ a).trans ?_)
  rw [index_4]
  fin_cases a <;> simp [ix3, ix4, ix5] <;> rfl

/-- The array of the means of the keys, from the means at every index. -/
theorem arr_4 (c : Dev nD) (G : Vec Ideal S2x8x1x128 .bf16)
    (hG : ∀ b h d, (G (ix4 b h 0 d) : EReal) = meanR (m ((c : Thread nD τ).loc main_arg0)) b h d) :
    (dats m 0 c).arrAt 4 cfg0.N = G := by
  refine Dat.arrAt_eq_of_covers _ (4 : Fin cfg0.W) _ (by decide +kernel : (cfg0.win 4).Covers) (fun t hf y => ?_)
  blk_simp
  obtain ⟨u0, u1, u2, u3, rfl⟩ : ∃ (u0 : Fin 1) (u1 : Fin 1) (u2 : Fin 1) (u3 : Fin 128), y = ix4 u0 u1 u2 u3 := ⟨y 0, y 1, y 2, y 3, eq_ix4 (n0 := 1) (n1 := 1) (n2 := 1) (n3 := 128) y⟩
  obtain rfl : u0 = 0 := Subsingleton.elim _ _
  obtain rfl : u1 = 0 := Subsingleton.elim _ _
  obtain rfl : u2 = 0 := Subsingleton.elim _ _
  refine (congrFun (flushed4_A m c t) (ix4 0 0 0 u3)).trans ?_
  refine (out4_apply c _ _ _ _ _ _ _ _ _ _ _ _ _ _ _ _ _ _ _ _ _ _ _ u3).trans (Eq.trans ?_ ((hG (bt t) (ht t) u3).symm.trans (congrArg G (emb_4 t u3).symm)))
  simp only [read_0, meanR]

/-- Which block of the array a point takes. -/
theorem index_7 : ∀ t : Fin cfg0.N, win0_7.index t = ![t.val / 8, t.val % 8, 0, 0] := (by decide +kernel : ∀ t : Fin grid0.N, _)

theorem emb_7 (t : Fin cfg0.N) (d : Fin 128) : (win0_7.blk t).view.emb (ix4 0 0 0 d) = ix4 (bt t) (ht t) 0 d := by
  funext a
  refine Fin.ext ((Window.rect_emb_val win0_7 t _ a).trans ?_)
  rw [index_7]
  fin_cases a <;> simp [ix3, ix4, ix5] <;> rfl

/-- The array of the means of the values, from the means at every index. -/
theorem arr_7 (c : Dev nD) (G : Vec Ideal S2x8x1x128 .bf16)
    (hG : ∀ b h d, (G (ix4 b h 0 d) : EReal) = meanR (m ((c : Thread nD τ).loc main_arg1)) b h d) :
    (dats m 0 c).arrAt 7 cfg0.N = G := by
  refine Dat.arrAt_eq_of_covers _ (7 : Fin cfg0.W) _ (by decide +kernel : (cfg0.win 7).Covers) (fun t hf y => ?_)
  blk_simp
  obtain ⟨u0, u1, u2, u3, rfl⟩ : ∃ (u0 : Fin 1) (u1 : Fin 1) (u2 : Fin 1) (u3 : Fin 128), y = ix4 u0 u1 u2 u3 := ⟨y 0, y 1, y 2, y 3, eq_ix4 (n0 := 1) (n1 := 1) (n2 := 1) (n3 := 128) y⟩
  obtain rfl : u0 = 0 := Subsingleton.elim _ _
  obtain rfl : u1 = 0 := Subsingleton.elim _ _
  obtain rfl : u2 = 0 := Subsingleton.elim _ _
  refine (congrFun (flushed7_A m c t) (ix4 0 0 0 u3)).trans ?_
  refine (out7_apply c _ _ _ _ _ _ _ _ _ _ _ _ _ _ _ _ _ _ _ _ _ _ _ u3).trans (Eq.trans ?_ ((hG (bt t) (ht t) u3).symm.trans (congrArg G (emb_7 t u3).symm)))
  simp only [read_1, meanR]

/-- The kernel runs, and leaves the reference's two means. -/
theorem run : θ_run (defs (F := Ideal)) (onTc (τ := τ) (main (F := Ideal))) ⟨m, fun _ => 0, ρ⟩ (fun r => ∀ c : Dev nD,
    r.2.mem ((c.tc : Thread nD τ).loc main_v0_2) = Cert.KVReferenceIdeal.Gen.k0_pay14 (F := Ideal) (Cert.KVReferenceIdeal.Gen.k0_pay8 (m ((c : Thread nD τ).loc main_arg0)))
    ∧ r.2.mem ((c.tc : Thread nD τ).loc main_v0_5) = Cert.KVReferenceIdeal.Gen.k0_pay5 (F := Ideal) (Cert.KVReferenceIdeal.Gen.k0_pay17 (m ((c : Thread nD τ).loc main_arg1)))
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  refine (θ_run defs _ _).mono (fun r h c => ?_) (run_blocks (F := Ideal) m ρ)
  obtain ⟨-, -, h2, -, -, h5, -, -, k0, k1⟩ := h c
  exact ⟨h2.trans (arr_4 m c _ (fun b h d => Cert.KVReferenceIdeal.Spec.key_apply _ b h d)),
    h5.trans (arr_7 m c _ (fun b h d => Cert.KVReferenceIdeal.Spec.value_apply _ b h d)), k0, k1⟩

end Arrays

end Cert.KVIdeal.Means
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KV
public import proofs.«01_k».proof.Proof.Gen.KV.Skeleton
public import proofs.«01_k».proof.Proof.Gen.KV.Loops
public import proofs.«01_k».proof.Proof.Gen.KV.Launch
public import proofs.«01_k».proof.Proof.Gen.KV.Points
public import proofs.«01_k».proof.Proof.Gen.KV.Frame
public import proofs.«01_k».proof.Proof.Gen.ReferenceIdeal
public import proofs.«01_k».proof.Proof.Gen.Pre_in_range
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KVIdeal
public import proofs.«01_k».proof.Proof.Gen.KVIdeal.Skeleton
public import proofs.«01_k».proof.Proof.Gen.KVIdeal.Loops
public import proofs.«01_k».proof.Proof.Gen.KVIdeal.Launch
public import proofs.«01_k».proof.Proof.Gen.KVIdeal.Points
public import proofs.«01_k».proof.Proof.Gen.KVIdeal.Frame
public import proofs.«01_k».proof.Proof.Gen.KVIdeal.Value
public import proofs.«01_k».proof.Proof.Gen.KVReferenceIdeal
public import proofs.«01_k».proof.Proof.Gen.KVReferenceIdeal.Skeleton
public import proofs.«01_k».proof.Proof.Gen.KVReferenceIdeal.Launch
public import proofs.«01_k».proof.Proof.Gen.KVReferenceIdeal.Points
public import proofs.«01_k».proof.Proof.Gen.KVReferenceIdeal.Frame
public import proofs.«01_k».proof.Proof.Gen.On_means
public import proofs.«01_k».proof.Proof.FrameKernel
public import proofs.«01_k».proof.Proof.FrameKernelIdeal
public import proofs.«01_k».proof.Proof.Attention
public import proofs.«01_k».proof.Proof.RefRun
public import proofs.«01_k».proof.Proof.PreFacts
public import proofs.«01_k».proof.Proof.KvMean
public import Idealize.ShloMosaic.Adequacy
public import Idealize.ShloMosaic.Init

@[expose] public section

noncomputable section

namespace Cert.Proof

open Idealize.ShloMosaic Idealize.SL.Sem Cert.Kernel

/-- The attention kernel and the reference end with equal results. -/
theorem results : algebraic_KernelIdeal_ReferenceIdeal_pre_in_range := by
  intro m g m' g' hpre hargs
  have hp := fun c => Cert.Pre_in_range.of_pre _ _ _ _ _ _ _ (hpre c)
  refine ⟨_, _, _, _, Cert.KernelIdeal.AttnV.run_results m g (fun c => (hp c).1) (fun c => (hp c).2), ?_⟩
  refine (θ_run (Cert.ReferenceIdeal.defs (F := Ideal)) _ _).mono (fun r h c => ?_) (Cert.ReferenceIdeal.Spec.run m' g')
  obtain ⟨a0, a1, a2, a3, a4, a5, a6⟩ := hargs c
  obtain ⟨h0, h1, h2, h3, h4⟩ := h c
  refine ⟨h0.trans ?_, h1.trans ?_, h2.trans ?_, h3.trans ?_, h4⟩
  · rw [a0, a1, a2, a3, a4, a5, a6]
  · exact congrArg _ a0
  · exact congrArg (fun x => Cert.ReferenceIdeal.Gen.k0_pay8 (F := Ideal) (Cert.ReferenceIdeal.Gen.k0_pay5 x)) a0
  · exact congrArg (fun x => Cert.ReferenceIdeal.Gen.k0_pay9 (F := Ideal) (Cert.ReferenceIdeal.Gen.k0_pay3 x)) a0

/-- The quantiser of the keys and values and its reference end with equal means. -/
theorem means : algebraic_KVIdeal_KVReferenceIdeal_on_means := by
  intro m g m' g' _ hargs
  have no : ∀ {p : Prop}, (0#1 : BitVec 1) = 1#1 → p := fun h => absurd h (by decide)
  refine ⟨fun c => m ((c.tc : Thread Cert.KVIdeal.nD Cert.KVIdeal.τ).loc Cert.KVIdeal.main_v0_0),
    fun c => m ((c.tc : Thread Cert.KVIdeal.nD Cert.KVIdeal.τ).loc Cert.KVIdeal.main_v0_1),
    fun c => Cert.KVReferenceIdeal.Gen.k0_pay14 (F := Ideal) (Cert.KVReferenceIdeal.Gen.k0_pay8 (m ((c.tc : Thread Cert.KVIdeal.nD Cert.KVIdeal.τ).loc Cert.KVIdeal.main_arg0))),
    fun c => m ((c.tc : Thread Cert.KVIdeal.nD Cert.KVIdeal.τ).loc Cert.KVIdeal.main_v0_3),
    fun c => m ((c.tc : Thread Cert.KVIdeal.nD Cert.KVIdeal.τ).loc Cert.KVIdeal.main_v0_4),
    fun c => Cert.KVReferenceIdeal.Gen.k0_pay5 (F := Ideal) (Cert.KVReferenceIdeal.Gen.k0_pay17 (m ((c.tc : Thread Cert.KVIdeal.nD Cert.KVIdeal.τ).loc Cert.KVIdeal.main_arg1))),
    fun c => m ((c.tc : Thread Cert.KVIdeal.nD Cert.KVIdeal.τ).loc Cert.KVIdeal.main_v0_6),
    fun c => m ((c.tc : Thread Cert.KVIdeal.nD Cert.KVIdeal.τ).loc Cert.KVIdeal.main_v0_7), ?_, ?_⟩
  · refine (θ_run (Cert.KVIdeal.defs (F := Ideal)) _ _).mono (fun r h c => ?_) (Cert.KVIdeal.Means.run m g)
    obtain ⟨h2, h5, k0, k1⟩ := h c
    exact ⟨fun _ e => no e, fun _ e => no e, fun i _ => congrFun h2 i, fun _ e => no e, fun _ e => no e, fun i _ => congrFun h5 i,
      fun _ e => no e, fun _ e => no e, k0, k1⟩
  · refine (θ_run (Cert.KVReferenceIdeal.defs (F := Ideal)) _ _).mono (fun r h c => ?_) (Cert.KVReferenceIdeal.Spec.run m' g')
    obtain ⟨h2, h5, k0, k1⟩ := h c
    obtain ⟨a0, a1⟩ := hargs c
    have e2 := h2.trans (congrArg (fun x => Cert.KVReferenceIdeal.Gen.k0_pay14 (F := Ideal) (Cert.KVReferenceIdeal.Gen.k0_pay8 x)) a0)
    have e5 := h5.trans (congrArg (fun x => Cert.KVReferenceIdeal.Gen.k0_pay5 (F := Ideal) (Cert.KVReferenceIdeal.Gen.k0_pay17 x)) a1)
    exact ⟨fun _ e => no e, fun _ e => no e, fun i _ => congrFun e2 i, fun _ e => no e, fun _ e => no e, fun i _ => congrFun e5 i,
      fun _ e => no e, fun _ e => no e, k0, k1⟩

theorem claim : Cert.Claim :=
  ⟨Cert.Kernel.Gen.facts, Cert.KernelIdeal.Gen.facts, Cert.ReferenceIdeal.Gen.facts, Cert.KV.Gen.facts, Cert.KVIdeal.Gen.facts,
    Cert.KVReferenceIdeal.Gen.facts, Cert.Pre_in_range.Gen.facts, Cert.On_means.Gen.facts,
    fun m ρ _ => Cert.Kernel.Attn.frame m ρ,
    fun m ρ _ => Cert.KernelIdeal.Attn.frame m ρ,
    fun m ρ _ => Cert.KernelIdeal.Attn.frame m ρ,
    fun m ρ _ => Cert.ReferenceIdeal.Gen.frame m ρ,
    fun m ρ _ => Cert.ReferenceIdeal.Gen.frame m ρ,
    fun m ρ _ => Cert.KV.Gen.frame m ρ,
    fun m ρ _ => Cert.KVIdeal.Gen.frame m ρ,
    fun m ρ _ => Cert.KVReferenceIdeal.Gen.frame m ρ,
    IdealRules.named_const.statement Cert.KernelIdeal.κ "softmax_scale_log2_e" .f32 0x3E0293EE#32
      (((Real.sqrt 128)⁻¹ * (Real.log 2)⁻¹ : ℝ) : EReal) rfl,
    IdealRules.named_const.statement Cert.KVIdeal.κ "mean_over_keys" .f32 0x39042108#32 ((7936⁻¹ : ℝ) : EReal) rfl,
    means, results⟩

end Cert.Proof

end
